-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal_on_blocks [hKernelIdeal : Cert.KernelIdeal.Facts] [hReferenceIdeal : Cert.ReferenceIdeal.Facts] [hOn_blocks : Cert.On_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v14_0) i = v0 c i)
          ∧ (∀ i : (⟨2, ![256, 256]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v14_1) i = v1 c i)
          ∧ (∀ i : (⟨2, ![1, 256]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v14_2) i = v2 c i)
          ∧ (∀ i : (⟨2, ![3, 256]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v14_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v184) i = v0 c i)
          ∧ (∀ i : (⟨2, ![256, 256]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v187) i = v1 c i)
          ∧ (∀ i : (⟨2, ![1, 256]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v188) i = v2 c i)
          ∧ (∀ i : (⟨2, ![3, 256]⟩ : Shape).Idx, (Cert.On_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v124) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v23)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)) (v3 : (c : Dev Cert.Kernel9Ideal.nD) → Buf (Elt Ideal) ((c.tc : Thread Cert.Kernel9Ideal.nD Cert.Kernel9Ideal.τ).loc Cert.Kernel9Ideal.main_v10_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_v10_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_v33) = v2 c
          ∧ r.2.mem ((c.tc : Thread Cert.Reference9Ideal.nD Cert.Reference9Ideal.τ).loc Cert.Reference9Ideal.main_v34) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v10_0)) (v1 : (c : Dev Cert.Kernel11Ideal.nD) → Buf (Elt Ideal) ((c.tc : Thread Cert.Kernel11Ideal.nD Cert.Kernel11Ideal.τ).loc Cert.Kernel11Ideal.main_v10_1)) (v2 : (c : Dev Cert.Kernel11Ideal.nD) → Buf (Elt Ideal) ((c.tc : Thread Cert.Kernel11Ideal.nD Cert.Kernel11Ideal.τ).loc Cert.Kernel11Ideal.main_v10_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10_0) = v0 c
          ∧ r.2.mem ((c.tc : Thread Cert.Kernel11Ideal.nD Cert.Kernel11Ideal.τ).loc Cert.Kernel11Ideal.main_v10_1) = v1 c
          ∧ r.2.mem ((c.tc : Thread Cert.Kernel11Ideal.nD Cert.Kernel11Ideal.τ).loc Cert.Kernel11Ideal.main_v10_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v10_0)) (v1 : (c : Dev Cert.Kernel12Ideal.nD) → Buf (Elt Ideal) ((c.tc : Thread Cert.Kernel12Ideal.nD Cert.Kernel12Ideal.τ).loc Cert.Kernel12Ideal.main_v10_1)) (v2 : (c : Dev Cert.Kernel12Ideal.nD) → Buf (Elt Ideal) ((c.tc : Thread Cert.Kernel12Ideal.nD Cert.Kernel12Ideal.τ).loc Cert.Kernel12Ideal.main_v10_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10_0) = v0 c
          ∧ r.2.mem ((c.tc : Thread Cert.Kernel12Ideal.nD Cert.Kernel12Ideal.τ).loc Cert.Kernel12Ideal.main_v10_1) = v1 c
          ∧ r.2.mem ((c.tc : Thread Cert.Kernel12Ideal.nD Cert.Kernel12Ideal.τ).loc Cert.Kernel12Ideal.main_v10_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v27) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hOn_blocks : Cert.On_blocks.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_on_blocks (hKernelIdeal := hKernelIdeal) (hReferenceIdeal := hReferenceIdeal) (hOn_blocks := hOn_blocks)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== On_blocks.lean ====
abbrev S8192x2304 : Shape := ⟨2, ![8192, 2304]⟩
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S_ : Shape := ⟨0, ![]⟩
abbrev S8192x1024 : Shape := ⟨2, ![8192, 1024]⟩
abbrev S256x1 : Shape := ⟨2, ![256, 1]⟩
abbrev S1x256 : Shape := ⟨2, ![1, 256]⟩
abbrev S256x256 : Shape := ⟨2, ![256, 256]⟩

class Facts : Prop where
  bcast_S_S256 : S_.BroadcastsInDim S256 (![] : Fin 0 → Fin S256.rank)
  bcast_S_S8192x1024 : S_.BroadcastsInDim S8192x1024 (![] : Fin 0 → Fin S8192x1024.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S1x256 : S_.BroadcastsInDim S1x256 (![] : Fin 0 → Fin S1x256.rank)
  bcast_S_S3x256 : S_.BroadcastsInDim S3x256 (![] : Fin 0 → Fin S3x256.rank)

variable [Facts]

def fn {F : FTy → Type} [FloatOps F] (main_arg0 : FVec F S8192x2304 .f32) (main_arg1 : FVec F S8192x256 .f32) (main_arg2 : FVec F S8192x256 .f32) (main_arg3 : FVec F S4x64x64 .f32) (main_arg4 : FVec F S256 .f32) (main_arg5 : FVec F S3x256 .f32) : IVec S8192x1024 1 × IVec S256x256 1 × IVec S1x256 1 × IVec S3x256 1 :=
  let main_v0 : IVec S256 32 := iotaInDim S256 32 0
  let main_c : IVec S_ 32 := constantI S_ 32 64#32
  let main_v1 : IVec S256 32 := broadcastInDim S256 ![] bcast_S_S256 main_c
  let main_v2 : IVec S256 32 := Host.divsi main_v0 main_v1
  let main_c_0 : IVec S_ 1 := constantI S_ 1 1#1
  let main_v3 : IVec S8192x1024 1 := broadcastInDim S8192x1024 ![] bcast_S_S8192x1024 main_c_0
  let main_v4 : IVec S256x1 32 := broadcastInDim S256x1 ![0] bcast_S256_S256x1_0 main_v2
  let main_v5 : IVec S1x256 32 := broadcastInDim S1x256 ![1] bcast_S256_S1x256_1 main_v2
  let main_v6 : IVec S256x256 32 := broadcastInDim S256x256 ![0, 1] bcast_S256x1_S256x256_0_1 main_v4
  let main_v7 : IVec S256x256 32 := broadcastInDim S256x256 ![0, 1] bcast_S1x256_S256x256_0_1 main_v5
  let main_v8 : IVec S256x256 1 := cmpi .eq main_v6 main_v7
  let main_c_1 : IVec S_ 1 := constantI S_ 1 1#1
  let main_v9 : IVec S1x256 1 := broadcastInDim S1x256 ![] bcast_S_S1x256 main_c_1
  let main_c_2 : IVec S_ 1 := constantI S_ 1 1#1
  let main_v10 : IVec S3x256 1 := broadcastInDim S3x256 ![] bcast_S_S3x256 main_c_2
  (main_v3, main_v8, main_v9, main_v10)
-- ==== Kernel.lean ====
abbrev S8192x2304 : Shape := ⟨2, ![8192, 2304]⟩
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S4x64x1x64 : Shape := ⟨4, ![4, 64, 1, 64]⟩
abbrev S4x4 : Shape := ⟨2, ![4, 4]⟩
abbrev S_ : Shape := ⟨0, ![]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S8192x1024 : Shape := ⟨2, ![8192, 1024]⟩
abbrev S1024x1024 : Shape := ⟨2, ![1024, 1024]⟩
abbrev S16x1024 : Shape := ⟨2, ![16, 1024]⟩
abbrev S1024x256 : Shape := ⟨2, ![1024, 256]⟩
abbrev S16x256 : Shape := ⟨2, ![16, 256]⟩
abbrev S1040x1024 : Shape := ⟨2, ![1040, 1024]⟩
abbrev S1040x256 : Shape := ⟨2, ![1040, 256]⟩

abbrev nBuf : Space → Nat
  | .hbm => 25
  | .vmem => 22
  | .smem => 0
  | _ => 0

abbrev bufTy : (tb : Table) → Fin (tcTables nBuf tb) → BufTy
  | .hbm, ⟨0, _⟩ => ⟨S8192x2304, .f32⟩
  | .hbm, ⟨1, _⟩ => ⟨S8192x256, .f32⟩
  | .hbm, ⟨2, _⟩ => ⟨S8192x256, .f32⟩
  | .hbm, ⟨3, _⟩ => ⟨S4x64x64, .f32⟩
  | .hbm, ⟨4, _⟩ => ⟨S256, .f32⟩
  | .hbm, ⟨5, _⟩ => ⟨S3x256, .f32⟩
  | .hbm, ⟨6, _⟩ => ⟨S4x64x1x64, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S4x1x4x1, .f32⟩
  | .hbm, ⟨15, _⟩ => ⟨S4x64x4x64, .f32⟩
  | .hbm, ⟨16, _⟩ => ⟨S4x64x4x64, .f32⟩
  | .hbm, ⟨17, _⟩ => ⟨S4x64x4x64, .f32⟩
  | .hbm, ⟨18, _⟩ => ⟨S256x256, .f32⟩
  | .hbm, ⟨19, _⟩ => ⟨S256x256, .bf16⟩
  | .hbm, ⟨20, _⟩ => ⟨S1x256, .f32⟩
  | .hbm, ⟨21, _⟩ => ⟨S8192x1024, .f32⟩
  | .hbm, ⟨22, _⟩ => ⟨S256x256, .f32⟩
  | .hbm, ⟨23, _⟩ => ⟨S1x256, .f32⟩
  | .hbm, ⟨24, _⟩ => ⟨S3x256, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x256, .f32⟩
  | .local _ .vmem, ⟨7, _⟩ => ⟨S1024x256, .f32⟩
  | .local _ .vmem, ⟨8, _⟩ => ⟨S16x256, .f32⟩
  | .local _ .vmem, ⟨9, _⟩ => ⟨S16x256, .f32⟩
  | .local _ .vmem, ⟨10, _⟩ => ⟨S1024x256, .f32⟩
  | .local _ .vmem, ⟨11, _⟩ => ⟨S1024x256, .f32⟩
  | .local _ .vmem, ⟨12, _⟩ => ⟨S16x256, .f32⟩
  | .local _ .vmem, ⟨13, _⟩ => ⟨S16x256, .f32⟩
  | .local _ .vmem, ⟨14, _⟩ => ⟨S256x256, .bf16⟩
  | .local _ .vmem, ⟨15, _⟩ => ⟨S1x256, .f32⟩
  | .local _ .vmem, ⟨16, _⟩ => ⟨S3x256, .f32⟩
  | .local _ .vmem, ⟨17, _⟩ => ⟨S1024x1024, .f32⟩
  | .local _ .vmem, ⟨18, _⟩ => ⟨S1024x1024, .f32⟩
  | .local _ .vmem, ⟨19, _⟩ => ⟨S256x256, .f32⟩
  | .local _ .vmem, ⟨20, _⟩ => ⟨S1x256, .f32⟩
  | .local _ .vmem, ⟨21, _⟩ => ⟨S3x256, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x2304 : Shape := ⟨2, ![8192, 2304]⟩
abbrev S8192x256 : Shape := ⟨2, ![8192, 256]⟩
abbrev S4x64x64 : Shape := ⟨3, ![4, 64, 64]⟩
abbrev S256 : Shape := ⟨1, ![256]⟩
abbrev S3x256 : Shape := ⟨2, ![3, 256]⟩
abbrev S8192x1024 : Shape := ⟨2, ![8192, 1024]⟩
abbrev S8192 : Shape := ⟨1, ![8192]⟩
abbrev S8192x64 : Shape := ⟨2, ![8192, 64]⟩
abbrev S_ : Shape := ⟨0, ![]⟩
abbrev S8192x1 : Shape := ⟨2, ![8192, 1]⟩
abbrev S8192x1x64 : Shape := ⟨3, ![8192, 1, 64]⟩
abbrev S8192x4x64 : Shape := ⟨3, ![8192, 4, 64]⟩
abbrev S4x64x8192 : Shape := ⟨3, ![4, 64, 8192]⟩
abbrev S1x256 : Shape := ⟨2, ![1, 256]⟩
abbrev S2x256 : Shape := ⟨2, ![2, 256]⟩
abbrev S8194x256 : Shape := ⟨2, ![8194, 256]⟩
abbrev S4x8192x64 : Shape := ⟨3, ![4, 8192, 64]⟩
abbrev S8207x64 : Shape := ⟨2, ![8207, 64]⟩
abbrev S8199x64 : Shape := ⟨2, ![8199, 64]⟩
abbrev S8195x64 : Shape := ⟨2, ![8195, 64]⟩
abbrev S8193x64 : Shape := ⟨2, ![8193, 64]⟩
abbrev S4x64x1x64 : Shape := ⟨4, ![4, 64, 1, 64]⟩
abbrev S4x64x4x64 : Shape := ⟨4, ![4, 64, 4, 64]⟩
abbrev S256x256 : Shape := ⟨2, ![256, 256]⟩

abbrev nBuf : Space → Nat
  | .hbm => 236
  | .vmem => 0
  | .smem => 0
  | _ => 0

abbrev hbmTy0_0 (i : Nat) : BufTy := match i % 128 with
  | 0 => ⟨S8192x2304, .f32⟩
  | 1 => ⟨S8192x256, .f32⟩
  | 2 => ⟨S8192x256, .f32⟩
  | 3 => ⟨S4x64x64, .f32⟩
  | 4 => ⟨S256, .f32⟩
  | 5 => ⟨S3x256, .f32⟩
  | 6 => ⟨S8192x1024, .f32⟩
  | 7 => ⟨S8192x256, .f32⟩
  | 8 => ⟨S8192x256, .f32⟩
  | 9 => ⟨S8192x256, .f32⟩
  | 10 => ⟨S8192x256, .f32⟩
  | 11 => ⟨S8192, .i32⟩
  | 12 => ⟨S8192x64, .f32⟩
  | 13 => ⟨S_, .f32⟩
  | 14 => ⟨S_, .f32⟩
  | 15 => ⟨S8192x64, .f32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .f32⟩
  | 23 => ⟨S8192x1, .f32⟩
  | 24 => ⟨S8192x64, .f32⟩
  | 25 => ⟨S8192x64, .f32⟩
  | 26 => ⟨S8192x64, .f32⟩
  | 27 => ⟨S8192x64, .f32⟩
  | 28 => ⟨S_, .f32⟩
  | 29 => ⟨S_, .f32⟩
  | 30 => ⟨S8192x64, .f32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .f32⟩
  | 38 => ⟨S8192x1, .f32⟩
  | 39 => ⟨S8192x64, .f32⟩
  | 40 => ⟨S8192x64, .f32⟩
  | 41 => ⟨S8192x64, .f32⟩
  | 42 => ⟨S8192x64, .f32⟩
  | 43 => ⟨S_, .f32⟩
  | 44 => ⟨S_, .f32⟩
  | 45 => ⟨S8192x64, .f32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192, .f32⟩
  | 53 => ⟨S8192x1, .f32⟩
  | 54 => ⟨S8192x64, .f32⟩
  | 55 => ⟨S8192x64, .f32⟩
  | 56 => ⟨S8192x64, .f32⟩
  | 57 => ⟨S8192x64, .f32⟩
  | 58 => ⟨S_, .f32⟩
  | 59 => ⟨S_, .f32⟩
  | 60 => ⟨S8192x64, .f32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S8192x1, .f32⟩
  | 69 => ⟨S8192x64, .f32⟩
  | 70 => ⟨S8192x64, .f32⟩
  | 71 => ⟨S8192x64, .f32⟩
  | 72 => ⟨S8192x1x64, .f32⟩
  | 73 => ⟨S8192x1x64, .f32⟩
  | 74 => ⟨S8192x1x64, .f32⟩
  | 75 => ⟨S8192x1x64, .f32⟩
  | 76 => ⟨S8192x4x64, .f32⟩
  | 77 => ⟨S4x64x8192, .f32⟩
  | 78 => ⟨S8192x4x64, .f32⟩
  | 79 => ⟨S8192x256, .f32⟩
  | 80 => ⟨S1x256, .f32⟩
  | 81 => ⟨S8192x256, .f32⟩
  | 82 => ⟨S8192x256, .f32⟩
  | 83 => ⟨S8192x256, .f32⟩
  | 84 => ⟨S_, .f32⟩
  | 85 => ⟨S2x256, .f32⟩
  | 86 => ⟨S8194x256, .f32⟩
  | 87 => ⟨S_, .f32⟩
  | 88 => ⟨S2x256, .f32⟩
  | 89 => ⟨S1x256, .f32⟩
  | 90 => ⟨S256, .f32⟩
  | 91 => ⟨S1x256, .f32⟩
  | 92 => ⟨S8192x256, .f32⟩
  | 93 => ⟨S8192x256, .f32⟩
  | 94 => ⟨S8192x256, .f32⟩
  | 95 => ⟨S_, .f32⟩
  | 96 => ⟨S8192x256, .f32⟩
  | 97 => ⟨S8192x256, .f32⟩
  | 98 => ⟨S1x256, .f32⟩
  | 99 => ⟨S256, .f32⟩
  | 100 => ⟨S1x256, .f32⟩
  | 101 => ⟨S8192x256, .f32⟩
  | 102 => ⟨S8192x256, .f32⟩
  | 103 => ⟨S8192x256, .f32⟩
  | 104 => ⟨S8192x256, .f32⟩
  | 105 => ⟨S1x256, .f32⟩
  | 106 => ⟨S256, .f32⟩
  | 107 => ⟨S1x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S256, .f32⟩
  | 120 => ⟨S1x256, .f32⟩
  | 121 => ⟨S_, .f32⟩
  | 122 => ⟨S8194x256, .f32⟩
  | 123 => ⟨S_, .f32⟩
  | 124 => ⟨S256, .f32⟩
  | 125 => ⟨S1x256, .f32⟩
  | 126 => ⟨S_, .f32⟩
  | 127 => ⟨S3x256, .f32⟩
  | _ => ⟨S8192x2304, .f32⟩

abbrev hbmTy0_1 (i : Nat) : BufTy := match i % 128 with
  | 0 => ⟨S8192x256, .f32⟩
  | 1 => ⟨S8192x256, .f32⟩
  | 2 => ⟨S8192x256, .f32⟩
  | 3 => ⟨S_, .f32⟩
  | 4 => ⟨S256, .f32⟩
  | 5 => ⟨S1x256, .f32⟩
  | 6 => ⟨S_, .f32⟩
  | 7 => ⟨S8194x256, .f32⟩
  | 8 => ⟨S8194x256, .f32⟩
  | 9 => ⟨S_, .f32⟩
  | 10 => ⟨S256, .f32⟩
  | 11 => ⟨S1x256, .f32⟩
  | 12 => ⟨S_, .f32⟩
  | 13 => ⟨S3x256, .f32⟩
  | 14 => ⟨S3x256, .f32⟩
  | 15 => ⟨S8192x256, .f32⟩
  | 16 => ⟨S8192x256, .f32⟩
  | 17 => ⟨S8192x256, .f32⟩
  | 18 => ⟨S_, .f32⟩
  | 19 => ⟨S256, .f32⟩
  | 20 => ⟨S1x256, .f32⟩
  | 21 => ⟨S_, .f32⟩
  | 22 => ⟨S8194x256, .f32⟩
  | 23 => ⟨S8194x256, .f32⟩
  | 24 => ⟨S_, .f32⟩
  | 25 => ⟨S256, .f32⟩
  | 26 => ⟨S1x256, .f32⟩
  | 27 => ⟨S_, .f32⟩
  | 28 => ⟨S3x256, .f32⟩
  | 29 => ⟨S3x256, .f32⟩
  | 30 => ⟨S2x256, .f32⟩
  | 31 => ⟨S8192x256, .f32⟩
  | 32 => ⟨S8192x256, .f32⟩
  | 33 => ⟨S8192x256, .f32⟩
  | 34 => ⟨S8192x256, .f32⟩
  | 35 => ⟨S_, .f32⟩
  | 36 => ⟨S256, .f32⟩
  | 37 => ⟨S1x256, .f32⟩
  | 38 => ⟨S8192x256, .f32⟩
  | 39 => ⟨S8192x256, .f32⟩
  | 40 => ⟨S_, .f32⟩
  | 41 => ⟨S256, .f32⟩
  | 42 => ⟨S8192x4x64, .f32⟩
  | 43 => ⟨S4x64x8192, .f32⟩
  | 44 => ⟨S4x8192x64, .f32⟩
  | 45 => ⟨S8192x4x64, .f32⟩
  | 46 => ⟨S4x64x64, .f32⟩
  | 47 => ⟨S4x64x64, .f32⟩
  | 48 => ⟨S8192x1x64, .f32⟩
  | 49 => ⟨S8192x64, .f32⟩
  | 50 => ⟨S8192x1x64, .f32⟩
  | 51 => ⟨S8192x64, .f32⟩
  | 52 => ⟨S8192x1x64, .f32⟩
  | 53 => ⟨S8192x64, .f32⟩
  | 54 => ⟨S8192x1x64, .f32⟩
  | 55 => ⟨S8192x64, .f32⟩
  | 56 => ⟨S8192x64, .f32⟩
  | 57 => ⟨S8192x64, .f32⟩
  | 58 => ⟨S8192x64, .f32⟩
  | 59 => ⟨S_, .f32⟩
  | 60 => ⟨S8207x64, .f32⟩
  | 61 => ⟨S_, .f32⟩
  | 62 => ⟨S_, .f32⟩
  | 63 => ⟨S8192x64, .f32⟩
  | 64 => ⟨S8192x64, .f32⟩
  | 65 => ⟨S_, .f32⟩
  | 66 => ⟨S8192x256, .f32⟩
  | 67 => ⟨S8192x64, .f32⟩
  | 68 => ⟨S8192x64, .f32⟩
  | 69 => ⟨S8192x64, .f32⟩
  | 70 => ⟨S_, .f32⟩
  | 71 => ⟨S8199x64, .f32⟩
  | 72 => ⟨S_, .f32⟩
  | 73 => ⟨S_, .f32⟩
  | 74 => ⟨S8192x64, .f32⟩
  | 75 => ⟨S8192x64, .f32⟩
  | 76 => ⟨S_, .f32⟩
  | 77 => ⟨S8192x256, .f32⟩
  | 78 => ⟨S8192x256, .f32⟩
  | 79 => ⟨S8192x64, .f32⟩
  | 80 => ⟨S8192x64, .f32⟩
  | 81 => ⟨S8192x64, .f32⟩
  | 82 => ⟨S_, .f32⟩
  | 83 => ⟨S8195x64, .f32⟩
  | 84 => ⟨S_, .f32⟩
  | 85 => ⟨S_, .f32⟩
  | 86 => ⟨S8192x64, .f32⟩
  | 87 => ⟨S8192x64, .f32⟩
  | 88 => ⟨S_, .f32⟩
  | 89 => ⟨S8192x256, .f32⟩
  | 90 => ⟨S8192x256, .f32⟩
  | 91 => ⟨S8192x64, .f32⟩
  | 92 => ⟨S8192x64, .f32⟩
  | 93 => ⟨S8192x64, .f32⟩
  | 94 => ⟨S_, .f32⟩
  | 95 => ⟨S8193x64, .f32⟩
  | 96 => ⟨S_, .f32⟩
  | 97 => ⟨S_, .f32⟩
  | 98 => ⟨S8192x64, .f32⟩
  | 99 => ⟨S8192x64, .f32⟩
  | 100 => ⟨S_, .f32⟩
  | 101 => ⟨S8192x256, .f32⟩
  | 102 => ⟨S8192x256, .f32⟩
  | 103 => ⟨S8192x1024, .f32⟩
  | 104 => ⟨S4x64x1x64, .f32⟩
  | 105 => ⟨S4x64x4x64, .f32⟩
  | 106 => ⟨S256x256, .f32⟩
  | 107 => ⟨S1x256, .f32⟩
  | _ => ⟨S8192x2304, .f32⟩

abbrev hbmTy (i : Nat) : BufTy := match i / 128 with
  | 0 => hbmTy0_0 i
  | 1 => hbmTy0_1 i
  | _ => ⟨S8192x2304, .f32⟩

abbrev bufTy : (tb : Table) → Fin (tcTables nBuf tb) → BufTy
  | .hbm, ⟨i, _⟩ => hbmTy i
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_13 : Ref sig .tc := ⟨.hbm, 118, rfl⟩
abbrev main_v97 : Ref sig .tc := ⟨.hbm, 119, rfl⟩
abbrev main_v98 : Ref sig .tc := ⟨.hbm, 120, rfl⟩
abbrev main_cst_14 : Ref sig .tc := ⟨.hbm, 121, rfl⟩
abbrev main_v99 : Ref sig .tc := ⟨.hbm, 122, rfl⟩
abbrev main_cst_15 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_17 : Ref sig .tc := ⟨.hbm, 131, rfl⟩
abbrev main_v106 : Ref sig .tc := ⟨.hbm, 132, rfl⟩
abbrev main_v107 : Ref sig .tc := ⟨.hbm, 133, rfl⟩
abbrev main_cst_18 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_cst_20 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_21 : Ref sig .tc := ⟨.hbm, 146, rfl⟩
abbrev main_v117 : Ref sig .tc := ⟨.hbm, 147, rfl⟩
abbrev main_v118 : Ref sig .tc := ⟨.hbm, 148, rfl⟩
abbrev main_cst_22 : Ref sig .tc := ⟨.hbm, 149, rfl⟩
abbrev main_v119 : Ref sig .tc := ⟨.hbm, 150, rfl⟩
abbrev main_v120 : Ref sig .tc := ⟨.hbm, 151, rfl⟩
abbrev main_cst_23 : Ref sig .tc := ⟨.hbm, 152, rfl⟩
abbrev main_v121 : Ref sig .tc := ⟨.hbm, 153, rfl⟩
abbrev main_v122 : Ref sig .tc := ⟨.hbm, 154, rfl⟩
abbrev main_cst_24 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_25 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_26 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_27 : Ref sig .tc := ⟨.hbm, 187, rfl⟩
abbrev main_v152 : Ref sig .tc := ⟨.hbm, 188, rfl⟩
abbrev main_cst_28 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_29 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_30 : Ref sig .tc := ⟨.hbm, 198, rfl⟩
abbrev main_v160 : Ref sig .tc := ⟨.hbm, 199, rfl⟩
abbrev main_cst_31 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_32 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_33 : Ref sig .tc := ⟨.hbm, 210, rfl⟩
abbrev main_v169 : Ref sig .tc := ⟨.hbm, 211, rfl⟩
abbrev main_cst_34 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_35 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_36 : Ref sig .tc := ⟨.hbm, 222, rfl⟩
abbrev main_v178 : Ref sig .tc := ⟨.hbm, 223, rfl⟩
abbrev main_cst_37 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_38 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S1x1024x4096 : Shape := ⟨3, ![1, 1024, 4096]⟩
abbrev S1024x4096 : Shape := ⟨2, ![1024, 4096]⟩
abbrev S8192x4096 : Shape := ⟨2, ![8192, 4096]⟩
abbrev S2x1024x4x1024 : Shape := ⟨4, ![2, 1024, 4, 1024]⟩
abbrev S2x4x1024x1024 : Shape := ⟨4, ![2, 4, 1024, 1024]⟩
abbrev S2x1024x4x577 : Shape := ⟨4, ![2, 1024, 4, 577]⟩
abbrev S2x4x577x1024 : Shape := ⟨4, ![2, 4, 577, 1024]⟩
abbrev S_ : Shape := ⟨0, ![]⟩
abbrev S2x4x592x1024 : Shape := ⟨4, ![2, 4, 592, 1024]⟩
abbrev S2x4x256x1024 : Shape := ⟨4, ![2, 4, 256, 1024]⟩
abbrev S2x4x2896x1024 : Shape := ⟨4, ![2, 4, 2896, 1024]⟩
abbrev S1024x1024 : Shape := ⟨2, ![1024, 1024]⟩
abbrev S1024x512 : Shape := ⟨2, ![1024, 512]⟩
abbrev S1x1x1024x512 : Shape := ⟨4, ![1, 1, 1024, 512]⟩
abbrev S1x1x512x1024 : Shape := ⟨4, ![1, 1, 512, 1024]⟩
abbrev S512x1024 : Shape := ⟨2, ![512, 1024]⟩

abbrev nBuf : Space → Nat
  | .hbm => 26
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x1024x1024, .f32⟩
  | .hbm, ⟨6, _⟩ => ⟨S2x1024x2308, .f32⟩
  | .hbm, ⟨7, _⟩ => ⟨S1x1024x4096, .f32⟩
  | .hbm, ⟨8, _⟩ => ⟨S1024x4096, .f32⟩
  | .hbm, ⟨9, _⟩ => ⟨S8192x4096, .f32⟩
  | .hbm, ⟨10, _⟩ => ⟨S8192x4096, .bf16⟩
  | .hbm, ⟨11, _⟩ => ⟨S2x1024x4x1024, .f32⟩
  | .hbm, ⟨12, _⟩ => ⟨S2x4x1024x1024, .f32⟩
  | .hbm, ⟨13, _⟩ => ⟨S2x1024x4x577, .f32⟩
  | .hbm, ⟨14, _⟩ => ⟨S2x4x577x1024, .f32⟩
  | .hbm, ⟨15, _⟩ => ⟨S_, .i32⟩
  | .hbm, ⟨16, _⟩ => ⟨S_, .f32⟩
  | .hbm, ⟨17, _⟩ => ⟨S2x4x592x1024, .f32⟩
  | .hbm, ⟨18, _⟩ => ⟨S2x4x1024x1024, .f32⟩
  | .hbm, ⟨19, _⟩ => ⟨S2x4x256x1024, .f32⟩
  | .hbm, ⟨20, _⟩ => ⟨S2x4x2896x1024, .f32⟩
  | .hbm, ⟨21, _⟩ => ⟨S2x4x2896x1024, .bf16⟩
  | .hbm, ⟨22, _⟩ => ⟨S8192x1024, .f32⟩
  | .hbm, ⟨23, _⟩ => ⟨S8192x4096, .bf16⟩
  | .hbm, ⟨24, _⟩ => ⟨S8192x4096, .bf16⟩
  | .hbm, ⟨25, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1x1024x512, .bf16⟩
  | .local _ .vmem, ⟨6, _⟩ => ⟨S1x1x1024x512, .bf16⟩
  | .local _ .vmem, ⟨7, _⟩ => ⟨S1x1x512x1024, .bf16⟩
  | .local _ .vmem, ⟨8, _⟩ => ⟨S1x1x512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  let c0_i32_13 : BitVec 32 := 0#32
  ![c0_i32_11.toNat, v16.toNat, v27.toNat, c0_i32_12.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x1024x1024, .f32⟩
  | .hbm, ⟨6, _⟩ => ⟨S2x1024x2308, .f32⟩
  | .hbm, ⟨7, _⟩ => ⟨S1x1024x4096, .f32⟩
  | .hbm, ⟨8, _⟩ => ⟨S1024x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S1x4096x1024, .f32⟩
  | .hbm, ⟨23, _⟩ => ⟨S4096x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .bf16⟩
  | .hbm, ⟨36, _⟩ => ⟨S8192x4096, .bf16⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x4x1024x1024 : Shape := ⟨4, ![2, 4, 1024, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩
abbrev S1024x1024 : Shape := ⟨2, ![1024, 1024]⟩
abbrev S1x1x1024x1024 : Shape := ⟨4, ![1, 1, 1024, 1024]⟩
abbrev S1x1024x1024 : Shape := ⟨3, ![1, 1024, 1024]⟩

abbrev nBuf : Space → Nat
  | .hbm => 36
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4x1024x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S1x4096x1024, .f32⟩
  | .hbm, ⟨22, _⟩ => ⟨S4096x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x1024, .bf16⟩
  | .hbm, ⟨34, _⟩ => ⟨S8192x4096, .bf16⟩
  | .hbm, ⟨35, _⟩ => ⟨S2x4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .f32⟩
  | .local _ .vmem, ⟨5, _⟩ => ⟨S1x1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x4x1024x1024 : Shape := ⟨4, ![2, 4, 1024, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4x1024x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S1x4096x1024, .f32⟩
  | .hbm, ⟨22, _⟩ => ⟨S4096x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S4096x1024, .f32⟩
  | .hbm, ⟨34, _⟩ => ⟨S1024x4096, .f32⟩
  | .hbm, ⟨35, _⟩ => ⟨S1024x4x1024, .f32⟩
  | .hbm, ⟨36, _⟩ => ⟨S4x1024x1024, .f32⟩
  | .hbm, ⟨37, _⟩ => ⟨S1x4x1024x1024, .f32⟩
  | .hbm, ⟨38, _⟩ => ⟨S1x4x1024x1024, .f32⟩
  | .hbm, ⟨39, _⟩ => ⟨S2x4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4096x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S2x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4096x1024, .f32⟩
  | .hbm, ⟨6, _⟩ => ⟨S1x4096x1024, .f32⟩
  | .hbm, ⟨7, _⟩ => ⟨S4096x1024, .f32⟩
  | .hbm, ⟨8, _⟩ => ⟨S1x1024x4096, .f32⟩
  | .hbm, ⟨9, _⟩ => ⟨S1024x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x4096, .f32⟩
  | .hbm, ⟨21, _⟩ => ⟨S4096x1024, .f32⟩
  | .hbm, ⟨22, _⟩ => ⟨S1x4096x1024, .f32⟩
  | .hbm, ⟨23, _⟩ => ⟨S1x4096x1024, .f32⟩
  | .hbm, ⟨24, _⟩ => ⟨S2x4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel5.lean ====
abbrev S8192x1024 : Shape := ⟨2, ![8192, 1024]⟩
abbrev S2x1024 : Shape := ⟨2, ![2, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S2x1024x4x1024 : Shape := ⟨4, ![2, 1024, 4, 1024]⟩
abbrev S2x4x1024x1024 : Shape := ⟨4, ![2, 4, 1024, 1024]⟩
abbrev S2x1024x4x577 : Shape := ⟨4, ![2, 1024, 4, 577]⟩
abbrev S2x4x577x1024 : Shape := ⟨4, ![2, 4, 577, 1024]⟩
abbrev S_ : Shape := ⟨0, ![]⟩
abbrev S2x4x592x1024 : Shape := ⟨4, ![2, 4, 592, 1024]⟩
abbrev S2x4x256x1024 : Shape := ⟨4, ![2, 4, 256, 1024]⟩
abbrev S2x4x2896x1024 : Shape := ⟨4, ![2, 4, 2896, 1024]⟩
abbrev S8192x4096 : Shape := ⟨2, ![8192, 4096]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 25
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x1024x4096, .f32⟩
  | .hbm, ⟨6, _⟩ => ⟨S2x4096x1024, .f32⟩
  | .hbm, ⟨7, _⟩ => ⟨S2x1024x1024, .f32⟩
  | .hbm, ⟨8, _⟩ => ⟨S2x1024x2308, .f32⟩
  | .hbm, ⟨9, _⟩ => ⟨S1x1024, .f32⟩
  | .hbm, ⟨10, _⟩ => ⟨S2x1024x4x1024, .f32⟩
  | .hbm, ⟨11, _⟩ => ⟨S2x4x1024x1024, .f32⟩
  | .hbm, ⟨12, _⟩ => ⟨S2x1024x4x577, .f32⟩
  | .hbm, ⟨13, _⟩ => ⟨S2x4x577x1024, .f32⟩
  | .hbm, ⟨14, _⟩ => ⟨S_, .i32⟩
  | .hbm, ⟨15, _⟩ => ⟨S_, .f32⟩
  | .hbm, ⟨16, _⟩ => ⟨S2x4x592x1024, .f32⟩
  | .hbm, ⟨17, _⟩ => ⟨S2x4x1024x1024, .f32⟩
  | .hbm, ⟨18, _⟩ => ⟨S2x4x256x1024, .f32⟩
  | .hbm, ⟨19, _⟩ => ⟨S2x4x2896x1024, .f32⟩
  | .hbm, ⟨20, _⟩ => ⟨S2x4x2896x1024, .bf16⟩
  | .hbm, ⟨21, _⟩ => ⟨S8192x1024, .f32⟩
  | .hbm, ⟨22, _⟩ => ⟨S8192x1024, .bf16⟩
  | .hbm, ⟨23, _⟩ => ⟨S8192x4096, .bf16⟩
  | .hbm, ⟨24, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_18 : BitVec 32 := 0#32
  let v24 : BitVec 1 := Scalar.cmpi .ne v23 c0_i32_18
  v24

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  let c0_i32_12 : BitVec 32 := 0#32
  let c0_i32_13 : BitVec 32 := 0#32
  ![c0_i32_11.toNat, v16.toNat, v27.toNat, c0_i32_12.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S8192x1024 : Shape := ⟨2, ![8192, 1024]⟩
abbrev S2x1024 : Shape := ⟨2, ![2, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x1024x4096, .f32⟩
  | .hbm, ⟨6, _⟩ => ⟨S2x4096x1024, .f32⟩
  | .hbm, ⟨7, _⟩ => ⟨S2x1024x1024, .f32⟩
  | .hbm, ⟨8, _⟩ => ⟨S2x1024x2308, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024x4096, .f32⟩
  | .hbm, ⟨35, _⟩ => ⟨S1024x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S1x4096x1024, .f32⟩
  | .hbm, ⟨42, _⟩ => ⟨S4096x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x4096, .bf16⟩
  | .hbm, ⟨49, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S1x1024x4096 : Shape := ⟨3, ![1, 1024, 4096]⟩
abbrev S1024x4096 : Shape := ⟨2, ![1024, 4096]⟩
abbrev S8192x4096 : Shape := ⟨2, ![8192, 4096]⟩
abbrev S2x1024x4x1024 : Shape := ⟨4, ![2, 1024, 4, 1024]⟩
abbrev S2x4x1024x1024 : Shape := ⟨4, ![2, 4, 1024, 1024]⟩
abbrev S2x1024x4x577 : Shape := ⟨4, ![2, 1024, 4, 577]⟩
abbrev S2x4x577x1024 : Shape := ⟨4, ![2, 4, 577, 1024]⟩
abbrev S_ : Shape := ⟨0, ![]⟩
abbrev S2x4x592x1024 : Shape := ⟨4, ![2, 4, 592, 1024]⟩
abbrev S2x4x256x1024 : Shape := ⟨4, ![2, 4, 256, 1024]⟩
abbrev S2x4x2896x1024 : Shape := ⟨4, ![2, 4, 2896, 1024]⟩
abbrev S1024x1024 : Shape := ⟨2, ![1024, 1024]⟩
abbrev S1024x512 : Shape := ⟨2, ![1024, 512]⟩
abbrev S1x1x1024x512 : Shape := ⟨4, ![1, 1, 1024, 512]⟩
abbrev S1x1x512x1024 : Shape := ⟨4, ![1, 1, 512, 1024]⟩
abbrev S512x1024 : Shape := ⟨2, ![512, 1024]⟩

abbrev nBuf : Space → Nat
  | .hbm => 26
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x1024x1024, .f32⟩
  | .hbm, ⟨6, _⟩ => ⟨S2x1024x2308, .f32⟩
  | .hbm, ⟨7, _⟩ => ⟨S1x1024x4096, .f32⟩
  | .hbm, ⟨8, _⟩ => ⟨S1024x4096, .f32⟩
  | .hbm, ⟨9, _⟩ => ⟨S8192x4096, .f32⟩
  | .hbm, ⟨10, _⟩ => ⟨S8192x4096, .bf16⟩
  | .hbm, ⟨11, _⟩ => ⟨S2x1024x4x1024, .f32⟩
  | .hbm, ⟨12, _⟩ => ⟨S2x4x1024x1024, .f32⟩
  | .hbm, ⟨13, _⟩ => ⟨S2x1024x4x577, .f32⟩
  | .hbm, ⟨14, _⟩ => ⟨S2x4x577x1024, .f32⟩
  | .hbm, ⟨15, _⟩ => ⟨S_, .i32⟩
  | .hbm, ⟨16, _⟩ => ⟨S_, .f32⟩
  | .hbm, ⟨17, _⟩ => ⟨S2x4x592x1024, .f32⟩
  | .hbm, ⟨18, _⟩ => ⟨S2x4x1024x1024, .f32⟩
  | .hbm, ⟨19, _⟩ => ⟨S2x4x256x1024, .f32⟩
  | .hbm, ⟨20, _⟩ => ⟨S2x4x2896x1024, .f32⟩
  | .hbm, ⟨21, _⟩ => ⟨S2x4x2896x1024, .bf16⟩
  | .hbm, ⟨22, _⟩ => ⟨S8192x1024, .f32⟩
  | .hbm, ⟨23, _⟩ => ⟨S8192x4096, .bf16⟩
  | .hbm, ⟨24, _⟩ => ⟨S8192x4096, .bf16⟩
  | .hbm, ⟨25, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1x1024x512, .bf16⟩
  | .local _ .vmem, ⟨6, _⟩ => ⟨S1x1x1024x512, .bf16⟩
  | .local _ .vmem, ⟨7, _⟩ => ⟨S1x1x512x1024, .bf16⟩
  | .local _ .vmem, ⟨8, _⟩ => ⟨S1x1x512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x1024, .bf16⟩
  | .local _ .vmem, ⟨16, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c1_i32_11 : BitVec 32 := 1#32
  let c0_i32_12 : BitVec 32 := 0#32
  let c0_i32_13 : BitVec 32 := 0#32
  ![c1_i32_11.toNat, v16.toNat, v27.toNat, c0_i32_12.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x1024x1024, .f32⟩
  | .hbm, ⟨6, _⟩ => ⟨S2x1024x2308, .f32⟩
  | .hbm, ⟨7, _⟩ => ⟨S1x1024x4096, .f32⟩
  | .hbm, ⟨8, _⟩ => ⟨S1024x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S1x4096x1024, .f32⟩
  | .hbm, ⟨23, _⟩ => ⟨S4096x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .bf16⟩
  | .hbm, ⟨36, _⟩ => ⟨S8192x4096, .bf16⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x4x1024x1024 : Shape := ⟨4, ![2, 4, 1024, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩
abbrev S1024x1024 : Shape := ⟨2, ![1024, 1024]⟩
abbrev S1x1x1024x1024 : Shape := ⟨4, ![1, 1, 1024, 1024]⟩
abbrev S1x1024x1024 : Shape := ⟨3, ![1, 1024, 1024]⟩

abbrev nBuf : Space → Nat
  | .hbm => 36
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4x1024x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S1x4096x1024, .f32⟩
  | .hbm, ⟨22, _⟩ => ⟨S4096x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x1024, .bf16⟩
  | .hbm, ⟨34, _⟩ => ⟨S8192x4096, .bf16⟩
  | .hbm, ⟨35, _⟩ => ⟨S2x4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .f32⟩
  | .local _ .vmem, ⟨5, _⟩ => ⟨S1x1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x4x1024x1024 : Shape := ⟨4, ![2, 4, 1024, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4x1024x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S1x4096x1024, .f32⟩
  | .hbm, ⟨22, _⟩ => ⟨S4096x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S4096x1024, .f32⟩
  | .hbm, ⟨34, _⟩ => ⟨S1024x4096, .f32⟩
  | .hbm, ⟨35, _⟩ => ⟨S1024x4x1024, .f32⟩
  | .hbm, ⟨36, _⟩ => ⟨S4x1024x1024, .f32⟩
  | .hbm, ⟨37, _⟩ => ⟨S1x4x1024x1024, .f32⟩
  | .hbm, ⟨38, _⟩ => ⟨S1x4x1024x1024, .f32⟩
  | .hbm, ⟨39, _⟩ => ⟨S2x4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4096x1024, .f32⟩
  | .hbm, ⟨6, _⟩ => ⟨S1x1024x4096, .f32⟩
  | .hbm, ⟨7, _⟩ => ⟨S1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S2x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x4096, .f32⟩
  | .hbm, ⟨4, _⟩ => ⟨S2x4096x1024, .f32⟩
  | .hbm, ⟨5, _⟩ => ⟨S2x4096x1024, .f32⟩
  | .hbm, ⟨6, _⟩ => ⟨S1x4096x1024, .f32⟩
  | .hbm, ⟨7, _⟩ => ⟨S4096x1024, .f32⟩
  | .hbm, ⟨8, _⟩ => ⟨S1x1024x4096, .f32⟩
  | .hbm, ⟨9, _⟩ => ⟨S1024x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x4096, .f32⟩
  | .hbm, ⟨21, _⟩ => ⟨S4096x1024, .f32⟩
  | .hbm, ⟨22, _⟩ => ⟨S1x4096x1024, .f32⟩
  | .hbm, ⟨23, _⟩ => ⟨S1x4096x1024, .f32⟩
  | .hbm, ⟨24, _⟩ => ⟨S2x4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel9.lean ====
abbrev S8192x1024 : Shape := ⟨2, ![8192, 1024]⟩
abbrev S2x1024 : Shape := ⟨2, ![2, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S2x1024x4x1024 : Shape := ⟨4, ![2, 1024, 4, 1024]⟩
abbrev S2x4x1024x1024 : Shape := ⟨4, ![2, 4, 1024, 1024]⟩
abbrev S2x1024x4x577 : Shape := ⟨4, ![2, 1024, 4, 577]⟩
abbrev S2x4x577x1024 : Shape := ⟨4, ![2, 4, 577, 1024]⟩
abbrev S_ : Shape := ⟨0, ![]⟩
abbrev S2x4x592x1024 : Shape := ⟨4, ![2, 4, 592, 1024]⟩
abbrev S2x4x256x1024 : Shape := ⟨4, ![2, 4, 256, 1024]⟩
abbrev S2x4x2896x1024 : Shape := ⟨4, ![2, 4, 2896, 1024]⟩
abbrev S8192x4096 : Shape := ⟨2, ![8192, 4096]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 25
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x1024x4096, .f32⟩
  | .hbm, ⟨6, _⟩ => ⟨S2x4096x1024, .f32⟩
  | .hbm, ⟨7, _⟩ => ⟨S2x1024x1024, .f32⟩
  | .hbm, ⟨8, _⟩ => ⟨S2x1024x2308, .f32⟩
  | .hbm, ⟨9, _⟩ => ⟨S1x1024, .f32⟩
  | .hbm, ⟨10, _⟩ => ⟨S2x1024x4x1024, .f32⟩
  | .hbm, ⟨11, _⟩ => ⟨S2x4x1024x1024, .f32⟩
  | .hbm, ⟨12, _⟩ => ⟨S2x1024x4x577, .f32⟩
  | .hbm, ⟨13, _⟩ => ⟨S2x4x577x1024, .f32⟩
  | .hbm, ⟨14, _⟩ => ⟨S_, .i32⟩
  | .hbm, ⟨15, _⟩ => ⟨S_, .f32⟩
  | .hbm, ⟨16, _⟩ => ⟨S2x4x592x1024, .f32⟩
  | .hbm, ⟨17, _⟩ => ⟨S2x4x1024x1024, .f32⟩
  | .hbm, ⟨18, _⟩ => ⟨S2x4x256x1024, .f32⟩
  | .hbm, ⟨19, _⟩ => ⟨S2x4x2896x1024, .f32⟩
  | .hbm, ⟨20, _⟩ => ⟨S2x4x2896x1024, .bf16⟩
  | .hbm, ⟨21, _⟩ => ⟨S8192x1024, .f32⟩
  | .hbm, ⟨22, _⟩ => ⟨S8192x1024, .bf16⟩
  | .hbm, ⟨23, _⟩ => ⟨S8192x4096, .bf16⟩
  | .hbm, ⟨24, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_18 : BitVec 32 := 0#32
  let v24 : BitVec 1 := Scalar.cmpi .ne v23 c0_i32_18
  v24

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c1_i32_11 : BitVec 32 := 1#32
  let c0_i32_12 : BitVec 32 := 0#32
  let c0_i32_13 : BitVec 32 := 0#32
  ![c1_i32_11.toNat, v16.toNat, v27.toNat, c0_i32_12.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference9Ideal.lean ====
abbrev S8192x1024 : Shape := ⟨2, ![8192, 1024]⟩
abbrev S2x1024 : Shape := ⟨2, ![2, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x1024x4096, .f32⟩
  | .hbm, ⟨6, _⟩ => ⟨S2x4096x1024, .f32⟩
  | .hbm, ⟨7, _⟩ => ⟨S2x1024x1024, .f32⟩
  | .hbm, ⟨8, _⟩ => ⟨S2x1024x2308, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024x4096, .f32⟩
  | .hbm, ⟨35, _⟩ => ⟨S1024x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S1x4096x1024, .f32⟩
  | .hbm, ⟨42, _⟩ => ⟨S4096x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x4096, .bf16⟩
  | .hbm, ⟨49, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x2308 : Shape := ⟨2, ![1024, 2308]⟩
abbrev S2308x1024 : Shape := ⟨2, ![2308, 1024]⟩
abbrev S1280x1024 : Shape := ⟨2, ![1280, 1024]⟩
abbrev S256x1024 : Shape := ⟨2, ![256, 1024]⟩
abbrev S768x1024 : Shape := ⟨2, ![768, 1024]⟩
abbrev S2304x1024 : Shape := ⟨2, ![2304, 1024]⟩
abbrev S4x1024 : Shape := ⟨2, ![4, 1024]⟩
abbrev S_ : Shape := ⟨0, ![]⟩
abbrev S128x1024 : Shape := ⟨2, ![128, 1024]⟩
abbrev S8192x2304 : Shape := ⟨2, ![8192, 2304]⟩
abbrev S8192x128 : Shape := ⟨2, ![8192, 128]⟩
abbrev S512x1024 : Shape := ⟨2, ![512, 1024]⟩
abbrev S512x2304 : Shape := ⟨2, ![512, 2304]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2308, .f32⟩
  | .hbm, ⟨5, _⟩ => ⟨S2308x1024, .f32⟩
  | .hbm, ⟨6, _⟩ => ⟨S2308x1024, .bf16⟩
  | .hbm, ⟨7, _⟩ => ⟨S1280x1024, .bf16⟩
  | .hbm, ⟨8, _⟩ => ⟨S256x1024, .bf16⟩
  | .hbm, ⟨9, _⟩ => ⟨S768x1024, .bf16⟩
  | .hbm, ⟨10, _⟩ => ⟨S2304x1024, .bf16⟩
  | .hbm, ⟨11, _⟩ => ⟨S4x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S8192x2304, .f32⟩
  | .hbm, ⟨16, _⟩ => ⟨S8192x128, .f32⟩
  | .hbm, ⟨17, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2304x1024, .bf16⟩
  | .local _ .vmem, ⟨6, _⟩ => ⟨S128x1024, .bf16⟩
  | .local _ .vmem, ⟨7, _⟩ => ⟨S512x2304, .f32⟩
  | .local _ .vmem, ⟨8, _⟩ => ⟨S512x2304, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S1x1024 : Shape := ⟨2, ![1, 1024]⟩
abbrev S1024x2308 : Shape := ⟨2, ![1024, 2308]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2308 : Shape := ⟨2, ![8192, 2308]⟩
abbrev S8192x1280 : Shape := ⟨2, ![8192, 1280]⟩
abbrev S8192x256 : Shape := ⟨2, ![8192, 256]⟩
abbrev S8192x768 : Shape := ⟨2, ![8192, 768]⟩
abbrev S8192x2304 : Shape := ⟨2, ![8192, 2304]⟩
abbrev S8192x4 : Shape := ⟨2, ![8192, 4]⟩
abbrev S8192x124 : Shape := ⟨2, ![8192, 124]⟩
abbrev S8192x128 : Shape := ⟨2, ![8192, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2308, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2308, .f32⟩
  | .hbm, ⟨30, _⟩ => ⟨S8192x1280, .f32⟩
  | .hbm, ⟨31, _⟩ => ⟨S8192x256, .f32⟩
  | .hbm, ⟨32, _⟩ => ⟨S8192x768, .f32⟩
  | .hbm, ⟨33, _⟩ => ⟨S8192x2304, .f32⟩
  | .hbm, ⟨34, _⟩ => ⟨S8192x4, .f32⟩
  | .hbm, ⟨35, _⟩ => ⟨S_, .f32⟩
  | .hbm, ⟨36, _⟩ => ⟨S8192x124, .f32⟩
  | .hbm, ⟨37, _⟩ => ⟨S8192x128, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel11.lean ====
abbrev S8192x256 : Shape := ⟨2, ![8192, 256]⟩
abbrev S2x1024 : Shape := ⟨2, ![2, 1024]⟩
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S2x1024x4x1024 : Shape := ⟨4, ![2, 1024, 4, 1024]⟩
abbrev S2x4x1024x1024 : Shape := ⟨4, ![2, 4, 1024, 1024]⟩
abbrev S2x1024x4x577 : Shape := ⟨4, ![2, 1024, 4, 577]⟩
abbrev S2x4x577x1024 : Shape := ⟨4, ![2, 4, 577, 1024]⟩
abbrev S_ : Shape := ⟨0, ![]⟩
abbrev S2x4x592x1024 : Shape := ⟨4, ![2, 4, 592, 1024]⟩
abbrev S2x4x256x1024 : Shape := ⟨4, ![2, 4, 256, 1024]⟩
abbrev S2x4x2896x1024 : Shape := ⟨4, ![2, 4, 2896, 1024]⟩
abbrev S512x256 : Shape := ⟨2, ![512, 256]⟩
abbrev S1x4x256x1024 : Shape := ⟨4, ![1, 4, 256, 1024]⟩
abbrev S512x1024 : Shape := ⟨2, ![512, 1024]⟩
abbrev S512 : Shape := ⟨1, ![512]⟩
abbrev S512x1 : Shape := ⟨2, ![512, 1]⟩
abbrev S1x256 : Shape := ⟨2, ![1, 256]⟩
abbrev S4x256x1024 : Shape := ⟨3, ![4, 256, 1024]⟩
abbrev S1024x1024 : Shape := ⟨2, ![1024, 1024]⟩

abbrev nBuf : Space → Nat
  | .hbm => 26
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S2x1024, .f32⟩
  | .hbm, ⟨5, _⟩ => ⟨S8192x1024, .f32⟩
  | .hbm, ⟨6, _⟩ => ⟨S1x1024, .f32⟩
  | .hbm, ⟨7, _⟩ => ⟨S2x1024x4096, .f32⟩
  | .hbm, ⟨8, _⟩ => ⟨S2x4096x1024, .f32⟩
  | .hbm, ⟨9, _⟩ => ⟨S2x1024x1024, .f32⟩
  | .hbm, ⟨10, _⟩ => ⟨S2x1024x2308, .f32⟩
  | .hbm, ⟨11, _⟩ => ⟨S1x1024, .f32⟩
  | .hbm, ⟨12, _⟩ => ⟨S2x1024x4x1024, .f32⟩
  | .hbm, ⟨13, _⟩ => ⟨S2x4x1024x1024, .f32⟩
  | .hbm, ⟨14, _⟩ => ⟨S2x1024x4x577, .f32⟩
  | .hbm, ⟨15, _⟩ => ⟨S2x4x577x1024, .f32⟩
  | .hbm, ⟨16, _⟩ => ⟨S_, .i32⟩
  | .hbm, ⟨17, _⟩ => ⟨S_, .f32⟩
  | .hbm, ⟨18, _⟩ => ⟨S2x4x592x1024, .f32⟩
  | .hbm, ⟨19, _⟩ => ⟨S2x4x1024x1024, .f32⟩
  | .hbm, ⟨20, _⟩ => ⟨S2x4x256x1024, .f32⟩
  | .hbm, ⟨21, _⟩ => ⟨S2x4x2896x1024, .f32⟩
  | .hbm, ⟨22, _⟩ => ⟨S2x4x2896x1024, .bf16⟩
  | .hbm, ⟨23, _⟩ => ⟨S8192x1024, .f32⟩
  | .hbm, ⟨24, _⟩ => ⟨S8192x1024, .bf16⟩
  | .hbm, ⟨25, _⟩ => ⟨S8192x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1x4x256x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  let c0_i32_2 : BitVec 32 := 0#32
  ![c0_i32.toNat, c0_i32_0.toNat, c8_i32.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference11Ideal.lean ====
abbrev S8192x256 : Shape := ⟨2, ![8192, 256]⟩
abbrev S2x1024 : Shape := ⟨2, ![2, 1024]⟩
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S8192x1x256 : Shape := ⟨3, ![8192, 1, 256]⟩
abbrev S8192x4x256 : Shape := ⟨3, ![8192, 4, 256]⟩
abbrev S1024 : Shape := ⟨1, ![1024]⟩
abbrev S4x256 : Shape := ⟨2, ![4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩
abbrev S1x1024x1024 : Shape := ⟨3, ![1, 1024, 1024]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S2x1024, .f32⟩
  | .hbm, ⟨5, _⟩ => ⟨S8192x1024, .f32⟩
  | .hbm, ⟨6, _⟩ => ⟨S1x1024, .f32⟩
  | .hbm, ⟨7, _⟩ => ⟨S2x1024x4096, .f32⟩
  | .hbm, ⟨8, _⟩ => ⟨S2x4096x1024, .f32⟩
  | .hbm, ⟨9, _⟩ => ⟨S2x1024x1024, .f32⟩
  | .hbm, ⟨10, _⟩ => ⟨S2x1024x2308, .f32⟩
  | .hbm, ⟨11, _⟩ => ⟨S8192x1x256, .f32⟩
  | .hbm, ⟨12, _⟩ => ⟨S8192x1x256, .f32⟩
  | .hbm, ⟨13, _⟩ => ⟨S8192x1x256, .f32⟩
  | .hbm, ⟨14, _⟩ => ⟨S8192x1x256, .f32⟩
  | .hbm, ⟨15, _⟩ => ⟨S8192x4x256, .f32⟩
  | .hbm, ⟨16, _⟩ => ⟨S1x1024, .f32⟩
  | .hbm, ⟨17, _⟩ => ⟨S1024, .f32⟩
  | .hbm, ⟨18, _⟩ => ⟨S4x256, .f32⟩
  | .hbm, ⟨19, _⟩ => ⟨S8192x4x256, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S8192x4x1, .f32⟩
  | .hbm, ⟨30, _⟩ => ⟨S8192x4x256, .f32⟩
  | .hbm, ⟨31, _⟩ => ⟨S8192x4x256, .f32⟩
  | .hbm, ⟨32, _⟩ => ⟨S1x4x256, .f32⟩
  | .hbm, ⟨33, _⟩ => ⟨S8192x4x256, .f32⟩
  | .hbm, ⟨34, _⟩ => ⟨S8192x4x256, .f32⟩
  | .hbm, ⟨35, _⟩ => ⟨S8192x1024, .f32⟩
  | .hbm, ⟨36, _⟩ => ⟨S1x1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel12.lean ====
abbrev S8192x256 : Shape := ⟨2, ![8192, 256]⟩
abbrev S2x1024 : Shape := ⟨2, ![2, 1024]⟩
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S2x1024x4x1024 : Shape := ⟨4, ![2, 1024, 4, 1024]⟩
abbrev S2x4x1024x1024 : Shape := ⟨4, ![2, 4, 1024, 1024]⟩
abbrev S2x1024x4x577 : Shape := ⟨4, ![2, 1024, 4, 577]⟩
abbrev S2x4x577x1024 : Shape := ⟨4, ![2, 4, 577, 1024]⟩
abbrev S_ : Shape := ⟨0, ![]⟩
abbrev S2x4x592x1024 : Shape := ⟨4, ![2, 4, 592, 1024]⟩
abbrev S2x4x256x1024 : Shape := ⟨4, ![2, 4, 256, 1024]⟩
abbrev S2x4x2896x1024 : Shape := ⟨4, ![2, 4, 2896, 1024]⟩
abbrev S512x256 : Shape := ⟨2, ![512, 256]⟩
abbrev S1x4x256x1024 : Shape := ⟨4, ![1, 4, 256, 1024]⟩
abbrev S512x1024 : Shape := ⟨2, ![512, 1024]⟩
abbrev S512 : Shape := ⟨1, ![512]⟩
abbrev S512x1 : Shape := ⟨2, ![512, 1]⟩
abbrev S1x256 : Shape := ⟨2, ![1, 256]⟩
abbrev S4x256x1024 : Shape := ⟨3, ![4, 256, 1024]⟩
abbrev S1024x1024 : Shape := ⟨2, ![1024, 1024]⟩

abbrev nBuf : Space → Nat
  | .hbm => 26
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S2x1024, .f32⟩
  | .hbm, ⟨5, _⟩ => ⟨S8192x1024, .f32⟩
  | .hbm, ⟨6, _⟩ => ⟨S1x1024, .f32⟩
  | .hbm, ⟨7, _⟩ => ⟨S2x1024x4096, .f32⟩
  | .hbm, ⟨8, _⟩ => ⟨S2x4096x1024, .f32⟩
  | .hbm, ⟨9, _⟩ => ⟨S2x1024x1024, .f32⟩
  | .hbm, ⟨10, _⟩ => ⟨S2x1024x2308, .f32⟩
  | .hbm, ⟨11, _⟩ => ⟨S1x1024, .f32⟩
  | .hbm, ⟨12, _⟩ => ⟨S2x1024x4x1024, .f32⟩
  | .hbm, ⟨13, _⟩ => ⟨S2x4x1024x1024, .f32⟩
  | .hbm, ⟨14, _⟩ => ⟨S2x1024x4x577, .f32⟩
  | .hbm, ⟨15, _⟩ => ⟨S2x4x577x1024, .f32⟩
  | .hbm, ⟨16, _⟩ => ⟨S_, .i32⟩
  | .hbm, ⟨17, _⟩ => ⟨S_, .f32⟩
  | .hbm, ⟨18, _⟩ => ⟨S2x4x592x1024, .f32⟩
  | .hbm, ⟨19, _⟩ => ⟨S2x4x1024x1024, .f32⟩
  | .hbm, ⟨20, _⟩ => ⟨S2x4x256x1024, .f32⟩
  | .hbm, ⟨21, _⟩ => ⟨S2x4x2896x1024, .f32⟩
  | .hbm, ⟨22, _⟩ => ⟨S2x4x2896x1024, .bf16⟩
  | .hbm, ⟨23, _⟩ => ⟨S8192x1024, .f32⟩
  | .hbm, ⟨24, _⟩ => ⟨S8192x1024, .bf16⟩
  | .hbm, ⟨25, _⟩ => ⟨S8192x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1x4x256x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c8_i32 : BitVec 32 := 8#32
  let c0_i32_0 : BitVec 32 := 0#32
  let c0_i32_1 : BitVec 32 := 0#32
  ![c1_i32.toNat, c0_i32.toNat, c8_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S8192x256 : Shape := ⟨2, ![8192, 256]⟩
abbrev S2x1024 : Shape := ⟨2, ![2, 1024]⟩
abbrev S8192x1024 : Shape := ⟨2, ![8192, 1024]⟩
abbrev S1x1024 : Shape := ⟨2, ![1, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x1024x2308 : Shape := ⟨3, ![2, 1024, 2308]⟩
abbrev S8192x1x256 : Shape := ⟨3, ![8192, 1, 256]⟩
abbrev S8192x4x256 : Shape := ⟨3, ![8192, 4, 256]⟩
abbrev S1024 : Shape := ⟨1, ![1024]⟩
abbrev S4x256 : Shape := ⟨2, ![4, 256]⟩
abbrev S_ : Shape := ⟨0, ![]⟩
abbrev S8192x4 : Shape := ⟨2, ![8192, 4]⟩
abbrev S8192x4x1 : Shape := ⟨3, ![8192, 4, 1]⟩
abbrev S1x4x256 : Shape := ⟨3, ![1, 4, 256]⟩
abbrev S1x1024x1024 : Shape := ⟨3, ![1, 1024, 1024]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S2x1024, .f32⟩
  | .hbm, ⟨5, _⟩ => ⟨S8192x1024, .f32⟩
  | .hbm, ⟨6, _⟩ => ⟨S1x1024, .f32⟩
  | .hbm, ⟨7, _⟩ => ⟨S2x1024x4096, .f32⟩
  | .hbm, ⟨8, _⟩ => ⟨S2x4096x1024, .f32⟩
  | .hbm, ⟨9, _⟩ => ⟨S2x1024x1024, .f32⟩
  | .hbm, ⟨10, _⟩ => ⟨S2x1024x2308, .f32⟩
  | .hbm, ⟨11, _⟩ => ⟨S8192x1x256, .f32⟩
  | .hbm, ⟨12, _⟩ => ⟨S8192x1x256, .f32⟩
  | .hbm, ⟨13, _⟩ => ⟨S8192x1x256, .f32⟩
  | .hbm, ⟨14, _⟩ => ⟨S8192x1x256, .f32⟩
  | .hbm, ⟨15, _⟩ => ⟨S8192x4x256, .f32⟩
  | .hbm, ⟨16, _⟩ => ⟨S1x1024, .f32⟩
  | .hbm, ⟨17, _⟩ => ⟨S1024, .f32⟩
  | .hbm, ⟨18, _⟩ => ⟨S4x256, .f32⟩
  | .hbm, ⟨19, _⟩ => ⟨S8192x4x256, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S8192x4x1, .f32⟩
  | .hbm, ⟨30, _⟩ => ⟨S8192x4x256, .f32⟩
  | .hbm, ⟨31, _⟩ => ⟨S8192x4x256, .f32⟩
  | .hbm, ⟨32, _⟩ => ⟨S1x4x256, .f32⟩
  | .hbm, ⟨33, _⟩ => ⟨S8192x4x256, .f32⟩
  | .hbm, ⟨34, _⟩ => ⟨S8192x4x256, .f32⟩
  | .hbm, ⟨35, _⟩ => ⟨S8192x1024, .f32⟩
  | .hbm, ⟨36, _⟩ => ⟨S1x1024x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S2x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1x1024 : Shape := ⟨2, ![1, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1x1024x1024, .f32⟩
  | .hbm, ⟨15, _⟩ => ⟨S2x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x1024, .f32⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S2x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1x1024 : Shape := ⟨2, ![1, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2x1024x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1x1024x1024, .f32⟩
  | .hbm, ⟨15, _⟩ => ⟨S2x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x768 : Shape := ⟨2, ![8192, 768]⟩
abbrev S8192x1024 : Shape := ⟨2, ![8192, 1024]⟩
abbrev S768x1024 : Shape := ⟨2, ![768, 1024]⟩
abbrev S1024x768 : Shape := ⟨2, ![1024, 768]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S8192x1024, .bf16⟩
  | .hbm, ⟨3, _⟩ => ⟨S768x1024, .f32⟩
  | .local _ .vmem, ⟨0, _⟩ => ⟨S1024x768, .f32⟩
  | .local _ .vmem, ⟨1, _⟩ => ⟨S1024x768, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x768 : Shape := ⟨2, ![8192, 768]⟩
abbrev S8192x1024 : Shape := ⟨2, ![8192, 1024]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x1024, .f32⟩
  | .hbm, ⟨2, _⟩ => ⟨S_, .f32⟩
  | .hbm, ⟨3, _⟩ => ⟨S1024x768, .f32⟩
  | .hbm, ⟨4, _⟩ => ⟨S8192x768, .f32⟩
  | .hbm, ⟨5, _⟩ => ⟨S768x1024, .f32⟩
  | .hbm, ⟨6, _⟩ => ⟨S1024x768, .f32⟩
  | .hbm, ⟨7, _⟩ => ⟨S768x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x256 : Shape := ⟨2, ![8192, 256]⟩
abbrev S8192x1024 : Shape := ⟨2, ![8192, 1024]⟩
abbrev S_ : Shape := ⟨0, ![]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S1024x256, .f32⟩
  | .hbm, ⟨4, _⟩ => ⟨S8192x256, .f32⟩
  | .hbm, ⟨5, _⟩ => ⟨S256x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x1024, .bf16⟩
  | .hbm, ⟨3, _⟩ => ⟨S128x1024, .f32⟩
  | .local _ .vmem, ⟨0, _⟩ => ⟨S1024x128, .f32⟩
  | .local _ .vmem, ⟨1, _⟩ => ⟨S1024x128, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x128 : Shape := ⟨2, ![8192, 128]⟩
abbrev S8192x1024 : Shape := ⟨2, ![8192, 1024]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | .hbm, ⟨7, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Rows.lean ====
module
public import Idealize.ShloMosaic.Lib.Pointwise

/-! # Rows read at natural numbers

Arrays of extended reals read at natural coordinates, zero outside; the sum over a window of rows, forward and
backward, and how it doubles; and what a window sum of the host holds at an index. -/

@[expose] public section
set_option maxRecDepth 16384
noncomputable section
namespace Cert.Rows
open Idealize.ShloMosaic

/-- An array of two axes read at natural coordinates, zero outside. -/
def at2 {R C : ℕ} (x : (⟨2, ![R, C]⟩ : Shape).Idx → EReal) (r c : ℕ) : EReal :=
  if h : r < R ∧ c < C then x (ix2 ⟨r, h.1⟩ ⟨c, h.2⟩) else 0

/-- An array of one axis read at a natural coordinate, zero outside. -/
def at1 {C : ℕ} (x : (⟨1, ![C]⟩ : Shape).Idx → EReal) (c : ℕ) : EReal := if h : c < C then x (ix1 ⟨c, h⟩) else 0

/-- An array of three axes read at natural coordinates, zero outside. -/
def at3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

theorem at2_mk {R C : ℕ} (x : (⟨2, ![R, C]⟩ : Shape).Idx → EReal) (r : Fin R) (c : Fin C) : x (ix2 r c) = at2 x r c := by
  unfold at2; rw [dif_pos ⟨r.isLt, c.isLt⟩]

theorem at1_mk {C : ℕ} (x : (⟨1, ![C]⟩ : Shape).Idx → EReal) (c : Fin C) : x (ix1 c) = at1 x c := by
  unfold at1; rw [dif_pos c.isLt]

theorem at3_mk {A B C : ℕ} (x : (⟨3, ![A, B, C]⟩ : Shape).Idx → EReal) (a : Fin A) (b : Fin B) (c : Fin C) :
    x (ix3 a b c) = at3 x a b c := by
  unfold at3; rw [dif_pos ⟨a.isLt, b.isLt, c.isLt⟩]

theorem at2_out {R C : ℕ} (x : (⟨2, ![R, C]⟩ : Shape).Idx → EReal) {r c : ℕ} (h : R ≤ r) : at2 x r c = 0 :=
  dif_neg fun hh => absurd hh.1 (not_lt.mpr h)

/-- The row `d` above row `n`, zero above the first. -/
def up (f : ℕ → EReal) (n d : ℕ) : EReal := if d ≤ n then f (n - d) else 0

theorem up_zero (f : ℕ → EReal) (n : ℕ) : up f n 0 = f n := rfl

theorem up_up (f : ℕ → EReal) {n c s : ℕ} (h : s ≤ n + c) : up f (n + c - s) c = up f n s := by
  unfold up
  by_cases hs : s ≤ n
  · rw [if_pos (by omega), if_pos hs]; exact congrArg f (by omega)
  · rw [if_neg (by omega), if_neg hs]

/-- The sum of the `w` rows ending at row `n`. -/
def back (f : ℕ → EReal) (w n : ℕ) : EReal := ∑ s ∈ Finset.range w, f (n - s)

/-- The sum of the `w` rows starting at row `n`. -/
def ahead (f : ℕ → EReal) (w n : ℕ) : EReal := ∑ s ∈ Finset.range w, f (n + s)

/-- A window of twice the rows is the window and the one before it. -/
theorem back_double (f : ℕ → EReal) (w n : ℕ) : back f (w + w) n = back f w n + back f w (n - w) := by
  unfold back
  rw [Finset.sum_range_add]
  exact congrArg _ (Finset.sum_congr rfl fun s _ => congrArg f (by omega))

/-- A window of twice the rows is the window and the one after it. -/
theorem ahead_double (f : ℕ → EReal) (w n : ℕ) : ahead f (w + w) n = ahead f w n + ahead f w (n + w) := by
  unfold ahead
  rw [Finset.sum_range_add]
  exact congrArg _ (Finset.sum_congr rfl fun s _ => congrArg f (by omega))

theorem back_one (f : ℕ → EReal) (n : ℕ) : back f 1 n = f n := by unfold back; rw [Finset.sum_range_one]; rfl
theorem ahead_one (f : ℕ → EReal) (n : ℕ) : ahead f 1 n = f n := by unfold ahead; rw [Finset.sum_range_one]; rfl

/-- A sum over the finite numbers below `N` of a function of their values. -/
theorem sum_fin {N : ℕ} (f : ℕ → EReal) : ∑ k : Fin N, f k = ∑ k ∈ Finset.range N, f k := Fin.sum_univ_eq_sum_range f N

/-- A sum over `p * q` numbers, `p` ranges of `q` at a time. -/
theorem sum_blocks (p q : ℕ) (f : ℕ → EReal) : ∑ s : Fin p, ∑ k : Fin q, f (q * s.val + k.val) = ∑ r : Fin (p * q), f r.val := by
  rw [← Equiv.sum_comp (finProdFinEquiv (m := p) (n := q)) fun r : Fin (p * q) => f r.val, Fintype.sum_prod_type]
  exact Finset.sum_congr rfl fun s _ => Finset.sum_congr rfl fun k _ => congrArg f (Nat.add_comm _ _)

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The host's window sum down the rows, from zero: the sum of the rows the window covers. -/
theorem windowRows {R O C K lo : ℕ} (x : FVec Ideal (⟨2, ![R, C]⟩ : Shape) .f32) (init : FVec Ideal (⟨0, ![]⟩ : Shape) .f32)
    (hinit : ∀ i, init i = 0)
    (h : (⟨2, ![R, C]⟩ : Shape).ReduceWindows (![K, 1] : Fin 2 → ℕ) ![1, 1] ![lo, 0] ![0, 0] (⟨2, ![O, C]⟩ : Shape))
    (hu : 0 < (⟨0, ![]⟩ : Shape).numel) (r : Fin O) (c : Fin C) :
    Host.reduceWindowAdd ![K, 1] ![1, 1] ![lo, 0] ![0, 0] x init h hu (ix2 r c)
      = ∑ n ∈ Finset.range K, up (fun q => at2 x q c) (r + n) lo := by
  have hnum : (⟨2, ![K, 1]⟩ : Shape).numel = K := by simp [Shape.numel, Fin.prod_univ_two]
  have hsym : ∀ n : Fin (⟨2, ![K, 1]⟩ : Shape).numel,
      (⟨2, ![K, 1]⟩ : Shape).rowMajor.symm n = ix2 (n.cast hnum) (0 : Fin 1) := fun n =>
    ((⟨2, ![K, 1]⟩ : Shape).rowMajor.symm_apply_eq).2 (Fin.ext (by
      rw [Shape.rowMajor_val_two]
      show n.val = n.val * 1 + 0
      omega))
  show Host.reduceWindow (· + ·) (![K, 1] : Fin 2 → ℕ) ![1, 1] ![lo, 0] ![0, 0] x
    (fun _ : (⟨0, ![]⟩ : Shape).Idx => init (Shape.Idx.first hu)) h hu (ix2 r c) = _
  unfold Host.reduceWindow
  dsimp only
  rw [hinit]
  have hc := c.isLt
  rw [foldl_add, zero_add, ← List.ofFn_eq_map, List.sum_ofFn]
  have hterm : ∀ (n : Fin (⟨2, ![K, 1]⟩ : Shape).numel) (inst : Decidable (∀ a : Fin 2, (![lo, 0] : Fin 2 → ℕ) a ≤ (ix2 r c (a.cast h.1.symm)).val * (![1, 1] : Fin 2 → ℕ) a + ((⟨2, ![K, 1]⟩ : Shape).rowMajor.symm n a).val
          ∧ (ix2 r c (a.cast h.1.symm)).val * (![1, 1] : Fin 2 → ℕ) a + ((⟨2, ![K, 1]⟩ : Shape).rowMajor.symm n a).val - (![lo, 0] : Fin 2 → ℕ) a < (![R, C] : Fin 2 → ℕ) a)),
      (@dite _ _ inst (fun hin => x (fun a => ⟨(ix2 r c (a.cast h.1.symm)).val * (![1, 1] : Fin 2 → ℕ) a + ((⟨2, ![K, 1]⟩ : Shape).rowMajor.symm n a).val - (![lo, 0] : Fin 2 → ℕ) a, (hin a).2⟩)) (fun _ => (0 : EReal)))
      = up (fun q => at2 x q c) (r + n.val) lo := fun n inst => by
    have h0 : ((⟨2, ![K, 1]⟩ : Shape).rowMajor.symm n 0).val = n.val := by rw [hsym]; rfl
    have h1 : ((⟨2, ![K, 1]⟩ : Shape).rowMajor.symm n 1).val = 0 := by rw [hsym]; rfl
    have e0 : (ix2 r c ((0 : Fin 2).cast h.1.symm)).val * (![1, 1] : Fin 2 → ℕ) 0 + ((⟨2, ![K, 1]⟩ : Shape).rowMajor.symm n 0).val = r + n.val := by
      rw [h0]; show r.val * 1 + n.val = _; omega
    have e1 : (ix2 r c ((1 : Fin 2).cast h.1.symm)).val * (![1, 1] : Fin 2 → ℕ) 1 + ((⟨2, ![K, 1]⟩ : Shape).rowMajor.symm n 1).val = c := by
      rw [h1]; show c.val * 1 + 0 = _; omega
    by_cases hh : lo ≤ r + n.val ∧ r + n.val - lo < R
    · have hin : ∀ a : Fin 2, (![lo, 0] : Fin 2 → ℕ) a ≤ (ix2 r c (a.cast h.1.symm)).val * (![1, 1] : Fin 2 → ℕ) a + ((⟨2, ![K, 1]⟩ : Shape).rowMajor.symm n a).val
          ∧ (ix2 r c (a.cast h.1.symm)).val * (![1, 1] : Fin 2 → ℕ) a + ((⟨2, ![K, 1]⟩ : Shape).rowMajor.symm n a).val - (![lo, 0] : Fin 2 → ℕ) a < (![R, C] : Fin 2 → ℕ) a := fun a => by
        match a with
        | ⟨0, _⟩ => exact (congrArg (fun q => lo ≤ q ∧ q - lo < R) e0).mpr hh
        | ⟨1, _⟩ => exact (congrArg (fun q => 0 ≤ q ∧ q - 0 < C) e1).mpr ⟨Nat.zero_le _, by omega⟩
      rw [dif_pos hin]
      unfold up at2
      rw [if_pos hh.1]
      beta_reduce
      rw [dif_pos ⟨hh.2, hc⟩]
      refine congrArg x (funext fun a => Fin.ext ?_)
      match a with
      | ⟨0, _⟩ => exact congrArg (fun q => q - lo) e0
      | ⟨1, _⟩ => exact (congrArg (fun q => q - 0) e1).trans (Nat.sub_zero _)
    · rw [dif_neg (fun hin => hh ((congrArg (fun q => lo ≤ q ∧ q - lo < R) e0).mp (hin 0)))]
      unfold up at2
      split
      · next hle =>
        beta_reduce
        rw [dif_neg (fun hr => hh ⟨hle, hr.1⟩)]
      · rfl
  refine (Finset.sum_congr rfl fun n _ => hterm n _).trans ?_
  rw [sum_fin (fun n => up (fun q => at2 x q c) (r + n) lo), hnum]

end Cert.Rows
-- ==== Proof.Spec.lean ====
module
public import proofs.«01_k».proof.Proof.Rows
public import Idealize.ShloMosaic.Lib.Pipeline.ValueKit

/-! # The gradient of the pooled and convolved lanes, as functions of natural coordinates

Rows are tokens. `x` holds the projected tokens, `a` and `b` the gradients of the two outputs, `W` the four
64 × 64 matrices of the pooled groups, `s` the scale and `w` the three taps of the convolution. -/

@[expose] public section
set_option maxRecDepth 16384
noncomputable section
namespace Cert.Spec
open Cert.Rows Idealize.ShloMosaic

/-- One of four, by the group of 64 lanes that lane `j` lies in. -/
def pick {α : Type} (j : ℕ) (p q r t : α) : α :=
  if j / 64 = 0 then p else if j / 64 = 1 then q else if j / 64 = 2 then r else t

/-- The rows of the window of lane `j`. -/
def win (j : ℕ) : ℕ := pick j 2 4 8 16

/-- How many rows the window of lane `j` holds at row `r`. -/
def cnt (r j : ℕ) : EReal := ((((min (r + 1) (win j) : ℕ) : ℤ) : ℝ) : EReal)

section
variable (x a b : ℕ → ℕ → EReal) (W : ℕ → ℕ → ℕ → EReal) (s : ℕ → EReal) (w : ℕ → ℕ → EReal)

/-- The sum over the window of lane `j` ending at row `r`. -/
def wsum (r j : ℕ) : EReal := ∑ n ∈ Finset.range (win j), up (fun q => x q j) r n

/-- The mean over the window, less the row itself. -/
def pool (r j : ℕ) : EReal := Ideal.div (wsum x r j) (cnt r j) - x r j

/-- The gradient before the scale. -/
def dy (r j : ℕ) : EReal := a r j * s j

/-- The gradient of the pooled row. -/
def dpool (r i : ℕ) : EReal := ∑ c ∈ Finset.range 64, dy a s r (64 * (i / 64) + c) * W (i / 64) (i % 64) c

/-- The gradient of the window's sum. -/
def dmean (r i : ℕ) : EReal := Ideal.div (dpool a W s r i) (cnt r i)

/-- The gradient of the pooled lanes. -/
def dv (r j : ℕ) : EReal := ahead (fun q => dmean a W s q j) (win j) r - dpool a W s r j

/-- The product of the two gates. -/
def q (r j : ℕ) : EReal := x r (512 + j) * x r (768 + j)

/-- The three taps of the convolution. -/
def conv (r j : ℕ) : EReal := up (fun n => q x n j) r 2 * w 0 j + up (fun n => q x n j) r 1 * w 1 j + q x r j * w 2 j

/-- The gradient of the convolution. -/
def dconv (r j : ℕ) : EReal := b r j * x r (256 + j)

/-- The gradient of the product of the two gates. -/
def dq (r j : ℕ) : EReal :=
  dconv x b r j * w 2 j + dconv x b (r + 1) j * w 1 j + dconv x b (r + 2) j * w 0 j

/-- The gradient of the first 1024 projected lanes. -/
def dx (r j : ℕ) : EReal :=
  if j < 256 then dv a W s r j
  else if j < 512 then b r (j - 256) * conv x w r (j - 256)
  else if j < 768 then dq x b w r (j - 512) * x r (768 + (j - 512))
  else dq x b w r (j - 768) * x r (512 + (j - 768))

theorem dx_0 {r j : ℕ} (h : j < 256) : dx x a b W s w r j = dv a W s r j := by unfold dx; rw [if_pos h]
theorem dx_1 {r j : ℕ} (h : j < 256) : dx x a b W s w r (256 + j) = b r j * conv x w r j := by
  unfold dx; rw [if_neg (by omega), if_pos (by omega), Nat.add_sub_cancel_left]
theorem dx_2 {r j : ℕ} (h : j < 256) : dx x a b W s w r (512 + j) = dq x b w r j * x r (768 + j) := by
  unfold dx; rw [if_neg (by omega), if_neg (by omega), if_pos (by omega), Nat.add_sub_cancel_left]
theorem dx_3 {r j : ℕ} (h : j < 256) : dx x a b W s w r (768 + j) = dq x b w r j * x r (512 + j) := by
  unfold dx; rw [if_neg (by omega), if_neg (by omega), if_neg (by omega), Nat.add_sub_cancel_left]

/-- The gradient of the pooled groups' matrices: lane `i` of the pooled rows against lane `j` of the gradient. -/
def dW (i j : ℕ) : EReal := ∑ r ∈ Finset.range 8192, pool x r i * dy a s r j

/-- The pooled rows through the matrix of lane `j`'s group. -/
def mixed (r j : ℕ) : EReal := ∑ c ∈ Finset.range 64, pool x r (64 * (j / 64) + c) * W (j / 64) c (j % 64)

/-- The gradient of the scale. -/
def ds (j : ℕ) : EReal := ∑ r ∈ Finset.range 8192, a r j * mixed x W r j

/-- The gradient of the taps. -/
def dw (k j : ℕ) : EReal := ∑ r ∈ Finset.range 8192, dconv x b r j * up (fun n => q x n j) r (2 - k)
end

/-- A sum over all lanes of what vanishes outside one group is the sum over the group. -/
theorem sum_group (f G : ℕ → EReal) {g : ℕ} (hg : g < 4) :
    ∑ i : Fin 256, f i * (if (i : ℕ) / 64 = g then G i else 0) = ∑ c ∈ Finset.range 64, f (64 * g + c) * G (64 * g + c) := by
  rw [sum_fin (fun i => f i * (if i / 64 = g then G i else 0))]
  refine Eq.symm (Finset.sum_of_injOn (fun c => 64 * g + c) (fun c _ c' _ h => by simpa using h) (fun c hc => ?_) (fun i hi hn => ?_) (fun c hc => ?_))
  · have := Finset.mem_range.mp (Finset.mem_coe.mp hc)
    exact Finset.mem_coe.mpr (Finset.mem_range.mpr (by show 64 * g + c < 256; omega))
  · rw [if_neg, mul_zero]
    rintro rfl
    refine hn ⟨i % 64, Finset.mem_coe.mpr (Finset.mem_range.mpr (by omega)), ?_⟩
    show 64 * (i / 64) + i % 64 = i
    omega
  · have := Finset.mem_range.mp hc
    show _ = f (64 * g + c) * (if (64 * g + c) / 64 = g then G (64 * g + c) else 0)
    rw [if_pos (by omega)]

/-- A sum over all rows, point by point. -/
theorem sum_points (f : ℕ → EReal) : ∑ p : Fin 8, ∑ k : Fin 1024, f (1024 * p + k) = ∑ r ∈ Finset.range 8192, f r := by
  rw [← sum_fin f]
  refine ((Fin.sum_univ_tiles 8 1024 rfl (fun r : Fin (8 * 1024) => f r.val)).trans
    (Finset.sum_congr rfl fun p _ => Finset.sum_congr rfl fun k _ => congrArg f ?_)).symm
  show p.val * 1024 + k.val = _
  omega

theorem win_le (j : ℕ) : 1 ≤ win j ∧ win j ≤ 16 := by unfold win pick; split_ifs <;> omega

/-- The lane's group as a word. -/
theorem lane_word : ∀ j : Fin 256, Scalar.select
      (IntOp.andi
        (IntOp.cmpi .ne
          (IntOp.subi (BitVec.setWidth 32 (IntOp.cmpi .sgt (BitVec.ofNat 32 j.val) 0#32))
            (BitVec.setWidth 32 (IntOp.cmpi .slt (BitVec.ofNat 32 j.val) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by decide +kernel

theorem lane_word' : ∀ j : Fin 256, Scalar.select
      (IntOp.andi
        (IntOp.cmpi .ne
          (IntOp.subi (BitVec.setWidth 32 (IntOp.cmpi .sgt (BitVec.ofNat 32 j.val) 0#32))
            (BitVec.setWidth 32 (IntOp.cmpi .slt (BitVec.ofNat 32 j.val) 0#32)))
          (Scalar.subi 1#32 (Scalar.extui (Scalar.cmpi .slt 64#32 0#32))))
        (IntOp.cmpi .ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by decide +kernel

theorem cmp_word : ∀ (g n : Fin 4), IntOp.cmpi .eq (BitVec.ofNat 32 g.val) (BitVec.ofNat 32 n.val) = if g.val = n.val then 1#1 else 0#1 := by
  decide +kernel

/-- Selecting by the group's word is picking. -/
theorem pick_word {α : Type} (j : Fin 256) (p q r t : α) :
    Scalar.select (IntOp.cmpi .eq (BitVec.ofNat 32 (j.val / 64)) 0#32) p
      (Scalar.select (IntOp.cmpi .eq (BitVec.ofNat 32 (j.val / 64)) 1#32) q
        (Scalar.select (IntOp.cmpi .eq (BitVec.ofNat 32 (j.val / 64)) 2#32) r t)) = pick j p q r t := by
  have hj : j.val / 64 < 4 := by omega
  have h := fun n => cmp_word ⟨j.val / 64, hj⟩ n
  have h0 := h 0; have h1 := h 1; have h2 := h 2
  have e0 : IntOp.cmpi .eq (BitVec.ofNat 32 (j.val / 64)) 0#32 = if j.val / 64 = 0 then 1#1 else 0#1 := h0
  have e1 : IntOp.cmpi .eq (BitVec.ofNat 32 (j.val / 64)) 1#32 = if j.val / 64 = 1 then 1#1 else 0#1 := h1
  have e2 : IntOp.cmpi .eq (BitVec.ofNat 32 (j.val / 64)) 2#32 = if j.val / 64 = 2 then 1#1 else 0#1 := h2
  rw [e0, e1, e2]
  unfold pick Scalar.select
  split_ifs <;> first | rfl | (exfalso; simp_all)

theorem pick_words (j p q r t : ℕ) :
    pick j (BitVec.ofNat 32 p) (BitVec.ofNat 32 q) (BitVec.ofNat 32 r) (BitVec.ofNat 32 t) = BitVec.ofNat 32 (pick j p q r t) := by
  unfold pick; split_ifs <;> rfl

/-- The count of a window as a word. -/
theorem count_word (T k : ℕ) (hT : T + k < 100000) (j : Fin 256) :
    (FloatOps.sitofp FTy.f32 (IntOp.minsi (IntOp.addi (IntOp.addi (BitVec.ofNat 32 T) (BitVec.ofNat 32 k)) 1#32)
      (pick j 2#32 4#32 8#32 16#32)) : Ideal .f32) = cnt (T + k) j := by
  have hw := win_le j
  have e1 : IntOp.addi (IntOp.addi (BitVec.ofNat 32 T) (BitVec.ofNat 32 k)) 1#32 = BitVec.ofNat 32 (T + k + 1) := by
    show BitVec.ofNat 32 T + BitVec.ofNat 32 k + BitVec.ofNat 32 1 = _
    rw [← BitVec.ofNat_add, ← BitVec.ofNat_add]
  have e2 : pick (j : ℕ) 2#32 4#32 8#32 16#32 = BitVec.ofNat 32 (win j) := pick_words j 2 4 8 16
  have i1 : (BitVec.ofNat 32 (T + k + 1)).toInt = ((T + k + 1 : ℕ) : ℤ) := by
    rw [BitVec.toInt_eq_toNat_of_lt] <;> rw [BitVec.toNat_ofNat] <;> omega
  have i2 : (BitVec.ofNat 32 (win j)).toInt = ((win j : ℕ) : ℤ) := by
    rw [BitVec.toInt_eq_toNat_of_lt] <;> rw [BitVec.toNat_ofNat] <;> omega
  rw [e1, e2]
  have e3 : IntOp.minsi (BitVec.ofNat 32 (T + k + 1)) (BitVec.ofNat 32 (win j)) = BitVec.ofNat 32 (min (T + k + 1) (win j)) := by
    unfold IntOp.minsi
    rw [BitVec.slt, i1, i2]
    by_cases h : T + k + 1 < win j
    · rw [if_pos (decide_eq_true (Int.ofNat_lt.mpr h)), Nat.min_eq_left h.le]
    · rw [if_neg (fun hh => h (Int.ofNat_lt.mp (of_decide_eq_true hh))), Nat.min_eq_right (not_lt.mp h)]
  rw [e3]
  have i3 : (BitVec.ofNat 32 (min (T + k + 1) (win j))).toInt = ((min (T + k + 1) (win j) : ℕ) : ℤ) := by
    rw [BitVec.toInt_eq_toNat_of_lt] <;> rw [BitVec.toNat_ofNat] <;> omega
  show ((((BitVec.ofNat 32 (min (T + k + 1) (win j))).toInt : ℤ) : ℝ) : EReal) = _
  rw [i3]; rfl

/-- The sum of the window's rows as read from a block that starts 16 rows above. -/
theorem wsum_back (x : ℕ → ℕ → EReal) (T k j : ℕ) :
    back (fun n => up (fun q => x q j) (T + n) 16) (win j) (16 + k) = wsum x (T + k) j := by
  have hw := win_le j
  unfold back wsum
  refine Finset.sum_congr rfl fun n hn => ?_
  have hn := Finset.mem_range.mp hn
  refine Eq.trans ?_ (up_up (fun q => x q j) (n := T + k) (c := 16) (s := n) (by omega))
  exact congrArg (fun m => up (fun q => x q j) m 16) (by omega)

theorem pick_map {α β : Type} (f : α → β) (j : ℕ) (p q r t : α) : pick j (f p) (f q) (f r) (f t) = f (pick j p q r t) := by
  unfold pick; split_ifs <;> rfl

end Cert.Spec
-- ==== Proof.KernelPay.lean ====
module
public import proofs.«01_k».proof.Proof.Spec
public import proofs.«01_k».proof.Proof.Gen.KernelIdeal.Skeleton

/-! # What one grid point computes

A grid point holds 1024 rows that begin at row `T`, sixteen rows above and sixteen rows below. Each stored value is
the gradient at the point's own rows, or the point's part of a sum over all rows. -/

@[expose] public section
set_option maxRecDepth 16384
noncomputable section
namespace Cert.KernelPay
open Idealize.ShloMosaic Idealize.ShloMosaic.TcCoe Idealize.SL.Sem
open Cert.KernelIdeal Cert.KernelIdeal.Gen Cert.Spec Cert.Rows

variable {x a b : ℕ → ℕ → EReal} {W : ℕ → ℕ → ℕ → EReal} {s : ℕ → EReal} {w : ℕ → ℕ → EReal} {T : ℕ}

/-- The rows with the sixteen above them, read from sixteen rows above. -/
theorem ext_at (i : grid0.Coords) (v5 : FVec Ideal S16x1024 .f32) (v8 : FVec Ideal S1024x1024 .f32)
    (h5 : ∀ (k : Fin 16) (j : Fin 1024), Scalar.select (Scalar.cmpi .sgt (BitVec.ofNat 32 (i 0).val) 0#32) (v5 (ix2 k j)) 0 = up (fun q => x q j) (T + k) 16)
    (h8 : ∀ (k : Fin 1024) (j : Fin 1024), v8 (ix2 k j) = x (T + k) j) (k : Fin 1040) (j : Fin 1024) :
    k0_pay6 (F := Ideal) i v5 v8 (ix2 k j) = up (fun q => x q j) (T + k) 16 := by
  pointwise [k0_pay6]
  split
  · exact h5 _ _
  · rw [h8]
    show x (T + (k.val - 16)) j = _
    unfold up
    rw [if_pos (by omega)]
    exact congrArg (fun r => x r j) (by show T + (k.val - 16) = _; omega)

section pooled
variable (i : grid0.Coords) (v5 : FVec Ideal S16x1024 .f32) (v8 : FVec Ideal S1024x1024 .f32)
  (hE : ∀ (k : Fin 1040) (j : Fin 1024), k0_pay6 (F := Ideal) i v5 v8 (ix2 k j) = up (fun q => x q j) (T + k) 16)
include hE

theorem back1 (k : Fin 1040) (j : Fin 256) : k0_pay9 (F := Ideal) i v5 v8 (ix2 k j) = up (fun q => x q j) (T + k) 16 := by
  pointwise [k0_pay9]
  exact hE k ⟨j, by omega⟩

theorem back2 (k : Fin 1040) (j : Fin 256) (hk : 1 ≤ k.val) :
    k0_pay10 (F := Ideal) i v5 v8 (ix2 k j) = back (fun n => up (fun q => x q j) (T + n) 16) 2 k := by
  pointwise [k0_pay10]
  have e : (k.val + 1040 - 1) % 1040 = k.val - 1 := by omega
  rw [back1 i v5 v8 hE, back1 i v5 v8 hE]
  show _ + up _ (T + (k.val + 1040 - 1) % 1040) 16 = _
  rw [e]
  unfold back
  rw [Finset.sum_range_succ, Finset.sum_range_one]; rfl

theorem back4 (k : Fin 1040) (j : Fin 256) (hk : 3 ≤ k.val) :
    k0_pay11 (F := Ideal) i v5 v8 (ix2 k j) = back (fun n => up (fun q => x q j) (T + n) 16) 4 k := by
  pointwise [k0_pay11]
  have e : (k.val + 1040 - 2) % 1040 = k.val - 2 := by omega
  rw [back2 i v5 v8 hE _ _ (by omega), back2 i v5 v8 hE _ _ (by show 1 ≤ (k.val + 1040 - 2) % 1040; omega)]
  show _ + back _ 2 ((k.val + 1040 - 2) % 1040) = _
  rw [e]; exact (back_double _ 2 _).symm

theorem back8 (k : Fin 1040) (j : Fin 256) (hk : 7 ≤ k.val) :
    k0_pay12 (F := Ideal) i v5 v8 (ix2 k j) = back (fun n => up (fun q => x q j) (T + n) 16) 8 k := by
  pointwise [k0_pay12]
  have e : (k.val + 1040 - 4) % 1040 = k.val - 4 := by omega
  rw [back4 i v5 v8 hE _ _ (by omega), back4 i v5 v8 hE _ _ (by show 3 ≤ (k.val + 1040 - 4) % 1040; omega)]
  show _ + back _ 4 ((k.val + 1040 - 4) % 1040) = _
  rw [e]; exact (back_double _ 4 _).symm

theorem back16 (k : Fin 1040) (j : Fin 256) (hk : 15 ≤ k.val) :
    k0_pay13 (F := Ideal) i v5 v8 (ix2 k j) = back (fun n => up (fun q => x q j) (T + n) 16) 16 k := by
  pointwise [k0_pay13]
  have e : (k.val + 1040 - 8) % 1040 = k.val - 8 := by omega
  rw [back8 i v5 v8 hE _ _ (by omega), back8 i v5 v8 hE _ _ (by show 7 ≤ (k.val + 1040 - 8) % 1040; omega)]
  show _ + back _ 8 ((k.val + 1040 - 8) % 1040) = _
  rw [e]; exact (back_double _ 8 _).symm

theorem wsum_at (k : Fin 1024) (j : Fin 256) :
    k0_pay16 (F := Ideal) (k0_pay10 (F := Ideal) i v5 v8) (k0_pay11 (F := Ideal) i v5 v8) (k0_pay12 (F := Ideal) i v5 v8) (k0_pay13 (F := Ideal) i v5 v8)
      (iota Kind.tc S1040x256 32 [1] iota_S1040x256_d1_w32) (64#32) k0_pay14 k0_pay15 1#32 (ix2 k j) = wsum x (T + k) j := by
  pointwise [k0_pay16, k0_pay14, k0_pay15]
  rw [lane_word', pick_word, back2 i v5 v8 hE _ _ (by show 1 ≤ 16 + k.val; omega), back4 i v5 v8 hE _ _ (by show 3 ≤ 16 + k.val; omega),
    back8 i v5 v8 hE _ _ (by show 7 ≤ 16 + k.val; omega), back16 i v5 v8 hE _ _ (by show 15 ≤ 16 + k.val; omega)]
  refine (pick_map (fun n => back (fun n => up (fun q => x q j) (T + n) 16) n (16 + k.val)) j 2 4 8 16).trans ?_
  exact wsum_back x T k j

theorem pool_at (hT : T < 8192) (k : Fin 1024) (j : Fin 256) :
    k0_pay20 (F := Ideal) (k0_pay9 (F := Ideal) i v5 v8) (BitVec.ofNat 32 T)
      (k0_pay16 (F := Ideal) (k0_pay10 (F := Ideal) i v5 v8) (k0_pay11 (F := Ideal) i v5 v8) (k0_pay12 (F := Ideal) i v5 v8) (k0_pay13 (F := Ideal) i v5 v8)
        (iota Kind.tc S1040x256 32 [1] iota_S1040x256_d1_w32) (64#32) k0_pay14 k0_pay15 1#32)
      k0_pay17 k0_pay18 k0_pay19 (ix2 k j) = Spec.pool x (T + k) j := by
  pointwise [k0_pay20, k0_pay17, k0_pay18, k0_pay19]
  rw [lane_word, pick_word, wsum_at i v5 v8 hE, count_word T k (by omega), back1 i v5 v8 hE]
  unfold Spec.pool
  refine congrArg (fun e => Ideal.div (wsum x (T + k) j) (cnt (T + k) j) - e) ?_
  show up _ (T + (16 + k.val)) 16 = _
  unfold up
  rw [if_pos (by omega)]
  exact congrArg (fun r => x r j) (by omega)
end pooled

/-- The point's part of the scale's gradient. -/
theorem ds_at (v13 : FVec Ideal S256x256 .bf16) (v14 : FVec Ideal S1040x256 .f32) (v15 : BitVec 32) (v58 : FVec Ideal S1024x256 .f32)
    (v61 : IVec S1024x256 32) (v80 : IVec S1024x256 1) (v82 : IVec S1024x256 32) (v107 : FVec Ideal S1024x256 .f32) (v108 : FVec Ideal S1x256 .f32)
    (h13 : ∀ i j : Fin 256, v13 (ix2 i j) = if (i : ℕ) / 64 = (j : ℕ) / 64 then W ((i : ℕ) / 64) ((i : ℕ) % 64) ((j : ℕ) % 64) else 0)
    (hp : ∀ (k : Fin 1024) (j : Fin 256), k0_pay20 (F := Ideal) v14 v15 v58 v61 v80 v82 (ix2 k j) = Spec.pool x (T + k) j)
    (h107 : ∀ (k : Fin 1024) (j : Fin 256), v107 (ix2 k j) = a (T + k) j) (j : Fin 256) :
    k0_pay21 v13 v14 v15 v58 v61 v80 v82 v107 v108 (ix2 0 j) = v108 (ix2 0 j) + ∑ k : Fin 1024, a (T + k) j * mixed x W (T + k) j := by
  pointwise [k0_pay21]
  refine congrArg (fun e => v108 (ix2 0 j) + e) (Finset.sum_congr rfl fun k _ => ?_)
  rw [h107]
  refine congrArg (fun e => a (T + k) j * e) ?_
  unfold mixed
  refine Eq.trans (Finset.sum_congr rfl fun i _ => ?_)
    ((sum_group (fun i => Spec.pool x (T + k) i) (fun i => W (i / 64) (i % 64) ((j : ℕ) % 64)) (g := (j : ℕ) / 64) (by omega)).trans
      (Finset.sum_congr rfl fun c hc => ?_))
  · rw [hp, h13]
  · have := Finset.mem_range.mp hc
    rw [show (64 * ((j : ℕ) / 64) + c) / 64 = (j : ℕ) / 64 by omega, show (64 * ((j : ℕ) / 64) + c) % 64 = c by omega]

/-- The gradient before the scale, with the sixteen rows below. -/
theorem dy_at (v3 : BitVec 1) (v11 : FVec Ideal S1x256 .f32) (v107 : FVec Ideal S1024x256 .f32) (v117 : FVec Ideal S16x256 .f32)
    (h11 : ∀ j : Fin 256, v11 (ix2 0 j) = s j)
    (h107 : ∀ (k : Fin 1024) (j : Fin 256), v107 (ix2 k j) = a (T + k) j)
    (h117 : ∀ (k : Fin 16) (j : Fin 256), Scalar.select v3 0 (v117 (ix2 k j)) = a (T + 1024 + k) j) (k : Fin 1040) (j : Fin 256) :
    k0_pay22 v3 v11 v107 v117 (ix2 k j) = dy a s (T + k) j := by
  pointwise [k0_pay22]
  rw [h11]
  refine congrArg (fun e => e * s j) ?_
  split
  · exact h107 _ _
  · rw [h117]; exact congrArg (fun r => a r j) (by show T + 1024 + (k.val - 1024) = _; omega)

/-- The point's part of the matrices' gradient. -/
theorem dW_at (v106 : FVec Ideal S1024x256 .f32) (v122 : FVec Ideal S1040x256 .f32) (v123 : FVec Ideal S256x256 .f32)
    (h106 : ∀ (k : Fin 1024) (j : Fin 256), v106 (ix2 k j) = Spec.pool x (T + k) j)
    (h122 : ∀ (k : Fin 1040) (j : Fin 256), v122 (ix2 k j) = dy a s (T + k) j) (i j : Fin 256) :
    k0_pay23 v106 v122 v123 (ix2 i j) = v123 (ix2 i j) + ∑ k : Fin 1024, Spec.pool x (T + k) i * dy a s (T + k) j := by
  pointwise [k0_pay23]
  refine congrArg (fun e => v123 (ix2 i j) + e) (Finset.sum_congr rfl fun k _ => ?_)
  rw [h106, h122]

/-- The gradient of the pooled rows. -/
theorem dpool_at (v13 : FVec Ideal S256x256 .bf16) (v122 : FVec Ideal S1040x256 .f32)
    (h13 : ∀ i j : Fin 256, v13 (ix2 i j) = if (i : ℕ) / 64 = (j : ℕ) / 64 then W ((i : ℕ) / 64) ((i : ℕ) % 64) ((j : ℕ) % 64) else 0)
    (h122 : ∀ (k : Fin 1040) (j : Fin 256), v122 (ix2 k j) = dy a s (T + k) j) (k : Fin 1040) (j : Fin 256) :
    k0_pay24 v13 v122 (ix2 k j) = dpool a W s (T + k) j := by
  pointwise [k0_pay24]
  unfold dpool
  refine Eq.trans (Finset.sum_congr rfl fun i _ => ?_)
    ((sum_group (fun i => dy a s (T + k) i) (fun i => W ((j : ℕ) / 64) ((j : ℕ) % 64) (i % 64)) (g := (j : ℕ) / 64) (by omega)).trans
      (Finset.sum_congr rfl fun c hc => ?_))
  · rw [h122, h13]
    by_cases h : (j : ℕ) / 64 = (i : ℕ) / 64
    · rw [if_pos h, if_pos h.symm]
    · rw [if_neg h, if_neg (Ne.symm h)]
  · have := Finset.mem_range.mp hc
    rw [show (64 * ((j : ℕ) / 64) + c) % 64 = c by omega]

section ahead
variable (v132 : FVec Ideal S1040x256 .f32) (h : ∀ (k : Fin 1040) (j : Fin 256), v132 (ix2 k j) = dpool a W s (T + k) j) (hT : T < 8192)
include h hT

theorem ahead2 (k : Fin 1040) (j : Fin 256) (hk : k.val < 1039) :
    k0_pay29 (F := Ideal) v132 (BitVec.ofNat 32 T) k0_pay26 k0_pay27 k0_pay28 (ix2 k j) = ahead (fun q => dmean a W s q j) 2 (T + k) := by
  pointwise [k0_pay29, k0_pay25, k0_pay26, k0_pay27, k0_pay28]
  have e : (k.val + 1040 - 1039) % 1040 = k.val + 1 := by omega
  rw [lane_word, pick_word, count_word T k (by omega), count_word T ((k.val + 1040 - 1039) % 1040) (by omega), h, h]
  show _ + Ideal.div (dpool a W s (T + (k.val + 1040 - 1039) % 1040) j) _ = _
  rw [e]
  unfold ahead
  rw [Finset.sum_range_succ, Finset.sum_range_one]; rfl

theorem ahead4 (k : Fin 1040) (j : Fin 256) (hk : k.val < 1037) :
    k0_pay30 (F := Ideal) v132 (BitVec.ofNat 32 T) k0_pay26 k0_pay27 k0_pay28 (ix2 k j) = ahead (fun q => dmean a W s q j) 4 (T + k) := by
  pointwise [k0_pay30]
  have e : (k.val + 1040 - 1038) % 1040 = k.val + 2 := by omega
  rw [ahead2 v132 h hT _ _ (by omega), ahead2 v132 h hT _ _ (by show (k.val + 1040 - 1038) % 1040 < 1039; omega)]
  show _ + ahead _ 2 (T + (k.val + 1040 - 1038) % 1040) = _
  rw [e]; exact (ahead_double _ 2 _).symm

theorem ahead8 (k : Fin 1040) (j : Fin 256) (hk : k.val < 1033) :
    k0_pay31 (F := Ideal) v132 (BitVec.ofNat 32 T) k0_pay26 k0_pay27 k0_pay28 (ix2 k j) = ahead (fun q => dmean a W s q j) 8 (T + k) := by
  pointwise [k0_pay31]
  have e : (k.val + 1040 - 1036) % 1040 = k.val + 4 := by omega
  rw [ahead4 v132 h hT _ _ (by omega), ahead4 v132 h hT _ _ (by show (k.val + 1040 - 1036) % 1040 < 1037; omega)]
  show _ + ahead _ 4 (T + (k.val + 1040 - 1036) % 1040) = _
  rw [e]; exact (ahead_double _ 4 _).symm

theorem ahead16 (k : Fin 1040) (j : Fin 256) (hk : k.val < 1025) :
    k0_pay32 (F := Ideal) v132 (BitVec.ofNat 32 T) k0_pay26 k0_pay27 k0_pay28 (ix2 k j) = ahead (fun q => dmean a W s q j) 16 (T + k) := by
  pointwise [k0_pay32]
  have e : (k.val + 1040 - 1032) % 1040 = k.val + 8 := by omega
  rw [ahead8 v132 h hT _ _ (by omega), ahead8 v132 h hT _ _ (by show (k.val + 1040 - 1032) % 1040 < 1033; omega)]
  show _ + ahead _ 8 (T + (k.val + 1040 - 1032) % 1040) = _
  rw [e]; exact (ahead_double _ 8 _).symm

/-- The gradient of the pooled lanes. -/
theorem dv_at (k : Fin 1024) (j : Fin 256) :
    k0_pay35 (F := Ideal) v132 (k0_pay29 (F := Ideal) v132 (BitVec.ofNat 32 T) k0_pay26 k0_pay27 k0_pay28) (k0_pay30 (F := Ideal) v132 (BitVec.ofNat 32 T) k0_pay26 k0_pay27 k0_pay28)
      (k0_pay31 (F := Ideal) v132 (BitVec.ofNat 32 T) k0_pay26 k0_pay27 k0_pay28) (k0_pay32 (F := Ideal) v132 (BitVec.ofNat 32 T) k0_pay26 k0_pay27 k0_pay28)
      k0_pay33 k0_pay34 (ix2 k j) = dv a W s (T + k) j := by
  pointwise [k0_pay35, k0_pay33, k0_pay34]
  rw [lane_word, pick_word, ahead2 v132 h hT _ _ (by show k.val < _; omega), ahead4 v132 h hT _ _ (by show k.val < _; omega),
    ahead8 v132 h hT _ _ (by show k.val < _; omega), ahead16 v132 h hT _ _ (by show k.val < _; omega), h]
  unfold dv
  exact congrArg (fun e => e - dpool a W s (T + k) j)
    (pick_map (fun n => ahead (fun q => dmean a W s q j) n (T + k.val)) j 2 4 8 16)
end ahead

/-- The product of the two gates, read from sixteen rows above. -/
theorem q_at (v9 : FVec Ideal S1040x1024 .f32) (h9 : ∀ (k : Fin 1040) (j : Fin 1024), v9 (ix2 k j) = up (fun q => x q j) (T + k) 16)
    (k : Fin 1040) (j : Fin 256) : k0_pay38 v9 (ix2 k j) = up (fun n => q x n j) (T + k) 16 := by
  pointwise [k0_pay38]
  rw [h9, h9]
  unfold up q
  split
  · rfl
  · exact mul_zero _

section conv
variable (v231 : FVec Ideal S1040x256 .f32) (h : ∀ (k : Fin 1040) (j : Fin 256), v231 (ix2 k j) = up (fun n => q x n j) (T + k) 16)
include h

theorem q_up (k : Fin 1024) (d : ℕ) (hd : d ≤ 16) (m : Fin 1040) (hm : m.val = 16 + k - d) (j : Fin 256) :
    v231 (ix2 m j) = up (fun n => q x n j) (T + k) d := by
  rw [h, hm]
  refine Eq.trans ?_ (up_up (fun n => q x n j) (n := T + k) (c := 16) (s := d) (by omega))
  exact congrArg (fun m => up (fun n => q x n j) m 16) (by omega)
end conv

theorem conv_at (v9 : FVec Ideal S1040x1024 .f32) (v225 : FVec Ideal S3x256 .f32) (v232 : FVec Ideal S1024x256 .f32)
    (h9 : ∀ (k : Fin 1040) (j : Fin 1024), v9 (ix2 k j) = up (fun q => x q j) (T + k) 16)
    (h225 : ∀ (k : Fin 3) (j : Fin 256), v225 (ix2 k j) = w k j)
    (h232 : ∀ (k : Fin 1024) (j : Fin 256), v232 (ix2 k j) = b (T + k) j) (k : Fin 1024) (j : Fin 256) :
    k0_pay39 v9 v225 v232 (ix2 k j) = b (T + k) j * conv x w (T + k) j := by
  pointwise [k0_pay39]
  rw [q_up _ (q_at v9 h9) k 2 (by omega) _ (by show (16 + k.val + 1040 - 2) % 1040 = _; omega),
    q_up _ (q_at v9 h9) k 1 (by omega) _ (by show (16 + k.val + 1040 - 1) % 1040 = _; omega),
    q_up _ (q_at v9 h9) k 0 (by omega) _ (by show 16 + k.val = _; omega), h225, h225, h225, h232]
  rfl

section gates
variable (v3 : BitVec 1) (v249 : FVec Ideal S16x256 .f32) (v250 : FVec Ideal S1024x256 .f32) (v251 : FVec Ideal S16x256 .f32)
  (h250 : ∀ (k : Fin 1024) (j : Fin 256), v250 (ix2 k j) = dconv x b (T + k) j)
  (h251 : ∀ (k : Fin 16) (j : Fin 256), Scalar.select v3 0 (v251 (ix2 k j) * v249 (ix2 k j)) = dconv x b (T + 1024 + k) j)
include h250 h251

theorem dconv_at (k : Fin 1040) (j : Fin 256) : k0_pay41 v3 v249 v250 v251 (ix2 k j) = dconv x b (T + k) j := by
  pointwise [k0_pay41]
  split
  · exact h250 _ _
  · rw [h251]; exact congrArg (fun r => dconv x b r j) (by show T + 1024 + (k.val - 1024) = _; omega)

theorem dq_at (v225 : FVec Ideal S3x256 .f32) (h225 : ∀ (k : Fin 3) (j : Fin 256), v225 (ix2 k j) = w k j) (k : Fin 1024) (j : Fin 256) :
    k0_pay42 v3 v225 v249 v250 v251 (ix2 k j) = dq x b w (T + k) j := by
  pointwise [k0_pay42]
  rw [dconv_at v3 v249 v250 v251 h250 h251, dconv_at v3 v249 v250 v251 h250 h251, dconv_at v3 v249 v250 v251 h250 h251, h225, h225, h225]
  show _ + dconv x b (T + (k.val + 1040 - 1039) % 1040) j * _ + dconv x b (T + (k.val + 1040 - 1038) % 1040) j * _ = _
  rw [show (k.val + 1040 - 1039) % 1040 = k.val + 1 by omega, show (k.val + 1040 - 1038) % 1040 = k.val + 2 by omega]
  rfl

/-- The point's part of the taps' gradient, tap by tap. -/
theorem dw0_at (v231 : FVec Ideal S1040x256 .f32) (v275 : FVec Ideal S1x256 .f32)
    (h : ∀ (k : Fin 1040) (j : Fin 256), v231 (ix2 k j) = up (fun n => q x n j) (T + k) 16) (j : Fin 256) :
    k0_pay46 v3 v231 v249 v250 v251 v275 (ix2 0 j) = v275 (ix2 0 j) + ∑ k : Fin 1024, dconv x b (T + k) j * up (fun n => q x n j) (T + k) 2 := by
  pointwise [k0_pay46, k0_pay45]
  refine congrArg (fun e => v275 (ix2 0 j) + e) (Finset.sum_congr rfl fun k _ => ?_)
  rw [dconv_at v3 v249 v250 v251 h250 h251, q_up v231 h k 2 (by omega) _ (by show (16 + k.val + 1040 - 2) % 1040 = _; omega)]

theorem dw1_at (v231 : FVec Ideal S1040x256 .f32) (v284 : FVec Ideal S1x256 .f32)
    (h : ∀ (k : Fin 1040) (j : Fin 256), v231 (ix2 k j) = up (fun n => q x n j) (T + k) 16) (j : Fin 256) :
    k0_pay1 (k0_pay47 v284) (k0_pay48 v3 v231 v249 v250 v251) (ix2 0 j)
      = v284 (ix2 0 j) + ∑ k : Fin 1024, dconv x b (T + k) j * up (fun n => q x n j) (T + k) 1 := by
  pointwise [k0_pay1, k0_pay47, k0_pay48, k0_pay45]
  refine congrArg (fun e => v284 (ix2 0 j) + e) (Finset.sum_congr rfl fun k _ => ?_)
  rw [dconv_at v3 v249 v250 v251 h250 h251, q_up v231 h k 1 (by omega) _ (by show (16 + k.val + 1040 - 1) % 1040 = _; omega)]

theorem dw2_at (v231 : FVec Ideal S1040x256 .f32) (v293 : FVec Ideal S1x256 .f32)
    (h : ∀ (k : Fin 1040) (j : Fin 256), v231 (ix2 k j) = up (fun n => q x n j) (T + k) 16) (j : Fin 256) :
    k0_pay2 v231 (k0_pay45 v3 v249 v250 v251) v293 (ix2 0 j)
      = v293 (ix2 0 j) + ∑ k : Fin 1024, dconv x b (T + k) j * up (fun n => q x n j) (T + k) 0 := by
  pointwise [k0_pay2, k0_pay45]
  refine congrArg (fun e => v293 (ix2 0 j) + e) (Finset.sum_congr rfl fun k _ => ?_)
  rw [dconv_at v3 v249 v250 v251 h250 h251, q_up v231 h k 0 (by omega) _ (by show 16 + k.val = _; omega)]
end gates

end Cert.KernelPay
-- ==== Proof.KernelValue.lean ====
module
public import proofs.«01_k».proof.Proof.KernelPay
public import proofs.«01_k».proof.Proof.Gen.KernelIdeal.Value
public import Idealize.ShloMosaic.Lib.Pipeline.ValueKit
public import Idealize.ShloMosaic.Lib.Claim

/-! # What the kernel's arrays hold

The gradient of the projected lanes, tile by tile, and the gradients of the groups' matrices and of the scale, which
the kernel adds up over its eight points. -/

@[expose] public section
set_option maxRecDepth 16384
noncomputable section
namespace Cert.KernelValue
open Idealize.ShloMosaic Idealize.ShloMosaic.TcCoe Idealize.SL.Sem
open Idealize.ShloMosaic.Pipeline (Dat)
open Cert.KernelIdeal Cert.KernelIdeal.Gen Cert.Spec Cert.Rows
variable (m : (ℓ : Loc nD τ sig) → Buf (Elt Ideal) ℓ)

theorem idx : ∀ t : Fin cfg0.N, win0_0.index t = ![t.val, 0] ∧ win0_1.index t = ![64 * t.val - 1, 0]
    ∧ win0_2.index t = ![min (64 * (t.val + 1)) 511, 0] ∧ win0_3.index t = ![t.val, 0] ∧ win0_4.index t = ![min (64 * (t.val + 1)) 511, 0]
    ∧ win0_5.index t = ![t.val, 0] ∧ win0_6.index t = ![min (64 * (t.val + 1)) 511, 0] ∧ win0_7.index t = ![0, 0] ∧ win0_8.index t = ![0, 0]
    ∧ win0_9.index t = ![0, 0] ∧ win0_10.index t = ![t.val, 0] ∧ ((grid0.coords t) 0).val = t.val :=
  (by decide +kernel : ∀ t : Fin grid0.N, _)

theorem x_at (c : Dev nD) (t : Fin cfg0.N) (k : Fin 1024) (j : Fin 1024) :
    (X0_0 m c t) (ix2 k j) = at2 (m ((c : Thread nD τ).loc main_arg0)) (1024 * t.val + k) j := by
  unfold X0_0 Pipeline.Window.fill
  rw [dif_pos (moved0_0 t _)]
  have ht : t.val < 8 := lt_of_lt_of_eq t.isLt N_0
  refine Eq.trans ?_ (at2_mk (m ((c : Thread nD τ).loc main_arg0)) ⟨1024 * t.val + k, by omega⟩ ⟨j, by omega⟩)
  blk_ext [iblk, V, idx t]
theorem xp_at (c : Dev nD) (t : Fin cfg0.N) (h : t.val ≠ 0) (k : Fin 16) (j : Fin 1024) :
    (X0_1 m c t) (ix2 k j) = at2 (m ((c : Thread nD τ).loc main_arg0)) (1024 * t.val + k - 16) j := by
  unfold X0_1 Pipeline.Window.fill
  rw [dif_pos (moved0_1 t _)]
  have ht : t.val < 8 := lt_of_lt_of_eq t.isLt N_0
  refine Eq.trans ?_ (at2_mk (m ((c : Thread nD τ).loc main_arg0)) ⟨1024 * t.val + k - 16, by omega⟩ ⟨j, by omega⟩)
  blk_ext [iblk, V, idx t]
theorem a_at (c : Dev nD) (t : Fin cfg0.N) (k : Fin 1024) (j : Fin 256) :
    (iblk m c 3 t) (ix2 k j) = at2 (m ((c : Thread nD τ).loc main_arg1)) (1024 * t.val + k) j := by
  have ht : t.val < 8 := lt_of_lt_of_eq t.isLt N_0
  refine Eq.trans ?_ (at2_mk (m ((c : Thread nD τ).loc main_arg1)) ⟨1024 * t.val + k, by omega⟩ ⟨j, by omega⟩)
  blk_ext [iblk, V, idx t]
theorem an_at (c : Dev nD) (t : Fin cfg0.N) (h : t.val ≠ 7) (k : Fin 16) (j : Fin 256) :
    (iblk m c 4 t) (ix2 k j) = at2 (m ((c : Thread nD τ).loc main_arg1)) (1024 * t.val + 1024 + k) j := by
  have ht : t.val < 8 := lt_of_lt_of_eq t.isLt N_0
  refine Eq.trans ?_ (at2_mk (m ((c : Thread nD τ).loc main_arg1)) ⟨1024 * t.val + 1024 + k, by omega⟩ ⟨j, by omega⟩)
  blk_ext [iblk, V, idx t]
theorem w_at (c : Dev nD) (t : Fin cfg0.N) (k : Fin 3) (j : Fin 256) :
    (iblk m c 9 t) (ix2 k j) = at2 (m ((c : Thread nD τ).loc main_arg5)) k j := by
  refine Eq.trans ?_ (at2_mk (m ((c : Thread nD τ).loc main_arg5)) k j)
  blk_ext [iblk, V, idx t]
theorem s_at (c : Dev nD) (t : Fin cfg0.N) (j : Fin 256) :
    (iblk m c 8 t) (ix2 0 j) = at1 (m ((c : Thread nD τ).loc main_arg4)) j := by
  refine Eq.trans ?_ (at1_mk (m ((c : Thread nD τ).loc main_arg4)) j)
  blk_simp [iblk]
  entry_read
  have e : ((View.whole main_v13).slice (win0_8.rect t)).emb (ix2 0 j) = ix2 0 j := by blk_ext [idx t]
  rw [e]
  pointwise
theorem pm_at (c : Dev nD) (t : Fin cfg0.N) (i j : Fin 256) :
    (iblk m c 7 t) (ix2 i j) = if (i : ℕ) / 64 = (j : ℕ) / 64 then at3 (m ((c : Thread nD τ).loc main_arg3)) ((i : ℕ) / 64) ((i : ℕ) % 64) ((j : ℕ) % 64) else 0 := by
  blk_simp [iblk]
  entry_read
  have e : ((View.whole main_v12).slice (win0_7.rect t)).emb (ix2 i j) = ix2 i j := by blk_ext [idx t]
  rw [e]
  pointwise
  have hw : ∀ g g' : Fin 4, (FloatOps.uitofp FTy.f32 (IntOp.cmpi CmpIPredicate.eq (IntOp.addi (BitVec.ofNat 32 g.val) 0#32) (BitVec.ofNat 32 g'.val)) : Ideal .f32)
      = if g.val = g'.val then 1 else 0 := fun g g' => by
    have : IntOp.addi (BitVec.ofNat 32 g.val) 0#32 = BitVec.ofNat 32 g.val := BitVec.add_zero _
    rw [this, cmp_word]
    split
    · exact Nat.cast_one
    · exact Nat.cast_zero
  have hi : (i : ℕ) / 64 < 4 := by omega
  have hj : (j : ℕ) / 64 < 4 := by omega
  refine (congrArg (fun e : EReal => _ * e) (hw ⟨_, hi⟩ ⟨_, hj⟩)).trans ?_
  show _ * (if (i : ℕ) / 64 = (j : ℕ) / 64 then (1 : EReal) else 0) = _
  split
  · rw [mul_one]; exact at3_mk (m ((c : Thread nD τ).loc main_arg3)) _ _ _
  · exact mul_zero _

theorem xn_at (c : Dev nD) (t : Fin cfg0.N) (h : t.val ≠ 7) (k : Fin 16) (j : Fin 1024) :
    (X0_2 m c t) (ix2 k j) = at2 (m ((c : Thread nD τ).loc main_arg0)) (1024 * t.val + 1024 + k) j := by
  unfold X0_2 Pipeline.Window.fill
  rw [dif_pos (moved0_2 t _)]
  have ht : t.val < 8 := lt_of_lt_of_eq t.isLt N_0
  refine Eq.trans ?_ (at2_mk (m ((c : Thread nD τ).loc main_arg0)) ⟨1024 * t.val + 1024 + k, by omega⟩ ⟨j, by omega⟩)
  blk_ext [iblk, V, idx t]
theorem b_at (c : Dev nD) (t : Fin cfg0.N) (k : Fin 1024) (j : Fin 256) :
    (iblk m c 5 t) (ix2 k j) = at2 (m ((c : Thread nD τ).loc main_arg2)) (1024 * t.val + k) j := by
  have ht : t.val < 8 := lt_of_lt_of_eq t.isLt N_0
  refine Eq.trans ?_ (at2_mk (m ((c : Thread nD τ).loc main_arg2)) ⟨1024 * t.val + k, by omega⟩ ⟨j, by omega⟩)
  blk_ext [iblk, V, idx t]
theorem bn_at (c : Dev nD) (t : Fin cfg0.N) (h : t.val ≠ 7) (k : Fin 16) (j : Fin 256) :
    (iblk m c 6 t) (ix2 k j) = at2 (m ((c : Thread nD τ).loc main_arg2)) (1024 * t.val + 1024 + k) j := by
  have ht : t.val < 8 := lt_of_lt_of_eq t.isLt N_0
  refine Eq.trans ?_ (at2_mk (m ((c : Thread nD τ).loc main_arg2)) ⟨1024 * t.val + 1024 + k, by omega⟩ ⟨j, by omega⟩)
  blk_ext [iblk, V, idx t]

/-- The gradient of the first 1024 projected lanes, at this memory's arguments. -/
def DX (c : Dev nD) (r j : ℕ) : EReal := dx (at2 (m ((c : Thread nD τ).loc main_arg0))) (at2 (m ((c : Thread nD τ).loc main_arg1)))
  (at2 (m ((c : Thread nD τ).loc main_arg2))) (at3 (m ((c : Thread nD τ).loc main_arg3))) (at1 (m ((c : Thread nD τ).loc main_arg4)))
  (at2 (m ((c : Thread nD τ).loc main_arg5))) r j

/-- The point's number as the words the kernel tests and multiplies. -/
theorem words : ∀ t : Fin cfg0.N, Scalar.cmpi .sgt (BitVec.ofNat 32 ((grid0.coords t) 0).val) 0#32 = (if t.val = 0 then 0#1 else 1#1)
    ∧ Scalar.cmpi .eq (BitVec.ofNat 32 ((grid0.coords t) 0).val) 7#32 = (if t.val = 7 then 1#1 else 0#1)
    ∧ Scalar.muli (BitVec.ofNat 32 ((grid0.coords t) 0).val) 1024#32 = BitVec.ofNat 32 (1024 * t.val) :=
  (by decide +kernel : ∀ t : Fin grid0.N, _)

section point
variable (c : Dev nD) (t : Fin cfg0.N)

theorem ext_pt (k : Fin 1040) (j : Fin 1024) : k0_pay6 (F := Ideal) (grid0.coords t) (X0_1 m c t) (X0_0 m c t) (ix2 k j)
    = up (fun q => at2 (m ((c : Thread nD τ).loc main_arg0)) q j) (1024 * t.val + k) 16 := by
  refine KernelPay.ext_at (x := at2 (m ((c : Thread nD τ).loc main_arg0))) _ _ _ (fun k j => ?_) (x_at m c t) k j
  rw [(words t).1]
  unfold up
  by_cases h : t.val = 0
  · rw [if_pos h, if_neg (by omega)]; rfl
  · rw [if_neg h, if_pos (by omega)]; exact xp_at m c t h k j

theorem an_pt (k : Fin 16) (j : Fin 256) :
    Scalar.select (α := EReal) (Scalar.cmpi .eq (BitVec.ofNat 32 ((grid0.coords t) 0).val) 7#32) 0 ((iblk m c 4 t) (ix2 k j))
      = at2 (m ((c : Thread nD τ).loc main_arg1)) (1024 * t.val + 1024 + k) j := by
  rw [(words t).2.1]
  by_cases h : t.val = 7
  · rw [if_pos h, at2_out _ (by omega)]; rfl
  · rw [if_neg h]; exact an_at m c t h k j

theorem dcn_pt (k : Fin 16) (j : Fin 256) :
    Scalar.select (α := EReal) (Scalar.cmpi .eq (BitVec.ofNat 32 ((grid0.coords t) 0).val) 7#32) 0
      (HMul.hMul (α := EReal) (β := EReal) ((iblk m c 6 t) (ix2 k j)) ((View.ld (X0_2 m c t) (Rect.unit ![0, 256] ![16, 256] inb_S16x1024_S16x256_0_256)) (ix2 k j)))
      = dconv (at2 (m ((c : Thread nD τ).loc main_arg0))) (at2 (m ((c : Thread nD τ).loc main_arg2))) (1024 * t.val + 1024 + k) j := by
  rw [(words t).2.1]
  unfold dconv
  by_cases h : t.val = 7
  · rw [if_pos h, at2_out _ (by omega), zero_mul]; rfl
  · rw [if_neg h]
    refine congrArg₂ (fun p q : EReal => p * q) (bn_at m c t h k j) (Eq.trans ?_ (xn_at m c t h k ⟨256 + j, by omega⟩))
    rw [View.ld_apply]
    refine congrArg (X0_2 m c t) (funext fun d => Fin.ext ?_)
    match d with
    | ⟨0, _⟩ => show 0 + 1 * k.val = k.val; omega
    | ⟨1, _⟩ => show 256 + 1 * j.val = 256 + j.val; omega

theorem pool_pt (k : Fin 1024) (j : Fin 256) :
    k0_pay20 (F := Ideal) (k0_pay9 (grid0.coords t) (X0_1 m c t) (X0_0 m c t)) (Scalar.muli (BitVec.ofNat 32 ((grid0.coords t) 0).val) 1024#32)
      (k0_pay16 (k0_pay10 (grid0.coords t) (X0_1 m c t) (X0_0 m c t)) (k0_pay11 (grid0.coords t) (X0_1 m c t) (X0_0 m c t))
        (k0_pay12 (grid0.coords t) (X0_1 m c t) (X0_0 m c t)) (k0_pay13 (grid0.coords t) (X0_1 m c t) (X0_0 m c t))
        (iota Kind.tc S1040x256 32 [1] iota_S1040x256_d1_w32) (64#32) k0_pay14 k0_pay15 1#32)
      k0_pay17 k0_pay18 k0_pay19 (ix2 k j) = Spec.pool (at2 (m ((c : Thread nD τ).loc main_arg0))) (1024 * t.val + k) j := by
  have ht : t.val < 8 := lt_of_lt_of_eq t.isLt N_0
  rw [(words t).2.2]
  exact KernelPay.pool_at _ _ _ (ext_pt m c t) (by omega) k j

theorem dy_pt (k : Fin 1040) (j : Fin 256) :
    k0_pay22 (F := Ideal) (Scalar.cmpi .eq (BitVec.ofNat 32 ((grid0.coords t) 0).val) 7#32) (k0_pay7 (iblk m c 8 t)) (iblk m c 3 t) (iblk m c 4 t) (ix2 k j)
      = dy (at2 (m ((c : Thread nD τ).loc main_arg1))) (at1 (m ((c : Thread nD τ).loc main_arg4))) (1024 * t.val + k) j := by
  refine KernelPay.dy_at _ _ _ _ (fun j => ?_) (a_at m c t) (an_pt m c t) k j
  refine Eq.trans ?_ (s_at m c t j)
  pointwise [k0_pay7]

theorem pm_pt (i j : Fin 256) : k0_pay8 (F := Ideal) (iblk m c 7 t) (ix2 i j)
    = if (i : ℕ) / 64 = (j : ℕ) / 64 then at3 (m ((c : Thread nD τ).loc main_arg3)) ((i : ℕ) / 64) ((i : ℕ) % 64) ((j : ℕ) % 64) else 0 := by
  refine Eq.trans ?_ (pm_at m c t i j)
  pointwise [k0_pay8]

theorem dc_pt (k : Fin 1024) (j : Fin 256) : k0_pay40 (F := Ideal) (X0_0 m c t) (iblk m c 5 t) (ix2 k j)
    = dconv (at2 (m ((c : Thread nD τ).loc main_arg0))) (at2 (m ((c : Thread nD τ).loc main_arg2))) (1024 * t.val + k) j := by
  pointwise [k0_pay40]
  exact congrArg₂ (fun p q : EReal => p * q) (b_at m c t k j) (x_at m c t k ⟨256 + j, by omega⟩)

theorem q_pt (k : Fin 1040) (j : Fin 256) : k0_pay38 (F := Ideal) (k0_pay6 (grid0.coords t) (X0_1 m c t) (X0_0 m c t)) (ix2 k j)
    = up (fun n => Spec.q (at2 (m ((c : Thread nD τ).loc main_arg0))) n j) (1024 * t.val + k) 16 :=
  KernelPay.q_at _ (ext_pt m c t) k j

theorem dpool_pt (k : Fin 1040) (j : Fin 256) :
    k0_pay24 (F := Ideal) (k0_pay8 (iblk m c 7 t)) (k0_pay22 (Scalar.cmpi .eq (BitVec.ofNat 32 ((grid0.coords t) 0).val) 7#32) (k0_pay7 (iblk m c 8 t)) (iblk m c 3 t) (iblk m c 4 t)) (ix2 k j)
      = dpool (at2 (m ((c : Thread nD τ).loc main_arg1))) (at3 (m ((c : Thread nD τ).loc main_arg3))) (at1 (m ((c : Thread nD τ).loc main_arg4))) (1024 * t.val + k) j :=
  KernelPay.dpool_at _ _ (pm_pt m c t) (dy_pt m c t) k j

theorem dq_pt (k : Fin 1024) (j : Fin 256) :
    k0_pay42 (F := Ideal) (Scalar.cmpi .eq (BitVec.ofNat 32 ((grid0.coords t) 0).val) 7#32) (iblk m c 9 t) (View.ld (X0_2 m c t) (Rect.unit ![0, 256] ![16, 256] inb_S16x1024_S16x256_0_256))
      (k0_pay40 (X0_0 m c t) (iblk m c 5 t)) (iblk m c 6 t) (ix2 k j)
      = dq (at2 (m ((c : Thread nD τ).loc main_arg0))) (at2 (m ((c : Thread nD τ).loc main_arg2))) (at2 (m ((c : Thread nD τ).loc main_arg5))) (1024 * t.val + k) j :=
  KernelPay.dq_at _ _ _ _ (dc_pt m c t) (dcn_pt m c t) _ (w_at m c t) k j

theorem tile3 (k : Fin 1024) (j : Fin 256) : k0_pay44 (F := Ideal) (Scalar.cmpi .eq (BitVec.ofNat 32 ((grid0.coords t) 0).val) 7#32) (iblk m c 9 t)
      (k0_pay36 (X0_0 m c t)) (View.ld (X0_2 m c t) (Rect.unit ![0, 256] ![16, 256] inb_S16x1024_S16x256_0_256))
      (k0_pay40 (X0_0 m c t) (iblk m c 5 t)) (iblk m c 6 t) (ix2 k j)
    = DX m c (1024 * t.val + k) (768 + j) := by
  refine Eq.trans ?_ (dx_3 _ _ _ _ _ _ j.isLt).symm
  pointwise [k0_pay44, k0_pay36]
  exact congrArg₂ (fun p q : EReal => p * q) (dq_pt m c t k j) (x_at m c t k ⟨512 + j, by omega⟩)

theorem tile2 (k : Fin 1024) (j : Fin 256) : k0_pay43 (F := Ideal) (Scalar.cmpi .eq (BitVec.ofNat 32 ((grid0.coords t) 0).val) 7#32) (iblk m c 9 t)
      (k0_pay37 (X0_0 m c t)) (View.ld (X0_2 m c t) (Rect.unit ![0, 256] ![16, 256] inb_S16x1024_S16x256_0_256))
      (k0_pay40 (X0_0 m c t) (iblk m c 5 t)) (iblk m c 6 t) (ix2 k j)
    = DX m c (1024 * t.val + k) (512 + j) := by
  refine Eq.trans ?_ (dx_2 _ _ _ _ _ _ j.isLt).symm
  pointwise [k0_pay43, k0_pay37]
  exact congrArg₂ (fun p q : EReal => p * q) (dq_pt m c t k j) (x_at m c t k ⟨768 + j, by omega⟩)

theorem tile1 (k : Fin 1024) (j : Fin 256) : k0_pay39 (F := Ideal) (k0_pay6 (grid0.coords t) (X0_1 m c t) (X0_0 m c t)) (iblk m c 9 t) (iblk m c 5 t) (ix2 k j)
    = DX m c (1024 * t.val + k) (256 + j) :=
  (KernelPay.conv_at _ _ _ (ext_pt m c t) (w_at m c t) (b_at m c t) k j).trans (dx_1 _ _ _ _ _ _ j.isLt).symm

theorem tile0 (k : Fin 1024) (j : Fin 256) :
    k0_pay35 (F := Ideal)
            (k0_pay24 (k0_pay8 (iblk m c 7 t))
              (k0_pay22 (Scalar.cmpi CmpIPredicate.eq (BitVec.ofNat 32 ((grid0.coords t) 0).val) 7#32)
                (k0_pay7 (iblk m c 8 t)) (iblk m c 3 t) (iblk m c 4 t)))
            (k0_pay29
              (k0_pay24 (k0_pay8 (iblk m c 7 t))
                (k0_pay22 (Scalar.cmpi CmpIPredicate.eq (BitVec.ofNat 32 ((grid0.coords t) 0).val) 7#32)
                  (k0_pay7 (iblk m c 8 t)) (iblk m c 3 t) (iblk m c 4 t)))
              (Scalar.muli (BitVec.ofNat 32 ((grid0.coords t) 0).val) 1024#32) k0_pay26 k0_pay27 k0_pay28)
            (k0_pay30
              (k0_pay24 (k0_pay8 (iblk m c 7 t))
                (k0_pay22 (Scalar.cmpi CmpIPredicate.eq (BitVec.ofNat 32 ((grid0.coords t) 0).val) 7#32)
                  (k0_pay7 (iblk m c 8 t)) (iblk m c 3 t) (iblk m c 4 t)))
              (Scalar.muli (BitVec.ofNat 32 ((grid0.coords t) 0).val) 1024#32) k0_pay26 k0_pay27 k0_pay28)
            (k0_pay31
              (k0_pay24 (k0_pay8 (iblk m c 7 t))
                (k0_pay22 (Scalar.cmpi CmpIPredicate.eq (BitVec.ofNat 32 ((grid0.coords t) 0).val) 7#32)
                  (k0_pay7 (iblk m c 8 t)) (iblk m c 3 t) (iblk m c 4 t)))
              (Scalar.muli (BitVec.ofNat 32 ((grid0.coords t) 0).val) 1024#32) k0_pay26 k0_pay27 k0_pay28)
            (k0_pay32
              (k0_pay24 (k0_pay8 (iblk m c 7 t))
                (k0_pay22 (Scalar.cmpi CmpIPredicate.eq (BitVec.ofNat 32 ((grid0.coords t) 0).val) 7#32)
                  (k0_pay7 (iblk m c 8 t)) (iblk m c 3 t) (iblk m c 4 t)))
              (Scalar.muli (BitVec.ofNat 32 ((grid0.coords t) 0).val) 1024#32) k0_pay26 k0_pay27 k0_pay28)
            k0_pay33 k0_pay34 (ix2 k j)
    = DX m c (1024 * t.val + k) j := by
  have ht : t.val < 8 := lt_of_lt_of_eq t.isLt N_0
  rw [(words t).2.2]
  exact (KernelPay.dv_at _ (dpool_pt m c t) (by omega) k j).trans (dx_0 _ _ _ _ _ _ j.isLt).symm

theorem tiles (y : S1024x1024.Idx) : (outsAt0 m c t.val t.isLt).1 y = DX m c (1024 * t.val + (y 0).val) (y 1).val := by
  by_cases h : t.val % 8 = 0
  · rw [outsAt0_A m c t h]; frame_out
    canon_tiles x hx
    · rw [hx0, hx1, eq_ix2 x]; exact tile3 m c t (x 0) (x 1)
    · rw [hx0, hx1, eq_ix2 x]; exact tile2 m c t (x 0) (x 1)
    · rw [hx0, hx1, eq_ix2 x]; exact tile1 m c t (x 0) (x 1)
    · rw [hx0, hx1, eq_ix2 x]; exact tile0 m c t (x 0) (x 1)
  · rw [outsAt0_B m c t h]; frame_out
    canon_tiles x hx
    · rw [hx0, hx1, eq_ix2 x]; exact tile3 m c t (x 0) (x 1)
    · rw [hx0, hx1, eq_ix2 x]; exact tile2 m c t (x 0) (x 1)
    · rw [hx0, hx1, eq_ix2 x]; exact tile1 m c t (x 0) (x 1)
    · rw [hx0, hx1, eq_ix2 x]; exact tile0 m c t (x 0) (x 1)
end point

theorem row_one (j : S1x256.Idx) : j = ix2 0 (j 1) :=
  (eq_ix2 j).trans (congrArg (fun r => ix2 r (j 1)) (Subsingleton.elim (α := Fin 1) _ _))

/-- What the first result holds: the gradient of the first 1024 projected lanes. -/
theorem final10 (c : Dev nD) : (dats m 0 c).arrAt 10 (cfgs 0).N = fun i => DX m c (i 0).val (i 1).val := by
  refine (dats m 0 c).arrAt_eq_of_covers 10 _ (by decide +kernel) fun t hf y => ?_
  blk_simp
  rw [after0_10]
  refine (tiles m c t _).trans ?_
  blk_simp [idx t]
  rw [Nat.mul_comm]

/-- What the second result holds. -/
theorem final11 (c : Dev nD) : (dats m 0 c).arrAt 11 (cfgs 0).N = fun i => Spec.dW (at2 (m ((c : Thread nD τ).loc main_arg0)))
    (at2 (m ((c : Thread nD τ).loc main_arg1))) (at1 (m ((c : Thread nD τ).loc main_arg4))) (i 0).val (i 1).val := by
  refine (dats m 0 c).arrAt_eq_of_after_last 11 t0_7 (by decide +kernel) _ fun j => ?_
  blk_simp
  rw [after0_11, Pipeline.eq_sum_fin_of_reset_step_apply_last (fun n h => (outsAt0 m c n h).2.1) 8 (fun _ => 0)
    (fun p j => ∑ k : Fin 1024, Spec.pool (at2 (m ((c : Thread nD τ).loc main_arg0))) (1024 * p.val + k) (j 0).val
      * dy (at2 (m ((c : Thread nD τ).loc main_arg1))) (at1 (m ((c : Thread nD τ).loc main_arg4))) (1024 * p.val + k) (j 1).val)
    (fun t h j => by
      rw [outsAt0_A m c t h]; frame_out
      rw [eq_ix2 j]
      refine (KernelPay.dW_at _ _ _ (pool_pt m c t) (dy_pt m c t) _ _).trans ?_
      exact congrArg (fun e : EReal => e + _) (by pointwise [k0_pay3]))
    (fun t h j => by
      rw [outsAt0_B m c t h]; frame_out
      rw [eq_ix2 j]
      exact KernelPay.dW_at _ _ _ (pool_pt m c t) (dy_pt m c t) _ _)
    (le_of_eq N_0) t0_7 rfl j, zero_add]
  exact sum_points (fun r => Spec.pool (at2 (m ((c : Thread nD τ).loc main_arg0))) r (j 0).val
      * dy (at2 (m ((c : Thread nD τ).loc main_arg1))) (at1 (m ((c : Thread nD τ).loc main_arg4))) r (j 1).val)

/-- What the third result holds. -/
theorem final12 (c : Dev nD) : (dats m 0 c).arrAt 12 (cfgs 0).N = fun i => Spec.ds (at2 (m ((c : Thread nD τ).loc main_arg0)))
    (at2 (m ((c : Thread nD τ).loc main_arg1))) (at3 (m ((c : Thread nD τ).loc main_arg3))) (i 1).val := by
  refine (dats m 0 c).arrAt_eq_of_after_last 12 t0_7 (by decide +kernel) _ fun j => ?_
  blk_simp
  rw [after0_12, Pipeline.eq_sum_fin_of_reset_step_apply_last (fun n h => (outsAt0 m c n h).2.2.1) 8 (fun _ => 0)
    (fun p j => ∑ k : Fin 1024, HMul.hMul (α := EReal) (β := EReal) (at2 (m ((c : Thread nD τ).loc main_arg1)) (1024 * p.val + k) (j 1).val)
      (mixed (at2 (m ((c : Thread nD τ).loc main_arg0))) (at3 (m ((c : Thread nD τ).loc main_arg3))) (1024 * p.val + k) (j 1).val))
    (fun t h j => by
      rw [outsAt0_A m c t h]; frame_out
      rw [row_one j]
      refine (KernelPay.ds_at _ _ _ _ _ _ _ _ _ (pm_pt m c t) (pool_pt m c t) (a_at m c t) _).trans ?_
      exact congrArg (fun e : EReal => e + _) (by pointwise [k0_pay4]))
    (fun t h j => by
      rw [outsAt0_B m c t h]; frame_out
      rw [row_one j]
      exact KernelPay.ds_at _ _ _ _ _ _ _ _ _ (pm_pt m c t) (pool_pt m c t) (a_at m c t) _)
    (le_of_eq N_0) t0_7 rfl j, zero_add]
  exact sum_points (fun r => HMul.hMul (α := EReal) (β := EReal) (at2 (m ((c : Thread nD τ).loc main_arg1)) r (j 1).val)
      (mixed (at2 (m ((c : Thread nD τ).loc main_arg0))) (at3 (m ((c : Thread nD τ).loc main_arg3))) r (j 1).val))
end Cert.KernelValue
-- ==== Proof.KernelTaps.lean ====
module
public import proofs.«01_k».proof.Proof.KernelValue

/-! # The gradient of the convolution's taps

The kernel adds one point's sums into each of the three rows of the taps' gradient. What the array holds after a
point, row by row, and after the last. -/

@[expose] public section
set_option maxRecDepth 16384
noncomputable section
namespace Cert.KernelValue
open Idealize.ShloMosaic Idealize.ShloMosaic.TcCoe Idealize.SL.Sem
open Idealize.ShloMosaic.Pipeline (Dat)
open Cert.KernelIdeal Cert.KernelIdeal.Gen Cert.Spec Cert.Rows
variable (m : (ℓ : Loc nD τ sig) → Buf (Elt Ideal) ℓ)

section rows
variable {Val : EltTy → Type} [∀ e, Nonempty (Val e)] {e : EltTy} {M N : ℕ}

theorem canon_row_hit (o : ℕ) (inb : ∀ a, (![o, 0] : Fin 2 → Nat) a + (⟨2, ![1, N]⟩ : Shape).size a ≤ (⟨2, ![M, N]⟩ : Shape).size a)
    (w : (⟨2, ![1, N]⟩ : Shape).Idx → Val e) (L : List (View.Piece Val (⟨2, ![M, N]⟩ : Shape) e)) (y : (⟨2, ![M, N]⟩ : Shape).Idx)
    (h : (y 0).val = o) : View.canon ((⟨Rect.unit (s := (⟨2, ![M, N]⟩ : Shape)) ![o, 0] (⟨2, ![1, N]⟩ : Shape).size inb, w⟩ : View.Piece Val (⟨2, ![M, N]⟩ : Shape) e) :: L) y
      = w (ix2 0 (y 1)) := by
  refine Eq.trans (congrArg _ ?_) (View.canon_cons_emb (Val := Val) (Rect.unit (s := (⟨2, ![M, N]⟩ : Shape)) ![o, 0] (⟨2, ![1, N]⟩ : Shape).size inb) w L (ix2 0 (y 1) : (⟨2, ![1, N]⟩ : Shape).Idx))
  refine funext fun a => Fin.ext (Eq.symm ((Rect.idx_unit_val _ _ inb _ a).trans ?_))
  match a with
  | ⟨0, _⟩ => show o + 0 = (y 0).val; omega
  | ⟨1, _⟩ => show 0 + (y 1).val = (y 1).val; omega

theorem canon_row_miss (o : ℕ) (inb : ∀ a, (![o, 0] : Fin 2 → Nat) a + (⟨2, ![1, N]⟩ : Shape).size a ≤ (⟨2, ![M, N]⟩ : Shape).size a)
    (w : (⟨2, ![1, N]⟩ : Shape).Idx → Val e) (L : List (View.Piece Val (⟨2, ![M, N]⟩ : Shape) e)) (y : (⟨2, ![M, N]⟩ : Shape).Idx)
    (h : (y 0).val ≠ o) : View.canon ((⟨Rect.unit (s := (⟨2, ![M, N]⟩ : Shape)) ![o, 0] (⟨2, ![1, N]⟩ : Shape).size inb, w⟩ : View.Piece Val (⟨2, ![M, N]⟩ : Shape) e) :: L) y
      = View.canon L y := by
  refine View.canon_cons_of_not_mem _ L fun hm => ?_
  obtain ⟨x, hx⟩ := (Rect.unit (s := (⟨2, ![M, N]⟩ : Shape)) ![o, 0] (⟨2, ![1, N]⟩ : Shape).size inb).exists_idx_of_mem hm
  refine h ((congrArg (fun z : (⟨2, ![M, N]⟩ : Shape).Idx => (z 0).val) hx).symm.trans ((Rect.idx_unit_val _ _ inb x 0).trans ?_))
  have : (x 0).val < 1 := (x 0).isLt
  show o + (x 0).val = o
  omega

end rows

theorem hit (o : ℕ) (inb : ∀ a, (![o, 0] : Fin 2 → Nat) a + S1x256.size a ≤ S3x256.size a) (w : S1x256.Idx → Elt Ideal .f32)
    (L : List (View.Piece (Elt Ideal) S3x256 .f32)) (k : Fin 3) (j : Fin 256) (h : k.val = o) :
    View.canon ((⟨Rect.unit (s := S3x256) ![o, 0] S1x256.size inb, w⟩ : View.Piece (Elt Ideal) S3x256 .f32) :: L) (ix2 k j) = w (ix2 0 j) :=
  canon_row_hit (Val := Elt Ideal) (e := .f32) (M := 3) (N := 256) o inb w L (ix2 k j) h

theorem miss (o : ℕ) (inb : ∀ a, (![o, 0] : Fin 2 → Nat) a + S1x256.size a ≤ S3x256.size a) (w : S1x256.Idx → Elt Ideal .f32)
    (L : List (View.Piece (Elt Ideal) S3x256 .f32)) (k : Fin 3) (j : Fin 256) (h : k.val ≠ o) :
    View.canon ((⟨Rect.unit (s := S3x256) ![o, 0] S1x256.size inb, w⟩ : View.Piece (Elt Ideal) S3x256 .f32) :: L) (ix2 k j) = View.canon L (ix2 k j) :=
  canon_row_miss (Val := Elt Ideal) (e := .f32) (M := 3) (N := 256) o inb w L (ix2 k j) h

theorem read_row (v : View sig .tc .vmem S3x256 .f32) (L : List (View.Piece (Elt Ideal) S3x256 .f32)) (o : Fin 3)
    (inb : ∀ a, (![o.val, 0] : Fin 2 → Nat) a + S1x256.size a ≤ S3x256.size a) (j : Fin 256) :
    v.readCov L (Rect.unit (s := S3x256) ![o.val, 0] S1x256.size inb).toLoadRect (ix2 0 j) = View.canon L (ix2 o j) := by
  refine (View.read_writes_junk_apply_eq_canon v _ L).trans (congrArg (View.canon L) ?_)
  refine funext fun a => Fin.ext ((Rect.idx_unit_val _ _ inb _ a).trans ?_)
  match a with
  | ⟨0, _⟩ => rfl
  | ⟨1, _⟩ => show 0 + j.val = j.val; omega

/-- What a grid point adds to tap `k`'s gradient. -/
def taps (c : Dev nD) (p k j : ℕ) : EReal := ∑ n : Fin 1024,
  dconv (at2 (m ((c : Thread nD τ).loc main_arg0))) (at2 (m ((c : Thread nD τ).loc main_arg2))) (1024 * p + n) j
    * up (fun r => Spec.q (at2 (m ((c : Thread nD τ).loc main_arg0))) r j) (1024 * p + n) (2 - k)

theorem ld_row (X : S3x256.Idx → Elt Ideal .f32) (o : Fin 3) (inb : ∀ a, (![o.val, 0] : Fin 2 → Nat) a + S1x256.size a ≤ S3x256.size a) (j : Fin 256) :
    View.ld (Val := Elt Ideal) X (Rect.unit (s := S3x256) ![o.val, 0] S1x256.size inb) (ix2 0 j) = X (ix2 o j) := by
  refine View.ld_unit_apply_of X _ _ inb _ _ fun a => ?_
  match a with
  | ⟨0, _⟩ => rfl
  | ⟨1, _⟩ => show j.val = 0 + j.val; omega

theorem step13 (c : Dev nD) (t : Fin cfg0.N) (h : ¬ t.val % 8 = 0) (k : Fin 3) (j : Fin 256) :
    (outsAt0 m c t.val t.isLt).2.2.2 (ix2 k j) = HAdd.hAdd (α := EReal) (β := EReal) ((outsAt0 m c (t.val - 1) (by have := t.isLt; omega)).2.2.2 (ix2 k j)) (taps m c t.val k j) := by
  rw [outsAt0_B m c t h]; frame_out
  match k with
  | ⟨2, _⟩ =>
    refine (hit 2 _ _ _ ⟨2, by omega⟩ j rfl).trans ?_
    refine (KernelPay.dw2_at _ _ _ _ (dc_pt m c t) (dcn_pt m c t) _ _ (q_pt m c t) _).trans ?_
    exact congrArg (fun e : EReal => e + _) (ld_row _ 2 _ j)
  | ⟨1, _⟩ =>
    refine (miss 2 _ _ _ ⟨1, by omega⟩ j (by show 1 ≠ 2; omega)).trans ?_
    refine (hit 1 _ _ _ ⟨1, by omega⟩ j rfl).trans ?_
    refine (KernelPay.dw1_at _ _ _ _ (dc_pt m c t) (dcn_pt m c t) _ _ (q_pt m c t) _).trans ?_
    exact congrArg (fun e : EReal => e + _) (ld_row _ 1 _ j)
  | ⟨0, _⟩ =>
    refine (miss 2 _ _ _ ⟨0, by omega⟩ j (by show 0 ≠ 2; omega)).trans ?_
    refine (miss 1 _ _ _ ⟨0, by omega⟩ j (by show 0 ≠ 1; omega)).trans ?_
    refine (hit 0 _ _ _ ⟨0, by omega⟩ j rfl).trans ?_
    refine (KernelPay.dw0_at _ _ _ _ (dc_pt m c t) (dcn_pt m c t) _ _ (q_pt m c t) _).trans ?_
    exact congrArg (fun e : EReal => e + _) (ld_row _ 0 _ j)

theorem whole_zero (inb : ∀ a, (![0, 0] : Fin 2 → Nat) a + S3x256.size a ≤ S3x256.size a) (y : S3x256.Idx) :
    View.canon (Val := Elt Ideal) [(⟨Rect.unit (s := S3x256) ![0, 0] S3x256.size inb, k0_pay5 (F := Ideal)⟩ : View.Piece (Elt Ideal) S3x256 .f32)] y = (0 : EReal) := by
  refine (congrFun (View.canon_cons_unit_lit (Val := Elt Ideal) (S := S3x256) (e := .f32) inb (k0_pay5 (F := Ideal)) [] (fun a => by fin_cases a <;> rfl)) y).trans ?_
  rw [eq_ix2 y]
  pointwise [k0_pay5]

theorem reset13 (c : Dev nD) (t : Fin cfg0.N) (h : t.val % 8 = 0) (k : Fin 3) (j : Fin 256) :
    (outsAt0 m c t.val t.isLt).2.2.2 (ix2 k j) = HAdd.hAdd (α := EReal) (β := EReal) 0 (taps m c t.val k j) := by
  rw [outsAt0_A m c t h]; frame_out
  match k with
  | ⟨2, _⟩ =>
    refine (hit 2 _ _ _ ⟨2, by omega⟩ j rfl).trans ?_
    refine (KernelPay.dw2_at _ _ _ _ (dc_pt m c t) (dcn_pt m c t) _ _ (q_pt m c t) _).trans ?_
    refine congrArg (fun e : EReal => e + _) ?_
    refine (read_row _ _ 2 _ j).trans ?_
    refine (miss 1 _ _ _ ⟨2, by omega⟩ j (by show 2 ≠ 1; omega)).trans ?_
    refine (miss 0 _ _ _ ⟨2, by omega⟩ j (by show 2 ≠ 0; omega)).trans ?_
    exact whole_zero _ _
  | ⟨1, _⟩ =>
    refine (miss 2 _ _ _ ⟨1, by omega⟩ j (by show 1 ≠ 2; omega)).trans ?_
    refine (hit 1 _ _ _ ⟨1, by omega⟩ j rfl).trans ?_
    refine (KernelPay.dw1_at _ _ _ _ (dc_pt m c t) (dcn_pt m c t) _ _ (q_pt m c t) _).trans ?_
    refine congrArg (fun e : EReal => e + _) ?_
    refine (read_row _ _ 1 _ j).trans ?_
    refine (miss 0 _ _ _ ⟨1, by omega⟩ j (by show 1 ≠ 0; omega)).trans ?_
    exact whole_zero _ _
  | ⟨0, _⟩ =>
    refine (miss 2 _ _ _ ⟨0, by omega⟩ j (by show 0 ≠ 2; omega)).trans ?_
    refine (miss 1 _ _ _ ⟨0, by omega⟩ j (by show 0 ≠ 1; omega)).trans ?_
    refine (hit 0 _ _ _ ⟨0, by omega⟩ j rfl).trans ?_
    refine (KernelPay.dw0_at _ _ _ _ (dc_pt m c t) (dcn_pt m c t) _ _ (q_pt m c t) _).trans ?_
    refine congrArg (fun e : EReal => e + _) ?_
    refine (read_row _ _ 0 _ j).trans ?_
    exact whole_zero _ _

/-- What the fourth result holds. -/
theorem final13 (c : Dev nD) : (dats m 0 c).arrAt 13 (cfgs 0).N = fun i => Spec.dw (at2 (m ((c : Thread nD τ).loc main_arg0)))
    (at2 (m ((c : Thread nD τ).loc main_arg2))) (i 0).val (i 1).val := by
  refine (dats m 0 c).arrAt_eq_of_after_last 13 t0_7 (by decide +kernel) _ fun j => ?_
  blk_simp
  rw [after0_13, Pipeline.eq_sum_fin_of_reset_step_apply_last (fun n h => (outsAt0 m c n h).2.2.2) 8 (fun _ => 0)
    (fun p j => taps m c p.val (j 0).val (j 1).val)
    (fun t h j => by rw [eq_ix2 j]; exact reset13 m c t h (j 0) (j 1))
    (fun t h j => by rw [eq_ix2 j]; exact step13 m c t h (j 0) (j 1))
    (le_of_eq N_0) t0_7 rfl j, zero_add]
  exact sum_points (fun r => dconv (at2 (m ((c : Thread nD τ).loc main_arg0))) (at2 (m ((c : Thread nD τ).loc main_arg2))) r (j 1).val
    * up (fun n => Spec.q (at2 (m ((c : Thread nD τ).loc main_arg0))) n (j 1).val) r (2 - (j 0).val))
end Cert.KernelValue
-- ==== Proof.RefPool.lean ====
module
public import proofs.«01_k».proof.Proof.Spec
public import proofs.«01_k».proof.Proof.Gen.ReferenceIdeal.Read

/-! # The reference's pooled rows

What the reference holds after each step of the pooled mixer, as functions of natural coordinates. -/

@[expose] public section
set_option maxRecDepth 16384
noncomputable section
namespace Cert.RefValue
open Cert.Rows Cert.ReferenceIdeal Cert.ReferenceIdeal.Gen Cert.ReferenceIdeal.Read Idealize.ShloMosaic

variable (x0 : (⟨S8192x2304, .f32⟩ : BufTy).Contents (Elt Ideal))

/-- A window's rows counted from its first row are its rows counted from its last. -/
theorem window_flip (f : ℕ → EReal) (K r : ℕ) (hK : 0 < K) :
    ∑ n ∈ Finset.range K, up f (r + n) (K - 1) = ∑ n ∈ Finset.range K, up f r n := by
  rw [← Finset.sum_range_reflect (fun n => up f r n)]
  refine Finset.sum_congr rfl fun n hn => ?_
  have hn := Finset.mem_range.mp hn
  unfold up
  by_cases h : K - 1 - n ≤ r
  · rw [if_pos (by omega), if_pos h]; exact congrArg f (by omega)
  · rw [if_neg (by omega), if_neg h]

/-- An array that holds, at each place, a function of the place that vanishes below the last row. -/
theorem at2_of {R C : ℕ} {x : (⟨2, ![R, C]⟩ : Shape).Idx → EReal} {f : ℕ → ℕ → EReal}
    (h : ∀ (r : Fin R) (c : Fin C), x (ix2 r c) = f r c) (h0 : ∀ r c, R ≤ r → f r c = 0) {c : ℕ} (hc : c < C) (r : ℕ) :
    at2 x r c = f r c := by
  by_cases hr : r < R
  · exact (at2_mk x ⟨r, hr⟩ ⟨c, hc⟩).symm.trans (h _ _)
  · rw [at2_out x (not_lt.mp hr), h0 r c (not_lt.mp hr)]

theorem lanes_0 (r : Fin 8192) (j : Fin 256) : val_main_v1 (F := Ideal) x0 (ix2 r j) = at2 x0 r j := by
  pointwise [val_main_v1, val_main_v0]
  exact at2_mk x0 _ _

theorem lanes_1 (r : Fin 8192) (j : Fin 256) : val_main_v2 (F := Ideal) x0 (ix2 r j) = at2 x0 r (256 + j) := by
  pointwise [val_main_v2, val_main_v0]
  exact (at2_mk x0 _ _).trans (congrArg (at2 x0 r) (by simp))

theorem lanes_2 (r : Fin 8192) (j : Fin 256) : val_main_v3 (F := Ideal) x0 (ix2 r j) = at2 x0 r (512 + j) := by
  pointwise [val_main_v3, val_main_v0]
  exact (at2_mk x0 _ _).trans (congrArg (at2 x0 r) (by simp))

theorem lanes_3 (r : Fin 8192) (j : Fin 256) : val_main_v4 (F := Ideal) x0 (ix2 r j) = at2 x0 r (768 + j) := by
  pointwise [val_main_v4, val_main_v0]
  exact (at2_mk x0 _ _).trans (congrArg (at2 x0 r) (by simp))

/-- The count of a window as the reference states it. -/
theorem count_at (r j : ℕ) (hr : r < 8192) {w : ℕ} (hw : Spec.win j = w) (hj : j < 256) :
    (FloatOps.sitofp FTy.f32 (IntOp.minsi (IntOp.addi (BitVec.ofNat 32 r) 1#32) (BitVec.ofNat 32 w)) : Ideal .f32) = Spec.cnt r j := by
  have h := Spec.count_word 0 r (by omega) ⟨j, hj⟩
  have e : Spec.pick j 2#32 4#32 8#32 16#32 = BitVec.ofNat 32 (Spec.win j) := Spec.pick_words j 2 4 8 16
  rw [e, hw, Nat.zero_add] at h
  rw [← h]
  refine congrArg (fun b => (FloatOps.sitofp FTy.f32 (IntOp.minsi (IntOp.addi b 1#32) (BitVec.ofNat 32 w)) : Ideal .f32)) ?_
  show _ = BitVec.ofNat 32 0 + BitVec.ofNat 32 r
  rw [← BitVec.ofNat_add, Nat.zero_add]

theorem win_group {g c : ℕ} (hc : c < 64) {w : ℕ} (h : Spec.pick (64 * g) 2 4 8 16 = w) : Spec.win (64 * g + c) = w := by
  rw [← h]; unfold Spec.win Spec.pick
  have e : (64 * g + c) / 64 = g := by omega
  have e' : 64 * g / 64 = g := by omega
  rw [e, e']

/-- A group's window sums, from the group's lanes. -/
theorem wsum_of {K g : ℕ} (hK : 0 < K) (hw : ∀ c < 64, Spec.win (64 * g + c) = K) (hg : 64 * g < 256)
    (y : FVec Ideal (⟨2, ![8192, 64]⟩ : Shape) .f32) (hy : ∀ (r : Fin 8192) (c : Fin 64), y (ix2 r c) = at2 x0 r (64 * g + c))
    (init : FVec Ideal (⟨0, ![]⟩ : Shape) .f32) (hinit : ∀ i, init i = 0)
    (h : (⟨2, ![8192, 64]⟩ : Shape).ReduceWindows (![K, 1] : Fin 2 → ℕ) ![1, 1] ![K - 1, 0] ![0, 0] (⟨2, ![8192, 64]⟩ : Shape))
    (hu : 0 < (⟨0, ![]⟩ : Shape).numel) (r : Fin 8192) (c : Fin 64) :
    Host.reduceWindowAdd ![K, 1] ![1, 1] ![K - 1, 0] ![0, 0] y init h hu (ix2 r c) = Spec.wsum (at2 x0) r (64 * g + c) := by
  rw [windowRows y init hinit h hu r c, window_flip _ _ _ hK]
  unfold Spec.wsum
  rw [hw c c.isLt]
  refine Finset.sum_congr rfl fun n _ => congrArg (fun f => up f r n) (funext fun q => ?_)
  exact at2_of (f := fun r c => at2 x0 r (64 * g + c)) hy (fun r c hr => at2_out x0 hr) c.isLt q

theorem wsum_0 (r : Fin 8192) (c : Fin 64) : val_main_v8 (F := Ideal) x0 (ix2 r c) = Spec.wsum (at2 x0) r (64 * 0 + c) := by
  unfold val_main_v8
  refine wsum_of (K := 2) (g := 0) x0 (by omega) (fun c hc => win_group hc rfl) (by omega) _ (fun r c => ?_) _ (fun i => ?_) _ _ r c
  · pointwise [val_main_v6, lanes_0]
  · pointwise [val_main_v7, val_main_cst]

theorem wsum_1 (r : Fin 8192) (c : Fin 64) : val_main_v20 (F := Ideal) x0 (ix2 r c) = Spec.wsum (at2 x0) r (64 * 1 + c) := by
  unfold val_main_v20
  refine wsum_of (K := 4) (g := 1) x0 (by omega) (fun c hc => win_group hc rfl) (by omega) _ (fun r c => ?_) _ (fun i => ?_) _ _ r c
  · pointwise [val_main_v18, lanes_0]
  · pointwise [val_main_v19, val_main_cst_1]

theorem wsum_2 (r : Fin 8192) (c : Fin 64) : val_main_v32 (F := Ideal) x0 (ix2 r c) = Spec.wsum (at2 x0) r (64 * 2 + c) := by
  unfold val_main_v32
  refine wsum_of (K := 8) (g := 2) x0 (by omega) (fun c hc => win_group hc rfl) (by omega) _ (fun r c => ?_) _ (fun i => ?_) _ _ r c
  · pointwise [val_main_v30, lanes_0]
  · pointwise [val_main_v31, val_main_cst_4]

theorem wsum_3 (r : Fin 8192) (c : Fin 64) : val_main_v44 (F := Ideal) x0 (ix2 r c) = Spec.wsum (at2 x0) r (64 * 3 + c) := by
  unfold val_main_v44
  refine wsum_of (K := 16) (g := 3) x0 (by omega) (fun c hc => win_group hc rfl) (by omega) _ (fun r c => ?_) _ (fun i => ?_) _ _ r c
  · pointwise [val_main_v42, lanes_0]
  · pointwise [val_main_v43, val_main_cst_7]

theorem cnt_0 (r : Fin 8192) (c : Fin 64) (k : Fin 1) : val_main_v14 (F := Ideal) (ix2 r k) = Spec.cnt r (64 * 0 + c) := by
  pointwise [val_main_v14, val_main_v13, val_main_v12, val_main_v11, val_main_c_0, val_main_v10, val_main_v9, val_main_c, val_main_v5]
  have hw : Spec.win (64 * 0 + c) = 2 := win_group c.isLt rfl
  exact count_at r _ r.isLt (by simpa using hw) (by omega)

theorem cnt_1 (r : Fin 8192) (c : Fin 64) (k : Fin 1) : val_main_v26 (F := Ideal) (ix2 r k) = Spec.cnt r (64 * 1 + c) := by
  pointwise [val_main_v26, val_main_v25, val_main_v24, val_main_v23, val_main_c_3, val_main_v22, val_main_v21, val_main_c_2, val_main_v5]
  have hw : Spec.win (64 * 1 + c) = 4 := win_group c.isLt rfl
  exact count_at r _ r.isLt (by simpa using hw) (by omega)

theorem cnt_2 (r : Fin 8192) (c : Fin 64) (k : Fin 1) : val_main_v38 (F := Ideal) (ix2 r k) = Spec.cnt r (64 * 2 + c) := by
  pointwise [val_main_v38, val_main_v37, val_main_v36, val_main_v35, val_main_c_6, val_main_v34, val_main_v33, val_main_c_5, val_main_v5]
  have hw : Spec.win (64 * 2 + c) = 8 := win_group c.isLt rfl
  exact count_at r _ r.isLt (by simpa using hw) (by omega)

theorem cnt_3 (r : Fin 8192) (c : Fin 64) (k : Fin 1) : val_main_v50 (F := Ideal) (ix2 r k) = Spec.cnt r (64 * 3 + c) := by
  pointwise [val_main_v50, val_main_v49, val_main_v48, val_main_v47, val_main_c_9, val_main_v46, val_main_v45, val_main_c_8, val_main_v5]
  have hw : Spec.win (64 * 3 + c) = 16 := win_group c.isLt rfl
  exact count_at r _ r.isLt (by simpa using hw) (by omega)

theorem pool_0 (r : Fin 8192) (c : Fin 64) : val_main_v17 (F := Ideal) x0 (ix2 r c) = Spec.pool (at2 x0) r (64 * 0 + c) := by
  pointwise [val_main_v17, val_main_v16, val_main_v15, val_main_v6, lanes_0, wsum_0, cnt_0 r c]
  unfold Spec.pool
  simp

theorem pool_1 (r : Fin 8192) (c : Fin 64) : val_main_v29 (F := Ideal) x0 (ix2 r c) = Spec.pool (at2 x0) r (64 * 1 + c) := by
  pointwise [val_main_v29, val_main_v28, val_main_v27, val_main_v18, lanes_0, wsum_1, cnt_1 r c]
  unfold Spec.pool
  simp

theorem pool_2 (r : Fin 8192) (c : Fin 64) : val_main_v41 (F := Ideal) x0 (ix2 r c) = Spec.pool (at2 x0) r (64 * 2 + c) := by
  pointwise [val_main_v41, val_main_v40, val_main_v39, val_main_v30, lanes_0, wsum_2, cnt_2 r c]
  unfold Spec.pool
  simp

theorem pool_3 (r : Fin 8192) (c : Fin 64) : val_main_v53 (F := Ideal) x0 (ix2 r c) = Spec.pool (at2 x0) r (64 * 3 + c) := by
  pointwise [val_main_v53, val_main_v52, val_main_v51, val_main_v42, lanes_0, wsum_3, cnt_3 r c]
  unfold Spec.pool
  simp

/-- The four groups side by side. -/
theorem pooled (r : Fin 8192) (g : Fin 4) (c : Fin 64) :
    val_main_v58 (F := Ideal) x0 (ix3 r g c) = Spec.pool (at2 x0) r (64 * g + c) := by
  match g with
  | ⟨0, _⟩ => pointwise [val_main_v58, val_main_v54, pool_0]
  | ⟨1, _⟩ => pointwise [val_main_v58, val_main_v55]; exact pool_1 x0 r c
  | ⟨2, _⟩ => pointwise [val_main_v58, val_main_v56]; exact pool_2 x0 r c
  | ⟨3, _⟩ => pointwise [val_main_v58, val_main_v57]; exact pool_3 x0 r c

end Cert.RefValue
-- ==== Proof.RefMix.lean ====
module
public import proofs.«01_k».proof.Proof.RefPool

/-! # The reference's gradient of the pooled mixer

The reference's gradients of the pooled lanes, of the four groups' matrices and of the scale, as functions of
natural coordinates. -/

@[expose] public section
set_option maxRecDepth 16384
noncomputable section
namespace Cert.RefValue
open Cert.Rows Cert.ReferenceIdeal Cert.ReferenceIdeal.Gen Cert.ReferenceIdeal.Read Idealize.ShloMosaic

variable (x0 : (⟨S8192x2304, .f32⟩ : BufTy).Contents (Elt Ideal)) (x1 : (⟨S8192x256, .f32⟩ : BufTy).Contents (Elt Ideal))
  (x3 : (⟨S4x64x64, .f32⟩ : BufTy).Contents (Elt Ideal)) (x4 : (⟨S256, .f32⟩ : BufTy).Contents (Elt Ideal))

theorem div_lane {g c : ℕ} (hc : c < 64) : (64 * g + c) / 64 = g := by omega
theorem mod_lane {g c : ℕ} (hc : c < 64) : (64 * g + c) % 64 = c := by omega

/-- The gradient before the scale, by group. -/
theorem dy_at (g : Fin 4) (c : Fin 64) (r : Fin 8192) :
    val_main_v136 (F := Ideal) x1 x4 (ix3 g c r) = Spec.dy (at2 x1) (at1 x4) r (64 * g + c) := by
  pointwise [val_main_v136, val_main_v135, val_main_v133, val_main_v132, val_main_v62, at2_mk x1, at1_mk x4]
  unfold Spec.dy
  rw [Nat.mul_comm (g : ℕ) 64]

/-- The pooled rows through their group's matrix. -/
theorem mixed_at (r : Fin 8192) (j : Fin 256) :
    val_main_v61 (F := Ideal) x0 x3 (ix2 r j) = Spec.mixed (at2 x0) (at3 x3) r j := by
  pointwise [val_main_v61, val_main_v60, val_main_v59, pooled, at3_mk x3]
  unfold Spec.mixed
  rw [← sum_fin (fun c => Spec.pool (at2 x0) r (64 * (j / 64) + c) * at3 x3 (j / 64) c (j % 64))]
  exact Finset.sum_congr rfl fun c _ => mul_comm _ _

/-- The gradient of the pooled row. -/
theorem dpool_at (r : Fin 8192) (g : Fin 4) (i : Fin 64) :
    val_main_v138 (F := Ideal) x1 x3 x4 (ix3 r g i) = Spec.dpool (at2 x1) (at3 x3) (at1 x4) r (64 * g + i) := by
  pointwise [val_main_v138, val_main_v137, dy_at, at3_mk x3]
  unfold Spec.dpool
  rw [div_lane i.isLt, mod_lane i.isLt]
  exact sum_fin (fun c => Spec.dy (at2 x1) (at1 x4) r (64 * g + c) * at3 x3 g i c)

/-- The gradient of the groups' matrices. -/
theorem dW_at (g : Fin 4) (i c : Fin 64) :
    val_main_v140 (F := Ideal) x0 x1 x4 (ix3 g i c) = Spec.dW (at2 x0) (at2 x1) (at1 x4) (64 * g + i) (64 * g + c) := by
  pointwise [val_main_v140, val_main_v139, dy_at, pooled]
  unfold Spec.dW
  rw [← sum_fin (fun r => Spec.pool (at2 x0) r (64 * g + i) * Spec.dy (at2 x1) (at1 x4) r (64 * g + c))]
  exact Finset.sum_congr rfl fun r _ => mul_comm _ _

theorem dpool_0 (r : Fin 8192) (i : Fin 64) :
    val_main_v142 (F := Ideal) x1 x3 x4 (ix2 r i) = Spec.dpool (at2 x1) (at3 x3) (at1 x4) r (64 * 0 + i) := by
  pointwise [val_main_v142, val_main_v141, dpool_at]

theorem dpool_1 (r : Fin 8192) (i : Fin 64) :
    val_main_v144 (F := Ideal) x1 x3 x4 (ix2 r i) = Spec.dpool (at2 x1) (at3 x3) (at1 x4) r (64 * 1 + i) := by
  pointwise [val_main_v144, val_main_v143, dpool_at]

theorem dpool_2 (r : Fin 8192) (i : Fin 64) :
    val_main_v146 (F := Ideal) x1 x3 x4 (ix2 r i) = Spec.dpool (at2 x1) (at3 x3) (at1 x4) r (64 * 2 + i) := by
  pointwise [val_main_v146, val_main_v145, dpool_at]

theorem dpool_3 (r : Fin 8192) (i : Fin 64) :
    val_main_v148 (F := Ideal) x1 x3 x4 (ix2 r i) = Spec.dpool (at2 x1) (at3 x3) (at1 x4) r (64 * 3 + i) := by
  pointwise [val_main_v148, val_main_v147, dpool_at]

/-- The gradient of the groups' matrices as the reference returns it, on the four diagonal blocks. -/
theorem dW_block (i j : Fin 256) (h : i.val / 64 = j.val / 64) :
    val_main_v187 (F := Ideal) x0 x1 x4 (ix2 i j) = Spec.dW (at2 x0) (at2 x1) (at1 x4) i j := by
  pointwise [val_main_v187, val_main_v186, val_main_v185, dW_at]
  rw [show 64 * (i.val / 64) + i.val % 64 = i by omega, show 64 * (i.val / 64) + j.val % 64 = j by omega]

/-- The gradient of the scale. -/
theorem ds_row (k : Fin 1) (j : Fin 256) :
    val_main_v188 (F := Ideal) x0 x1 x3 (ix2 k j) = Spec.ds (at2 x0) (at2 x1) (at3 x3) j := by
  pointwise [val_main_v188, val_main_v134, val_main_cst_26, val_main_v131, val_main_v130, val_main_cst_25, val_main_v129, mixed_at, at2_mk x1]
  unfold Spec.ds
  rw [Fin.sum_univ_one]
  refine Eq.trans ?_ (sum_fin (N := 8192) (fun r => at2 x1 r j * Spec.mixed (at2 x0) (at3 x3) r j))
  exact Finset.sum_congr rfl fun r _ => mul_comm _ _

/-- The gradient of a window's sum vanishes below the last row. -/
theorem dmean_out (r j : ℕ) (hr : 8192 ≤ r) : Spec.dmean (at2 x1) (at3 x3) (at1 x4) r j = 0 := by
  have h : Spec.dpool (at2 x1) (at3 x3) (at1 x4) r j = 0 := by
    unfold Spec.dpool Spec.dy
    exact Finset.sum_eq_zero fun c _ => by rw [at2_out x1 hr, zero_mul, zero_mul]
  have hc : Spec.cnt r j ≠ 0 := by
    have := Spec.win_le j
    unfold Spec.cnt
    intro hh
    have h1 : (((min (r + 1) (Spec.win j) : ℕ) : ℤ) : ℝ) = 0 := by exact_mod_cast hh
    have h2 : min (r + 1) (Spec.win j) = 0 := by exact_mod_cast h1
    omega
  unfold Spec.dmean Ideal.div
  rw [h, if_neg hc, zero_mul]

/-- A group's sums over the rows a window covers, from the padded means. -/
theorem ahead_of {K g R : ℕ} (hw : ∀ c < 64, Spec.win (64 * g + c) = K)
    (y : FVec Ideal (⟨2, ![R, 64]⟩ : Shape) .f32)
    (hy : ∀ (r : Fin R) (c : Fin 64), y (ix2 r c) = Spec.dmean (at2 x1) (at3 x3) (at1 x4) r (64 * g + c)) (hR : 8192 ≤ R)
    (init : FVec Ideal (⟨0, ![]⟩ : Shape) .f32) (hinit : ∀ i, init i = 0)
    (h : (⟨2, ![R, 64]⟩ : Shape).ReduceWindows (![K, 1] : Fin 2 → ℕ) ![1, 1] ![0, 0] ![0, 0] (⟨2, ![8192, 64]⟩ : Shape))
    (hu : 0 < (⟨0, ![]⟩ : Shape).numel) (r : Fin 8192) (c : Fin 64) :
    Host.reduceWindowAdd ![K, 1] ![1, 1] ![0, 0] ![0, 0] y init h hu (ix2 r c)
      = ahead (fun q => Spec.dmean (at2 x1) (at3 x3) (at1 x4) q (64 * g + c)) (Spec.win (64 * g + c)) r := by
  rw [windowRows y init hinit h hu r c, hw c c.isLt]
  unfold ahead
  refine Finset.sum_congr rfl fun n _ => ?_
  rw [up_zero]
  exact at2_of (f := fun r c => Spec.dmean (at2 x1) (at3 x3) (at1 x4) r (64 * g + c)) hy
    (fun r c hr => dmean_out x1 x3 x4 r _ (hR.trans hr)) c.isLt _

theorem dv_3 (r : Fin 8192) (c : Fin 64) :
    val_main_v155 (F := Ideal) x1 x3 x4 (ix2 r c) = Spec.dv (at2 x1) (at3 x3) (at1 x4) r (64 * 3 + c) := by
  have h : val_main_v154 (F := Ideal) x1 x3 x4 (ix2 r c)
      = ahead (fun q => Spec.dmean (at2 x1) (at3 x3) (at1 x4) q (64 * 3 + c)) (Spec.win (64 * 3 + c)) r := by
    unfold val_main_v154
    refine ahead_of (K := 16) (g := 3) x1 x3 x4 (fun c hc => win_group hc rfl) _ (fun r c => ?_) (by omega) _ (fun i => ?_) _ _ r c
    · pointwise [val_main_v152, val_main_cst_27, val_main_v151, val_main_v150, dpool_3, cnt_3 _ c]
      split
      · rfl
      · next hr => exact (dmean_out x1 x3 x4 r _ (not_lt.mp hr)).symm
    · pointwise [val_main_v153, val_main_cst_28]
  pointwise [val_main_v155, val_main_v149, dpool_3, h]
  unfold Spec.dv
  exact (add_comm _ _).trans (sub_eq_add_neg _ _).symm

theorem dv_2 (r : Fin 8192) (c : Fin 64) :
    val_main_v163 (F := Ideal) x1 x3 x4 (ix2 r c) = Spec.dv (at2 x1) (at3 x3) (at1 x4) r (64 * 2 + c) := by
  have h : val_main_v162 (F := Ideal) x1 x3 x4 (ix2 r c)
      = ahead (fun q => Spec.dmean (at2 x1) (at3 x3) (at1 x4) q (64 * 2 + c)) (Spec.win (64 * 2 + c)) r := by
    unfold val_main_v162
    refine ahead_of (K := 8) (g := 2) x1 x3 x4 (fun c hc => win_group hc rfl) _ (fun r c => ?_) (by omega) _ (fun i => ?_) _ _ r c
    · pointwise [val_main_v160, val_main_cst_30, val_main_v159, val_main_v158, dpool_2, cnt_2 _ c]
      split
      · rfl
      · next hr => exact (dmean_out x1 x3 x4 r _ (not_lt.mp hr)).symm
    · pointwise [val_main_v161, val_main_cst_31]
  pointwise [val_main_v163, val_main_v157, dpool_2, h]
  unfold Spec.dv
  exact (add_comm _ _).trans (sub_eq_add_neg _ _).symm

theorem dv_1 (r : Fin 8192) (c : Fin 64) :
    val_main_v172 (F := Ideal) x1 x3 x4 (ix2 r c) = Spec.dv (at2 x1) (at3 x3) (at1 x4) r (64 * 1 + c) := by
  have h : val_main_v171 (F := Ideal) x1 x3 x4 (ix2 r c)
      = ahead (fun q => Spec.dmean (at2 x1) (at3 x3) (at1 x4) q (64 * 1 + c)) (Spec.win (64 * 1 + c)) r := by
    unfold val_main_v171
    refine ahead_of (K := 4) (g := 1) x1 x3 x4 (fun c hc => win_group hc rfl) _ (fun r c => ?_) (by omega) _ (fun i => ?_) _ _ r c
    · pointwise [val_main_v169, val_main_cst_33, val_main_v168, val_main_v167, dpool_1, cnt_1 _ c]
      split
      · rfl
      · next hr => exact (dmean_out x1 x3 x4 r _ (not_lt.mp hr)).symm
    · pointwise [val_main_v170, val_main_cst_34]
  pointwise [val_main_v172, val_main_v166, dpool_1, h]
  unfold Spec.dv
  exact (add_comm _ _).trans (sub_eq_add_neg _ _).symm

theorem dv_0 (r : Fin 8192) (c : Fin 64) :
    val_main_v181 (F := Ideal) x1 x3 x4 (ix2 r c) = Spec.dv (at2 x1) (at3 x3) (at1 x4) r (64 * 0 + c) := by
  have h : val_main_v180 (F := Ideal) x1 x3 x4 (ix2 r c)
      = ahead (fun q => Spec.dmean (at2 x1) (at3 x3) (at1 x4) q (64 * 0 + c)) (Spec.win (64 * 0 + c)) r := by
    unfold val_main_v180
    refine ahead_of (K := 2) (g := 0) x1 x3 x4 (fun c hc => win_group hc rfl) _ (fun r c => ?_) (by omega) _ (fun i => ?_) _ _ r c
    · pointwise [val_main_v178, val_main_cst_36, val_main_v177, val_main_v176, dpool_0, cnt_0 _ c]
      split
      · rfl
      · next hr => exact (dmean_out x1 x3 x4 r _ (not_lt.mp hr)).symm
    · pointwise [val_main_v179, val_main_cst_37]
  pointwise [val_main_v181, val_main_v175, dpool_0, h]
  unfold Spec.dv
  exact (add_comm _ _).trans (sub_eq_add_neg _ _).symm

theorem dv_at (r : Fin 8192) (j : Fin 256) :
    val_main_v183 (F := Ideal) x1 x3 x4 (ix2 r j) = Spec.dv (at2 x1) (at3 x3) (at1 x4) r j := by
  pointwise [val_main_v183, val_main_v174, val_main_v165, val_main_v156, val_main_v164, val_main_v173, val_main_v182,
    val_main_cst_29, val_main_cst_32, val_main_cst_35, val_main_cst_38, dv_0, dv_1, dv_2, dv_3]
  have hj := j.isLt
  generalize hD : Spec.dv (at2 x1) (at3 x3) (at1 x4) r = D
  rcases (by omega : j.val / 64 = 0 ∨ j.val / 64 = 1 ∨ j.val / 64 = 2 ∨ j.val / 64 = 3) with h | h | h | h
  · rw [dif_neg (by omega), dif_neg (by omega), dif_neg (by omega), dif_pos (by omega), zero_add, zero_add, zero_add]
  · rw [dif_neg (by omega), dif_neg (by omega), dif_pos (by omega), dif_neg (by omega), zero_add, zero_add, add_zero]
    exact congrArg D (by omega)
  · rw [dif_neg (by omega), dif_pos (by omega), dif_neg (by omega), dif_neg (by omega), zero_add, add_zero, add_zero]
    exact congrArg D (by omega)
  · rw [dif_pos (by omega), dif_neg (by omega), dif_neg (by omega), dif_neg (by omega), add_zero, add_zero, add_zero]
    exact congrArg D (by omega)

end Cert.RefValue
-- ==== Proof.RefConv.lean ====
module
public import proofs.«01_k».proof.Proof.RefMix

/-! # The reference's gradient of the convolution

The reference's gradients of the two gates, of the convolved lanes and of the taps, and the four lane ranges of its
first result, as functions of natural coordinates. -/

@[expose] public section
set_option maxRecDepth 16384
noncomputable section
namespace Cert.RefValue
open Cert.Rows Cert.ReferenceIdeal Cert.ReferenceIdeal.Gen Cert.ReferenceIdeal.Read Idealize.ShloMosaic

variable (x0 : (⟨S8192x2304, .f32⟩ : BufTy).Contents (Elt Ideal)) (x1 x2 : (⟨S8192x256, .f32⟩ : BufTy).Contents (Elt Ideal))
  (x3 : (⟨S4x64x64, .f32⟩ : BufTy).Contents (Elt Ideal)) (x4 : (⟨S256, .f32⟩ : BufTy).Contents (Elt Ideal))
  (x5 : (⟨S3x256, .f32⟩ : BufTy).Contents (Elt Ideal))

/-- The product of the two gates. -/
theorem q_at (r : Fin 8192) (j : Fin 256) : val_main_v65 (F := Ideal) x0 (ix2 r j) = Spec.q (at2 x0) r j := by
  pointwise [val_main_v65, lanes_2, lanes_3]
  rfl

/-- The product of the two gates under two rows of zeros. -/
theorem padded_at (r : Fin 8194) (j : Fin 256) :
    val_main_v67 (F := Ideal) x0 (ix2 r j) = up (fun n => Spec.q (at2 x0) n j) r 2 := by
  pointwise [val_main_v67, val_main_v66, val_main_cst_10, q_at]
  unfold up
  by_cases h : r.val < 2
  · rw [dif_pos h, if_neg (by omega)]
  · rw [dif_neg h, if_pos (by omega)]

theorem tap_0 (r : Fin 8192) (j : Fin 256) :
    val_main_v72 (F := Ideal) x0 (ix2 r j) = up (fun n => Spec.q (at2 x0) n j) r 2 := by
  pointwise [val_main_v72, padded_at]

theorem tap_1 (r : Fin 8192) (j : Fin 256) :
    val_main_v80 (F := Ideal) x0 (ix2 r j) = up (fun n => Spec.q (at2 x0) n j) r 1 := by
  pointwise [val_main_v80, padded_at]
  rw [Nat.add_comm 1]
  exact up_up (fun n => Spec.q (at2 x0) n j) (n := r) (c := 2) (s := 1) (by omega)

theorem tap_2 (r : Fin 8192) (j : Fin 256) :
    val_main_v87 (F := Ideal) x0 (ix2 r j) = Spec.q (at2 x0) r j := by
  pointwise [val_main_v87, padded_at]
  rw [Nat.add_comm 2]
  exact up_up (fun n => Spec.q (at2 x0) n j) (n := r) (c := 2) (s := 0) (by omega)

/-- The three taps of the convolution. -/
theorem conv_at (r : Fin 8192) (j : Fin 256) :
    val_main_v90 (F := Ideal) x0 x5 (ix2 r j) = Spec.conv (at2 x0) (at2 x5) r j := by
  pointwise [val_main_v90, val_main_v83, val_main_v76, val_main_v75, val_main_cst_12, val_main_v74, val_main_v73,
    val_main_v71, val_main_v70, val_main_v69, val_main_v82, val_main_v81, val_main_v79, val_main_v78, val_main_v77,
    val_main_v89, val_main_v88, val_main_v86, val_main_v85, val_main_v84, tap_0, tap_1, tap_2, at2_mk x5]
  unfold Spec.conv
  rw [mul_comm (at2 x5 0 j), mul_comm (at2 x5 1 j), mul_comm (at2 x5 2 j)]

/-- The gradient of the convolution. -/
theorem dconv_at (r : Fin 8192) (j : Fin 256) :
    val_main_v92 (F := Ideal) x0 x2 (ix2 r j) = Spec.dconv (at2 x0) (at2 x2) r j := by
  pointwise [val_main_v92, lanes_1, at2_mk x2]
  exact mul_comm _ _

/-- The gradient of the product of the two gates. -/
theorem dq_at (r : Fin 8192) (j : Fin 256) :
    val_main_v126 (F := Ideal) x0 x2 x5 (ix2 r j) = Spec.dq (at2 x0) (at2 x2) (at2 x5) r j := by
  pointwise [val_main_v126, val_main_v120, val_main_v109, val_main_v99, val_main_cst_14, val_main_v95, val_main_v94,
    val_main_v108, val_main_cst_18, val_main_v104, val_main_v103, val_main_v119, val_main_cst_22, val_main_v115, val_main_v114,
    val_main_v71, val_main_v70, val_main_v69, val_main_v79, val_main_v78, val_main_v77,
    val_main_v86, val_main_v85, val_main_v84, dconv_at, at2_mk x5]
  unfold Spec.dq
  have hout : ∀ n, 8192 ≤ n → Spec.dconv (at2 x0) (at2 x2) n j = 0 := fun n hn => by
    unfold Spec.dconv; rw [at2_out x2 hn, zero_mul]
  rw [Nat.add_comm 2, show r.val + 2 - 1 = r + 1 by omega, mul_comm (at2 x5 2 j), mul_comm (at2 x5 1 j), mul_comm (at2 x5 0 j)]
  have e1 : (if h : 1 ≤ r.val + 2 ∧ r.val + 1 < 8192 then Spec.dconv (at2 x0) (at2 x2) (r + 1) j * at2 x5 1 j else 0)
      = Spec.dconv (at2 x0) (at2 x2) (r + 1) j * at2 x5 1 j := by
    by_cases h : r.val + 1 < 8192
    · rw [dif_pos ⟨by omega, h⟩]
    · rw [dif_neg (fun hh => h hh.2), hout _ (not_lt.mp h), zero_mul]
  have e2 : (if h : r.val + 2 < 8192 then Spec.dconv (at2 x0) (at2 x2) (r + 2) j * at2 x5 0 j else 0)
      = Spec.dconv (at2 x0) (at2 x2) (r + 2) j * at2 x5 0 j := by
    by_cases h : r.val + 2 < 8192
    · rw [dif_pos h]
    · rw [dif_neg h, hout _ (not_lt.mp h), zero_mul]
  rw [e1, e2]

/-- The gradient of the taps. -/
theorem dw_at (k : Fin 3) (j : Fin 256) :
    val_main_v124 (F := Ideal) x0 x2 (ix2 k j) = Spec.dw (at2 x0) (at2 x2) k j := by
  pointwise [val_main_v124, val_main_v113, val_main_v102, val_main_cst_16, val_main_v101, val_main_v100, val_main_cst_15,
    val_main_v98, val_main_v97, val_main_cst_13, val_main_v96,
    val_main_v112, val_main_cst_20, val_main_v111, val_main_v110, val_main_cst_19, val_main_v107, val_main_v106,
    val_main_cst_17, val_main_v105,
    val_main_v123, val_main_cst_24, val_main_v122, val_main_v121, val_main_cst_23, val_main_v118, val_main_v117,
    val_main_cst_21, val_main_v116, tap_0, tap_1, tap_2, dconv_at]
  have hs : ∀ d, (∑ _ : Fin 1, ∑ r : Fin 8192, Spec.dconv (at2 x0) (at2 x2) r j * up (fun n => Spec.q (at2 x0) n j) r d)
      = ∑ r ∈ Finset.range 8192, Spec.dconv (at2 x0) (at2 x2) r j * up (fun n => Spec.q (at2 x0) n j) r d := fun d => by
    rw [Fin.sum_univ_one]
    exact sum_fin (N := 8192) (fun r => Spec.dconv (at2 x0) (at2 x2) r j * up (fun n => Spec.q (at2 x0) n j) r d)
  unfold Spec.dw
  match k with
  | ⟨0, _⟩ => rw [dif_neg (by simp), dif_neg (by simp), dif_pos (by simp), zero_add, zero_add]; exact hs 2
  | ⟨1, _⟩ => rw [dif_neg (by simp), dif_pos (by simp), dif_neg (by simp), zero_add, add_zero]; exact hs 1
  | ⟨2, _⟩ => rw [dif_pos (by simp), dif_neg (by simp), dif_neg (by simp), add_zero, add_zero]; exact hs 0

/-- The gradient of the first 1024 projected lanes. -/
theorem dx_at (r : Fin 8192) (j : Fin 1024) :
    val_main_v184 (F := Ideal) x0 x1 x2 x3 x4 x5 (ix2 r j)
      = Spec.dx (at2 x0) (at2 x1) (at2 x2) (at3 x3) (at1 x4) (at2 x5) r j := by
  pointwise [val_main_v184, dv_at, val_main_v93, conv_at, val_main_v128, val_main_v127, dq_at, lanes_2, lanes_3, at2_mk x2]
  unfold Spec.dx
  have hj := j.isLt
  by_cases h0 : j.val < 256
  · rw [dif_pos h0, if_pos h0]
  rw [dif_neg h0, if_neg h0]
  by_cases h1 : j.val < 512
  · rw [dif_pos (by omega), if_pos h1]
  rw [dif_neg (by omega), if_neg h1]
  rw [show j.val - 256 - 256 = j.val - 512 by omega, show j.val - 512 - 256 = j.val - 768 by omega]
  by_cases h2 : j.val < 768
  · rw [dif_pos (by omega), if_pos h2]
  · rw [dif_neg (by omega), if_neg h2]
    exact mul_comm _ _

end Cert.RefValue
-- ==== Proof.Equal.lean ====
module
public import proofs.«01_k».proof.Defs
public import proofs.«01_k».proof.Proof.KernelTaps
public import proofs.«01_k».proof.Proof.RefConv
public import Idealize.ShloMosaic.Lib.Claim

/-! # The kernel and the reference compute the same gradients

The kernel's four arrays and the reference's four results are the same functions of the arguments' elements, on the
four diagonal blocks of the second and everywhere of the others. -/

@[expose] public section
set_option maxRecDepth 16384
noncomputable section
namespace Cert.Equal
open Cert.Rows Idealize.ShloMosaic Idealize.SL.Sem

instance facts : Cert.On_blocks.Facts where
  bcast_S_S256 := by decide
  bcast_S_S8192x1024 := by decide
  bcast_S256_S256x1_0 := by decide
  bcast_S256_S1x256_1 := by decide
  bcast_S256x1_S256x256_0_1 := by decide
  bcast_S1x256_S256x256_0_1 := by decide
  bcast_S_S1x256 := by decide
  bcast_S_S3x256 := by decide

/-- The word the mask compares is the lane's group. -/
theorem group_word : ∀ i : Fin 256, IntOp.divsi ArithUnit.host (BitVec.ofNat 32 i.val) 64#32 = BitVec.ofNat 32 (i.val / 64) := by
  decide +kernel

/-- Where the mask is set, the row and the column lie in one group. -/
theorem mask_group {a0 : FVec Ideal Cert.On_blocks.S8192x2304 .f32} {a1 a2 a3 a4 a5} (i j : Fin 256)
    (h : (Cert.On_blocks.fn (F := Ideal) a0 a1 a2 a3 a4 a5).2.1 (ix2 i j) = 1#1) : i.val / 64 = j.val / 64 := by
  unfold Cert.On_blocks.fn at h
  dsimp only at h
  revert h
  pointwise []
  rw [group_word, group_word]
  have hw := Spec.cmp_word ⟨i.val / 64, by omega⟩ ⟨j.val / 64, by omega⟩
  simp only at hw
  rw [hw]
  intro h
  by_contra hn
  rw [if_neg hn] at h
  exact absurd h (by decide)

/-- The reference leaves its arguments unchanged, and it has no counter. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

theorem algebraic : Cert.algebraic_KernelIdeal_ReferenceIdeal_on_blocks := by
  intro m g m' g' _ hagree
  refine ⟨_, _, _, _, (θ_run Cert.KernelIdeal.defs _ _).mono (fun r h c =>
      ⟨fun i _ => congrFun ((h c).1.trans (Cert.KernelValue.final10 m c)) i,
       fun i _ => congrFun ((h c).2.1.trans (Cert.KernelValue.final11 m c)) i,
       fun i _ => congrFun ((h c).2.2.1.trans (Cert.KernelValue.final12 m c)) i,
       fun i _ => congrFun ((h c).2.2.2.1.trans (Cert.KernelValue.final13 m c)) i,
       (h c).2.2.2.2⟩) (Cert.KernelIdeal.Value.run_blocks m g),
    (θ_run Cert.ReferenceIdeal.defs _ _).mono (fun r h c => ?_) (Cert.ReferenceIdeal.Value.run m' g')⟩
  obtain ⟨h0, h1, h2, h3, hargs⟩ := h c
  obtain ⟨a0, a1, a2, a3, a4, a5⟩ := hagree c
  have e0 : StableHlo.launchContents m' c (Proc.devRef .tc Cert.ReferenceIdeal.main_arg0)
      = m ((c.tc : Thread Cert.KernelIdeal.nD Cert.KernelIdeal.τ).loc Cert.KernelIdeal.main_arg0) := a0
  have e1 : StableHlo.launchContents m' c (Proc.devRef .tc Cert.ReferenceIdeal.main_arg1)
      = m ((c.tc : Thread Cert.KernelIdeal.nD Cert.KernelIdeal.τ).loc Cert.KernelIdeal.main_arg1) := a1
  have e2 : StableHlo.launchContents m' c (Proc.devRef .tc Cert.ReferenceIdeal.main_arg2)
      = m ((c.tc : Thread Cert.KernelIdeal.nD Cert.KernelIdeal.τ).loc Cert.KernelIdeal.main_arg2) := a2
  have e3 : StableHlo.launchContents m' c (Proc.devRef .tc Cert.ReferenceIdeal.main_arg3)
      = m ((c.tc : Thread Cert.KernelIdeal.nD Cert.KernelIdeal.τ).loc Cert.KernelIdeal.main_arg3) := a3
  have e4 : StableHlo.launchContents m' c (Proc.devRef .tc Cert.ReferenceIdeal.main_arg4)
      = m ((c.tc : Thread Cert.KernelIdeal.nD Cert.KernelIdeal.τ).loc Cert.KernelIdeal.main_arg4) := a4
  have e5 : StableHlo.launchContents m' c (Proc.devRef .tc Cert.ReferenceIdeal.main_arg5)
      = m ((c.tc : Thread Cert.KernelIdeal.nD Cert.KernelIdeal.τ).loc Cert.KernelIdeal.main_arg5) := a5
  refine ⟨fun i _ => ?_, fun i hi => ?_, fun i _ => ?_, fun i _ => ?_, hargs⟩
  · rw [h0, Cert.ReferenceIdeal.Read.val_main_v184_eq]
    rw [e0, e1, e2, e3, e4, e5, eq_ix2 i]
    exact Cert.RefValue.dx_at _ _ _ _ _ _ _ _
  · rw [h1, Cert.ReferenceIdeal.Read.val_main_v187_eq]
    rw [e0, e1, e4, eq_ix2 i]
    rw [eq_ix2 i] at hi
    exact Cert.RefValue.dW_block _ _ _ _ _ (mask_group _ _ hi)
  · rw [h2, Cert.ReferenceIdeal.Read.val_main_v188_eq]
    rw [e0, e1, e3, eq_ix2 i]
    exact Cert.RefValue.ds_row _ _ _ _ _
  · rw [h3, Cert.ReferenceIdeal.Read.val_main_v124_eq]
    rw [e0, e2, eq_ix2 i]
    exact Cert.RefValue.dw_at _ _ _ _

end Cert.Equal
-- ==== Proof.Stores.lean ====
module
public import Idealize.ShloMosaic.Lib.Pipeline.TableIdle
public import Idealize.ShloMosaic.Lib.Pipeline.ValueKit

/-! # A store of a whole buffer -/

@[expose] public section
noncomputable section
namespace Cert.Stores
open Idealize.ShloMosaic Idealize.ShloMosaic.TcCoe

/-- A store of a whole buffer leaves its payload. -/
theorem read_store {F : FTy → Type} [FloatOps F] {sig : RefSig} {S : Shape} {e : EltTy} {sp : Space} (v : View sig .tc sp S e) (f : v.ty.Contents (Elt F))
    {off : Fin S.rank → Nat} (inb : ∀ a, off a + S.size a ≤ S.size a) (w : S.Idx → Elt F e) (L : List (View.Piece (Elt F) S e)) (h : ∀ a, off a = 0) :
    v.read (Elt F) (v.writes (Elt F) f ((⟨Rect.unit off S.size inb, w⟩ : View.Piece (Elt F) S e) :: L)) = w := by
  funext y
  have hy : (Rect.unit off S.size inb).emb y = y := by
    have h0 : off = fun _ => 0 := funext h
    subst h0
    exact funext fun a => Fin.ext (by simp [Rect.emb, Rect.unit])
  rw [View.read_writes_apply_eq_canon v f y _ ⟨_, List.mem_cons_self, by
    exact hy ▸ (Rect.unit off S.size inb).idx_mem y⟩]
  exact congrFun (View.canon_cons_unit_lit inb w L h) y

end Cert.Stores
-- ==== Proof.Mlp.lean ====
module
public import proofs.«01_k».proof.Proof.Rows
public import proofs.«01_k».proof.Proof.Stores
public import proofs.«01_k».proof.Proof.Gen.Kernel2Ideal.Frame
public import proofs.«01_k».proof.Proof.Gen.Kernel2Ideal.Skeleton
public import proofs.«01_k».proof.Proof.Gen.Kernel2
public import Idealize.ShloMosaic.Lib.Pipeline.TableIdle
public import proofs.«01_k».proof.Defs
public import Idealize.ShloMosaic.Lib.Pipeline.ValueKit

/-! # The call for the gradient of the feed-forward layer: its run

One block of 1024 tokens is worked on in eight points, each with 512 hidden lanes. The first of the eight clears the sum that it
adds into, and writes the scaled gradient; the seven others find both as the point before left them. -/

@[expose] public section
set_option maxRecDepth 16384
noncomputable section
namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen
open Cert.Stores (read_store)

variable {F : FTy → Type} [FloatOps F]
variable (m : (ℓ : Loc nD τ sig) → Buf (Elt F) ℓ) (ρ : Dev nD → PrngReg)

/-- The condition of the body's branch: the second coordinate is zero. -/
abbrev isFirst (i : grid0.Coords) : Prop := (Scalar.cmpi .ne (Scalar.extui (Scalar.cmpi .eq (BitVec.ofNat 32 (i 1).val) 0#32)) 0#32) = 1#1
/-- It holds at the points that are multiples of eight. -/
theorem isFirst_iff : ∀ t : Fin cfg0.N, isFirst (grid0.coords t) ↔ t.val % 8 = 0 := (by decide +kernel : ∀ t : Fin grid0.N, _)

variable (c : Dev nD) (i : grid0.Coords)
  (a2 : Memref sig .tc .vmem S1024x1024 .f32) (h2 : a2.IsWhole) (a3 : Memref sig .tc .vmem S1024x512 .bf16) (h3 : a3.IsWhole)
  (a4 : Memref sig .tc .vmem S1x1024 .f32) (h4 : a4.IsWhole) (a5 : Memref sig .tc .vmem S1x1x1024x512 .bf16) (h5 : a5.IsWhole)
  (a6 : Memref sig .tc .vmem S1x1x512x1024 .bf16) (h6 : a6.IsWhole) (a7 : Memref sig .tc .vmem S1024x1024 .f32) (h7 : a7.IsWhole)
  (a8 : Memref sig .tc .vmem S1024x512 .bf16) (h8 : a8.IsWhole) (a9 : Memref sig .tc .vmem S1024x512 .bf16) (h9 : a9.IsWhole)
  (a10 : Memref sig .tc .vmem S1024x1024 .bf16) (h10 : a10.IsWhole)
  (x0 : Vec F S1024x1024 .f32) (x1 : Vec F S1024x512 .bf16) (x2 : Vec F S1x1024 .f32) (x3 : Vec F S1x1x1024x512 .bf16)
  (x4 : Vec F S1x1x512x1024 .bf16) (y5 : Vec F S1024x1024 .f32) (y8 : Vec F S1024x1024 .bf16)
  (E : Set ℕ) (K : PUnit → sProp (MT nD τ sig Unit (Elt F) ℕ (UR sig nD τ) ℕ))

include h2 h3 h4 h5 h6 in
set_option maxHeartbeats 1000000 in
/-- The body at the first point of a block. -/
theorem body_first (hc : isFirst i) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
      (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
        owns (c : Thread nD τ) a7 fullShare (k0_pay1 (k0_pay7 k0_pay3) (k0_pay8 x0 x2 x1 x4 x3)) ∗ owns (c : Thread nD τ) a8 fullShare (k0_pay6 x0 x2 x1 x4)
        ∗ owns (c : Thread nD τ) a9 fullShare (k0_pay5 x1) ∗ owns (c : Thread nD τ) a10 fullShare (k0_pay2 x0 x2)) -∗ K ⟨⟩))
    ⊢ wp frame (wpE (defs₀ (F := F)) Variants.none c none) E (cc0_b_mlp i a2 h2 a3 h3 a4 h4 a5 h5 a6 h6 a7 h7 a8 h8 a9 h9 a10 h10) K := by
  simp only [cc0_b_mlp_eq_skeleton, k0_part1_eq_skeleton]; unfold cc0_b_mlp_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := h2.eq_unread hf0; obtain rfl := h3.eq_unread hf1; obtain rfl := h4.eq_unread hf2; obtain rfl := h5.eq_unread hf3; obtain rfl := h6.eq_unread hf4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; swap; · iexact H5
    ipureintro; refine (read_store _ _ _ _ _ (by decide)).trans ?_; frame_out
  isplitl [H6]
  · iexists _; isplitr; swap; · iexact H6
    ipureintro; refine (read_store _ _ _ _ _ (by decide)).trans ?_; frame_out
  isplitl [H7]
  · iexists _; isplitr; swap; · iexact H7
    ipureintro; refine (read_store _ _ _ _ _ (by decide)).trans ?_; frame_out
  iexists _; isplitr; swap; · iexact H8
  ipureintro; refine (read_store _ _ _ _ _ (by decide)).trans ?_; frame_out

include h2 h3 h4 h5 h6 h7 h10 in
set_option maxHeartbeats 1000000 in
/-- The body at another point of a block. -/
theorem body_later (hc : ¬isFirst i) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
      owns (c : Thread nD τ) a7 fullShare y5 ∗ (∃ d, owns (c : Thread nD τ) a8 fullShare d) ∗ (∃ d, owns (c : Thread nD τ) a9 fullShare d) ∗ owns (c : Thread nD τ) a10 fullShare y8
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
        owns (c : Thread nD τ) a7 fullShare (k0_pay1 (k0_pay7 y5) (k0_pay8 x0 x2 x1 x4 x3)) ∗ owns (c : Thread nD τ) a8 fullShare (k0_pay6 x0 x2 x1 x4)
        ∗ owns (c : Thread nD τ) a9 fullShare (k0_pay5 x1) ∗ owns (c : Thread nD τ) a10 fullShare (y8)) -∗ K ⟨⟩))
    ⊢ wp frame (wpE (defs₀ (F := F)) Variants.none c none) E (cc0_b_mlp i a2 h2 a3 h3 a4 h4 a5 h5 a6 h6 a7 h7 a8 h8 a9 h9 a10 h10) K := by
  simp only [cc0_b_mlp_eq_skeleton, k0_part1_eq_skeleton]; unfold cc0_b_mlp_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h10.eq_unread hf8
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; swap; · iexact H5
    ipureintro; refine (read_store _ _ _ _ _ (by decide)).trans ?_; frame_out
  isplitl [H6]
  · iexists _; isplitr; swap; · iexact H6
    ipureintro; refine (read_store _ _ _ _ _ (by decide)).trans ?_; frame_out
  isplitl [H7]
  · iexists _; isplitr; swap; · iexact H7
    ipureintro; refine (read_store _ _ _ _ _ (by decide)).trans ?_; frame_out
  iexists _; isplitr; · ipureintro; exact h10.read_unread _
  iexact H8

/-! ## What the outputs hold after each point -/

/-- What the running sum holds after the body at position `n`. -/
def acc (c : Dev nD) : (n : ℕ) → n < cfg0.N → Vec F S1024x1024 .f32
  | 0, hn => k0_pay1 (k0_pay7 k0_pay3) (k0_pay8 (iblk m c 0 ⟨0, hn⟩) (iblk m c 2 ⟨0, hn⟩) (iblk m c 1 ⟨0, hn⟩) (X0_4 m c ⟨0, hn⟩) (X0_3 m c ⟨0, hn⟩))
  | n + 1, hn =>
    if (n + 1) % 8 = 0 then
      k0_pay1 (k0_pay7 k0_pay3) (k0_pay8 (iblk m c 0 ⟨n + 1, hn⟩) (iblk m c 2 ⟨n + 1, hn⟩) (iblk m c 1 ⟨n + 1, hn⟩) (X0_4 m c ⟨n + 1, hn⟩) (X0_3 m c ⟨n + 1, hn⟩))
    else
      k0_pay1 (k0_pay7 (acc c n (Nat.lt_of_succ_lt hn)))
        (k0_pay8 (iblk m c 0 ⟨n + 1, hn⟩) (iblk m c 2 ⟨n + 1, hn⟩) (iblk m c 1 ⟨n + 1, hn⟩) (X0_4 m c ⟨n + 1, hn⟩) (X0_3 m c ⟨n + 1, hn⟩))

theorem acc_first (c : Dev nD) (t : Fin cfg0.N) (h : t.val % 8 = 0) :
    acc m c t.val t.isLt = k0_pay1 (k0_pay7 k0_pay3) (k0_pay8 (iblk m c 0 t) (iblk m c 2 t) (iblk m c 1 t) (X0_4 m c t) (X0_3 m c t)) := by
  obtain ⟨n, hn⟩ := t
  cases n with
  | zero => exact rfl
  | succ n => exact (if_pos h).trans rfl

theorem acc_later (c : Dev nD) (t : Fin cfg0.N) (h : ¬t.val % 8 = 0) :
    acc m c t.val t.isLt = k0_pay1 (k0_pay7 (acc m c (t.val - 1) (Nat.lt_of_le_of_lt (Nat.sub_le _ _) t.isLt)))
      (k0_pay8 (iblk m c 0 t) (iblk m c 2 t) (iblk m c 1 t) (X0_4 m c t) (X0_3 m c t)) := by
  obtain ⟨n, hn⟩ := t
  cases n with
  | zero => exact absurd (Nat.zero_mod _) h
  | succ n => exact (if_neg h).trans rfl

/-- The first point of the block of rows the point `n` is in. -/
def firstPt (n : ℕ) (hn : n < cfg0.N) : Fin cfg0.N := ⟨8 * (n / 8), Nat.lt_of_le_of_lt (Nat.mul_div_le n 8) hn⟩

/-- What the scaled product's block holds: stored at the first point of a block of rows and kept. -/
def dm (c : Dev nD) (n : ℕ) (hn : n < cfg0.N) : Vec F S1024x1024 .bf16 :=
  k0_pay2 (iblk m c 0 (firstPt n hn)) (iblk m c 2 (firstPt n hn))

theorem dm_first (c : Dev nD) (t : Fin cfg0.N) (h : t.val % 8 = 0) : dm m c t.val t.isLt = k0_pay2 (iblk m c 0 t) (iblk m c 2 t) := by
  have e : firstPt t.val t.isLt = t := Fin.ext (by show 8 * (t.val / 8) = t.val; omega)
  unfold dm; rw [e]

theorem dm_later (c : Dev nD) (t : Fin cfg0.N) (h : ¬t.val % 8 = 0) :
    dm m c (t.val - 1) (Nat.lt_of_le_of_lt (Nat.sub_le _ _) t.isLt) = dm m c t.val t.isLt := by
  have e : firstPt (t.val - 1) (Nat.lt_of_le_of_lt (Nat.sub_le _ _) t.isLt) = firstPt t.val t.isLt :=
    Fin.ext (by show 8 * ((t.val - 1) / 8) = 8 * (t.val / 8); omega)
  unfold dm; rw [e]

/-- The proof data: each input's block, and the four outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => acc m c t.val t.isLt
    | ⟨6, _⟩ => k0_pay6 (iblk m c 0 t) (iblk m c 2 t) (iblk m c 1 t) (X0_4 m c t)
    | ⟨7, _⟩ => k0_pay5 (iblk m c 1 t)
    | ⟨8, _⟩ => dm m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = acc m c t.val t.isLt := by dsimp only [dats]
theorem after_6 (c : Dev nD) (t : Fin cfg0.N) : (dats m 0 c).after 6 t = k0_pay6 (iblk m c 0 t) (iblk m c 2 t) (iblk m c 1 t) (X0_4 m c t) := by dsimp only [dats]
theorem after_7 (c : Dev nD) (t : Fin cfg0.N) : (dats m 0 c).after 7 t = k0_pay5 (iblk m c 1 t) := by dsimp only [dats]
theorem after_8 (c : Dev nD) (t : Fin cfg0.N) : (dats m 0 c).after 8 t = dm m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = X0_3 m c t := before0_3_of m (dats m 0 c) (A_eq m c 3) (after_3 m c) t d
theorem before_4 (c : Dev nD) (t : Fin cfg0.N) (d) : (dats m 0 c).before 4 t d = X0_4 m c t := before0_4_of m (dats m 0 c) (A_eq m c 4) (after_4 m c) t d
theorem before_5 (c : Dev nD) (t : Fin cfg0.N) (h : ¬t.val % 8 = 0) (d) :
    (dats m 0 c).before 5 t d = acc m c (t.val - 1) (Nat.lt_of_le_of_lt (Nat.sub_le _ _) t.isLt) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
/-- At which points the scaled product's block is stored. -/
theorem idle_8 : ∀ t : Fin cfg0.N, cfg0.idle 8 (cfg0.grid.coords t) = !decide (t.val % 8 = 0) := (by decide +kernel : ∀ t : Fin grid0.N, idle0 8 (grid0.coords t) = !decide (t.val % 8 = 0))
/-- Its buffer holds nothing of this call's at the first point of a block of rows only. -/
theorem fresh_8 : ∀ n, n ≤ cfg0.N → cfg0.fresh 8 n = decide (n % 8 = 0) :=
  cfg0.fresh_tab 8 (fun n => decide (n % 8 = 0)) rfl fun t => by
    rw [idle_8 t]
    have hf := flush0_8 t
    cases h : (cfg0.win 8).flush t
    · have : ¬t.val % 8 = 7 := fun e => Bool.false_ne_true (h.symm.trans (hf.mpr e))
      have e : ¬(t.val + 1) % 8 = 0 := by omega
      simp only [e, Bool.false_or]
      by_cases h0 : t.val % 8 = 0 <;> simp [h0]
    · have : (t.val + 1) % 8 = 0 := by have := hf.mp h; omega
      simp only [this, Bool.true_or, decide_true]
theorem before_8 (c : Dev nD) (t : Fin cfg0.N) (h : ¬t.val % 8 = 0) (d) : (dats m 0 c).before 8 t d = dm m c t.val t.isLt := by
  rw [(dats m 0 c).before_out_traj 8 rfl (fun _ _ => rfl) (fun t _ hi _ => by
    rw [after_8, after_8]
    refine (dm_later m c t fun h0 => ?_).symm
    rw [idle_8 t, h0] at hi
    exact Bool.false_ne_true hi) t.val t rfl d, fresh_8 t.val t.isLt.le]
  simp only [h, decide_false, Bool.false_eq_true, if_false]
  rw [after_8]
  exact dm_later m c t h

/-- The block handed on: where the point stores nothing and writes nothing back, it is what was found. -/
theorem leaves_8 (c : Dev nD) (t : Fin cfg0.N) :
    owns (c : Thread nD τ) (win0_8.stage (cfg0.slots t 8)) fullShare (dm m c t.val t.isLt) ⊢ (dats m 0 c).leavesExact 8 t := by
  by_cases h : t.val % 8 = 0
  · unfold Dat.leavesExact
    rw [idle_8 t]; simp only [h, decide_true, Bool.not_true]
    exact .rfl
  · cases hf : (cfg0.win 8).flush t
    · rw [Dat.leavesExact_idle _ _ _ (by rw [idle_8 t]; simp [h]) hf]
      iintro H
      iexists (dm m c t.val t.isLt)
      rw [before_8 m c t h]
      iexact H
    · unfold Dat.leavesExact
      rw [idle_8 t, hf]; simp only [h, decide_false, Bool.not_false]
      exact .rfl

/-! ## The body at every point -/

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (dats m 0 c).leavesExact 8 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 8 = 0
  · rw [acc_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ (iblk m c 0 t) (iblk m c 1 t) (iblk m c 2 t) (X0_3 m c t) (X0_4 m c t) Set.univ _ ((isFirst_iff t).mpr h0))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply leaves_8 m c t
    rw [dm_first m c t h0]
    iexact H8
  · simp only [before_5 m c t h0, before_8 m c t h0]
    rw [acc_later m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_later c (grid0.coords t) _ _ _ _ _ _ _ _ _ _ _ _ _ _ _ _ _ _ (iblk m c 0 t) (iblk m c 1 t) (iblk m c 2 t) (X0_3 m c t) (X0_4 m c t) _ _ Set.univ _ (fun h => h0 ((isFirst_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply leaves_8 m c t
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
/-- The launch ends with every array at what the proof data say and no counter left. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

theorem frame_ideal : Cert.quiescent_Kernel2Ideal := fun m ρ _ => frame m ρ

/-- The two programs' tables of bodies are the same. -/
theorem defs₀_eq : Cert.Kernel2.defs₀ (F := Bits) = Cert.Kernel2Ideal.defs₀ (F := Bits) := by
  unfold Cert.Kernel2.defs₀ Cert.Kernel2Ideal.defs₀
  refine congrArg _ ?_
  funext l a
  match l, a with
  | 0, (t, s) => rfl
  | ⟨_ + 1, h⟩, _ => exact absurd h (Nat.not_lt.2 (Nat.le_add_left _ _))
theorem defs_eq : Cert.Kernel2.defs (F := Bits) = Cert.Kernel2Ideal.defs (F := Bits) := congrArg (Pipeline.defs _) defs₀_eq

theorem frame_kernel : Cert.quiescent_Kernel2 := fun m ρ _ => by
  have h := frame (F := Bits) m ρ
  rw [← defs_eq] at h
  exact h

end Cert.Mlp
-- ==== Proof.MlpValue.lean ====
module
public import proofs.«01_k».proof.Proof.Mlp
public import proofs.«01_k».proof.Proof.Gen.Reference2Ideal.Read
public import Idealize.ShloMosaic.Lib.Claim
public import Idealize.ShloMosaic.Lib.Pipeline.Value

/-! # What the call for the gradient of the feed-forward layer leaves

The gradient of the layer's input is added up over eight ranges of 512 hidden lanes; the gradient of the hidden lanes, their
activation and the scaled gradient are each written block by block. -/

@[expose] public section
set_option maxRecDepth 16384
noncomputable section
namespace Cert.Mlp
open Idealize.ShloMosaic Idealize.ShloMosaic.TcCoe Idealize.SL.Sem
open Idealize.ShloMosaic.Pipeline (Dat)
open Cert.Kernel2Ideal Cert.Kernel2Ideal.Gen Cert.Rows
variable (m : (ℓ : Loc nD τ sig) → Buf (Elt Ideal) ℓ) (c : Dev nD)

/-- The hidden values are the reference's. -/
theorem V_v3 (r : Fin 8192) (j : Fin 4096) : V m c main_v3 (ix2 r j)
    = Cert.Reference2Ideal.Read.val_main_v2 (F := Ideal) (m ((c : Thread nD τ).loc main_arg1)) (m ((c : Thread nD τ).loc main_arg3)) (ix2 r j) := by
  simp only [V, hostOps0, hostOps0_1, hostOps0_2, List.flatten_cons, List.flatten_nil, List.append_nil, List.cons_append, List.nil_append]
  entry_read
  rfl

/-- The packed weights are the four parts, stacked. -/
theorem V_v12 : ∃ (u : (⟨S2x4x256x1024, .f32⟩ : BufTy).Contents (Elt Ideal)) (w : (⟨S2x4x592x1024, .f32⟩ : BufTy).Contents (Elt Ideal)),
    V m c main_v12 = (truncf (F := Ideal) .bf16 (concatenate S2x4x2896x1024 2 [⟨S2x4x1024x1024, (V m c main_v5 : (⟨S2x4x1024x1024, .f32⟩ : BufTy).Contents (Elt Ideal))⟩, ⟨S2x4x1024x1024, (V m c main_v9 : (⟨S2x4x1024x1024, .f32⟩ : BufTy).Contents (Elt Ideal))⟩,
    ⟨S2x4x256x1024, u⟩, ⟨S2x4x592x1024, w⟩] concatenates_S2x4x1024x1024_S2x4x1024x1024_S2x4x256x1024_S2x4x592x1024_S2x4x2896x1024_d2) bitsLt_bf16_f32
      : (⟨S2x4x2896x1024, .bf16⟩ : BufTy).Contents (Elt Ideal)) := by
  have e : (List.flatten [hostOps0, hostOps0_1, hostOps0_2] : List (HloOp τ sig (Elt Ideal)))
      = (hostOps0 ++ (hostOps0_1 ++ hostOps0_2.take 2)) ++ hostOps0_2.drop 2 := rfl
  have h : ∀ b : Ref sig .tc, V m c b = StableHlo.after (hostOps0_2.drop 2) (StableHlo.after (hostOps0 ++ (hostOps0_1 ++ hostOps0_2.take 2)) (fun b => m (c, b))) b :=
    fun b => (congrArg (fun L => StableHlo.after L (fun b => m (c, b)) b) e).trans (congrFun (StableHlo.after_append _ _ _) _)
  rw [h main_v12, h main_v5, h main_v9]
  generalize StableHlo.after (hostOps0 ++ (hostOps0_1 ++ hostOps0_2.take 2)) (fun b => m (c, b)) = σ
  refine ⟨σ main_v10, σ main_v8, ?_⟩
  have h5 : StableHlo.after (hostOps0_2.drop 2) σ main_v5 = σ main_v5 := by
    simp only [hostOps0_2, List.drop_succ_cons, List.drop_zero, StableHlo.after_cons, StableHlo.after_nil]
    exact (StableHlo.unary_result_ne _ _ _ _ _ _ (r := main_v5) (by decide)).trans (StableHlo.nary_result_ne _ _ _ _ _ _ (r := main_v5) (by decide))
  have h9 : StableHlo.after (hostOps0_2.drop 2) σ main_v9 = σ main_v9 := by
    simp only [hostOps0_2, List.drop_succ_cons, List.drop_zero, StableHlo.after_cons, StableHlo.after_nil]
    exact (StableHlo.unary_result_ne _ _ _ _ _ _ (r := main_v9) (by decide)).trans (StableHlo.nary_result_ne _ _ _ _ _ _ (r := main_v9) (by decide))
  rw [h5, h9]
  simp only [hostOps0_2, List.drop_succ_cons, List.drop_zero, StableHlo.after_cons, StableHlo.after_nil]
  exact (StableHlo.unary_result _ _ _ _ _ _).trans (congrArg (truncf (F := Ideal) .bf16 · bitsLt_bf16_f32) (StableHlo.nary_result _ _ _ _ _ _))

/-- The first weight, its columns cut into four. -/
theorem V_v5 (p : Fin 4) (r : Fin 1024) (j : Fin 1024) : V m c main_v5 (ix4 0 p r j)
    = m ((c : Thread nD τ).loc main_arg3) (ix3 0 r ⟨1024 * p + j, by omega⟩) := by
  simp only [V, hostOps0, hostOps0_1, hostOps0_2, List.flatten_cons, List.flatten_nil, List.append_nil, List.cons_append, List.nil_append]
  entry_read
  pointwise []
  exact congrArg (fun k => m ((c : Thread nD τ).loc main_arg3) (ix3 0 r k)) (Fin.ext (by show p.val * 1024 + j.val = 1024 * p.val + j.val; omega))

/-- The second weight, its rows cut into four. -/
theorem V_v9 (p : Fin 4) (r : Fin 1024) (j : Fin 1024) : V m c main_v9 (ix4 0 p r j)
    = m ((c : Thread nD τ).loc main_arg4) (ix3 0 ⟨1024 * p + r, by omega⟩ j) := by
  simp only [V, hostOps0, hostOps0_1, hostOps0_2, List.flatten_cons, List.flatten_nil, List.append_nil, List.cons_append, List.nil_append]
  entry_read
  pointwise []
  exact congrArg (fun k => m ((c : Thread nD τ).loc main_arg4) (ix3 0 k j)) (Fin.ext (by show p.val * 1024 + r.val = 1024 * p.val + r.val; omega))

/-- The packed weights, the rows of the first weight. -/
theorem V_w1 (p : Fin 4) (r : Fin 1024) (j : Fin 1024) : V m c main_v12 (ix4 0 p ⟨r, by omega⟩ j)
    = m ((c : Thread nD τ).loc main_arg3) (ix3 0 r ⟨1024 * p + j, by omega⟩) := by
  obtain ⟨u, w, e⟩ := V_v12 m c
  refine Eq.trans ?_ (V_v5 m c p r j)
  rw [e]
  generalize V m c main_v5 = a
  generalize V m c main_v9 = b
  pointwise []

/-- The packed weights, the rows of the second weight. -/
theorem V_w2 (p : Fin 4) (r : Fin 1024) (j : Fin 1024) : V m c main_v12 (ix4 0 p ⟨1024 + r, by omega⟩ j)
    = m ((c : Thread nD τ).loc main_arg4) (ix3 0 ⟨1024 * p + r, by omega⟩ j) := by
  obtain ⟨u, w, e⟩ := V_v12 m c
  refine Eq.trans ?_ (V_v9 m c p r j)
  rw [e]
  generalize V m c main_v5 = a
  generalize V m c main_v9 = b
  pointwise []

theorem idx : ∀ t : Fin cfg0.N, win0_0.index t = ![t.val / 8, 0] ∧ win0_1.index t = ![t.val / 8, t.val % 8] ∧ win0_2.index t = ![0, 0]
    ∧ win0_3.index t = ![0, t.val % 8 / 2, 0, t.val % 8 % 2] ∧ win0_4.index t = ![0, t.val % 8 / 2, 2 + t.val % 8 % 2, 0]
    ∧ win0_5.index t = ![t.val / 8, 0] ∧ win0_6.index t = ![t.val / 8, t.val % 8] ∧ win0_7.index t = ![t.val / 8, t.val % 8] ∧ win0_8.index t = ![t.val / 8, 0] :=
  (by decide +kernel : ∀ t : Fin grid0.N, _)

/-- The gradient that comes in, the hidden values, the scale and the two weights. -/
abbrev D : (⟨2, ![8192, 1024]⟩ : Shape).Idx → EReal := m ((c : Thread nD τ).loc main_arg0)
abbrev H : (⟨2, ![8192, 4096]⟩ : Shape).Idx → EReal := V m c main_v3
abbrev G : (⟨2, ![1, 1024]⟩ : Shape).Idx → EReal := m ((c : Thread nD τ).loc main_arg2)
abbrev W1 : (⟨3, ![2, 1024, 4096]⟩ : Shape).Idx → EReal := m ((c : Thread nD τ).loc main_arg3)
abbrev W2 : (⟨3, ![2, 4096, 1024]⟩ : Shape).Idx → EReal := m ((c : Thread nD τ).loc main_arg4)

theorem d_at (t : Fin cfg0.N) (k j : Fin 1024) : (iblk m c 0 t) (ix2 k j) = at2 (D m c) (1024 * (t.val / 8) + k) j := by
  have ht : t.val < 64 := lt_of_lt_of_eq t.isLt N_0
  refine Eq.trans ?_ (at2_mk (D m c) ⟨1024 * (t.val / 8) + k, by omega⟩ ⟨j, by omega⟩)
  refine Eq.trans ?_ (congrFun (V_main_arg0 m c) _)
  blk_simp [iblk]
  refine congrArg (V m c main_arg0) ?_
  blk_ext [idx t]

theorem h_at (t : Fin cfg0.N) (k : Fin 1024) (s : Fin 512) :
    (iblk m c 1 t) (ix2 k s) = at2 (H m c) (1024 * (t.val / 8) + k) (512 * (t.val % 8) + s) := by
  have ht : t.val < 64 := lt_of_lt_of_eq t.isLt N_0
  refine Eq.trans ?_ (at2_mk (H m c) ⟨1024 * (t.val / 8) + k, by omega⟩ ⟨512 * (t.val % 8) + s, by omega⟩)
  blk_simp [iblk]
  refine congrArg (H m c) ?_
  blk_ext [idx t]

theorem g_at (t : Fin cfg0.N) (u : Fin 1) (j : Fin 1024) : (iblk m c 2 t) (ix2 u j) = at2 (G m c) 0 j := by
  refine Eq.trans ?_ (at2_mk (G m c) 0 j)
  refine Eq.trans ?_ (congrFun (V_main_arg2 m c) _)
  blk_simp [iblk]
  refine congrArg (V m c main_arg2) ?_
  blk_ext [idx t]

theorem w1_at (t : Fin cfg0.N) (u v : Fin 1) (j : Fin 1024) (s : Fin 512) :
    (X0_3 m c t) (ix4 u v j s) = at3 (W1 m c) 0 j (512 * (t.val % 8) + s) := by
  unfold X0_3 Pipeline.Window.fill
  rw [dif_pos (moved0_3 t _)]
  have ht : t.val < 64 := lt_of_lt_of_eq t.isLt N_0
  refine Eq.trans ?_ ((V_w1 m c ⟨t.val % 8 / 2, by omega⟩ j ⟨512 * (t.val % 8 % 2) + s, by omega⟩).trans ?_)
  · blk_simp [iblk]
    refine congrArg (V m c main_v12) ?_
    blk_ext [idx t]
  · refine Eq.trans ?_ (at3_mk (W1 m c) 0 j ⟨512 * (t.val % 8) + s, by omega⟩)
    refine congrArg (fun n => W1 m c (ix3 0 j n)) (Fin.ext ?_)
    show 1024 * (t.val % 8 / 2) + (512 * (t.val % 8 % 2) + s.val) = 512 * (t.val % 8) + s.val
    omega

theorem w2_at (t : Fin cfg0.N) (u v : Fin 1) (s : Fin 512) (j : Fin 1024) :
    (X0_4 m c t) (ix4 u v s j) = at3 (W2 m c) 0 (512 * (t.val % 8) + s) j := by
  unfold X0_4 Pipeline.Window.fill
  rw [dif_pos (moved0_4 t _)]
  have ht : t.val < 64 := lt_of_lt_of_eq t.isLt N_0
  refine Eq.trans ?_ ((V_w2 m c ⟨t.val % 8 / 2, by omega⟩ ⟨512 * (t.val % 8 % 2) + s, by omega⟩ j).trans ?_)
  · blk_simp [iblk]
    refine congrArg (V m c main_v12) ?_
    blk_ext [idx t]
  · refine Eq.trans ?_ (at3_mk (W2 m c) 0 ⟨512 * (t.val % 8) + s, by omega⟩ j)
    refine congrArg (fun n => W2 m c (ix3 0 n j)) (Fin.ext ?_)
    show 1024 * (t.val % 8 / 2) + (512 * (t.val % 8 % 2) + s.val) = 512 * (t.val % 8) + s.val
    omega

end Cert.Mlp
-- ==== Proof.MlpEqual.lean ====
module
public import proofs.«01_k».proof.Proof.MlpValue
public import proofs.«01_k».proof.Defs
public import Idealize.ShloMosaic.Lib.Pipeline.ValueKit

/-! # The call for the gradient of the feed-forward layer is the reference's gradient

The block's payloads at an index, the running sum over the ranges of hidden lanes, the four arrays the call leaves, and the
reference's four results. -/

@[expose] public section
set_option maxRecDepth 16384
noncomputable section
namespace Cert.Mlp
open Idealize.ShloMosaic Idealize.ShloMosaic.TcCoe Idealize.SL.Sem
open Idealize.ShloMosaic.Pipeline (Dat)
open Cert.Kernel2Ideal Cert.Kernel2Ideal.Gen Cert.Rows
variable (m : (ℓ : Loc nD τ sig) → Buf (Elt Ideal) ℓ) (c : Dev nD)

/-- The scaled gradient, the hidden lanes' gradient and activation, and the gradient of the layer's input. -/
def DM (r j : ℕ) : EReal := at2 (D m c) r j * at2 (G m c) 0 j
def DA (r s : ℕ) : EReal := (∑ j : Fin 1024, DM m c r j * at3 (W2 m c) 0 s j) * (Ideal.ofBits .f32 1073741824#32 * max (at2 (H m c) r s) 0)
def ACT (r s : ℕ) : EReal := max (at2 (H m c) r s) 0 * max (at2 (H m c) r s) 0
def DV (r k : ℕ) : EReal := ∑ s : Fin 4096, DA m c r s * at3 (W1 m c) 0 k s

theorem pay2_at (t : Fin cfg0.N) (k j : Fin 1024) :
    k0_pay2 (F := Ideal) (iblk m c 0 t) (iblk m c 2 t) (ix2 k j) = DM m c (1024 * (t.val / 8) + k) j := by
  unfold DM
  pointwise [k0_pay2, d_at, g_at]

theorem pay5_at (t : Fin cfg0.N) (k : Fin 1024) (s : Fin 512) :
    k0_pay5 (F := Ideal) (iblk m c 1 t) (ix2 k s) = ACT m c (1024 * (t.val / 8) + k) (512 * (t.val % 8) + s) := by
  unfold ACT
  pointwise [k0_pay5, k0_pay4, h_at]

theorem pay6_at (t : Fin cfg0.N) (k : Fin 1024) (s : Fin 512) :
    k0_pay6 (F := Ideal) (iblk m c 0 t) (iblk m c 2 t) (iblk m c 1 t) (X0_4 m c t) (ix2 k s)
      = DA m c (1024 * (t.val / 8) + k) (512 * (t.val % 8) + s) := by
  unfold DA
  pointwise [k0_pay6, k0_pay4, pay2_at, h_at, w2_at]

theorem pay8_at (t : Fin cfg0.N) (k j : Fin 1024) :
    k0_pay8 (F := Ideal) (iblk m c 0 t) (iblk m c 2 t) (iblk m c 1 t) (X0_4 m c t) (X0_3 m c t) (ix2 k j)
      = ∑ s : Fin 512, DA m c (1024 * (t.val / 8) + k) (512 * (t.val % 8) + s) * at3 (W1 m c) 0 j (512 * (t.val % 8) + s) := by
  pointwise [k0_pay8, pay6_at, w1_at]

theorem reset (t : Fin cfg0.N) (h : t.val % 8 = 0) (y : S1024x1024.Idx) :
    acc m c t.val t.isLt y = 0 + ∑ s : Fin 512, DA m c (1024 * (t.val / 8) + (y 0).val) (512 * (t.val % 8) + s)
      * at3 (W1 m c) 0 (y 1).val (512 * (t.val % 8) + s) := by
  rw [acc_first m c t h]
  pointwise [k0_pay1, k0_pay7, k0_pay3]
  exact (congrArg _ (eq_ix2 y)).trans (pay8_at m c t (y 0) (y 1))

theorem step (t : Fin cfg0.N) (h : ¬t.val % 8 = 0) (y : S1024x1024.Idx) :
    acc m c t.val t.isLt y = acc m c (t.val - 1) (Nat.lt_of_le_of_lt (Nat.sub_le _ _) t.isLt) y
      + ∑ s : Fin 512, DA m c (1024 * (t.val / 8) + (y 0).val) (512 * (t.val % 8) + s)
      * at3 (W1 m c) 0 (y 1).val (512 * (t.val % 8) + s) := by
  rw [acc_later m c t h]
  pointwise [k0_pay1, k0_pay7]
  exact congrArg (fun e : EReal => _ + e) ((congrArg _ (eq_ix2 y)).trans (pay8_at m c t (y 0) (y 1)))

theorem acc_at (t : Fin cfg0.N) (h : t.val % 8 = 7) (y : S1024x1024.Idx) :
    acc m c t.val t.isLt y = DV m c (1024 * (t.val / 8) + (y 0).val) (y 1).val := by
  have ht : t.val < 64 := lt_of_lt_of_eq t.isLt N_0
  rw [Pipeline.eq_sum_fin_of_reset_step_apply_of_flush (fun n h => acc m c n h) 8 (fun _ => 0)
    (fun p y => ∑ s : Fin 512, DA m c (1024 * (p.val / 8) + (y 0).val) (512 * (p.val % 8) + s)
      * at3 (W1 m c) 0 (y 1).val (512 * (p.val % 8) + s))
    (reset m c) (step m c) t h y, zero_add]
  refine Eq.trans (Finset.sum_congr rfl fun s _ => ?_)
    (sum_blocks 8 512 fun r => DA m c (1024 * (t.val / 8) + (y 0).val) r * at3 (W1 m c) 0 (y 1).val r)
  have e1 : (8 * (t.val / 8) + s.val) % 8 = s.val := by omega
  have e2 : (8 * (t.val / 8) + s.val) / 8 = t.val / 8 := by omega
  simp only [e1, e2]

theorem dm_at (t : Fin cfg0.N) (y : S1024x1024.Idx) : dm m c t.val t.isLt y = DM m c (1024 * (t.val / 8) + (y 0).val) (y 1).val := by
  unfold dm
  refine (congrArg _ (eq_ix2 y)).trans ((pay2_at m c _ (y 0) (y 1)).trans ?_)
  have e : (firstPt t.val t.isLt).val / 8 = t.val / 8 := by show 8 * (t.val / 8) / 8 = t.val / 8; omega
  rw [e]

theorem final5 (c : Dev nD) : (dats m 0 c).arrAt 5 cfg0.N = fun i => DV m c (i 0).val (i 1).val := by
  refine (dats m 0 c).arrAt_eq_of_covers 5 _ (by decide +kernel) fun t hf y => ?_
  blk_simp
  rw [after_5, acc_at m c t ((flush0_5 t).mp hf)]
  blk_simp [idx t]
  rw [Nat.mul_comm]

theorem final6 (c : Dev nD) : (dats m 0 c).arrAt 6 cfg0.N = fun i => DA m c (i 0).val (i 1).val := by
  refine (dats m 0 c).arrAt_eq_of_covers 6 _ (by decide +kernel) fun t hf y => ?_
  blk_simp
  rw [after_6]
  refine (congrArg _ (eq_ix2 y)).trans ((pay6_at m c t (y 0) (y 1)).trans ?_)
  blk_simp [idx t]
  rw [Nat.mul_comm, Nat.mul_comm 512]

theorem final7 (c : Dev nD) : (dats m 0 c).arrAt 7 cfg0.N = fun i => ACT m c (i 0).val (i 1).val := by
  refine (dats m 0 c).arrAt_eq_of_covers 7 _ (by decide +kernel) fun t hf y => ?_
  blk_simp
  rw [after_7]
  refine (congrArg _ (eq_ix2 y)).trans ((pay5_at m c t (y 0) (y 1)).trans ?_)
  blk_simp [idx t]
  rw [Nat.mul_comm, Nat.mul_comm 512]

theorem final8 (c : Dev nD) : (dats m 0 c).arrAt 8 cfg0.N = fun i => DM m c (i 0).val (i 1).val := by
  refine (dats m 0 c).arrAt_eq_of_covers 8 _ (by decide +kernel) fun t hf y => ?_
  blk_simp
  rw [after_8, dm_at m c t]
  blk_simp [idx t]
  rw [Nat.mul_comm]

/-- The run, with the four results named. -/
theorem run_blocks (g : Dev nD → PrngReg) : θ_run defs (onTc (τ := τ) (main (F := Ideal))) ⟨m, fun _ => 0, g⟩ (fun r => ∀ c : Dev nD,
      r.2.mem ((c.tc : Thread nD τ).loc main_v13_0) = (dats m 0 c).arrAt 5 cfg0.N
      ∧ r.2.mem ((c.tc : Thread nD τ).loc main_v13_1) = (dats m 0 c).arrAt 6 cfg0.N
      ∧ r.2.mem ((c.tc : Thread nD τ).loc main_v13_2) = (dats m 0 c).arrAt 7 cfg0.N
      ∧ r.2.mem ((c.tc : Thread nD τ).loc main_v13_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 5, (h.1 c).1 6, (h.1 c).1 7, (h.1 c).1 8, h.2 c⟩)
    (θ_run_and (run_main m g) (frame_of m g (dats m) (A_eq m) (run_main m g)))

/-- The reference leaves its arguments unchanged, and it has no counter. -/
theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

section reference
open Cert.Reference2Ideal.Read Cert.Reference2Ideal.Gen
variable (x0 x1 : (⟨Cert.Reference2Ideal.S8192x1024, .f32⟩ : BufTy).Contents (Elt Ideal))
  (x2 : (⟨Cert.Reference2Ideal.S1x1024, .f32⟩ : BufTy).Contents (Elt Ideal)) (x3 : (⟨Cert.Reference2Ideal.S2x1024x4096, .f32⟩ : BufTy).Contents (Elt Ideal))
  (x4 : (⟨Cert.Reference2Ideal.S2x4096x1024, .f32⟩ : BufTy).Contents (Elt Ideal))

theorem ref_dm (r : Fin 8192) (j : Fin 1024) : val_main_v16 (F := Ideal) x0 x2 (ix2 r j) = x0 (ix2 r j) * x2 (ix2 0 j) := by
  pointwise [val_main_v16, val_main_v15]
  rw [mul_comm]

theorem ref_act (r : Fin 8192) (s : Fin 4096) : val_main_v7 (F := Ideal) x1 x3 (ix2 r s)
    = max (val_main_v2 (F := Ideal) x1 x3 (ix2 r s)) 0 * max (val_main_v2 (F := Ideal) x1 x3 (ix2 r s)) 0 := by
  generalize hv : val_main_v2 (F := Ideal) x1 x3 = v
  pointwise [val_main_v7, val_main_v3, val_main_call0_v0, val_main_call0_cst, hv]

theorem ref_w2 (s : Fin 4096) (j : Fin 1024) : val_main_v11 (F := Ideal) x4 (ix2 s j) = x4 (ix3 0 s j) := by
  pointwise [val_main_v11, val_main_v10]

theorem ref_w1 (k : Fin 1024) (s : Fin 4096) : val_main_v1 (F := Ideal) x3 (ix2 k s) = x3 (ix3 0 k s) := by
  pointwise [val_main_v1, val_main_v0]

theorem ref_hid (r : Fin 8192) (s : Fin 4096) : val_main_v17 (F := Ideal) x0 x2 x4 (ix2 r s)
    = ∑ j : Fin 1024, x0 (ix2 r j) * x2 (ix2 0 j) * x4 (ix3 0 s j) := by
  pointwise [val_main_v17, ref_dm, ref_w2]

/-- Where the hidden value is not positive its positive part is zero, and so is the product with it. -/
theorem ref_da (r : Fin 8192) (s : Fin 4096) : val_main_v20 (F := Ideal) x0 x1 x2 x3 x4 (ix2 r s)
    = (∑ j : Fin 1024, x0 (ix2 r j) * x2 (ix2 0 j) * x4 (ix3 0 s j)) * (Ideal.ofBits .f32 1073741824#32 * max (val_main_v2 (F := Ideal) x1 x3 (ix2 r s)) 0) := by
  rw [← ref_hid]
  generalize hv : val_main_v2 (F := Ideal) x1 x3 = v
  generalize hq : val_main_v17 (F := Ideal) x0 x2 x4 = q
  pointwise [val_main_v20, val_main_v5, val_main_v4, val_main_cst, val_main_v18, val_main_v9, val_main_v8, val_main_cst_1, val_main_v3, val_main_call0_v0,
    val_main_call0_cst, val_main_v19, val_main_cst_2, hv, hq]
  split
  · rfl
  · next h => rw [max_eq_right (not_lt.mp h), mul_zero, mul_zero]

theorem ref_dv (r : Fin 8192) (k : Fin 1024) : val_main_v21 (F := Ideal) x0 x1 x2 x3 x4 (ix2 r k)
    = ∑ s : Fin 4096, val_main_v20 (F := Ideal) x0 x1 x2 x3 x4 (ix2 r s) * x3 (ix3 0 k s) := by
  pointwise [val_main_v21, ref_w1]

end reference

theorem algebraic : Cert.algebraic_Kernel2Ideal_Reference2Ideal := by
  intro m g m' g' _ hagree
  refine ⟨_, _, _, _, (θ_run Cert.Kernel2Ideal.defs _ _).mono (fun r h c =>
      ⟨(h c).1.trans (final5 m c), (h c).2.1.trans (final6 m c), (h c).2.2.1.trans (final7 m c), (h c).2.2.2.1.trans (final8 m c), (h c).2.2.2.2⟩)
      (run_blocks m g),
    (θ_run Cert.Reference2Ideal.defs _ _).mono (fun r h c => ?_) (Cert.Reference2Ideal.Value.run m' g')⟩
  obtain ⟨h0, h1, h2, h3, hargs⟩ := h c
  obtain ⟨a0, a1, a2, a3, a4, a5, a6⟩ := hagree c
  have eDM : ∀ (r : Fin 8192) (j : Fin 1024), DM m c r j = D m c (ix2 r j) * G m c (ix2 0 j) := fun r j =>
    (congrArg₂ (fun p q : EReal => p * q) (at2_mk (D m c) r j) (at2_mk (G m c) 0 j)).symm
  have eH : ∀ (r : Fin 8192) (s : Fin 4096), at2 (H m c) r s = Cert.Reference2Ideal.Read.val_main_v2 (F := Ideal) (m ((c.tc : Thread nD τ).loc main_arg1)) (m ((c.tc : Thread nD τ).loc main_arg3)) (ix2 r s) := fun r s =>
    (at2_mk (H m c) r s).symm.trans (V_v3 m c r s)
  have eDA : ∀ (r : Fin 8192) (s : Fin 4096), DA m c r s = (∑ j : Fin 1024, D m c (ix2 r j) * G m c (ix2 0 j) * W2 m c (ix3 0 s j))
      * (Ideal.ofBits .f32 1073741824#32 * max (Cert.Reference2Ideal.Read.val_main_v2 (F := Ideal) (m ((c.tc : Thread nD τ).loc main_arg1)) (m ((c.tc : Thread nD τ).loc main_arg3)) (ix2 r s)) 0) := fun r s => by
    unfold DA
    rw [eH]
    exact congrArg (fun e : EReal => e * _) (Finset.sum_congr rfl fun j _ => congrArg₂ (fun p q : EReal => p * q) (eDM r j) (at3_mk (W2 m c) 0 s j).symm)
  refine ⟨?_, ?_, ?_, ?_, hargs⟩
  · refine funext fun i => ?_
    rw [h0, Cert.Reference2Ideal.Read.val_main_v21_eq, a0, a1, a2, a3, a4, eq_ix2 i]
    refine (ref_dv _ _ _ _ _ (i 0) (i 1)).trans (Finset.sum_congr rfl fun s _ => ?_)
    exact congrArg₂ (fun p q : EReal => p * q) ((ref_da _ _ _ _ _ (i 0) s).trans (eDA (i 0) s).symm) (at3_mk (W1 m c) 0 (i 1) s)
  · refine funext fun i => ?_
    rw [h1, Cert.Reference2Ideal.Read.val_main_v22_eq, a0, a1, a2, a3, a4, eq_ix2 i]
    exact (ref_da _ _ _ _ _ (i 0) (i 1)).trans (eDA (i 0) (i 1)).symm
  · refine funext fun i => ?_
    rw [h2, Cert.Reference2Ideal.Read.val_main_v23_eq, a1, a3, eq_ix2 i]
    refine (ref_act _ _ (i 0) (i 1)).trans ?_
    exact (congrArg (fun e : EReal => max e 0 * max e 0) (eH (i 0) (i 1))).symm
  · refine funext fun i => ?_
    rw [h3, Cert.Reference2Ideal.Read.val_main_v24_eq, a0, a2, eq_ix2 i]
    exact (ref_dm _ _ (i 0) (i 1)).trans (eDM (i 0) (i 1)).symm

end Cert.Mlp
-- ==== Proof.Dw1.lean ====
module
public import proofs.«01_k».proof.Proof.Rows
public import proofs.«01_k».proof.Proof.Gen.Kernel3Ideal.Value
public import proofs.«01_k».proof.Proof.Gen.Reference3Ideal.Read
public import proofs.«01_k».proof.Defs
public import Idealize.ShloMosaic.Lib.Pipeline.ValueKit
public import Idealize.ShloMosaic.Lib.Claim

/-! # What the call for the first weight of the feed-forward layer leaves

The call adds up, block of rows by block of rows, the product of the transposed first operand and a column range of the
second; the other layer's part of the array it is given is left as it was. -/

@[expose] public section
set_option maxRecDepth 16384
noncomputable section
namespace Cert.Dw1
open Idealize.ShloMosaic Idealize.ShloMosaic.TcCoe Idealize.SL.Sem
open Idealize.ShloMosaic.Pipeline (Dat)
open Cert.Kernel3Ideal Cert.Kernel3Ideal.Gen Cert.Rows
variable (m : (ℓ : Loc nD τ sig) → Buf (Elt Ideal) ℓ) (c : Dev nD)

/-- The array the call is given, when the call starts. -/
theorem V_v23 : V m c main_v23 = m ((c : Thread nD τ).loc main_arg5) := by
  simp only [V, hostOps0, hostOps0_1, hostOps0_2, List.flatten_cons, List.flatten_nil, List.append_nil, List.cons_append, List.nil_append]
  entry_read
  rfl
/-- The first operand is the layer's normalised input. -/
theorem V_v21 (r : Fin 8192) (j : Fin 1024) : V m c main_v21 (ix2 r j) = m ((c : Thread nD τ).loc main_arg1) (ix2 r j) := by
  simp only [V, hostOps0, hostOps0_1, hostOps0_2, List.flatten_cons, List.flatten_nil, List.append_nil, List.cons_append, List.nil_append]
  entry_read
  rfl
/-- The second operand is the gradient of the hidden lanes, as the reference's lines compute it. -/
theorem V_v22 (r : Fin 8192) (j : Fin 4096) : V m c main_v22 (ix2 r j)
    = Cert.Reference3Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 r j) := by
  simp only [V, hostOps0, hostOps0_1, hostOps0_2, List.flatten_cons, List.flatten_nil, List.append_nil, List.cons_append, List.nil_append]
  entry_read
  rfl

theorem idx : ∀ t : Fin cfg0.N, win0_0.index t = ![t.val % 8, 0] ∧ win0_1.index t = ![t.val % 8, t.val / 8]
    ∧ win0_2.index t = ![0, t.val / 8, 0, 0] :=
  (by decide +kernel : ∀ t : Fin grid0.N, _)

/-- The first operand when the call starts. -/
abbrev A : (⟨2, ![8192, 1024]⟩ : Shape).Idx → EReal := V m c main_v21
/-- The second operand when the call starts. -/
abbrev B : (⟨2, ![8192, 4096]⟩ : Shape).Idx → EReal := V m c main_v22

theorem a_at (t : Fin cfg0.N) (k : Fin 1024) (j : Fin 1024) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) (1024 * (t.val / 8) + j) := by
  have ht : t.val < 32 := lt_of_lt_of_eq t.isLt N_0
  refine Eq.trans ?_ (at2_mk (B m c) ⟨1024 * (t.val % 8) + k, by omega⟩ ⟨1024 * (t.val / 8) + j, by omega⟩)
  blk_simp [iblk]
  refine congrArg (B m c) ?_
  blk_ext [idx t]

theorem prod_at (o : Vec Ideal S1x1024x1024 .f32) (t : Fin cfg0.N) (u : Fin 1) (i j : Fin 1024) :
    k0_pay2 (F := Ideal) o (iblk m c 0 t) (iblk m c 1 t) (ix3 u i j)
      = o (ix3 0 i j) + ∑ k : Fin 1024, at2 (A m c) (1024 * (t.val % 8) + k) i * at2 (B m c) (1024 * (t.val % 8) + k) (1024 * (t.val / 8) + j) := by
  pointwise [k0_pay2, a_at, b_at]

/-- What one element of the first layer's part holds at the end: the sum over all the rows. -/
def W (i j : ℕ) : EReal := ∑ r : Fin 8192, at2 (A m c) r i * at2 (B m c) r j

/-- A payload of the block's shape without its leading axis, stored over the whole block. -/
theorem pay_at {hn} (w : (⟨3, ![1, 1024, 1024]⟩ : Shape).Idx → EReal) (y : S1x1x1024x1024.Idx)
    (x : (((Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl)).shape.Idx))
    (hx : ((Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl)).emb x = y) :
    Rect.payAlong (r := Rect.unit (s := S1x1024x1024) ![0, 0, 0] ![1, 1024, 1024] inb_S1x1024x1024_S1x1024x1024_0_0_0) hn w x = w (ix3 (y 1) (y 2) (y 3)) := by
  refine Rect.payAlong_consLift _ _ rfl (fun _ => rfl) w hn x _ fun i => ?_
  subst hx
  match i with
  | ⟨0, _⟩ => show 0 + 1 * (x 1).val = (x 1).val; omega
  | ⟨1, _⟩ => show 0 + 1 * (x 2).val = (x 2).val; omega
  | ⟨2, _⟩ => show 0 + 1 * (x 3).val = (x 3).val; omega

/-- The block read back without its leading axis. -/
theorem val_at {hn} (f : S1x1x1024x1024.Idx → EReal) (z : (⟨3, ![1, 1024, 1024]⟩ : Shape).Idx) :
    LoadRect.valAlong (lr := (Rect.unit (s := S1x1024x1024) ![0, 0, 0] ![1, 1024, 1024] inb_S1x1024x1024_S1x1024x1024_0_0_0).toLoadRect)
      (LR := (Rect.unit (s := S1x1x1024x1024) ![0, 0, 0, 0] ![1, 1, 1024, 1024] inb_S1x1x1024x1024_S1x1x1024x1024_0_0_0_0).withinL
        ((Rect.unit (s := S1x1024x1024) ![0, 0, 0] ![1, 1024, 1024] inb_S1x1024x1024_S1x1024x1024_0_0_0).toLoadRect.consLift ![1, 1, 1024, 1024] rfl (fun _ => rfl))
        (fun _ => rfl)) hn
      (fun j => f (((Rect.unit (s := S1x1x1024x1024) ![0, 0, 0, 0] ![1, 1, 1024, 1024] inb_S1x1x1024x1024_S1x1x1024x1024_0_0_0_0).withinL
        ((Rect.unit (s := S1x1024x1024) ![0, 0, 0] ![1, 1024, 1024] inb_S1x1024x1024_S1x1024x1024_0_0_0).toLoadRect.consLift ![1, 1, 1024, 1024] rfl (fun _ => rfl))
        (fun _ => rfl)).idx j)) z = f (ix4 0 (z 0) (z 1) (z 2)) := by
  unfold LoadRect.valAlong
  dsimp only
  refine congrArg f (funext fun a => Fin.ext ?_)
  have e : Shape.reshapeEquiv hn z = Fin.cons ⟨0, Nat.one_pos⟩ z := Shape.reshapeEquiv_cons_one (d := ![1, 1024, 1024]) _ _
  rw [e]
  match a with
  | ⟨0, _⟩ => rfl
  | ⟨1, _⟩ => show 0 + 1 * (z 0).val = (z 0).val; omega
  | ⟨2, _⟩ => show 0 + 1 * (z 1).val = (z 1).val; omega
  | ⟨3, _⟩ => show 0 + 1 * (z 2).val = (z 2).val; omega

/-- The last store of the whole block is what is left. -/
theorem last_at {hn} (w : (⟨3, ![1, 1024, 1024]⟩ : Shape).Idx → EReal) (L : List (View.Piece (Elt Ideal) S1x1x1024x1024 .f32)) (y : S1x1x1024x1024.Idx) :
    View.canon (⟨(Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl), Rect.payAlong (r := Rect.unit (s := S1x1024x1024) ![0, 0, 0] ![1, 1024, 1024] inb_S1x1024x1024_S1x1024x1024_0_0_0) hn w⟩ :: L) y = w (ix3 (y 1) (y 2) (y 3)) := by
  have hx : ((Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl)).emb (ix4 0 (y 1) (y 2) (y 3)) = y := by
    refine funext fun a => Fin.ext ?_
    match a with
    | ⟨0, _⟩ => exact congrArg Fin.val (Subsingleton.elim (α := Fin 1) _ _)
    | ⟨1, _⟩ => show 0 + 0 + 1 * (y 1).val = (y 1).val; omega
    | ⟨2, _⟩ => show 0 + 0 + 1 * (y 2).val = (y 2).val; omega
    | ⟨3, _⟩ => show 0 + 0 + 1 * (y 3).val = (y 3).val; omega
  refine (congrArg _ hx.symm).trans ((View.canon_cons_emb _ _ _ _).trans (pay_at w y _ hx))

theorem reset (t : Fin cfg0.N) (h : t.val % 8 = 0) (y : S1x1x1024x1024.Idx) :
    outsAt0 m c t.val t.isLt y = 0 + ∑ k : Fin 1024, at2 (A m c) (1024 * (t.val % 8) + k) (y 2).val
      * at2 (B m c) (1024 * (t.val % 8) + k) (1024 * (t.val / 8) + (y 3).val) := by
  rw [outsAt0_A m c t h]; frame_out
  refine (last_at _ _ y).trans ?_
  refine (prod_at m c _ t _ _ _).trans (congrArg (fun e : EReal => e + _) ?_)
  rw [View.readCov_eq_canon']
  refine (val_at (fun j => View.canon (Val := Elt Ideal) (e := .f32) _ j) _).trans ((last_at _ _ _).trans ?_)
  pointwise [k0_pay1]

theorem step (t : Fin cfg0.N) (h : ¬t.val % 8 = 0) (y : S1x1x1024x1024.Idx) :
    outsAt0 m c t.val t.isLt y = outsAt0 m c (t.val - 1) (Nat.lt_of_le_of_lt (Nat.sub_le _ _) t.isLt) y
      + ∑ k : Fin 1024, at2 (A m c) (1024 * (t.val % 8) + k) (y 2).val
      * at2 (B m c) (1024 * (t.val % 8) + k) (1024 * (t.val / 8) + (y 3).val) := by
  rw [outsAt0_B m c t h]; frame_out
  refine (last_at _ _ y).trans ?_
  refine (prod_at m c _ t _ _ _).trans (congrArg (fun e : EReal => e + _) ?_)
  refine (val_at (fun j => (ms0_2 t).view.read (Elt Ideal) ((hs0_2 t).unread (outsAt0 m c (t.val - 1) (Nat.lt_of_le_of_lt (Nat.sub_le _ _) t.isLt))) j) _).trans ?_
  rw [(hs0_2 t).read_unread]
  refine congrArg _ (funext fun a => ?_)
  match a with
  | ⟨0, _⟩ => exact Subsingleton.elim (α := Fin 1) _ _
  | ⟨1, _⟩ => exact Subsingleton.elim (α := Fin 1) _ _
  | ⟨2, _⟩ => rfl
  | ⟨3, _⟩ => rfl

theorem outs_at (t : Fin cfg0.N) (h : t.val % 8 = 7) (y : S1x1x1024x1024.Idx) :
    outsAt0 m c t.val t.isLt y = W m c (y 2).val (1024 * (t.val / 8) + (y 3).val) := by
  have ht : t.val < 32 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 2).val
      * at2 (B m c) (1024 * (p.val % 8) + k) (1024 * (p.val / 8) + (y 3).val))
    (reset m c) (step m c) t h y, zero_add]
  refine Eq.trans (Finset.sum_congr rfl fun s _ => ?_)
    (sum_blocks 8 1024 fun r => at2 (A m c) r (y 2).val * at2 (B m c) r (1024 * (t.val / 8) + (y 3).val))
  have e1 : (8 * (t.val / 8) + s.val) % 8 = s.val := by omega
  have e2 : (8 * (t.val / 8) + s.val) / 8 = t.val / 8 := by omega
  simp only [e1, e2]

/-- The array after the call: the first layer's part is the sum over all the rows, the second layer's is as it was given. -/
theorem final (c : Dev nD) : (dats m 0 c).arrAt 2 cfg0.N
    = fun i => if (i 0 : ℕ) / 1 = 0 then W m c (i 2).val (1024 * (i 1).val + (i 3).val) else m ((c : Thread nD τ).loc main_arg5) i := by
  refine ((dats m 0 c).arrAt_eq_of_coversWhere 2 (fun i => W m c (i 2).val (1024 * (i 1).val + (i 3).val)) (P := fun i => (i 0 : ℕ) / 1 = 0) (fun β => β (0 : Fin 4) = 0) (by decide +kernel)
    (fun t hf y => ?_) (fun j => Iff.rfl)).trans ?_
  · blk_simp
    rw [after0_2, outs_at m c t ((flush0_2 t).mp hf)]
    blk_simp [idx t]
  · funext i
    dsimp only
    split
    · rfl
    · rw [A_eq]
      exact congrFun (V_v23 m c) i

/-- The reference leaves its arguments unchanged, and it has no counter. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

section reference
open Cert.Reference3Ideal.Read Cert.Reference3Ideal.Gen
variable (x0 x1 : (⟨Cert.Reference3Ideal.S8192x1024, .f32⟩ : BufTy).Contents (Elt Ideal))
  (x2 : (⟨Cert.Reference3Ideal.S1x1024, .f32⟩ : BufTy).Contents (Elt Ideal)) (x3 : (⟨Cert.Reference3Ideal.S2x1024x4096, .f32⟩ : BufTy).Contents (Elt Ideal))
  (x4 : (⟨Cert.Reference3Ideal.S2x4096x1024, .f32⟩ : BufTy).Contents (Elt Ideal)) (x5 : (⟨Cert.Reference3Ideal.S2x4x1024x1024, .f32⟩ : BufTy).Contents (Elt Ideal))

/-- The reference's gradient of the weight. -/
theorem grad_at (i : Fin 1024) (j : Fin 4096) : val_main_v22 (F := Ideal) x0 x1 x2 x3 x4 (ix2 i j)
    = ∑ r : Fin 8192, val_main_v20 (F := Ideal) x0 x1 x2 x3 x4 (ix2 r j) * x1 (ix2 r i) := by
  pointwise [val_main_v22, val_main_v21]

/-- The reference's result, index by index. -/
theorem result_at (l : Fin 2) (q : Fin 4) (i j : Fin 1024) : val_main_v27 (F := Ideal) x0 x1 x2 x3 x4 x5 (ix4 l q i j)
    = if l.val / 1 = 0 then ∑ r : Fin 8192, x1 (ix2 r i) * val_main_v20 (F := Ideal) x0 x1 x2 x3 x4 (ix2 r ⟨1024 * q + j, by omega⟩) else x5 (ix4 l q i j) := by
  pointwise [val_main_v27, val_main_v26, val_main_v25, val_main_v24, val_main_v23, grad_at]
  by_cases h : l.val = 0
  · rw [dif_pos (by omega), if_pos h]
    refine Finset.sum_congr rfl fun r _ => ?_
    rw [mul_comm]
    refine congrArg (fun p : EReal => _ * p) (congrArg (val_main_v20 (F := Ideal) x0 x1 x2 x3 x4) (congrArg (ix2 r) (Fin.ext ?_)))
    show q.val * 1024 + j.val = 1024 * q.val + j.val
    omega
  · rw [dif_neg (by omega), if_neg h]
    exact congrArg (fun l => x5 (ix4 l q i j)) (Fin.ext (by show 1 + (l.val - 1) = l.val; omega))

end reference

theorem algebraic : Cert.algebraic_Kernel3Ideal_Reference3Ideal := by
  intro m g m' g' _ hagree
  refine ⟨_, (θ_run Cert.Kernel3Ideal.defs _ _).mono (fun r h c => ⟨(h c).1.trans (final m c), (h c).2⟩) (Cert.Kernel3Ideal.Value.run_blocks m g),
    (θ_run Cert.Reference3Ideal.defs _ _).mono (fun r h c => ?_) (Cert.Reference3Ideal.Value.run m' g')⟩
  obtain ⟨h0, hargs⟩ := h c
  obtain ⟨a0, a1, a2, a3, a4, a5⟩ := hagree c
  refine ⟨?_, hargs⟩
  refine funext fun i => ?_
  rw [h0, Cert.Reference3Ideal.Read.val_main_v27_eq, a0, a1, a2, a3, a4, a5, eq_ix4 i]
  refine (result_at _ _ _ _ _ _ (i 0) (i 1) (i 2) (i 3)).trans ?_
  refine if_congr Iff.rfl ?_ rfl
  unfold W
  refine Finset.sum_congr rfl fun r _ => ?_
  have h1 : (i 1).val < 4 := (i 1).isLt
  have h3 : (i 3).val < 1024 := (i 3).isLt
  refine Eq.trans ?_ (congrArg₂ (fun p q : EReal => p * q) (at2_mk (A m c) r (i 2)) (at2_mk (B m c) r ⟨1024 * (i 1).val + (i 3).val, by omega⟩))
  exact (congrArg₂ (fun p q : EReal => p * q) (V_v21 m c r (i 2)) (V_v22 m c r _)).symm

end Cert.Dw1
-- ==== Proof.Dw2.lean ====
module
public import proofs.«01_k».proof.Proof.Rows
public import proofs.«01_k».proof.Proof.Gen.Kernel4Ideal.Value
public import proofs.«01_k».proof.Proof.Gen.Reference4Ideal.Read
public import proofs.«01_k».proof.Defs
public import Idealize.ShloMosaic.Lib.Pipeline.ValueKit
public import Idealize.ShloMosaic.Lib.Claim

/-! # What the call for the second weight of the feed-forward layer leaves

The call adds up, block of rows by block of rows, the product of a transposed column range of the first operand and the
second; the other layer's part of the array it is given is left as it was. -/

@[expose] public section
set_option maxRecDepth 16384
noncomputable section
namespace Cert.Dw2
open Idealize.ShloMosaic Idealize.ShloMosaic.TcCoe Idealize.SL.Sem
open Idealize.ShloMosaic.Pipeline (Dat)
open Cert.Kernel4Ideal Cert.Kernel4Ideal.Gen Cert.Rows
variable (m : (ℓ : Loc nD τ sig) → Buf (Elt Ideal) ℓ) (c : Dev nD)

/-- The array the call is given, when the call starts. -/
theorem V_v9 : V m c main_v9 = m ((c : Thread nD τ).loc main_arg5) := by
  simp only [V, hostOps0, hostOps0_1, hostOps0_2, List.flatten_cons, List.flatten_nil, List.append_nil, List.cons_append, List.nil_append]
  entry_read
  rfl
/-- The first operand is the layer's activation, as the reference's lines compute it. -/
theorem V_v5 (r : Fin 8192) (j : Fin 4096) : V m c main_v5 (ix2 r j)
    = Cert.Reference4Ideal.Read.val_main_v6 (F := Ideal) (m ((c : Thread nD τ).loc main_arg1)) (m ((c : Thread nD τ).loc main_arg3)) (ix2 r j) := by
  simp only [V, hostOps0, hostOps0_1, hostOps0_2, List.flatten_cons, List.flatten_nil, List.append_nil, List.cons_append, List.nil_append]
  entry_read
  rfl
/-- The second operand is the scaled gradient of the layer's output. -/
theorem V_v8 (r : Fin 8192) (j : Fin 1024) : V m c main_v8 (ix2 r j)
    = Cert.Reference4Ideal.Read.val_main_v11 (F := Ideal) (m ((c : Thread nD τ).loc main_arg0)) (m ((c : Thread nD τ).loc main_arg2)) (ix2 r j) := by
  simp only [V, hostOps0, hostOps0_1, hostOps0_2, List.flatten_cons, List.flatten_nil, List.append_nil, List.cons_append, List.nil_append]
  entry_read
  exact mul_comm (G := EReal) _ _

theorem idx : ∀ t : Fin cfg0.N, win0_0.index t = ![t.val % 8, t.val / 8] ∧ win0_1.index t = ![t.val % 8, 0]
    ∧ win0_2.index t = ![0, t.val / 8, 0] :=
  (by decide +kernel : ∀ t : Fin grid0.N, _)

/-- The first operand when the call starts. -/
abbrev A : (⟨2, ![8192, 4096]⟩ : Shape).Idx → EReal := V m c main_v5
/-- The second operand when the call starts. -/
abbrev B : (⟨2, ![8192, 1024]⟩ : Shape).Idx → EReal := V m c main_v8

theorem a_at (t : Fin cfg0.N) (k : Fin 1024) (j : Fin 1024) :
    (iblk m c 0 t) (ix2 k j) = at2 (A m c) (1024 * (t.val % 8) + k) (1024 * (t.val / 8) + j) := by
  have ht : t.val < 32 := lt_of_lt_of_eq t.isLt N_0
  refine Eq.trans ?_ (at2_mk (A m c) ⟨1024 * (t.val % 8) + k, by omega⟩ ⟨1024 * (t.val / 8) + j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S1x1024x1024 .f32) (t : Fin cfg0.N) (u : Fin 1) (i j : Fin 1024) :
    k0_pay2 (F := Ideal) o (iblk m c 0 t) (iblk m c 1 t) (ix3 u i j)
      = o (ix3 0 i j) + ∑ k : Fin 1024, at2 (A m c) (1024 * (t.val % 8) + k) (1024 * (t.val / 8) + i) * at2 (B m c) (1024 * (t.val % 8) + k) j := by
  pointwise [k0_pay2, a_at, b_at]

/-- What one element of the first layer's part holds at the end: the sum over all the rows. -/
def W (i j : ℕ) : EReal := ∑ r : Fin 8192, at2 (A m c) r i * at2 (B m c) r j

theorem unit_at (y : S1x1024x1024.Idx) : y = ix3 0 (y 1) (y 2) :=
  (eq_ix3 y).trans (congrArg (fun r => ix3 r (y 1) (y 2)) (Subsingleton.elim (α := Fin 1) _ _))

theorem reset (t : Fin cfg0.N) (h : t.val % 8 = 0) (y : S1x1024x1024.Idx) :
    outsAt0 m c t.val t.isLt y = 0 + ∑ k : Fin 1024, at2 (A m c) (1024 * (t.val % 8) + k) (1024 * (t.val / 8) + (y 1).val)
      * at2 (B m c) (1024 * (t.val % 8) + k) (y 2).val := by
  rw [outsAt0_A m c t h]; frame_out
  rw [unit_at y]
  refine (prod_at m c _ t _ _ _).trans (congrArg (fun e : EReal => e + _) ?_)
  pointwise [k0_pay1]

theorem step (t : Fin cfg0.N) (h : ¬t.val % 8 = 0) (y : S1x1024x1024.Idx) :
    outsAt0 m c t.val t.isLt y = outsAt0 m c (t.val - 1) (Nat.lt_of_le_of_lt (Nat.sub_le _ _) t.isLt) y
      + ∑ k : Fin 1024, at2 (A m c) (1024 * (t.val % 8) + k) (1024 * (t.val / 8) + (y 1).val)
      * at2 (B m c) (1024 * (t.val % 8) + k) (y 2).val := by
  rw [outsAt0_B m c t h]; frame_out
  rw [unit_at y]
  exact prod_at m c _ t _ _ _

theorem outs_at (t : Fin cfg0.N) (h : t.val % 8 = 7) (y : S1x1024x1024.Idx) :
    outsAt0 m c t.val t.isLt y = W m c (1024 * (t.val / 8) + (y 1).val) (y 2).val := by
  have ht : t.val < 32 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (1024 * (p.val / 8) + (y 1).val)
      * at2 (B m c) (1024 * (p.val % 8) + k) (y 2).val)
    (reset m c) (step m c) t h y, zero_add]
  refine Eq.trans (Finset.sum_congr rfl fun s _ => ?_)
    (sum_blocks 8 1024 fun r => at2 (A m c) r (1024 * (t.val / 8) + (y 1).val) * at2 (B m c) r (y 2).val)
  have e1 : (8 * (t.val / 8) + s.val) % 8 = s.val := by omega
  have e2 : (8 * (t.val / 8) + s.val) / 8 = t.val / 8 := by omega
  simp only [e1, e2]

/-- The array after the call: the first layer's part is the sum over all the rows, the second layer's is as it was given. -/
theorem final (c : Dev nD) : (dats m 0 c).arrAt 2 cfg0.N
    = fun i => if (i 0 : ℕ) / 1 = 0 then W m c (i 1).val (i 2).val else m ((c : Thread nD τ).loc main_arg5) i := by
  refine ((dats m 0 c).arrAt_eq_of_coversWhere 2 (fun i => W m c (i 1).val (i 2).val) (P := fun i => (i 0 : ℕ) / 1 = 0) (fun β => β (0 : Fin 3) = 0) (by decide +kernel)
    (fun t hf y => ?_) (fun j => Iff.rfl)).trans ?_
  · blk_simp
    rw [after0_2, outs_at m c t ((flush0_2 t).mp hf)]
    blk_simp [idx t]
    rw [Nat.mul_comm]
  · funext i
    dsimp only
    split
    · rfl
    · rw [A_eq]
      exact congrFun (V_v9 m c) i

/-- The reference leaves its arguments unchanged, and it has no counter. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

section reference
open Cert.Reference4Ideal.Read Cert.Reference4Ideal.Gen
variable (x0 x1 : (⟨Cert.Reference4Ideal.S8192x1024, .f32⟩ : BufTy).Contents (Elt Ideal))
  (x2 : (⟨Cert.Reference4Ideal.S1x1024, .f32⟩ : BufTy).Contents (Elt Ideal)) (x3 : (⟨Cert.Reference4Ideal.S2x1024x4096, .f32⟩ : BufTy).Contents (Elt Ideal))
  (x5 : (⟨Cert.Reference4Ideal.S2x4096x1024, .f32⟩ : BufTy).Contents (Elt Ideal))

/-- The reference's gradient of the weight. -/
theorem grad_at (i : Fin 4096) (j : Fin 1024) : val_main_v13 (F := Ideal) x0 x1 x2 x3 (ix2 i j)
    = ∑ r : Fin 8192, val_main_v11 (F := Ideal) x0 x2 (ix2 r j) * val_main_v6 (F := Ideal) x1 x3 (ix2 r i) := by
  pointwise [val_main_v13, val_main_v12]

/-- The reference's result, index by index. -/
theorem result_at (l : Fin 2) (i : Fin 4096) (j : Fin 1024) : val_main_v16 (F := Ideal) x0 x1 x2 x3 x5 (ix3 l i j)
    = if l.val / 1 = 0 then ∑ r : Fin 8192, val_main_v6 (F := Ideal) x1 x3 (ix2 r i) * val_main_v11 (F := Ideal) x0 x2 (ix2 r j) else x5 (ix3 l i j) := by
  pointwise [val_main_v16, val_main_v15, val_main_v14, grad_at]
  by_cases h : l.val = 0
  · rw [dif_pos (by omega), if_pos h]
    exact Finset.sum_congr rfl fun r _ => mul_comm (G := EReal) _ _
  · rw [dif_neg (by omega), if_neg h]
    exact congrArg (fun l => x5 (ix3 l i j)) (Fin.ext (by show 1 + (l.val - 1) = l.val; omega))

end reference

theorem algebraic : Cert.algebraic_Kernel4Ideal_Reference4Ideal := by
  intro m g m' g' _ hagree
  refine ⟨_, (θ_run Cert.Kernel4Ideal.defs _ _).mono (fun r h c => ⟨(h c).1.trans (final m c), (h c).2⟩) (Cert.Kernel4Ideal.Value.run_blocks m g),
    (θ_run Cert.Reference4Ideal.defs _ _).mono (fun r h c => ?_) (Cert.Reference4Ideal.Value.run m' g')⟩
  obtain ⟨h0, hargs⟩ := h c
  obtain ⟨a0, a1, a2, a3, a4, a5⟩ := hagree c
  refine ⟨?_, hargs⟩
  refine funext fun i => ?_
  rw [h0, Cert.Reference4Ideal.Read.val_main_v16_eq, a0, a1, a2, a3, a5, eq_ix3 i]
  refine (result_at _ _ _ _ _ (i 0) (i 1) (i 2)).trans ?_
  refine if_congr Iff.rfl ?_ rfl
  unfold W
  refine Finset.sum_congr rfl fun r _ => ?_
  refine Eq.trans ?_ (congrArg₂ (fun p q : EReal => p * q) (at2_mk (A m c) r (i 1)) (at2_mk (B m c) r (i 2)))
  exact (congrArg₂ (fun p q : EReal => p * q) (V_v5 m c r (i 1)) (V_v8 m c r (i 2))).symm

end Cert.Dw2
-- ==== Proof.FMlp.lean ====
module
public import proofs.«01_k».proof.Proof.Stores
public import proofs.«01_k».proof.Proof.Gen.Kernel5Ideal.Frame
public import proofs.«01_k».proof.Proof.Gen.Kernel5Ideal.Skeleton
public import proofs.«01_k».proof.Proof.Gen.Kernel5
public import proofs.«01_k».proof.Defs

/-! # The call for the feed-forward layer: its run

One block of 1024 tokens is worked on in eight points, each with 512 hidden lanes. The first of the eight writes the normalised
rows and clears the sum, which lies in a buffer of the call's own; each of the eight adds to the sum; the last writes the sum and
the residual. -/

@[expose] public section
set_option maxRecDepth 16384
noncomputable section
namespace Cert.FMlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Stores (read_store)

variable {F : FTy → Type} [FloatOps F]
variable (m : (ℓ : Loc nD τ sig) → Buf (Elt F) ℓ) (ρ : Dev nD → PrngReg)

/-- The conditions of the body's two branches: the second coordinate is zero, and it is seven. -/
theorem isFirst_iff : ∀ t : Fin cfg0.N, k0_cond1 (grid0.coords t) = 1#1 ↔ t.val % 8 = 0 := (by decide +kernel : ∀ t : Fin grid0.N, _)
theorem isLast_iff : ∀ t : Fin cfg0.N, k0_cond2 (grid0.coords t) = 1#1 ↔ t.val % 8 = 7 := (by decide +kernel : ∀ t : Fin grid0.N, _)

section body
variable (c : Dev nD) (i : grid0.Coords)
  (a2 : Memref sig .tc .vmem S1024x1024 .f32) (h2 : a2.IsWhole)  (a3 : Memref sig .tc .vmem S1x1024 .f32) (h3 : a3.IsWhole)
  (a4 : Memref sig .tc .vmem S1x1024 .f32) (h4 : a4.IsWhole)  (a5 : Memref sig .tc .vmem S1x1024 .f32) (h5 : a5.IsWhole)
  (a6 : Memref sig .tc .vmem S1x1024 .f32) (h6 : a6.IsWhole)  (a7 : Memref sig .tc .vmem S1x1x1024x512 .bf16) (h7 : a7.IsWhole)
  (a8 : Memref sig .tc .vmem S1x1x512x1024 .bf16) (h8 : a8.IsWhole)  (a9 : Memref sig .tc .vmem S1024x1024 .f32) (h9 : a9.IsWhole)
  (a10 : Memref sig .tc .vmem S1024x1024 .bf16) (h10 : a10.IsWhole)  (a11 : Memref sig .tc .vmem S1024x512 .bf16) (h11 : a11.IsWhole)
  (a12 : Memref sig .tc .vmem S1024x1024 .bf16) (h12 : a12.IsWhole)  (a13 : Memref sig .tc .vmem S1024x1024 .f32) (h13 : a13.IsWhole)
  (x0 : Vec F S1024x1024 .f32)  (x1 : Vec F S1x1024 .f32)  (x2 : Vec F S1x1024 .f32)  (x3 : Vec F S1x1024 .f32)  (x4 : Vec F S1x1024 .f32)  (x5 : Vec F S1x1x1024x512 .bf16)  (x6 : Vec F S1x1x512x1024 .bf16)
  (yv : Vec F S1024x1024 .bf16) (ys : Vec F S1024x1024 .f32)
  (E : Set ℕ) (K : PUnit → sProp (MT nD τ sig Unit (Elt F) ℕ (UR sig nD τ) ℕ))

include h2 h3 h4 h5 h6 h7 h8 in
set_option maxHeartbeats 1000000 in
/-- The body at the first point of a block. -/
theorem body_first (hc1 : k0_cond1 i = 1#1) (hc2 : ¬k0_cond2 i = 1#1) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
      ∗ (∃ d, owns (c : Thread nD τ) a11 fullShare d) ∗ (∃ d, owns (c : Thread nD τ) a12 fullShare d) ∗ (∃ d, owns (c : Thread nD τ) a13 fullShare d)
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ owns (c : Thread nD τ) a11 fullShare (k0_pay4 (k0_pay1 x0 x1 x2 x3) x5)
        ∗ owns (c : Thread nD τ) a12 fullShare (k0_pay1 x0 x1 x2 x3)
        ∗ owns (c : Thread nD τ) a13 fullShare (k0_pay5 (k0_pay1 x0 x1 x2 x3) x5 k0_pay2 x6)) -∗ K ⟨⟩))
    ⊢ wp frame (wpE (defs₀ (F := F)) Variants.none c none) E (cc0_f_mlp i a2 h2 a3 h3 a4 h4 a5 h5 a6 h6 a7 h7 a8 h8 a9 h9 a10 h10 a11 h11 a12 h12 a13 h13) K := by
  simp only [cc0_f_mlp_eq_skeleton]; unfold cc0_f_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, ⟨%d13, %f13, -, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H11]
  · iexists _; isplitr; swap; · iexact H11
    ipureintro; refine (read_store _ _ _ _ _ (by decide)).trans ?_; frame_out
  isplitl [H12]
  · iexists _; isplitr; swap; · iexact H12
    ipureintro; refine (read_store _ _ _ _ _ (by decide)).trans ?_; frame_out
  iexists _; isplitr; swap; · iexact H13
  ipureintro; refine (read_store _ _ _ _ _ (by decide)).trans ?_; frame_out

include h2 h3 h4 h5 h6 h7 h8 h12 h13 in
set_option maxHeartbeats 1000000 in
/-- The body at a point of a block that is neither the first nor the last. -/
theorem body_mid (hc1 : ¬k0_cond1 i = 1#1) (hc2 : ¬k0_cond2 i = 1#1) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
      ∗ (∃ d, owns (c : Thread nD τ) a11 fullShare d) ∗ owns (c : Thread nD τ) a12 fullShare yv ∗ owns (c : Thread nD τ) a13 fullShare ys
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ owns (c : Thread nD τ) a11 fullShare (k0_pay4 yv x5)
        ∗ owns (c : Thread nD τ) a12 fullShare yv
        ∗ owns (c : Thread nD τ) a13 fullShare (k0_pay5 yv x5 ys x6)) -∗ K ⟨⟩))
    ⊢ wp frame (wpE (defs₀ (F := F)) Variants.none c none) E (cc0_f_mlp i a2 h2 a3 h3 a4 h4 a5 h5 a6 h6 a7 h7 a8 h8 a9 h9 a10 h10 a11 h11 a12 h12 a13 h13) K := by
  simp only [cc0_f_mlp_eq_skeleton]; unfold cc0_f_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%f12, %hf12, H12⟩, ⟨%f13, %hf13, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h12.eq_unread hf12; obtain rfl := h13.eq_unread hf13
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H11]
  · iexists _; isplitr; swap; · iexact H11
    ipureintro; refine (read_store _ _ _ _ _ (by decide)).trans ?_; frame_out
  isplitl [H12]
  · iexists _; isplitr; · ipureintro; exact h12.read_unread _
    iexact H12
  iexists _; isplitr; swap; · iexact H13
  ipureintro; refine (read_store _ _ _ _ _ (by decide)).trans ?_; frame_out

include h2 h3 h4 h5 h6 h7 h8 h12 h13 in
set_option maxHeartbeats 1000000 in
/-- The body at the last point of a block. -/
theorem body_last (hc1 : ¬k0_cond1 i = 1#1) (hc2 : k0_cond2 i = 1#1) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
      ∗ (∃ d, owns (c : Thread nD τ) a9 fullShare d) ∗ (∃ d, owns (c : Thread nD τ) a10 fullShare d) ∗ (∃ d, owns (c : Thread nD τ) a11 fullShare d) ∗ owns (c : Thread nD τ) a12 fullShare yv ∗ owns (c : Thread nD τ) a13 fullShare ys
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ owns (c : Thread nD τ) a9 fullShare (k0_pay7 (k0_pay5 yv x5 ys x6) x0 x4)
        ∗ owns (c : Thread nD τ) a10 fullShare (k0_pay6 (k0_pay5 yv x5 ys x6))
        ∗ owns (c : Thread nD τ) a11 fullShare (k0_pay4 yv x5)
        ∗ owns (c : Thread nD τ) a12 fullShare yv
        ∗ owns (c : Thread nD τ) a13 fullShare (k0_pay5 yv x5 ys x6)) -∗ K ⟨⟩))
    ⊢ wp frame (wpE (defs₀ (F := F)) Variants.none c none) E (cc0_f_mlp i a2 h2 a3 h3 a4 h4 a5 h5 a6 h6 a7 h7 a8 h8 a9 h9 a10 h10 a11 h11 a12 h12 a13 h13) K := by
  simp only [cc0_f_mlp_eq_skeleton]; unfold cc0_f_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h12.eq_unread hf12; obtain rfl := h13.eq_unread hf13
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro; refine (read_store _ _ _ _ _ (by decide)).trans ?_; frame_out
  isplitl [H10]
  · iexists _; isplitr; swap; · iexact H10
    ipureintro; refine (read_store _ _ _ _ _ (by decide)).trans ?_; frame_out
  isplitl [H11]
  · iexists _; isplitr; swap; · iexact H11
    ipureintro; refine (read_store _ _ _ _ _ (by decide)).trans ?_; frame_out
  isplitl [H12]
  · iexists _; isplitr; · ipureintro; exact h12.read_unread _
    iexact H12
  iexists _; isplitr; swap; · iexact H13
  ipureintro; refine (read_store _ _ _ _ _ (by decide)).trans ?_; frame_out

end body

/-! ## What the outputs and the sum hold after each point -/

/-- The first point of the block of rows the point `n` is in. -/
def firstPt (n : ℕ) (hn : n < cfg0.N) : Fin cfg0.N := ⟨8 * (n / 8), Nat.lt_of_le_of_lt (Nat.mul_div_le n 8) hn⟩

/-- What the normalised rows' block holds: stored at the first point of a block of rows and kept. -/
def nrm (c : Dev nD) (n : ℕ) (hn : n < cfg0.N) : Vec F S1024x1024 .bf16 :=
  k0_pay1 (iblk m c 0 (firstPt n hn)) (iblk m c 1 (firstPt n hn)) (iblk m c 2 (firstPt n hn)) (iblk m c 3 (firstPt n hn))

theorem nrm_first (c : Dev nD) (t : Fin cfg0.N) (h : t.val % 8 = 0) :
    nrm m c t.val t.isLt = k0_pay1 (iblk m c 0 t) (iblk m c 1 t) (iblk m c 2 t) (iblk m c 3 t) := by
  have e : firstPt t.val t.isLt = t := Fin.ext (by show 8 * (t.val / 8) = t.val; omega)
  unfold nrm; rw [e]

theorem nrm_later (c : Dev nD) (t : Fin cfg0.N) (h : ¬t.val % 8 = 0) :
    nrm m c (t.val - 1) (Nat.lt_of_le_of_lt (Nat.sub_le _ _) t.isLt) = nrm m c t.val t.isLt := by
  have e : firstPt (t.val - 1) (Nat.lt_of_le_of_lt (Nat.sub_le _ _) t.isLt) = firstPt t.val t.isLt :=
    Fin.ext (by show 8 * ((t.val - 1) / 8) = 8 * (t.val / 8); omega)
  unfold nrm; rw [e]

/-- What the sum holds after the body at position `n`. -/
def acc (c : Dev nD) : (n : ℕ) → n < cfg0.N → Vec F S1024x1024 .f32
  | 0, hn => k0_pay5 (nrm m c 0 hn) (X0_5 m c ⟨0, hn⟩) k0_pay2 (X0_6 m c ⟨0, hn⟩)
  | n + 1, hn =>
    if (n + 1) % 8 = 0 then k0_pay5 (nrm m c (n + 1) hn) (X0_5 m c ⟨n + 1, hn⟩) k0_pay2 (X0_6 m c ⟨n + 1, hn⟩)
    else k0_pay5 (nrm m c (n + 1) hn) (X0_5 m c ⟨n + 1, hn⟩) (acc c n (Nat.lt_of_succ_lt hn)) (X0_6 m c ⟨n + 1, hn⟩)

theorem acc_first (c : Dev nD) (t : Fin cfg0.N) (h : t.val % 8 = 0) :
    acc m c t.val t.isLt = k0_pay5 (nrm m c t.val t.isLt) (X0_5 m c t) k0_pay2 (X0_6 m c t) := by
  obtain ⟨n, hn⟩ := t
  cases n with
  | zero => exact rfl
  | succ n => exact (if_pos h).trans rfl

theorem acc_later (c : Dev nD) (t : Fin cfg0.N) (h : ¬t.val % 8 = 0) :
    acc m c t.val t.isLt = k0_pay5 (nrm m c t.val t.isLt) (X0_5 m c t)
      (acc m c (t.val - 1) (Nat.lt_of_le_of_lt (Nat.sub_le _ _) t.isLt)) (X0_6 m c t) := by
  obtain ⟨n, hn⟩ := t
  cases n with
  | zero => exact absurd (Nat.zero_mod _) h
  | succ n => exact (if_neg h).trans rfl

/-- The buffer of the sum. -/
abbrev scr : Memref sig .tc .vmem S1024x1024 .f32 := Memref.whole cc0_scratch0

/-- Between two points the buffer of the sum is held, inside a block of rows at the sum so far. -/
def Inv (c : Dev nD) (n : ℕ) : sProp (MT nD τ sig Unit (Elt F) ℕ (UR sig nD τ) ℕ) :=
  iprop((∃ r, prngReg c r) ∗ ∃ x, ⌜∀ (k : ℕ) (hk : k < cfg0.N), n = k + 1 → ¬n % 8 = 0 → x = acc m c k hk⌝ ∗ owns (c : Thread nD τ) scr fullShare x)

/-- The proof data: each input's block, and the four outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => k0_pay7 (acc m c t.val t.isLt) (iblk m c 0 t) (iblk m c 4 t)
    | ⟨8, _⟩ => k0_pay6 (acc m c t.val t.isLt)
    | ⟨9, _⟩ => k0_pay4 (nrm m c t.val t.isLt) (X0_5 m c t)
    | ⟨10, _⟩ => nrm m c t.val t.isLt
  Φ t := Inv m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = X0_5 m c t := by dsimp only [dats]
theorem after_6 (c : Dev nD) (t : Fin cfg0.N) : (dats m 0 c).after 6 t = X0_6 m c t := by dsimp only [dats]
theorem after_7 (c : Dev nD) (t : Fin cfg0.N) : (dats m 0 c).after 7 t = k0_pay7 (acc m c t.val t.isLt) (iblk m c 0 t) (iblk m c 4 t) := by dsimp only [dats]
theorem after_8 (c : Dev nD) (t : Fin cfg0.N) : (dats m 0 c).after 8 t = k0_pay6 (acc m c t.val t.isLt) := by dsimp only [dats]
theorem after_9 (c : Dev nD) (t : Fin cfg0.N) : (dats m 0 c).after 9 t = k0_pay4 (nrm m c t.val t.isLt) (X0_5 m c t) := by dsimp only [dats]
theorem after_10 (c : Dev nD) (t : Fin cfg0.N) : (dats m 0 c).after 10 t = nrm m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = X0_5 m c t := before0_5_of m (dats m 0 c) (A_eq m c 5) (after_5 m c) t d
theorem before_6 (c : Dev nD) (t : Fin cfg0.N) (d) : (dats m 0 c).before 6 t d = X0_6 m c t := before0_6_of m (dats m 0 c) (A_eq m c 6) (after_6 m c) t d
/-- At which points this block is stored. -/
theorem idle_7 : ∀ t : Fin cfg0.N, cfg0.idle 7 (cfg0.grid.coords t) = !decide (t.val % 8 = 7) := (by decide +kernel : ∀ t : Fin grid0.N, idle0 7 (grid0.coords t) = !decide (t.val % 8 = 7))
theorem leaves_7 (c : Dev nD) (t : Fin cfg0.N) (h : t.val % 8 = 7) : (dats m 0 c).leavesExact 7 t
    = owns (c : Thread nD τ) (win0_7.stage (cfg0.slots t 7)) fullShare (k0_pay7 (acc m c t.val t.isLt) (iblk m c 0 t) (iblk m c 4 t)) := by
  unfold Dat.leavesExact
  rw [idle_7 t]; simp only [h, decide_true, Bool.not_true]
  rw [after_7]
theorem keeps_7 (c : Dev nD) (t : Fin cfg0.N) (h : ¬t.val % 8 = 7) : (dats m 0 c).leavesExact 7 t
    = iprop(∃ d, owns (c : Thread nD τ) (win0_7.stage (cfg0.slots t 7)) fullShare ((dats m 0 c).before 7 t d)) :=
  Dat.leavesExact_idle _ _ _ (by rw [idle_7 t]; simp [h]) (Bool.eq_false_iff.mpr fun e => h ((flush0_7 t).mp e))
/-- At which points this block is stored. -/
theorem idle_8 : ∀ t : Fin cfg0.N, cfg0.idle 8 (cfg0.grid.coords t) = !decide (t.val % 8 = 7) := (by decide +kernel : ∀ t : Fin grid0.N, idle0 8 (grid0.coords t) = !decide (t.val % 8 = 7))
theorem leaves_8 (c : Dev nD) (t : Fin cfg0.N) (h : t.val % 8 = 7) : (dats m 0 c).leavesExact 8 t
    = owns (c : Thread nD τ) (win0_8.stage (cfg0.slots t 8)) fullShare (k0_pay6 (acc m c t.val t.isLt)) := by
  unfold Dat.leavesExact
  rw [idle_8 t]; simp only [h, decide_true, Bool.not_true]
  rw [after_8]
theorem keeps_8 (c : Dev nD) (t : Fin cfg0.N) (h : ¬t.val % 8 = 7) : (dats m 0 c).leavesExact 8 t
    = iprop(∃ d, owns (c : Thread nD τ) (win0_8.stage (cfg0.slots t 8)) fullShare ((dats m 0 c).before 8 t d)) :=
  Dat.leavesExact_idle _ _ _ (by rw [idle_8 t]; simp [h]) (Bool.eq_false_iff.mpr fun e => h ((flush0_8 t).mp e))
/-- At which points the normalised rows' block is stored. -/
theorem idle_10 : ∀ t : Fin cfg0.N, cfg0.idle 10 (cfg0.grid.coords t) = !decide (t.val % 8 = 0) := (by decide +kernel : ∀ t : Fin grid0.N, idle0 10 (grid0.coords t) = !decide (t.val % 8 = 0))
/-- Its buffer holds nothing of this call's at the first point of a block of rows only. -/
theorem fresh_10 : ∀ n, n ≤ cfg0.N → cfg0.fresh 10 n = decide (n % 8 = 0) :=
  cfg0.fresh_tab 10 (fun n => decide (n % 8 = 0)) rfl fun t => by
    rw [idle_10 t]
    have hf := flush0_10 t
    cases h : (cfg0.win 10).flush t
    · have : ¬t.val % 8 = 7 := fun e => Bool.false_ne_true (h.symm.trans (hf.mpr e))
      have e : ¬(t.val + 1) % 8 = 0 := by omega
      simp only [e, Bool.false_or]
      by_cases h0 : t.val % 8 = 0 <;> simp [h0]
    · have : (t.val + 1) % 8 = 0 := by have := hf.mp h; omega
      simp only [this, Bool.true_or, decide_true]
theorem before_10 (c : Dev nD) (t : Fin cfg0.N) (h : ¬t.val % 8 = 0) (d) : (dats m 0 c).before 10 t d = nrm m c t.val t.isLt := by
  rw [(dats m 0 c).before_out_traj 10 rfl (fun _ _ => rfl) (fun t _ hi _ => by
    rw [after_10, after_10]
    refine (nrm_later m c t fun h0 => ?_).symm
    rw [idle_10 t, h0] at hi
    exact Bool.false_ne_true hi) t.val t rfl d, fresh_10 t.val t.isLt.le]
  simp only [h, decide_false, Bool.false_eq_true, if_false]
  rw [after_10]
  exact nrm_later m c t h

/-- The block handed on: where the point stores nothing and writes nothing back, it is what was found. -/
theorem leaves_10 (c : Dev nD) (t : Fin cfg0.N) :
    owns (c : Thread nD τ) (win0_10.stage (cfg0.slots t 10)) fullShare (nrm m c t.val t.isLt) ⊢ (dats m 0 c).leavesExact 10 t := by
  by_cases h : t.val % 8 = 0
  · unfold Dat.leavesExact
    rw [idle_10 t]; simp only [h, decide_true, Bool.not_true]
    exact .rfl
  · cases hf : (cfg0.win 10).flush t
    · rw [Dat.leavesExact_idle _ _ _ (by rw [idle_10 t]; simp [h]) hf]
      iintro H
      iexists (nrm m c t.val t.isLt)
      rw [before_10 m c t h]
      iexact H
    · unfold Dat.leavesExact
      rw [idle_10 t, hf]; simp only [h, decide_false, Bool.not_false]
      exact .rfl

/-! ## The body at every point -/

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (dats m 0 c).leavesExact 7 t
    ∗ (dats m 0 c).leavesExact 8 t
    ∗ owns (c : Thread nD τ) (win0_9.stage (cfg0.slots t 9)) fullShare ((dats m 0 c).after 9 t)
    ∗ (dats m 0 c).leavesExact 10 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after_0, after_1, after_2, after_3, after_4, after_5, after_6, after_9]
  unfold Inv
  by_cases h0 : t.val % 8 = 0
  · have h7 : ¬t.val % 8 = 7 := by omega
    iintro ⟨⟨Hr, %x, %hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid0.coords t) _ _ _ _ _ _ _ _ _ _ _ _ _ _ _ _ _ _ _ _ _ _ _ _ (iblk m c 0 t) (iblk m c 1 t) (iblk m c 2 t) (iblk m c 3 t) (iblk m c 4 t) (X0_5 m c t) (X0_6 m c t) Set.univ _ ((isFirst_iff t).mpr h0) (fun h => h7 ((isLast_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexists _; iexact H9
    isplitl [H10]; · iexists _; iexact H10
    isplitl [Hs]; · iexists _; iexact Hs
    iintro ⟨H0, H1, H2, H3, H4, H5, H6, H9, H10, Hs⟩
    isplitl [Hr Hs]
    · isplitl [Hr]; · iexact Hr
      iexists _; isplitr; swap; · iexact Hs
      ipureintro; intro k hk e _; obtain rfl : k = t.val := by omega
      exact ((acc_first m c t h0).trans (by rw [nrm_first m c t h0])).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [keeps_7 m c t h7]; iexists _; iexact H7
    isplitl [H8]; · rw [keeps_8 m c t h7]; iexists _; iexact H8
    isplitl [H9]; · rw [nrm_first m c t h0]; iexact H9
    iapply leaves_10 m c t
    rw [nrm_first m c t h0]
    iexact H10
  · simp only [before_10 m c t h0]
    by_cases h7 : t.val % 8 = 7
    · iintro ⟨⟨Hr, %x, %hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain rfl := hx (t.val - 1) (Nat.lt_of_le_of_lt (Nat.sub_le _ _) t.isLt) (by omega) h0
      iapply (body_last c (grid0.coords t) _ _ _ _ _ _ _ _ _ _ _ _ _ _ _ _ _ _ _ _ _ _ _ _ (iblk m c 0 t) (iblk m c 1 t) (iblk m c 2 t) (iblk m c 3 t) (iblk m c 4 t) (X0_5 m c t) (X0_6 m c t) _ _ Set.univ _ (fun h => h0 ((isFirst_iff t).mp h)) ((isLast_iff t).mpr h7))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [Hs]; · iexact Hs
      iintro ⟨H0, H1, H2, H3, H4, H5, H6, H7, H8, H9, H10, Hs⟩
      isplitl [Hr Hs]
      · isplitl [Hr]; · iexact Hr
        iexists _; isplitr; swap; · iexact Hs
        ipureintro; intro k hk e _; obtain rfl : k = t.val := by omega
        exact (acc_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · rw [leaves_7 m c t h7, acc_later m c t h0]; iexact H7
      isplitl [H8]; · rw [leaves_8 m c t h7, acc_later m c t h0]; iexact H8
      isplitl [H9]; · iexact H9
      iapply leaves_10 m c t
      iexact H10
    · iintro ⟨⟨Hr, %x, %hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain rfl := hx (t.val - 1) (Nat.lt_of_le_of_lt (Nat.sub_le _ _) t.isLt) (by omega) h0
      iapply (body_mid c (grid0.coords t) _ _ _ _ _ _ _ _ _ _ _ _ _ _ _ _ _ _ _ _ _ _ _ _ (iblk m c 0 t) (iblk m c 1 t) (iblk m c 2 t) (iblk m c 3 t) (iblk m c 4 t) (X0_5 m c t) (X0_6 m c t) _ _ Set.univ _ (fun h => h0 ((isFirst_iff t).mp h)) (fun h => h7 ((isLast_iff t).mp h)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]; · iexists _; iexact H9
      isplitl [H10]; · iexact H10
      isplitl [Hs]; · iexact Hs
      iintro ⟨H0, H1, H2, H3, H4, H5, H6, H9, H10, Hs⟩
      isplitl [Hr Hs]
      · isplitl [Hr]; · iexact Hr
        iexists _; isplitr; swap; · iexact Hs
        ipureintro; intro k hk e _; obtain rfl : k = t.val := by omega
        exact (acc_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · rw [keeps_7 m c t h7]; iexists _; iexact H7
      isplitl [H8]; · rw [keeps_8 m c t h7]; iexists _; iexact H8
      isplitl [H9]; · iexact H9
      iapply leaves_10 m c t
      iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

/-- The call's own buffer at any contents, as the invariant states it. -/
theorem rest_eq (c : Dev nD) : (Pipeline.scopedRest (Ix := Unit) (Name := ℕ) (U := UR sig nD τ) (Lvl := ℕ) (Val := Elt F) spec0 c : sProp (MT nD τ sig Unit (Elt F) ℕ (UR sig nD τ) ℕ))
    = iprop(∃ x, owns (c : Thread nD τ) scr fullShare x) :=
  (scopedRest0_eq c).trans (congrArg _ (funext fun x => (owns_whole (c : Thread nD τ) cc0_scratch0 fullShare x).symm))

/-- The buffer of the sum comes at any contents, -/
theorem enter (c : Dev nD) : Pipeline.ΦA spec0 c ⊢ (dats (F := F) m 0 c).Φ 0 := by
  show Pipeline.ΦA spec0 c ⊢ Inv m c 0
  unfold Pipeline.ΦA Inv
  rw [rest_eq]
  iintro ⟨⟨%x, Hs⟩, Hr⟩
  isplitl [Hr]; · iexact Hr
  iexists x
  isplitr
  · ipureintro; intro k hk e _; exact absurd e (Nat.succ_ne_zero k).symm
  iexact Hs

/-- and is given back at any. -/
theorem leave (c : Dev nD) : (dats (F := F) m 0 c).Φ (Fin.last cfg0.N) ⊢ Pipeline.ΦA spec0 c := by
  show Inv m c (Fin.last cfg0.N).val ⊢ Pipeline.ΦA spec0 c
  generalize (Fin.last cfg0.N).val = n
  unfold Pipeline.ΦA Inv
  rw [rest_eq]
  iintro ⟨Hr, %x, -, Hs⟩
  isplitl [Hs]
  · iexists x; iexact Hs
  iexact Hr

set_option backward.isDefEq.respectTransparency.types false in
/-- The launch ends with every array at what the proof data say and no counter left. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

theorem frame_ideal : Cert.quiescent_Kernel5Ideal := fun m ρ _ => frame m ρ

/-- The two programs' tables of bodies are the same. -/
theorem defs₀_eq : Cert.Kernel5.defs₀ (F := Bits) = Cert.Kernel5Ideal.defs₀ (F := Bits) := by
  unfold Cert.Kernel5.defs₀ Cert.Kernel5Ideal.defs₀
  refine congrArg _ ?_
  funext l a
  match l, a with
  | 0, (t, s) => rfl
  | ⟨_ + 1, h⟩, _ => exact absurd h (Nat.not_lt.2 (Nat.le_add_left _ _))
theorem defs_eq : Cert.Kernel5.defs (F := Bits) = Cert.Kernel5Ideal.defs (F := Bits) := congrArg (Pipeline.defs _) defs₀_eq

theorem frame_kernel : Cert.quiescent_Kernel5 := fun m ρ _ => by
  have h := frame (F := Bits) m ρ
  rw [← defs_eq] at h
  exact h

end Cert.FMlp
-- ==== Proof.FMlpValue.lean ====
module
public import proofs.«01_k».proof.Proof.Rows
public import proofs.«01_k».proof.Proof.FMlp
public import Idealize.ShloMosaic.Lib.Claim
public import Idealize.ShloMosaic.Lib.Pipeline.Value

/-! # What the call for the feed-forward layer reads

The host's arrays, and the block of each at a point. -/

@[expose] public section
set_option maxRecDepth 16384
noncomputable section
namespace Cert.FMlp
open Idealize.ShloMosaic Idealize.ShloMosaic.TcCoe Idealize.SL.Sem
open Idealize.ShloMosaic.Pipeline (Dat)
open Cert.Kernel5Ideal Cert.Kernel5Ideal.Gen Cert.Rows
variable (m : (ℓ : Loc nD τ sig) → Buf (Elt Ideal) ℓ) (c : Dev nD)

/-- The layer's norm weights. -/
theorem V_v0 (u : Fin 1) (j : Fin 1024) : V m c main_v0 (ix2 u j) = m ((c : Thread nD τ).loc main_arg1) (ix2 0 j) := by
  simp only [V, hostOps0, hostOps0_1, hostOps0_2, List.flatten_cons, List.flatten_nil, List.append_nil, List.cons_append, List.nil_append]
  entry_read
  pointwise []

/-- The packed weights are the four parts, stacked. -/
theorem V_v9 : ∃ (u : (⟨S2x4x256x1024, .f32⟩ : BufTy).Contents (Elt Ideal)) (w : (⟨S2x4x592x1024, .f32⟩ : BufTy).Contents (Elt Ideal)),
    V m c main_v9 = (truncf (F := Ideal) .bf16 (concatenate S2x4x2896x1024 2 [⟨S2x4x1024x1024, (V m c main_v2 : (⟨S2x4x1024x1024, .f32⟩ : BufTy).Contents (Elt Ideal))⟩, ⟨S2x4x1024x1024, (V m c main_v6 : (⟨S2x4x1024x1024, .f32⟩ : BufTy).Contents (Elt Ideal))⟩,
    ⟨S2x4x256x1024, u⟩, ⟨S2x4x592x1024, w⟩] concatenates_S2x4x1024x1024_S2x4x1024x1024_S2x4x256x1024_S2x4x592x1024_S2x4x2896x1024_d2) bitsLt_bf16_f32
      : (⟨S2x4x2896x1024, .bf16⟩ : BufTy).Contents (Elt Ideal)) := by
  have e : (List.flatten [hostOps0, hostOps0_1, hostOps0_2] : List (HloOp τ sig (Elt Ideal)))
      = (hostOps0 ++ (hostOps0_1 ++ hostOps0_2.take 2)) ++ hostOps0_2.drop 2 := rfl
  have h : ∀ b : Ref sig .tc, V m c b = StableHlo.after (hostOps0_2.drop 2) (StableHlo.after (hostOps0 ++ (hostOps0_1 ++ hostOps0_2.take 2)) (fun b => m (c, b))) b :=
    fun b => (congrArg (fun L => StableHlo.after L (fun b => m (c, b)) b) e).trans (congrFun (StableHlo.after_append _ _ _) _)
  rw [h main_v9, h main_v2, h main_v6]
  generalize StableHlo.after (hostOps0 ++ (hostOps0_1 ++ hostOps0_2.take 2)) (fun b => m (c, b)) = σ
  refine ⟨σ main_v7, σ main_v5, ?_⟩
  have h5 : StableHlo.after (hostOps0_2.drop 2) σ main_v2 = σ main_v2 := by
    simp only [hostOps0_2, List.drop_succ_cons, List.drop_zero, StableHlo.after_cons, StableHlo.after_nil]
    exact (StableHlo.unary_result_ne _ _ _ _ _ _ (r := main_v2) (by decide)).trans (StableHlo.nary_result_ne _ _ _ _ _ _ (r := main_v2) (by decide))
  have h9 : StableHlo.after (hostOps0_2.drop 2) σ main_v6 = σ main_v6 := by
    simp only [hostOps0_2, List.drop_succ_cons, List.drop_zero, StableHlo.after_cons, StableHlo.after_nil]
    exact (StableHlo.unary_result_ne _ _ _ _ _ _ (r := main_v6) (by decide)).trans (StableHlo.nary_result_ne _ _ _ _ _ _ (r := main_v6) (by decide))
  rw [h5, h9]
  simp only [hostOps0_2, List.drop_succ_cons, List.drop_zero, StableHlo.after_cons, StableHlo.after_nil]
  exact (StableHlo.unary_result _ _ _ _ _ _).trans (congrArg (truncf (F := Ideal) .bf16 · bitsLt_bf16_f32) (StableHlo.nary_result _ _ _ _ _ _))

/-- The first weight, its columns cut into four. -/
theorem V_v2 (p : Fin 4) (r : Fin 1024) (j : Fin 1024) : V m c main_v2 (ix4 0 p r j)
    = m ((c : Thread nD τ).loc main_arg5) (ix3 0 r ⟨1024 * p + j, by omega⟩) := by
  simp only [V, hostOps0, hostOps0_1, hostOps0_2, List.flatten_cons, List.flatten_nil, List.append_nil, List.cons_append, List.nil_append]
  entry_read
  pointwise []
  exact congrArg (fun k => m ((c : Thread nD τ).loc main_arg5) (ix3 0 r k)) (Fin.ext (by show p.val * 1024 + j.val = 1024 * p.val + j.val; omega))

/-- The second weight, its rows cut into four. -/
theorem V_v6 (p : Fin 4) (r : Fin 1024) (j : Fin 1024) : V m c main_v6 (ix4 0 p r j)
    = m ((c : Thread nD τ).loc main_arg6) (ix3 0 ⟨1024 * p + r, by omega⟩ j) := by
  simp only [V, hostOps0, hostOps0_1, hostOps0_2, List.flatten_cons, List.flatten_nil, List.append_nil, List.cons_append, List.nil_append]
  entry_read
  pointwise []
  exact congrArg (fun k => m ((c : Thread nD τ).loc main_arg6) (ix3 0 k j)) (Fin.ext (by show p.val * 1024 + r.val = 1024 * p.val + r.val; omega))

/-- The packed weights, the rows of the first weight. -/
theorem V_w1 (p : Fin 4) (r : Fin 1024) (j : Fin 1024) : V m c main_v9 (ix4 0 p ⟨r, by omega⟩ j)
    = m ((c : Thread nD τ).loc main_arg5) (ix3 0 r ⟨1024 * p + j, by omega⟩) := by
  obtain ⟨u, w, e⟩ := V_v9 m c
  refine Eq.trans ?_ (V_v2 m c p r j)
  rw [e]
  generalize V m c main_v2 = a
  generalize V m c main_v6 = b
  pointwise []

/-- The packed weights, the rows of the second weight. -/
theorem V_w2 (p : Fin 4) (r : Fin 1024) (j : Fin 1024) : V m c main_v9 (ix4 0 p ⟨1024 + r, by omega⟩ j)
    = m ((c : Thread nD τ).loc main_arg6) (ix3 0 ⟨1024 * p + r, by omega⟩ j) := by
  obtain ⟨u, w, e⟩ := V_v9 m c
  refine Eq.trans ?_ (V_v6 m c p r j)
  rw [e]
  generalize V m c main_v2 = a
  generalize V m c main_v6 = b
  pointwise []

theorem idx : ∀ t : Fin cfg0.N, win0_0.index t = ![t.val / 8, 0] ∧ win0_1.index t = ![0, 0] ∧ win0_2.index t = ![0, 0]
    ∧ win0_3.index t = ![0, 0] ∧ win0_4.index t = ![0, 0]
    ∧ win0_5.index t = ![0, t.val % 8 / 2, 0, t.val % 8 % 2] ∧ win0_6.index t = ![0, t.val % 8 / 2, 2 + t.val % 8 % 2, 0]
    ∧ win0_7.index t = ![t.val / 8, 0] ∧ win0_8.index t = ![t.val / 8, 0] ∧ win0_9.index t = ![t.val / 8, t.val % 8] ∧ win0_10.index t = ![t.val / 8, 0] :=
  (by decide +kernel : ∀ t : Fin grid0.N, _)

/-- The tokens, the norm weights, the scale, the shift, the gate and the two weights. -/
abbrev X : (⟨2, ![8192, 1024]⟩ : Shape).Idx → EReal := m ((c : Thread nD τ).loc main_arg0)
abbrev N : (⟨2, ![2, 1024]⟩ : Shape).Idx → EReal := m ((c : Thread nD τ).loc main_arg1)
abbrev S : (⟨2, ![1, 1024]⟩ : Shape).Idx → EReal := m ((c : Thread nD τ).loc main_arg2)
abbrev T : (⟨2, ![1, 1024]⟩ : Shape).Idx → EReal := m ((c : Thread nD τ).loc main_arg3)
abbrev G : (⟨2, ![1, 1024]⟩ : Shape).Idx → EReal := m ((c : Thread nD τ).loc main_arg4)
abbrev W1 : (⟨3, ![2, 1024, 4096]⟩ : Shape).Idx → EReal := m ((c : Thread nD τ).loc main_arg5)
abbrev W2 : (⟨3, ![2, 4096, 1024]⟩ : Shape).Idx → EReal := m ((c : Thread nD τ).loc main_arg6)

theorem x_at (t : Fin cfg0.N) (k j : Fin 1024) : (iblk m c 0 t) (ix2 k j) = at2 (X m c) (1024 * (t.val / 8) + k) j := by
  have ht : t.val < 64 := lt_of_lt_of_eq t.isLt N_0
  refine Eq.trans ?_ (at2_mk (X m c) ⟨1024 * (t.val / 8) + k, by omega⟩ ⟨j, by omega⟩)
  refine Eq.trans ?_ (congrFun (V_main_arg0 m c) _)
  blk_simp [iblk]
  refine congrArg (V m c main_arg0) ?_
  blk_ext [idx t]

theorem n_at (t : Fin cfg0.N) (u : Fin 1) (j : Fin 1024) : (iblk m c 1 t) (ix2 u j) = at2 (N m c) 0 j := by
  refine Eq.trans ?_ (at2_mk (N m c) 0 j)
  refine Eq.trans ?_ (V_v0 m c 0 j)
  blk_simp [iblk]
  refine congrArg (V m c main_v0) ?_
  blk_ext [idx t]

theorem s_at (t : Fin cfg0.N) (u : Fin 1) (j : Fin 1024) : (iblk m c 2 t) (ix2 u j) = at2 (S m c) 0 j := by
  refine Eq.trans ?_ (at2_mk (S m c) 0 j)
  refine Eq.trans ?_ (congrFun (V_main_arg2 m c) _)
  blk_simp [iblk]
  refine congrArg (V m c main_arg2) ?_
  blk_ext [idx t]

theorem t_at (t : Fin cfg0.N) (u : Fin 1) (j : Fin 1024) : (iblk m c 3 t) (ix2 u j) = at2 (T m c) 0 j := by
  refine Eq.trans ?_ (at2_mk (T m c) 0 j)
  refine Eq.trans ?_ (congrFun (V_main_arg3 m c) _)
  blk_simp [iblk]
  refine congrArg (V m c main_arg3) ?_
  blk_ext [idx t]

theorem g_at (t : Fin cfg0.N) (u : Fin 1) (j : Fin 1024) : (iblk m c 4 t) (ix2 u j) = at2 (G m c) 0 j := by
  refine Eq.trans ?_ (at2_mk (G m c) 0 j)
  refine Eq.trans ?_ (congrFun (V_main_arg4 m c) _)
  blk_simp [iblk]
  refine congrArg (V m c main_arg4) ?_
  blk_ext [idx t]

theorem w1_at (t : Fin cfg0.N) (u v : Fin 1) (j : Fin 1024) (s : Fin 512) :
    (X0_5 m c t) (ix4 u v j s) = at3 (W1 m c) 0 j (512 * (t.val % 8) + s) := by
  unfold X0_5 Pipeline.Window.fill
  rw [dif_pos (moved0_5 t _)]
  have ht : t.val < 64 := lt_of_lt_of_eq t.isLt N_0
  refine Eq.trans ?_ ((V_w1 m c ⟨t.val % 8 / 2, by omega⟩ j ⟨512 * (t.val % 8 % 2) + s, by omega⟩).trans ?_)
  · blk_simp [iblk]
    refine congrArg (V m c main_v9) ?_
    blk_ext [idx t]
  · refine Eq.trans ?_ (at3_mk (W1 m c) 0 j ⟨512 * (t.val % 8) + s, by omega⟩)
    refine congrArg (fun n => W1 m c (ix3 0 j n)) (Fin.ext ?_)
    show 1024 * (t.val % 8 / 2) + (512 * (t.val % 8 % 2) + s.val) = 512 * (t.val % 8) + s.val
    omega

theorem w2_at (t : Fin cfg0.N) (u v : Fin 1) (s : Fin 512) (j : Fin 1024) :
    (X0_6 m c t) (ix4 u v s j) = at3 (W2 m c) 0 (512 * (t.val % 8) + s) j := by
  unfold X0_6 Pipeline.Window.fill
  rw [dif_pos (moved0_6 t _)]
  have ht : t.val < 64 := lt_of_lt_of_eq t.isLt N_0
  refine Eq.trans ?_ ((V_w2 m c ⟨t.val % 8 / 2, by omega⟩ ⟨512 * (t.val % 8 % 2) + s, by omega⟩ j).trans ?_)
  · blk_simp [iblk]
    refine congrArg (V m c main_v9) ?_
    blk_ext [idx t]
  · refine Eq.trans ?_ (at3_mk (W2 m c) 0 ⟨512 * (t.val % 8) + s, by omega⟩ j)
    refine congrArg (fun n => W2 m c (ix3 0 n j)) (Fin.ext ?_)
    show 1024 * (t.val % 8 / 2) + (512 * (t.val % 8 % 2) + s.val) = 512 * (t.val % 8) + s.val
    omega

end Cert.FMlp
-- ==== Proof.FMlpEqual.lean ====
module
public import proofs.«01_k».proof.Proof.FMlpValue
public import proofs.«01_k».proof.Proof.Gen.Reference5Ideal.Read
public import proofs.«01_k».proof.Defs
public import Idealize.ShloMosaic.Lib.Pipeline.ValueKit

/-! # The call for the feed-forward layer is the reference's layer

The block's payloads at an index, the running sum over the ranges of hidden lanes, the four arrays the call leaves, and the
reference's four results. -/

@[expose] public section
set_option maxRecDepth 16384
noncomputable section
namespace Cert.FMlp
open Idealize.ShloMosaic Idealize.ShloMosaic.TcCoe Idealize.SL.Sem
open Idealize.ShloMosaic.Pipeline (Dat)
open Cert.Kernel5Ideal Cert.Kernel5Ideal.Gen Cert.Rows
variable (m : (ℓ : Loc nD τ sig) → Buf (Elt Ideal) ℓ) (c : Dev nD)

/-- The reciprocal of a row's root mean square, the modulated rows, the hidden lanes, and the layer's sum. -/
def RS (r : ℕ) : EReal := Ideal.rsqrt (Ideal.div (∑ x : Fin 1024, at2 (X m c) r x * at2 (X m c) r x) (Ideal.ofBits FTy.f32 1149239296#32)
  + Ideal.ofBits FTy.f32 897988541#32)
def NV (r j : ℕ) : EReal := at2 (X m c) r j * RS m c r * at2 (N m c) 0 j * (1 + at2 (S m c) 0 j) + at2 (T m c) 0 j
def HA (r s : ℕ) : EReal := ∑ j : Fin 1024, NV m c r j * at3 (W1 m c) 0 j s
def P (r j s : ℕ) : EReal := max (HA m c r s) 0 * max (HA m c r s) 0 * at3 (W2 m c) 0 s j
def MM (r j : ℕ) : EReal := ∑ s : Fin 4096, P m c r j s

theorem pay1_at (t : Fin cfg0.N) (k j : Fin 1024) :
    k0_pay1 (F := Ideal) (iblk m c 0 t) (iblk m c 1 t) (iblk m c 2 t) (iblk m c 3 t) (ix2 k j) = NV m c (1024 * (t.val / 8) + k) j := by
  unfold NV RS
  pointwise [k0_pay1, x_at, n_at, s_at, t_at]

theorem nrm_at (t : Fin cfg0.N) (k j : Fin 1024) : nrm m c t.val t.isLt (ix2 k j) = NV m c (1024 * (t.val / 8) + k) j := by
  unfold nrm
  refine (pay1_at m c _ k j).trans ?_
  have e : (firstPt t.val t.isLt).val / 8 = t.val / 8 := by show 8 * (t.val / 8) / 8 = t.val / 8; omega
  rw [e]

theorem pay3_at (t : Fin cfg0.N) (k : Fin 1024) (s : Fin 512) :
    k0_pay3 (F := Ideal) (nrm m c t.val t.isLt) (X0_5 m c t) (ix2 k s) = HA m c (1024 * (t.val / 8) + k) (512 * (t.val % 8) + s) := by
  unfold HA
  pointwise [k0_pay3, nrm_at, w1_at]

theorem pay4_at (t : Fin cfg0.N) (k : Fin 1024) (s : Fin 512) :
    k0_pay4 (F := Ideal) (nrm m c t.val t.isLt) (X0_5 m c t) (ix2 k s) = HA m c (1024 * (t.val / 8) + k) (512 * (t.val % 8) + s) := by
  pointwise [k0_pay4, pay3_at]

theorem pay5_at (t : Fin cfg0.N) (a : Vec Ideal S1024x1024 .f32) (k j : Fin 1024) :
    k0_pay5 (F := Ideal) (nrm m c t.val t.isLt) (X0_5 m c t) a (X0_6 m c t) (ix2 k j)
      = a (ix2 k j) + ∑ s : Fin 512, P m c (1024 * (t.val / 8) + k) j (512 * (t.val % 8) + s) := by
  unfold P
  pointwise [k0_pay5, pay3_at, w2_at]

theorem reset (t : Fin cfg0.N) (h : t.val % 8 = 0) (y : S1024x1024.Idx) :
    acc m c t.val t.isLt y = 0 + ∑ s : Fin 512, P m c (1024 * (t.val / 8) + (y 0).val) (y 1).val (512 * (t.val % 8) + s) := by
  rw [acc_first m c t h]
  refine (congrArg _ (eq_ix2 y)).trans ((pay5_at m c t _ (y 0) (y 1)).trans (congrArg (fun e : EReal => e + _) ?_))
  pointwise [k0_pay2]

theorem step (t : Fin cfg0.N) (h : ¬t.val % 8 = 0) (y : S1024x1024.Idx) :
    acc m c t.val t.isLt y = acc m c (t.val - 1) (Nat.lt_of_le_of_lt (Nat.sub_le _ _) t.isLt) y
      + ∑ s : Fin 512, P m c (1024 * (t.val / 8) + (y 0).val) (y 1).val (512 * (t.val % 8) + s) := by
  rw [acc_later m c t h]
  exact (congrArg _ (eq_ix2 y)).trans ((pay5_at m c t _ (y 0) (y 1)).trans (congrArg (fun e : EReal => e + _) (congrArg _ (eq_ix2 y).symm)))

theorem acc_at (t : Fin cfg0.N) (h : t.val % 8 = 7) (y : S1024x1024.Idx) :
    acc m c t.val t.isLt y = MM m c (1024 * (t.val / 8) + (y 0).val) (y 1).val := by
  have ht : t.val < 64 := lt_of_lt_of_eq t.isLt N_0
  rw [Pipeline.eq_sum_fin_of_reset_step_apply_of_flush (fun n h => acc m c n h) 8 (fun _ => 0)
    (fun p y => ∑ s : Fin 512, P m c (1024 * (p.val / 8) + (y 0).val) (y 1).val (512 * (p.val % 8) + s))
    (reset m c) (step m c) t h y, zero_add]
  refine Eq.trans (Finset.sum_congr rfl fun s _ => ?_)
    (sum_blocks 8 512 fun r => P m c (1024 * (t.val / 8) + (y 0).val) (y 1).val r)
  have e1 : (8 * (t.val / 8) + s.val) % 8 = s.val := by omega
  have e2 : (8 * (t.val / 8) + s.val) / 8 = t.val / 8 := by omega
  simp only [e1, e2]

theorem pay7_at (t : Fin cfg0.N) (h : t.val % 8 = 7) (k j : Fin 1024) :
    k0_pay7 (F := Ideal) (acc m c t.val t.isLt) (iblk m c 0 t) (iblk m c 4 t) (ix2 k j)
      = at2 (X m c) (1024 * (t.val / 8) + k) j + at2 (G m c) 0 j * MM m c (1024 * (t.val / 8) + k) j := by
  have e := acc_at m c t h (ix2 k j)
  generalize acc m c t.val t.isLt = a at e
  refine Eq.trans ?_ (congrArg (fun e : EReal => at2 (X m c) (1024 * (t.val / 8) + k) j + at2 (G m c) 0 j * e) e)
  pointwise [k0_pay7, x_at, g_at]

theorem final7 (c : Dev nD) : (dats m 0 c).arrAt 7 cfg0.N
    = fun i => at2 (X m c) (i 0).val (i 1).val + at2 (G m c) 0 (i 1).val * MM m c (i 0).val (i 1).val := by
  refine (dats m 0 c).arrAt_eq_of_covers 7 _ (by decide +kernel) fun t hf y => ?_
  blk_simp
  rw [after_7]
  refine (congrArg _ (eq_ix2 y)).trans ((pay7_at m c t ((flush0_7 t).mp hf) (y 0) (y 1)).trans ?_)
  blk_simp [idx t]
  rw [Nat.mul_comm]

theorem final8 (c : Dev nD) : (dats m 0 c).arrAt 8 cfg0.N = fun i => MM m c (i 0).val (i 1).val := by
  refine (dats m 0 c).arrAt_eq_of_covers 8 _ (by decide +kernel) fun t hf y => ?_
  blk_simp
  rw [after_8]
  refine Eq.trans (show _ = acc m c t.val t.isLt y from rfl) ?_
  rw [acc_at m c t ((flush0_8 t).mp hf)]
  blk_simp [idx t]
  rw [Nat.mul_comm]

theorem final9 (c : Dev nD) : (dats m 0 c).arrAt 9 cfg0.N = fun i => HA m c (i 0).val (i 1).val := by
  refine (dats m 0 c).arrAt_eq_of_covers 9 _ (by decide +kernel) fun t hf y => ?_
  blk_simp
  rw [after_9]
  refine (congrArg _ (eq_ix2 y)).trans ((pay4_at m c t (y 0) (y 1)).trans ?_)
  blk_simp [idx t]
  rw [Nat.mul_comm, Nat.mul_comm 512]

theorem final10 (c : Dev nD) : (dats m 0 c).arrAt 10 cfg0.N = fun i => NV m c (i 0).val (i 1).val := by
  refine (dats m 0 c).arrAt_eq_of_covers 10 _ (by decide +kernel) fun t hf y => ?_
  blk_simp
  rw [after_10]
  refine (congrArg _ (eq_ix2 y)).trans ((nrm_at m c t (y 0) (y 1)).trans ?_)
  blk_simp [idx t]
  rw [Nat.mul_comm]

/-- The run, with the four results named. -/
theorem run_blocks (g : Dev nD → PrngReg) : θ_run defs (onTc (τ := τ) (main (F := Ideal))) ⟨m, fun _ => 0, g⟩ (fun r => ∀ c : Dev nD,
      r.2.mem ((c.tc : Thread nD τ).loc main_v10_0) = (dats m 0 c).arrAt 7 cfg0.N
      ∧ r.2.mem ((c.tc : Thread nD τ).loc main_v10_1) = (dats m 0 c).arrAt 8 cfg0.N
      ∧ r.2.mem ((c.tc : Thread nD τ).loc main_v10_2) = (dats m 0 c).arrAt 9 cfg0.N
      ∧ r.2.mem ((c.tc : Thread nD τ).loc main_v10_3) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1 7, (h.1 c).1 8, (h.1 c).1 9, (h.1 c).1 10, h.2 c⟩)
    (θ_run_and (run_main m g) (frame_of m g (dats m) (A_eq m) (run_main m g)))

/-- The reference leaves its arguments unchanged, and it has no counter. -/
theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run m ρ)

section reference
open Cert.Reference5Ideal.Read Cert.Reference5Ideal.Gen
variable (x0 : (⟨Cert.Reference5Ideal.S8192x1024, .f32⟩ : BufTy).Contents (Elt Ideal)) (x1 : (⟨Cert.Reference5Ideal.S2x1024, .f32⟩ : BufTy).Contents (Elt Ideal))
  (x2 x3 x4 : (⟨Cert.Reference5Ideal.S1x1024, .f32⟩ : BufTy).Contents (Elt Ideal)) (x5 : (⟨Cert.Reference5Ideal.S2x1024x4096, .f32⟩ : BufTy).Contents (Elt Ideal))
  (x6 : (⟨Cert.Reference5Ideal.S2x4096x1024, .f32⟩ : BufTy).Contents (Elt Ideal))

theorem ref_rs (r : Fin 8192) : val_main_v9 (F := Ideal) x0 (ix2 r 0)
    = Ideal.rsqrt (Ideal.div (∑ x : Fin 1024, x0 (ix2 r x) * x0 (ix2 r x)) (Ideal.ofBits FTy.f32 1149239296#32) + Ideal.ofBits FTy.f32 897988541#32) := by
  pointwise [val_main_v9, val_main_v8, val_main_v7, val_main_v6, val_main_v5, val_main_v4, val_main_v3, val_main_v2, val_main_cst, val_main_cst_0, val_main_cst_1]

theorem ref_nrm (r : Fin 8192) (j : Fin 1024) : val_main_v20 (F := Ideal) x0 x1 x2 x3 (ix2 r j)
    = x0 (ix2 r j) * val_main_v9 (F := Ideal) x0 (ix2 r 0) * x1 (ix2 0 j) * (1 + x2 (ix2 0 j)) + x3 (ix2 0 j) := by
  pointwise [val_main_v20, val_main_v19, val_main_v18, val_main_v17, val_main_v16, val_main_v15, val_main_cst_2, val_main_v14, val_main_v13, val_main_v12,
    val_main_v11, val_main_v10, val_main_v1, val_main_v0]

theorem ref_w1 (k : Fin 1024) (s : Fin 4096) : val_main_v22 (F := Ideal) x5 (ix2 k s) = x5 (ix3 0 k s) := by
  pointwise [val_main_v22, val_main_v21]

theorem ref_w2 (s : Fin 4096) (j : Fin 1024) : val_main_v27 (F := Ideal) x6 (ix2 s j) = x6 (ix3 0 s j) := by
  pointwise [val_main_v27, val_main_v26]

theorem ref_hid (r : Fin 8192) (s : Fin 4096) : val_main_v23 (F := Ideal) x0 x1 x2 x3 x5 (ix2 r s)
    = ∑ j : Fin 1024, val_main_v20 (F := Ideal) x0 x1 x2 x3 (ix2 r j) * x5 (ix3 0 j s) := by
  pointwise [val_main_v23, ref_w1]

theorem ref_sum (r : Fin 8192) (j : Fin 1024) : val_main_v28 (F := Ideal) x0 x1 x2 x3 x5 x6 (ix2 r j)
    = ∑ s : Fin 4096, max (val_main_v23 (F := Ideal) x0 x1 x2 x3 x5 (ix2 r s)) 0 * max (val_main_v23 (F := Ideal) x0 x1 x2 x3 x5 (ix2 r s)) 0 * x6 (ix3 0 s j) := by
  pointwise [val_main_v28, val_main_v25, val_main_v24, val_main_call0_v0, val_main_call0_cst, ref_w2]

theorem ref_out (r : Fin 8192) (j : Fin 1024) : val_main_v31 (F := Ideal) x0 x1 x2 x3 x4 x5 x6 (ix2 r j)
    = x0 (ix2 r j) + x4 (ix2 0 j) * val_main_v28 (F := Ideal) x0 x1 x2 x3 x5 x6 (ix2 r j) := by
  pointwise [val_main_v31, val_main_v30, val_main_v29]

end reference

open Cert.Reference5Ideal.Read in
theorem nrm_eq (r : Fin 8192) (j : Fin 1024) : val_main_v20 (F := Ideal) (X m c) (N m c) (S m c) (T m c) (ix2 r j) = NV m c r j := by
  refine (ref_nrm _ _ _ _ r j).trans ?_
  have e : val_main_v9 (F := Ideal) (X m c) (ix2 r 0) = RS m c r := by
    refine (ref_rs _ r).trans ?_
    unfold RS
    refine congrArg (fun e : EReal => Ideal.rsqrt (Ideal.div e _ + _)) (Finset.sum_congr rfl fun x _ => ?_)
    rw [← at2_mk]
  unfold NV
  rw [e, ← at2_mk (X m c) r j, show at2 (N m c) 0 j = _ from (at2_mk (N m c) 0 j).symm, show at2 (S m c) 0 j = _ from (at2_mk (S m c) 0 j).symm,
    show at2 (T m c) 0 j = _ from (at2_mk (T m c) 0 j).symm]

open Cert.Reference5Ideal.Read in
theorem hid_eq (r : Fin 8192) (s : Fin 4096) : val_main_v23 (F := Ideal) (X m c) (N m c) (S m c) (T m c) (W1 m c) (ix2 r s) = HA m c r s :=
  (ref_hid _ _ _ _ _ r s).trans (Finset.sum_congr rfl fun j _ => congrArg₂ (fun p q : EReal => p * q) (nrm_eq m c r j) (at3_mk (W1 m c) 0 j s))

open Cert.Reference5Ideal.Read in
theorem sum_eq (r : Fin 8192) (j : Fin 1024) : val_main_v28 (F := Ideal) (X m c) (N m c) (S m c) (T m c) (W1 m c) (W2 m c) (ix2 r j) = MM m c r j :=
  (ref_sum _ _ _ _ _ _ r j).trans (Finset.sum_congr rfl fun s _ => congrArg₂ (fun p q : EReal => max p 0 * max p 0 * q) (hid_eq m c r s) (at3_mk (W2 m c) 0 s j))

theorem algebraic : Cert.algebraic_Kernel5Ideal_Reference5Ideal := by
  intro m g m' g' _ hagree
  refine ⟨_, _, _, _, (θ_run Cert.Kernel5Ideal.defs _ _).mono (fun r h c =>
      ⟨(h c).1.trans (final7 m c), (h c).2.1.trans (final8 m c), (h c).2.2.1.trans (final9 m c), (h c).2.2.2.1.trans (final10 m c), (h c).2.2.2.2⟩)
      (run_blocks m g),
    (θ_run Cert.Reference5Ideal.defs _ _).mono (fun r h c => ?_) (Cert.Reference5Ideal.Value.run m' g')⟩
  obtain ⟨h0, h1, h2, h3, hargs⟩ := h c
  obtain ⟨a0, a1, a2, a3, a4, a5, a6, a7, a8⟩ := hagree c
  refine ⟨?_, ?_, ?_, ?_, hargs⟩
  · refine funext fun i => ?_
    rw [h0, Cert.Reference5Ideal.Read.val_main_v31_eq, a0, a1, a2, a3, a4, a5, a6, eq_ix2 i]
    refine (ref_out _ _ _ _ _ _ _ (i 0) (i 1)).trans ?_
    exact congrArg₂ (fun p q : EReal => p + q) (at2_mk (X m c) (i 0) (i 1)) (congrArg₂ (fun p q : EReal => p * q) (at2_mk (G m c) 0 (i 1)) (sum_eq m c (i 0) (i 1)))
  · refine funext fun i => ?_
    rw [h1, Cert.Reference5Ideal.Read.val_main_v32_eq, a0, a1, a2, a3, a5, a6, eq_ix2 i]
    exact sum_eq m c (i 0) (i 1)
  · refine funext fun i => ?_
    rw [h2, Cert.Reference5Ideal.Read.val_main_v33_eq, a0, a1, a2, a3, a5, eq_ix2 i]
    exact hid_eq m c (i 0) (i 1)
  · refine funext fun i => ?_
    rw [h3, Cert.Reference5Ideal.Read.val_main_v34_eq, a0, a1, a2, a3, eq_ix2 i]
    exact nrm_eq m c (i 0) (i 1)

end Cert.FMlp
-- ==== Proof.MlpB.lean ====
module
public import proofs.«01_k».proof.Proof.Rows
public import proofs.«01_k».proof.Proof.Stores
public import proofs.«01_k».proof.Proof.Gen.Kernel6Ideal.Frame
public import proofs.«01_k».proof.Proof.Gen.Kernel6Ideal.Skeleton
public import proofs.«01_k».proof.Proof.Gen.Kernel6
public import Idealize.ShloMosaic.Lib.Pipeline.TableIdle
public import proofs.«01_k».proof.Defs
public import Idealize.ShloMosaic.Lib.Pipeline.ValueKit

/-! # The call for the gradient of the feed-forward layer: its run

One block of 1024 tokens is worked on in eight points, each with 512 hidden lanes. The first of the eight clears the sum that it
adds into, and writes the scaled gradient; the seven others find both as the point before left them. -/

@[expose] public section
set_option maxRecDepth 16384
noncomputable section
namespace Cert.MlpB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
open Cert.Stores (read_store)

variable {F : FTy → Type} [FloatOps F]
variable (m : (ℓ : Loc nD τ sig) → Buf (Elt F) ℓ) (ρ : Dev nD → PrngReg)

/-- The condition of the body's branch: the second coordinate is zero. -/
abbrev isFirst (i : grid0.Coords) : Prop := (Scalar.cmpi .ne (Scalar.extui (Scalar.cmpi .eq (BitVec.ofNat 32 (i 1).val) 0#32)) 0#32) = 1#1
/-- It holds at the points that are multiples of eight. -/
theorem isFirst_iff : ∀ t : Fin cfg0.N, isFirst (grid0.coords t) ↔ t.val % 8 = 0 := (by decide +kernel : ∀ t : Fin grid0.N, _)

variable (c : Dev nD) (i : grid0.Coords)
  (a2 : Memref sig .tc .vmem S1024x1024 .f32) (h2 : a2.IsWhole) (a3 : Memref sig .tc .vmem S1024x512 .bf16) (h3 : a3.IsWhole)
  (a4 : Memref sig .tc .vmem S1x1024 .f32) (h4 : a4.IsWhole) (a5 : Memref sig .tc .vmem S1x1x1024x512 .bf16) (h5 : a5.IsWhole)
  (a6 : Memref sig .tc .vmem S1x1x512x1024 .bf16) (h6 : a6.IsWhole) (a7 : Memref sig .tc .vmem S1024x1024 .f32) (h7 : a7.IsWhole)
  (a8 : Memref sig .tc .vmem S1024x512 .bf16) (h8 : a8.IsWhole) (a9 : Memref sig .tc .vmem S1024x512 .bf16) (h9 : a9.IsWhole)
  (a10 : Memref sig .tc .vmem S1024x1024 .bf16) (h10 : a10.IsWhole)
  (x0 : Vec F S1024x1024 .f32) (x1 : Vec F S1024x512 .bf16) (x2 : Vec F S1x1024 .f32) (x3 : Vec F S1x1x1024x512 .bf16)
  (x4 : Vec F S1x1x512x1024 .bf16) (y5 : Vec F S1024x1024 .f32) (y8 : Vec F S1024x1024 .bf16)
  (E : Set ℕ) (K : PUnit → sProp (MT nD τ sig Unit (Elt F) ℕ (UR sig nD τ) ℕ))

include h2 h3 h4 h5 h6 in
set_option maxHeartbeats 1000000 in
/-- The body at the first point of a block. -/
theorem body_first (hc : isFirst i) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
      (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
        owns (c : Thread nD τ) a7 fullShare (k0_pay1 (k0_pay7 k0_pay3) (k0_pay8 x0 x2 x1 x4 x3)) ∗ owns (c : Thread nD τ) a8 fullShare (k0_pay6 x0 x2 x1 x4)
        ∗ owns (c : Thread nD τ) a9 fullShare (k0_pay5 x1) ∗ owns (c : Thread nD τ) a10 fullShare (k0_pay2 x0 x2)) -∗ K ⟨⟩))
    ⊢ wp frame (wpE (defs₀ (F := F)) Variants.none c none) E (cc0_b_mlp i a2 h2 a3 h3 a4 h4 a5 h5 a6 h6 a7 h7 a8 h8 a9 h9 a10 h10) K := by
  simp only [cc0_b_mlp_eq_skeleton, k0_part1_eq_skeleton]; unfold cc0_b_mlp_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := h2.eq_unread hf0; obtain rfl := h3.eq_unread hf1; obtain rfl := h4.eq_unread hf2; obtain rfl := h5.eq_unread hf3; obtain rfl := h6.eq_unread hf4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; swap; · iexact H5
    ipureintro; refine (read_store _ _ _ _ _ (by decide)).trans ?_; frame_out
  isplitl [H6]
  · iexists _; isplitr; swap; · iexact H6
    ipureintro; refine (read_store _ _ _ _ _ (by decide)).trans ?_; frame_out
  isplitl [H7]
  · iexists _; isplitr; swap; · iexact H7
    ipureintro; refine (read_store _ _ _ _ _ (by decide)).trans ?_; frame_out
  iexists _; isplitr; swap; · iexact H8
  ipureintro; refine (read_store _ _ _ _ _ (by decide)).trans ?_; frame_out

include h2 h3 h4 h5 h6 h7 h10 in
set_option maxHeartbeats 1000000 in
/-- The body at another point of a block. -/
theorem body_later (hc : ¬isFirst i) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
      owns (c : Thread nD τ) a7 fullShare y5 ∗ (∃ d, owns (c : Thread nD τ) a8 fullShare d) ∗ (∃ d, owns (c : Thread nD τ) a9 fullShare d) ∗ owns (c : Thread nD τ) a10 fullShare y8
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗
        owns (c : Thread nD τ) a7 fullShare (k0_pay1 (k0_pay7 y5) (k0_pay8 x0 x2 x1 x4 x3)) ∗ owns (c : Thread nD τ) a8 fullShare (k0_pay6 x0 x2 x1 x4)
        ∗ owns (c : Thread nD τ) a9 fullShare (k0_pay5 x1) ∗ owns (c : Thread nD τ) a10 fullShare (y8)) -∗ K ⟨⟩))
    ⊢ wp frame (wpE (defs₀ (F := F)) Variants.none c none) E (cc0_b_mlp i a2 h2 a3 h3 a4 h4 a5 h5 a6 h6 a7 h7 a8 h8 a9 h9 a10 h10) K := by
  simp only [cc0_b_mlp_eq_skeleton, k0_part1_eq_skeleton]; unfold cc0_b_mlp_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h10.eq_unread hf8
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; swap; · iexact H5
    ipureintro; refine (read_store _ _ _ _ _ (by decide)).trans ?_; frame_out
  isplitl [H6]
  · iexists _; isplitr; swap; · iexact H6
    ipureintro; refine (read_store _ _ _ _ _ (by decide)).trans ?_; frame_out
  isplitl [H7]
  · iexists _; isplitr; swap; · iexact H7
    ipureintro; refine (read_store _ _ _ _ _ (by decide)).trans ?_; frame_out
  iexists _; isplitr; · ipureintro; exact h10.read_unread _
  iexact H8

/-! ## What the outputs hold after each point -/

/-- What the running sum holds after the body at position `n`. -/
def acc (c : Dev nD) : (n : ℕ) → n < cfg0.N → Vec F S1024x1024 .f32
  | 0, hn => k0_pay1 (k0_pay7 k0_pay3) (k0_pay8 (iblk m c 0 ⟨0, hn⟩) (iblk m c 2 ⟨0, hn⟩) (iblk m c 1 ⟨0, hn⟩) (X0_4 m c ⟨0, hn⟩) (X0_3 m c ⟨0, hn⟩))
  | n + 1, hn =>
    if (n + 1) % 8 = 0 then
      k0_pay1 (k0_pay7 k0_pay3) (k0_pay8 (iblk m c 0 ⟨n + 1, hn⟩) (iblk m c 2 ⟨n + 1, hn⟩) (iblk m c 1 ⟨n + 1, hn⟩) (X0_4 m c ⟨n + 1, hn⟩) (X0_3 m c ⟨n + 1, hn⟩))
    else
      k0_pay1 (k0_pay7 (acc c n (Nat.lt_of_succ_lt hn)))
        (k0_pay8 (iblk m c 0 ⟨n + 1, hn⟩) (iblk m c 2 ⟨n + 1, hn⟩) (iblk m c 1 ⟨n + 1, hn⟩) (X0_4 m c ⟨n + 1, hn⟩) (X0_3 m c ⟨n + 1, hn⟩))

theorem acc_first (c : Dev nD) (t : Fin cfg0.N) (h : t.val % 8 = 0) :
    acc m c t.val t.isLt = k0_pay1 (k0_pay7 k0_pay3) (k0_pay8 (iblk m c 0 t) (iblk m c 2 t) (iblk m c 1 t) (X0_4 m c t) (X0_3 m c t)) := by
  obtain ⟨n, hn⟩ := t
  cases n with
  | zero => exact rfl
  | succ n => exact (if_pos h).trans rfl

theorem acc_later (c : Dev nD) (t : Fin cfg0.N) (h : ¬t.val % 8 = 0) :
    acc m c t.val t.isLt = k0_pay1 (k0_pay7 (acc m c (t.val - 1) (Nat.lt_of_le_of_lt (Nat.sub_le _ _) t.isLt)))
      (k0_pay8 (iblk m c 0 t) (iblk m c 2 t) (iblk m c 1 t) (X0_4 m c t) (X0_3 m c t)) := by
  obtain ⟨n, hn⟩ := t
  cases n with
  | zero => exact absurd (Nat.zero_mod _) h
  | succ n => exact (if_neg h).trans rfl

/-- The first point of the block of rows the point `n` is in. -/
def firstPt (n : ℕ) (hn : n < cfg0.N) : Fin cfg0.N := ⟨8 * (n / 8), Nat.lt_of_le_of_lt (Nat.mul_div_le n 8) hn⟩

/-- What the scaled product's block holds: stored at the first point of a block of rows and kept. -/
def dm (c : Dev nD) (n : ℕ) (hn : n < cfg0.N) : Vec F S1024x1024 .bf16 :=
  k0_pay2 (iblk m c 0 (firstPt n hn)) (iblk m c 2 (firstPt n hn))

theorem dm_first (c : Dev nD) (t : Fin cfg0.N) (h : t.val % 8 = 0) : dm m c t.val t.isLt = k0_pay2 (iblk m c 0 t) (iblk m c 2 t) := by
  have e : firstPt t.val t.isLt = t := Fin.ext (by show 8 * (t.val / 8) = t.val; omega)
  unfold dm; rw [e]

theorem dm_later (c : Dev nD) (t : Fin cfg0.N) (h : ¬t.val % 8 = 0) :
    dm m c (t.val - 1) (Nat.lt_of_le_of_lt (Nat.sub_le _ _) t.isLt) = dm m c t.val t.isLt := by
  have e : firstPt (t.val - 1) (Nat.lt_of_le_of_lt (Nat.sub_le _ _) t.isLt) = firstPt t.val t.isLt :=
    Fin.ext (by show 8 * ((t.val - 1) / 8) = 8 * (t.val / 8); omega)
  unfold dm; rw [e]

/-- The proof data: each input's block, and the four outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => acc m c t.val t.isLt
    | ⟨6, _⟩ => k0_pay6 (iblk m c 0 t) (iblk m c 2 t) (iblk m c 1 t) (X0_4 m c t)
    | ⟨7, _⟩ => k0_pay5 (iblk m c 1 t)
    | ⟨8, _⟩ => dm m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = acc m c t.val t.isLt := by dsimp only [dats]
theorem after_6 (c : Dev nD) (t : Fin cfg0.N) : (dats m 0 c).after 6 t = k0_pay6 (iblk m c 0 t) (iblk m c 2 t) (iblk m c 1 t) (X0_4 m c t) := by dsimp only [dats]
theorem after_7 (c : Dev nD) (t : Fin cfg0.N) : (dats m 0 c).after 7 t = k0_pay5 (iblk m c 1 t) := by dsimp only [dats]
theorem after_8 (c : Dev nD) (t : Fin cfg0.N) : (dats m 0 c).after 8 t = dm m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = X0_3 m c t := before0_3_of m (dats m 0 c) (A_eq m c 3) (after_3 m c) t d
theorem before_4 (c : Dev nD) (t : Fin cfg0.N) (d) : (dats m 0 c).before 4 t d = X0_4 m c t := before0_4_of m (dats m 0 c) (A_eq m c 4) (after_4 m c) t d
theorem before_5 (c : Dev nD) (t : Fin cfg0.N) (h : ¬t.val % 8 = 0) (d) :
    (dats m 0 c).before 5 t d = acc m c (t.val - 1) (Nat.lt_of_le_of_lt (Nat.sub_le _ _) t.isLt) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
/-- At which points the scaled product's block is stored. -/
theorem idle_8 : ∀ t : Fin cfg0.N, cfg0.idle 8 (cfg0.grid.coords t) = !decide (t.val % 8 = 0) := (by decide +kernel : ∀ t : Fin grid0.N, idle0 8 (grid0.coords t) = !decide (t.val % 8 = 0))
/-- Its buffer holds nothing of this call's at the first point of a block of rows only. -/
theorem fresh_8 : ∀ n, n ≤ cfg0.N → cfg0.fresh 8 n = decide (n % 8 = 0) :=
  cfg0.fresh_tab 8 (fun n => decide (n % 8 = 0)) rfl fun t => by
    rw [idle_8 t]
    have hf := flush0_8 t
    cases h : (cfg0.win 8).flush t
    · have : ¬t.val % 8 = 7 := fun e => Bool.false_ne_true (h.symm.trans (hf.mpr e))
      have e : ¬(t.val + 1) % 8 = 0 := by omega
      simp only [e, Bool.false_or]
      by_cases h0 : t.val % 8 = 0 <;> simp [h0]
    · have : (t.val + 1) % 8 = 0 := by have := hf.mp h; omega
      simp only [this, Bool.true_or, decide_true]
theorem before_8 (c : Dev nD) (t : Fin cfg0.N) (h : ¬t.val % 8 = 0) (d) : (dats m 0 c).before 8 t d = dm m c t.val t.isLt := by
  rw [(dats m 0 c).before_out_traj 8 rfl (fun _ _ => rfl) (fun t _ hi _ => by
    rw [after_8, after_8]
    refine (dm_later m c t fun h0 => ?_).symm
    rw [idle_8 t, h0] at hi
    exact Bool.false_ne_true hi) t.val t rfl d, fresh_8 t.val t.isLt.le]
  simp only [h, decide_false, Bool.false_eq_true, if_false]
  rw [after_8]
  exact dm_later m c t h

/-- The block handed on: where the point stores nothing and writes nothing back, it is what was found. -/
theorem leaves_8 (c : Dev nD) (t : Fin cfg0.N) :
    owns (c : Thread nD τ) (win0_8.stage (cfg0.slots t 8)) fullShare (dm m c t.val t.isLt) ⊢ (dats m 0 c).leavesExact 8 t := by
  by_cases h : t.val % 8 = 0
  · unfold Dat.leavesExact
    rw [idle_8 t]; simp only [h, decide_true, Bool.not_true]
    exact .rfl
  · cases hf : (cfg0.win 8).flush t
    · rw [Dat.leavesExact_idle _ _ _ (by rw [idle_8 t]; simp [h]) hf]
      iintro H
      iexists (dm m c t.val t.isLt)
      rw [before_8 m c t h]
      iexact H
    · unfold Dat.leavesExact
      rw [idle_8 t, hf]; simp only [h, decide_false, Bool.not_false]
      exact .rfl

/-! ## The body at every point -/

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (dats m 0 c).leavesExact 8 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 8 = 0
  · rw [acc_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ (iblk m c 0 t) (iblk m c 1 t) (iblk m c 2 t) (X0_3 m c t) (X0_4 m c t) Set.univ _ ((isFirst_iff t).mpr h0))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply leaves_8 m c t
    rw [dm_first m c t h0]
    iexact H8
  · simp only [before_5 m c t h0, before_8 m c t h0]
    rw [acc_later m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_later c (grid0.coords t) _ _ _ _ _ _ _ _ _ _ _ _ _ _ _ _ _ _ (iblk m c 0 t) (iblk m c 1 t) (iblk m c 2 t) (X0_3 m c t) (X0_4 m c t) _ _ Set.univ _ (fun h => h0 ((isFirst_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply leaves_8 m c t
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
/-- The launch ends with every array at what the proof data say and no counter left. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

theorem frame_ideal : Cert.quiescent_Kernel6Ideal := fun m ρ _ => frame m ρ

/-- The two programs' tables of bodies are the same. -/
theorem defs₀_eq : Cert.Kernel6.defs₀ (F := Bits) = Cert.Kernel6Ideal.defs₀ (F := Bits) := by
  unfold Cert.Kernel6.defs₀ Cert.Kernel6Ideal.defs₀
  refine congrArg _ ?_
  funext l a
  match l, a with
  | 0, (t, s) => rfl
  | ⟨_ + 1, h⟩, _ => exact absurd h (Nat.not_lt.2 (Nat.le_add_left _ _))
theorem defs_eq : Cert.Kernel6.defs (F := Bits) = Cert.Kernel6Ideal.defs (F := Bits) := congrArg (Pipeline.defs _) defs₀_eq

theorem frame_kernel : Cert.quiescent_Kernel6 := fun m ρ _ => by
  have h := frame (F := Bits) m ρ
  rw [← defs_eq] at h
  exact h

end Cert.MlpB
-- ==== Proof.MlpBValue.lean ====
module
public import proofs.«01_k».proof.Proof.MlpB
public import proofs.«01_k».proof.Proof.Gen.Reference6Ideal.Read
public import Idealize.ShloMosaic.Lib.Claim
public import Idealize.ShloMosaic.Lib.Pipeline.Value

/-! # What the call for the gradient of the second layer's feed-forward part leaves

The gradient of the layer's input is added up over eight ranges of 512 hidden lanes; the gradient of the hidden lanes, their
activation and the scaled gradient are each written block by block. -/

@[expose] public section
set_option maxRecDepth 16384
noncomputable section
namespace Cert.MlpB
open Idealize.ShloMosaic Idealize.ShloMosaic.TcCoe Idealize.SL.Sem
open Idealize.ShloMosaic.Pipeline (Dat)
open Cert.Kernel6Ideal Cert.Kernel6Ideal.Gen Cert.Rows
variable (m : (ℓ : Loc nD τ sig) → Buf (Elt Ideal) ℓ) (c : Dev nD)

/-- The hidden values are the reference's. -/
theorem V_v3 (r : Fin 8192) (j : Fin 4096) : V m c main_v3 (ix2 r j)
    = Cert.Reference6Ideal.Read.val_main_v2 (F := Ideal) (m ((c : Thread nD τ).loc main_arg1)) (m ((c : Thread nD τ).loc main_arg3)) (ix2 r j) := by
  simp only [V, hostOps0, hostOps0_1, hostOps0_2, List.flatten_cons, List.flatten_nil, List.append_nil, List.cons_append, List.nil_append]
  entry_read
  rfl

/-- The packed weights are the four parts, stacked. -/
theorem V_v12 : ∃ (u : (⟨S2x4x256x1024, .f32⟩ : BufTy).Contents (Elt Ideal)) (w : (⟨S2x4x592x1024, .f32⟩ : BufTy).Contents (Elt Ideal)),
    V m c main_v12 = (truncf (F := Ideal) .bf16 (concatenate S2x4x2896x1024 2 [⟨S2x4x1024x1024, (V m c main_v5 : (⟨S2x4x1024x1024, .f32⟩ : BufTy).Contents (Elt Ideal))⟩, ⟨S2x4x1024x1024, (V m c main_v9 : (⟨S2x4x1024x1024, .f32⟩ : BufTy).Contents (Elt Ideal))⟩,
    ⟨S2x4x256x1024, u⟩, ⟨S2x4x592x1024, w⟩] concatenates_S2x4x1024x1024_S2x4x1024x1024_S2x4x256x1024_S2x4x592x1024_S2x4x2896x1024_d2) bitsLt_bf16_f32
      : (⟨S2x4x2896x1024, .bf16⟩ : BufTy).Contents (Elt Ideal)) := by
  have e : (List.flatten [hostOps0, hostOps0_1, hostOps0_2] : List (HloOp τ sig (Elt Ideal)))
      = (hostOps0 ++ (hostOps0_1 ++ hostOps0_2.take 2)) ++ hostOps0_2.drop 2 := rfl
  have h : ∀ b : Ref sig .tc, V m c b = StableHlo.after (hostOps0_2.drop 2) (StableHlo.after (hostOps0 ++ (hostOps0_1 ++ hostOps0_2.take 2)) (fun b => m (c, b))) b :=
    fun b => (congrArg (fun L => StableHlo.after L (fun b => m (c, b)) b) e).trans (congrFun (StableHlo.after_append _ _ _) _)
  rw [h main_v12, h main_v5, h main_v9]
  generalize StableHlo.after (hostOps0 ++ (hostOps0_1 ++ hostOps0_2.take 2)) (fun b => m (c, b)) = σ
  refine ⟨σ main_v10, σ main_v8, ?_⟩
  have h5 : StableHlo.after (hostOps0_2.drop 2) σ main_v5 = σ main_v5 := by
    simp only [hostOps0_2, List.drop_succ_cons, List.drop_zero, StableHlo.after_cons, StableHlo.after_nil]
    exact (StableHlo.unary_result_ne _ _ _ _ _ _ (r := main_v5) (by decide)).trans (StableHlo.nary_result_ne _ _ _ _ _ _ (r := main_v5) (by decide))
  have h9 : StableHlo.after (hostOps0_2.drop 2) σ main_v9 = σ main_v9 := by
    simp only [hostOps0_2, List.drop_succ_cons, List.drop_zero, StableHlo.after_cons, StableHlo.after_nil]
    exact (StableHlo.unary_result_ne _ _ _ _ _ _ (r := main_v9) (by decide)).trans (StableHlo.nary_result_ne _ _ _ _ _ _ (r := main_v9) (by decide))
  rw [h5, h9]
  simp only [hostOps0_2, List.drop_succ_cons, List.drop_zero, StableHlo.after_cons, StableHlo.after_nil]
  exact (StableHlo.unary_result _ _ _ _ _ _).trans (congrArg (truncf (F := Ideal) .bf16 · bitsLt_bf16_f32) (StableHlo.nary_result _ _ _ _ _ _))

/-- The first weight, its columns cut into four. -/
theorem V_v5 (p : Fin 4) (r : Fin 1024) (j : Fin 1024) : V m c main_v5 (ix4 1 p r j)
    = m ((c : Thread nD τ).loc main_arg3) (ix3 1 r ⟨1024 * p + j, by omega⟩) := by
  simp only [V, hostOps0, hostOps0_1, hostOps0_2, List.flatten_cons, List.flatten_nil, List.append_nil, List.cons_append, List.nil_append]
  entry_read
  pointwise []
  exact congrArg (fun k => m ((c : Thread nD τ).loc main_arg3) (ix3 1 r k)) (Fin.ext (by show p.val * 1024 + j.val = 1024 * p.val + j.val; omega))

/-- The second weight, its rows cut into four. -/
theorem V_v9 (p : Fin 4) (r : Fin 1024) (j : Fin 1024) : V m c main_v9 (ix4 1 p r j)
    = m ((c : Thread nD τ).loc main_arg4) (ix3 1 ⟨1024 * p + r, by omega⟩ j) := by
  simp only [V, hostOps0, hostOps0_1, hostOps0_2, List.flatten_cons, List.flatten_nil, List.append_nil, List.cons_append, List.nil_append]
  entry_read
  pointwise []
  exact congrArg (fun k => m ((c : Thread nD τ).loc main_arg4) (ix3 1 k j)) (Fin.ext (by show p.val * 1024 + r.val = 1024 * p.val + r.val; omega))

/-- The packed weights, the rows of the first weight. -/
theorem V_w1 (p : Fin 4) (r : Fin 1024) (j : Fin 1024) : V m c main_v12 (ix4 1 p ⟨r, by omega⟩ j)
    = m ((c : Thread nD τ).loc main_arg3) (ix3 1 r ⟨1024 * p + j, by omega⟩) := by
  obtain ⟨u, w, e⟩ := V_v12 m c
  refine Eq.trans ?_ (V_v5 m c p r j)
  rw [e]
  generalize V m c main_v5 = a
  generalize V m c main_v9 = b
  pointwise []

/-- The packed weights, the rows of the second weight. -/
theorem V_w2 (p : Fin 4) (r : Fin 1024) (j : Fin 1024) : V m c main_v12 (ix4 1 p ⟨1024 + r, by omega⟩ j)
    = m ((c : Thread nD τ).loc main_arg4) (ix3 1 ⟨1024 * p + r, by omega⟩ j) := by
  obtain ⟨u, w, e⟩ := V_v12 m c
  refine Eq.trans ?_ (V_v9 m c p r j)
  rw [e]
  generalize V m c main_v5 = a
  generalize V m c main_v9 = b
  pointwise []

theorem idx : ∀ t : Fin cfg0.N, win0_0.index t = ![t.val / 8, 0] ∧ win0_1.index t = ![t.val / 8, t.val % 8] ∧ win0_2.index t = ![0, 0]
    ∧ win0_3.index t = ![1, t.val % 8 / 2, 0, t.val % 8 % 2] ∧ win0_4.index t = ![1, t.val % 8 / 2, 2 + t.val % 8 % 2, 0]
    ∧ win0_5.index t = ![t.val / 8, 0] ∧ win0_6.index t = ![t.val / 8, t.val % 8] ∧ win0_7.index t = ![t.val / 8, t.val % 8] ∧ win0_8.index t = ![t.val / 8, 0] :=
  (by decide +kernel : ∀ t : Fin grid0.N, _)

/-- The gradient that comes in, the hidden values, the scale and the two weights. -/
abbrev D : (⟨2, ![8192, 1024]⟩ : Shape).Idx → EReal := m ((c : Thread nD τ).loc main_arg0)
abbrev H : (⟨2, ![8192, 4096]⟩ : Shape).Idx → EReal := V m c main_v3
abbrev G : (⟨2, ![1, 1024]⟩ : Shape).Idx → EReal := m ((c : Thread nD τ).loc main_arg2)
abbrev W1 : (⟨3, ![2, 1024, 4096]⟩ : Shape).Idx → EReal := m ((c : Thread nD τ).loc main_arg3)
abbrev W2 : (⟨3, ![2, 4096, 1024]⟩ : Shape).Idx → EReal := m ((c : Thread nD τ).loc main_arg4)

theorem d_at (t : Fin cfg0.N) (k j : Fin 1024) : (iblk m c 0 t) (ix2 k j) = at2 (D m c) (1024 * (t.val / 8) + k) j := by
  have ht : t.val < 64 := lt_of_lt_of_eq t.isLt N_0
  refine Eq.trans ?_ (at2_mk (D m c) ⟨1024 * (t.val / 8) + k, by omega⟩ ⟨j, by omega⟩)
  refine Eq.trans ?_ (congrFun (V_main_arg0 m c) _)
  blk_simp [iblk]
  refine congrArg (V m c main_arg0) ?_
  blk_ext [idx t]

theorem h_at (t : Fin cfg0.N) (k : Fin 1024) (s : Fin 512) :
    (iblk m c 1 t) (ix2 k s) = at2 (H m c) (1024 * (t.val / 8) + k) (512 * (t.val % 8) + s) := by
  have ht : t.val < 64 := lt_of_lt_of_eq t.isLt N_0
  refine Eq.trans ?_ (at2_mk (H m c) ⟨1024 * (t.val / 8) + k, by omega⟩ ⟨512 * (t.val % 8) + s, by omega⟩)
  blk_simp [iblk]
  refine congrArg (H m c) ?_
  blk_ext [idx t]

theorem g_at (t : Fin cfg0.N) (u : Fin 1) (j : Fin 1024) : (iblk m c 2 t) (ix2 u j) = at2 (G m c) 0 j := by
  refine Eq.trans ?_ (at2_mk (G m c) 0 j)
  refine Eq.trans ?_ (congrFun (V_main_arg2 m c) _)
  blk_simp [iblk]
  refine congrArg (V m c main_arg2) ?_
  blk_ext [idx t]

theorem w1_at (t : Fin cfg0.N) (u v : Fin 1) (j : Fin 1024) (s : Fin 512) :
    (X0_3 m c t) (ix4 u v j s) = at3 (W1 m c) 1 j (512 * (t.val % 8) + s) := by
  unfold X0_3 Pipeline.Window.fill
  rw [dif_pos (moved0_3 t _)]
  have ht : t.val < 64 := lt_of_lt_of_eq t.isLt N_0
  refine Eq.trans ?_ ((V_w1 m c ⟨t.val % 8 / 2, by omega⟩ j ⟨512 * (t.val % 8 % 2) + s, by omega⟩).trans ?_)
  · blk_simp [iblk]
    refine congrArg (V m c main_v12) ?_
    blk_ext [idx t]
  · refine Eq.trans ?_ (at3_mk (W1 m c) 1 j ⟨512 * (t.val % 8) + s, by omega⟩)
    refine congrArg (fun n => W1 m c (ix3 1 j n)) (Fin.ext ?_)
    show 1024 * (t.val % 8 / 2) + (512 * (t.val % 8 % 2) + s.val) = 512 * (t.val % 8) + s.val
    omega

theorem w2_at (t : Fin cfg0.N) (u v : Fin 1) (s : Fin 512) (j : Fin 1024) :
    (X0_4 m c t) (ix4 u v s j) = at3 (W2 m c) 1 (512 * (t.val % 8) + s) j := by
  unfold X0_4 Pipeline.Window.fill
  rw [dif_pos (moved0_4 t _)]
  have ht : t.val < 64 := lt_of_lt_of_eq t.isLt N_0
  refine Eq.trans ?_ ((V_w2 m c ⟨t.val % 8 / 2, by omega⟩ ⟨512 * (t.val % 8 % 2) + s, by omega⟩ j).trans ?_)
  · blk_simp [iblk]
    refine congrArg (V m c main_v12) ?_
    blk_ext [idx t]
  · refine Eq.trans ?_ (at3_mk (W2 m c) 1 ⟨512 * (t.val % 8) + s, by omega⟩ j)
    refine congrArg (fun n => W2 m c (ix3 1 n j)) (Fin.ext ?_)
    show 1024 * (t.val % 8 / 2) + (512 * (t.val % 8 % 2) + s.val) = 512 * (t.val % 8) + s.val
    omega

end Cert.MlpB
-- ==== Proof.MlpBEqual.lean ====
module
public import proofs.«01_k».proof.Proof.MlpBValue
public import proofs.«01_k».proof.Defs
public import Idealize.ShloMosaic.Lib.Pipeline.ValueKit

/-! # The call for the gradient of the second layer's feed-forward part is the reference's gradient

The block's payloads at an index, the running sum over the ranges of hidden lanes, the four arrays the call leaves, and the
reference's four results. -/

@[expose] public section
set_option maxRecDepth 16384
noncomputable section
namespace Cert.MlpB
open Idealize.ShloMosaic Idealize.ShloMosaic.TcCoe Idealize.SL.Sem
open Idealize.ShloMosaic.Pipeline (Dat)
open Cert.Kernel6Ideal Cert.Kernel6Ideal.Gen Cert.Rows
variable (m : (ℓ : Loc nD τ sig) → Buf (Elt Ideal) ℓ) (c : Dev nD)

/-- The scaled gradient, the hidden lanes' gradient and activation, and the gradient of the layer's input. -/
def DM (r j : ℕ) : EReal := at2 (D m c) r j * at2 (G m c) 0 j
def DA (r s : ℕ) : EReal := (∑ j : Fin 1024, DM m c r j * at3 (W2 m c) 1 s j) * (Ideal.ofBits .f32 1073741824#32 * max (at2 (H m c) r s) 0)
def ACT (r s : ℕ) : EReal := max (at2 (H m c) r s) 0 * max (at2 (H m c) r s) 0
def DV (r k : ℕ) : EReal := ∑ s : Fin 4096, DA m c r s * at3 (W1 m c) 1 k s

theorem pay2_at (t : Fin cfg0.N) (k j : Fin 1024) :
    k0_pay2 (F := Ideal) (iblk m c 0 t) (iblk m c 2 t) (ix2 k j) = DM m c (1024 * (t.val / 8) + k) j := by
  unfold DM
  pointwise [k0_pay2, d_at, g_at]

theorem pay5_at (t : Fin cfg0.N) (k : Fin 1024) (s : Fin 512) :
    k0_pay5 (F := Ideal) (iblk m c 1 t) (ix2 k s) = ACT m c (1024 * (t.val / 8) + k) (512 * (t.val % 8) + s) := by
  unfold ACT
  pointwise [k0_pay5, k0_pay4, h_at]

theorem pay6_at (t : Fin cfg0.N) (k : Fin 1024) (s : Fin 512) :
    k0_pay6 (F := Ideal) (iblk m c 0 t) (iblk m c 2 t) (iblk m c 1 t) (X0_4 m c t) (ix2 k s)
      = DA m c (1024 * (t.val / 8) + k) (512 * (t.val % 8) + s) := by
  unfold DA
  pointwise [k0_pay6, k0_pay4, pay2_at, h_at, w2_at]

theorem pay8_at (t : Fin cfg0.N) (k j : Fin 1024) :
    k0_pay8 (F := Ideal) (iblk m c 0 t) (iblk m c 2 t) (iblk m c 1 t) (X0_4 m c t) (X0_3 m c t) (ix2 k j)
      = ∑ s : Fin 512, DA m c (1024 * (t.val / 8) + k) (512 * (t.val % 8) + s) * at3 (W1 m c) 1 j (512 * (t.val % 8) + s) := by
  pointwise [k0_pay8, pay6_at, w1_at]

theorem reset (t : Fin cfg0.N) (h : t.val % 8 = 0) (y : S1024x1024.Idx) :
    acc m c t.val t.isLt y = 0 + ∑ s : Fin 512, DA m c (1024 * (t.val / 8) + (y 0).val) (512 * (t.val % 8) + s)
      * at3 (W1 m c) 1 (y 1).val (512 * (t.val % 8) + s) := by
  rw [acc_first m c t h]
  pointwise [k0_pay1, k0_pay7, k0_pay3]
  exact (congrArg _ (eq_ix2 y)).trans (pay8_at m c t (y 0) (y 1))

theorem step (t : Fin cfg0.N) (h : ¬t.val % 8 = 0) (y : S1024x1024.Idx) :
    acc m c t.val t.isLt y = acc m c (t.val - 1) (Nat.lt_of_le_of_lt (Nat.sub_le _ _) t.isLt) y
      + ∑ s : Fin 512, DA m c (1024 * (t.val / 8) + (y 0).val) (512 * (t.val % 8) + s)
      * at3 (W1 m c) 1 (y 1).val (512 * (t.val % 8) + s) := by
  rw [acc_later m c t h]
  pointwise [k0_pay1, k0_pay7]
  exact congrArg (fun e : EReal => _ + e) ((congrArg _ (eq_ix2 y)).trans (pay8_at m c t (y 0) (y 1)))

theorem acc_at (t : Fin cfg0.N) (h : t.val % 8 = 7) (y : S1024x1024.Idx) :
    acc m c t.val t.isLt y = DV m c (1024 * (t.val / 8) + (y 0).val) (y 1).val := by
  have ht : t.val < 64 := lt_of_lt_of_eq t.isLt N_0
  rw [Pipeline.eq_sum_fin_of_reset_step_apply_of_flush (fun n h => acc m c n h) 8 (fun _ => 0)
    (fun p y => ∑ s : Fin 512, DA m c (1024 * (p.val / 8) + (y 0).val) (512 * (p.val % 8) + s)
      * at3 (W1 m c) 1 (y 1).val (512 * (p.val % 8) + s))
    (reset m c) (step m c) t h y, zero_add]
  refine Eq.trans (Finset.sum_congr rfl fun s _ => ?_)
    (sum_blocks 8 512 fun r => DA m c (1024 * (t.val / 8) + (y 0).val) r * at3 (W1 m c) 1 (y 1).val r)
  have e1 : (8 * (t.val / 8) + s.val) % 8 = s.val := by omega
  have e2 : (8 * (t.val / 8) + s.val) / 8 = t.val / 8 := by omega
  simp only [e1, e2]

theorem dm_at (t : Fin cfg0.N) (y : S1024x1024.Idx) : dm m c t.val t.isLt y = DM m c (1024 * (t.val / 8) + (y 0).val) (y 1).val := by
  unfold dm
  refine (congrArg _ (eq_ix2 y)).trans ((pay2_at m c _ (y 0) (y 1)).trans ?_)
  have e : (firstPt t.val t.isLt).val / 8 = t.val / 8 := by show 8 * (t.val / 8) / 8 = t.val / 8; omega
  rw [e]

theorem final5 (c : Dev nD) : (dats m 0 c).arrAt 5 cfg0.N = fun i => DV m c (i 0).val (i 1).val := by
  refine (dats m 0 c).arrAt_eq_of_covers 5 _ (by decide +kernel) fun t hf y => ?_
  blk_simp
  rw [after_5, acc_at m c t ((flush0_5 t).mp hf)]
  blk_simp [idx t]
  rw [Nat.mul_comm]

theorem final6 (c : Dev nD) : (dats m 0 c).arrAt 6 cfg0.N = fun i => DA m c (i 0).val (i 1).val := by
  refine (dats m 0 c).arrAt_eq_of_covers 6 _ (by decide +kernel) fun t hf y => ?_
  blk_simp
  rw [after_6]
  refine (congrArg _ (eq_ix2 y)).trans ((pay6_at m c t (y 0) (y 1)).trans ?_)
  blk_simp [idx t]
  rw [Nat.mul_comm, Nat.mul_comm 512]

theorem final7 (c : Dev nD) : (dats m 0 c).arrAt 7 cfg0.N = fun i => ACT m c (i 0).val (i 1).val := by
  refine (dats m 0 c).arrAt_eq_of_covers 7 _ (by decide +kernel) fun t hf y => ?_
  blk_simp
  rw [after_7]
  refine (congrArg _ (eq_ix2 y)).trans ((pay5_at m c t (y 0) (y 1)).trans ?_)
  blk_simp [idx t]
  rw [Nat.mul_comm, Nat.mul_comm 512]

theorem final8 (c : Dev nD) : (dats m 0 c).arrAt 8 cfg0.N = fun i => DM m c (i 0).val (i 1).val := by
  refine (dats m 0 c).arrAt_eq_of_covers 8 _ (by decide +kernel) fun t hf y => ?_
  blk_simp
  rw [after_8, dm_at m c t]
  blk_simp [idx t]
  rw [Nat.mul_comm]

/-- The run, with the four results named. -/
theorem run_blocks (g : Dev nD → PrngReg) : θ_run defs (onTc (τ := τ) (main (F := Ideal))) ⟨m, fun _ => 0, g⟩ (fun r => ∀ c : Dev nD,
      r.2.mem ((c.tc : Thread nD τ).loc main_v13_0) = (dats m 0 c).arrAt 5 cfg0.N
      ∧ r.2.mem ((c.tc : Thread nD τ).loc main_v13_1) = (dats m 0 c).arrAt 6 cfg0.N
      ∧ r.2.mem ((c.tc : Thread nD τ).loc main_v13_2) = (dats m 0 c).arrAt 7 cfg0.N
      ∧ r.2.mem ((c.tc : Thread nD τ).loc main_v13_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 5, (h.1 c).1 6, (h.1 c).1 7, (h.1 c).1 8, h.2 c⟩)
    (θ_run_and (run_main m g) (frame_of m g (dats m) (A_eq m) (run_main m g)))

/-- The reference leaves its arguments unchanged, and it has no counter. -/
theorem frame_reference : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run m ρ)

section reference
open Cert.Reference6Ideal.Read Cert.Reference6Ideal.Gen
variable (x0 x1 : (⟨Cert.Reference6Ideal.S8192x1024, .f32⟩ : BufTy).Contents (Elt Ideal))
  (x2 : (⟨Cert.Reference6Ideal.S1x1024, .f32⟩ : BufTy).Contents (Elt Ideal)) (x3 : (⟨Cert.Reference6Ideal.S2x1024x4096, .f32⟩ : BufTy).Contents (Elt Ideal))
  (x4 : (⟨Cert.Reference6Ideal.S2x4096x1024, .f32⟩ : BufTy).Contents (Elt Ideal))

theorem ref_dm (r : Fin 8192) (j : Fin 1024) : val_main_v16 (F := Ideal) x0 x2 (ix2 r j) = x0 (ix2 r j) * x2 (ix2 0 j) := by
  pointwise [val_main_v16, val_main_v15]
  rw [mul_comm]

theorem ref_act (r : Fin 8192) (s : Fin 4096) : val_main_v7 (F := Ideal) x1 x3 (ix2 r s)
    = max (val_main_v2 (F := Ideal) x1 x3 (ix2 r s)) 0 * max (val_main_v2 (F := Ideal) x1 x3 (ix2 r s)) 0 := by
  generalize hv : val_main_v2 (F := Ideal) x1 x3 = v
  pointwise [val_main_v7, val_main_v3, val_main_call0_v0, val_main_call0_cst, hv]

theorem ref_w2 (s : Fin 4096) (j : Fin 1024) : val_main_v11 (F := Ideal) x4 (ix2 s j) = x4 (ix3 1 s j) := by
  pointwise [val_main_v11, val_main_v10]

theorem ref_w1 (k : Fin 1024) (s : Fin 4096) : val_main_v1 (F := Ideal) x3 (ix2 k s) = x3 (ix3 1 k s) := by
  pointwise [val_main_v1, val_main_v0]

theorem ref_hid (r : Fin 8192) (s : Fin 4096) : val_main_v17 (F := Ideal) x0 x2 x4 (ix2 r s)
    = ∑ j : Fin 1024, x0 (ix2 r j) * x2 (ix2 0 j) * x4 (ix3 1 s j) := by
  pointwise [val_main_v17, ref_dm, ref_w2]

/-- Where the hidden value is not positive its positive part is zero, and so is the product with it. -/
theorem ref_da (r : Fin 8192) (s : Fin 4096) : val_main_v20 (F := Ideal) x0 x1 x2 x3 x4 (ix2 r s)
    = (∑ j : Fin 1024, x0 (ix2 r j) * x2 (ix2 0 j) * x4 (ix3 1 s j)) * (Ideal.ofBits .f32 1073741824#32 * max (val_main_v2 (F := Ideal) x1 x3 (ix2 r s)) 0) := by
  rw [← ref_hid]
  generalize hv : val_main_v2 (F := Ideal) x1 x3 = v
  generalize hq : val_main_v17 (F := Ideal) x0 x2 x4 = q
  pointwise [val_main_v20, val_main_v5, val_main_v4, val_main_cst, val_main_v18, val_main_v9, val_main_v8, val_main_cst_1, val_main_v3, val_main_call0_v0,
    val_main_call0_cst, val_main_v19, val_main_cst_2, hv, hq]
  split
  · rfl
  · next h => rw [max_eq_right (not_lt.mp h), mul_zero, mul_zero]

theorem ref_dv (r : Fin 8192) (k : Fin 1024) : val_main_v21 (F := Ideal) x0 x1 x2 x3 x4 (ix2 r k)
    = ∑ s : Fin 4096, val_main_v20 (F := Ideal) x0 x1 x2 x3 x4 (ix2 r s) * x3 (ix3 1 k s) := by
  pointwise [val_main_v21, ref_w1]

end reference

theorem algebraic : Cert.algebraic_Kernel6Ideal_Reference6Ideal := by
  intro m g m' g' _ hagree
  refine ⟨_, _, _, _, (θ_run Cert.Kernel6Ideal.defs _ _).mono (fun r h c =>
      ⟨(h c).1.trans (final5 m c), (h c).2.1.trans (final6 m c), (h c).2.2.1.trans (final7 m c), (h c).2.2.2.1.trans (final8 m c), (h c).2.2.2.2⟩)
      (run_blocks m g),
    (θ_run Cert.Reference6Ideal.defs _ _).mono (fun r h c => ?_) (Cert.Reference6Ideal.Value.run m' g')⟩
  obtain ⟨h0, h1, h2, h3, hargs⟩ := h c
  obtain ⟨a0, a1, a2, a3, a4, a5, a6⟩ := hagree c
  have eDM : ∀ (r : Fin 8192) (j : Fin 1024), DM m c r j = D m c (ix2 r j) * G m c (ix2 0 j) := fun r j =>
    (congrArg₂ (fun p q : EReal => p * q) (at2_mk (D m c) r j) (at2_mk (G m c) 0 j)).symm
  have eH : ∀ (r : Fin 8192) (s : Fin 4096), at2 (H m c) r s = Cert.Reference6Ideal.Read.val_main_v2 (F := Ideal) (m ((c.tc : Thread nD τ).loc main_arg1)) (m ((c.tc : Thread nD τ).loc main_arg3)) (ix2 r s) := fun r s =>
    (at2_mk (H m c) r s).symm.trans (V_v3 m c r s)
  have eDA : ∀ (r : Fin 8192) (s : Fin 4096), DA m c r s = (∑ j : Fin 1024, D m c (ix2 r j) * G m c (ix2 0 j) * W2 m c (ix3 1 s j))
      * (Ideal.ofBits .f32 1073741824#32 * max (Cert.Reference6Ideal.Read.val_main_v2 (F := Ideal) (m ((c.tc : Thread nD τ).loc main_arg1)) (m ((c.tc : Thread nD τ).loc main_arg3)) (ix2 r s)) 0) := fun r s => by
    unfold DA
    rw [eH]
    exact congrArg (fun e : EReal => e * _) (Finset.sum_congr rfl fun j _ => congrArg₂ (fun p q : EReal => p * q) (eDM r j) (at3_mk (W2 m c) 1 s j).symm)
  refine ⟨?_, ?_, ?_, ?_, hargs⟩
  · refine funext fun i => ?_
    rw [h0, Cert.Reference6Ideal.Read.val_main_v21_eq, a0, a1, a2, a3, a4, eq_ix2 i]
    refine (ref_dv _ _ _ _ _ (i 0) (i 1)).trans (Finset.sum_congr rfl fun s _ => ?_)
    exact congrArg₂ (fun p q : EReal => p * q) ((ref_da _ _ _ _ _ (i 0) s).trans (eDA (i 0) s).symm) (at3_mk (W1 m c) 1 (i 1) s)
  · refine funext fun i => ?_
    rw [h1, Cert.Reference6Ideal.Read.val_main_v22_eq, a0, a1, a2, a3, a4, eq_ix2 i]
    exact (ref_da _ _ _ _ _ (i 0) (i 1)).trans (eDA (i 0) (i 1)).symm
  · refine funext fun i => ?_
    rw [h2, Cert.Reference6Ideal.Read.val_main_v23_eq, a1, a3, eq_ix2 i]
    refine (ref_act _ _ (i 0) (i 1)).trans ?_
    exact (congrArg (fun e : EReal => max e 0 * max e 0) (eH (i 0) (i 1))).symm
  · refine funext fun i => ?_
    rw [h3, Cert.Reference6Ideal.Read.val_main_v24_eq, a0, a2, eq_ix2 i]
    exact (ref_dm _ _ (i 0) (i 1)).trans (eDM (i 0) (i 1)).symm

end Cert.MlpB
-- ==== Proof.Dw1B.lean ====
module
public import proofs.«01_k».proof.Proof.Rows
public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Claim

/-! # What the call for the first weight of the second layer's feed-forward part leaves

The call adds up, block of rows by block of rows, the product of the transposed first operand and a column range of the
second; the other layer's part of the array it is given is left as it was. -/

@[expose] public section
set_option maxRecDepth 16384
noncomputable section
namespace Cert.Dw1B
open Idealize.ShloMosaic Idealize.ShloMosaic.TcCoe Idealize.SL.Sem
open Idealize.ShloMosaic.Pipeline (Dat)
open Cert.Kernel7Ideal Cert.Kernel7Ideal.Gen Cert.Rows
variable (m : (ℓ : Loc nD τ sig) → Buf (Elt Ideal) ℓ) (c : Dev nD)

/-- The array the call is given, when the call starts. -/
theorem V_v23 : V m c main_v23 = m ((c : Thread nD τ).loc main_arg5) := by
  simp only [V, hostOps0, hostOps0_1, hostOps0_2, List.flatten_cons, List.flatten_nil, List.append_nil, List.cons_append, List.nil_append]
  entry_read
  rfl
/-- The first operand is the layer's normalised input. -/
theorem V_v21 (r : Fin 8192) (j : Fin 1024) : V m c main_v21 (ix2 r j) = m ((c : Thread nD τ).loc main_arg1) (ix2 r j) := by
  simp only [V, hostOps0, hostOps0_1, hostOps0_2, List.flatten_cons, List.flatten_nil, List.append_nil, List.cons_append, List.nil_append]
  entry_read
  rfl
/-- The second operand is the gradient of the hidden lanes, as the reference's lines compute it. -/
theorem V_v22 (r : Fin 8192) (j : Fin 4096) : V m c main_v22 (ix2 r j)
    = Cert.Reference7Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 r j) := by
  simp only [V, hostOps0, hostOps0_1, hostOps0_2, List.flatten_cons, List.flatten_nil, List.append_nil, List.cons_append, List.nil_append]
  entry_read
  rfl

theorem idx : ∀ t : Fin cfg0.N, win0_0.index t = ![t.val % 8, 0] ∧ win0_1.index t = ![t.val % 8, t.val / 8]
    ∧ win0_2.index t = ![1, t.val / 8, 0, 0] :=
  (by decide +kernel : ∀ t : Fin grid0.N, _)

/-- The first operand when the call starts. -/
abbrev A : (⟨2, ![8192, 1024]⟩ : Shape).Idx → EReal := V m c main_v21
/-- The second operand when the call starts. -/
abbrev B : (⟨2, ![8192, 4096]⟩ : Shape).Idx → EReal := V m c main_v22

theorem a_at (t : Fin cfg0.N) (k : Fin 1024) (j : Fin 1024) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) (1024 * (t.val / 8) + j) := by
  have ht : t.val < 32 := lt_of_lt_of_eq t.isLt N_0
  refine Eq.trans ?_ (at2_mk (B m c) ⟨1024 * (t.val % 8) + k, by omega⟩ ⟨1024 * (t.val / 8) + j, by omega⟩)
  blk_simp [iblk]
  refine congrArg (B m c) ?_
  blk_ext [idx t]

theorem prod_at (o : Vec Ideal S1x1024x1024 .f32) (t : Fin cfg0.N) (u : Fin 1) (i j : Fin 1024) :
    k0_pay2 (F := Ideal) o (iblk m c 0 t) (iblk m c 1 t) (ix3 u i j)
      = o (ix3 0 i j) + ∑ k : Fin 1024, at2 (A m c) (1024 * (t.val % 8) + k) i * at2 (B m c) (1024 * (t.val % 8) + k) (1024 * (t.val / 8) + j) := by
  pointwise [k0_pay2, a_at, b_at]

/-- What one element of the second layer's part holds at the end: the sum over all the rows. -/
def W (i j : ℕ) : EReal := ∑ r : Fin 8192, at2 (A m c) r i * at2 (B m c) r j

/-- A payload of the block's shape without its leading axis, stored over the whole block. -/
theorem pay_at {hn} (w : (⟨3, ![1, 1024, 1024]⟩ : Shape).Idx → EReal) (y : S1x1x1024x1024.Idx)
    (x : (((Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl)).shape.Idx))
    (hx : ((Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl)).emb x = y) :
    Rect.payAlong (r := Rect.unit (s := S1x1024x1024) ![0, 0, 0] ![1, 1024, 1024] inb_S1x1024x1024_S1x1024x1024_0_0_0) hn w x = w (ix3 (y 1) (y 2) (y 3)) := by
  refine Rect.payAlong_consLift _ _ rfl (fun _ => rfl) w hn x _ fun i => ?_
  subst hx
  match i with
  | ⟨0, _⟩ => show 0 + 1 * (x 1).val = (x 1).val; omega
  | ⟨1, _⟩ => show 0 + 1 * (x 2).val = (x 2).val; omega
  | ⟨2, _⟩ => show 0 + 1 * (x 3).val = (x 3).val; omega

/-- The block read back without its leading axis. -/
theorem val_at {hn} (f : S1x1x1024x1024.Idx → EReal) (z : (⟨3, ![1, 1024, 1024]⟩ : Shape).Idx) :
    LoadRect.valAlong (lr := (Rect.unit (s := S1x1024x1024) ![0, 0, 0] ![1, 1024, 1024] inb_S1x1024x1024_S1x1024x1024_0_0_0).toLoadRect)
      (LR := (Rect.unit (s := S1x1x1024x1024) ![0, 0, 0, 0] ![1, 1, 1024, 1024] inb_S1x1x1024x1024_S1x1x1024x1024_0_0_0_0).withinL
        ((Rect.unit (s := S1x1024x1024) ![0, 0, 0] ![1, 1024, 1024] inb_S1x1024x1024_S1x1024x1024_0_0_0).toLoadRect.consLift ![1, 1, 1024, 1024] rfl (fun _ => rfl))
        (fun _ => rfl)) hn
      (fun j => f (((Rect.unit (s := S1x1x1024x1024) ![0, 0, 0, 0] ![1, 1, 1024, 1024] inb_S1x1x1024x1024_S1x1x1024x1024_0_0_0_0).withinL
        ((Rect.unit (s := S1x1024x1024) ![0, 0, 0] ![1, 1024, 1024] inb_S1x1024x1024_S1x1024x1024_0_0_0).toLoadRect.consLift ![1, 1, 1024, 1024] rfl (fun _ => rfl))
        (fun _ => rfl)).idx j)) z = f (ix4 0 (z 0) (z 1) (z 2)) := by
  unfold LoadRect.valAlong
  dsimp only
  refine congrArg f (funext fun a => Fin.ext ?_)
  have e : Shape.reshapeEquiv hn z = Fin.cons ⟨0, Nat.one_pos⟩ z := Shape.reshapeEquiv_cons_one (d := ![1, 1024, 1024]) _ _
  rw [e]
  match a with
  | ⟨0, _⟩ => rfl
  | ⟨1, _⟩ => show 0 + 1 * (z 0).val = (z 0).val; omega
  | ⟨2, _⟩ => show 0 + 1 * (z 1).val = (z 1).val; omega
  | ⟨3, _⟩ => show 0 + 1 * (z 2).val = (z 2).val; omega

/-- The last store of the whole block is what is left. -/
theorem last_at {hn} (w : (⟨3, ![1, 1024, 1024]⟩ : Shape).Idx → EReal) (L : List (View.Piece (Elt Ideal) S1x1x1024x1024 .f32)) (y : S1x1x1024x1024.Idx) :
    View.canon (⟨(Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl), Rect.payAlong (r := Rect.unit (s := S1x1024x1024) ![0, 0, 0] ![1, 1024, 1024] inb_S1x1024x1024_S1x1024x1024_0_0_0) hn w⟩ :: L) y = w (ix3 (y 1) (y 2) (y 3)) := by
  have hx : ((Rect.unit (s := S1x1x1024x1024) ![0, 0, 0, 0] ![1, 1, 1024, 1024] inb_S1x1x1024x1024_S1x1x1024x1024_0_0_0_0).within
        ((Rect.unit (s := S1x1024x1024) ![0, 0, 0] ![1, 1024, 1024] inb_S1x1024x1024_S1x1024x1024_0_0_0).consLift ![1, 1, 1024, 1024] rfl (fun _ => rfl))
        (fun _ => rfl)).emb (ix4 0 (y 1) (y 2) (y 3)) = y := by
    refine funext fun a => Fin.ext ?_
    match a with
    | ⟨0, _⟩ => exact congrArg Fin.val (Subsingleton.elim (α := Fin 1) _ _)
    | ⟨1, _⟩ => show 0 + 0 + 1 * (y 1).val = (y 1).val; omega
    | ⟨2, _⟩ => show 0 + 0 + 1 * (y 2).val = (y 2).val; omega
    | ⟨3, _⟩ => show 0 + 0 + 1 * (y 3).val = (y 3).val; omega
  refine (congrArg _ hx.symm).trans ((View.canon_cons_emb _ _ _ _).trans (pay_at w y _ hx))

theorem reset (t : Fin cfg0.N) (h : t.val % 8 = 0) (y : S1x1x1024x1024.Idx) :
    outsAt0 m c t.val t.isLt y = 0 + ∑ k : Fin 1024, at2 (A m c) (1024 * (t.val % 8) + k) (y 2).val
      * at2 (B m c) (1024 * (t.val % 8) + k) (1024 * (t.val / 8) + (y 3).val) := by
  rw [outsAt0_A m c t h]; frame_out
  refine (last_at _ _ y).trans ?_
  refine (prod_at m c _ t _ _ _).trans (congrArg (fun e : EReal => e + _) ?_)
  rw [View.readCov_eq_canon']
  refine (val_at (fun j => View.canon (Val := Elt Ideal) (e := .f32) _ j) _).trans ((last_at _ _ _).trans ?_)
  pointwise [k0_pay1]

theorem step (t : Fin cfg0.N) (h : ¬t.val % 8 = 0) (y : S1x1x1024x1024.Idx) :
    outsAt0 m c t.val t.isLt y = outsAt0 m c (t.val - 1) (Nat.lt_of_le_of_lt (Nat.sub_le _ _) t.isLt) y
      + ∑ k : Fin 1024, at2 (A m c) (1024 * (t.val % 8) + k) (y 2).val
      * at2 (B m c) (1024 * (t.val % 8) + k) (1024 * (t.val / 8) + (y 3).val) := by
  rw [outsAt0_B m c t h]; frame_out
  refine (last_at _ _ y).trans ?_
  refine (prod_at m c _ t _ _ _).trans (congrArg (fun e : EReal => e + _) ?_)
  refine (val_at (fun j => (ms0_2 t).view.read (Elt Ideal) ((hs0_2 t).unread (outsAt0 m c (t.val - 1) (Nat.lt_of_le_of_lt (Nat.sub_le _ _) t.isLt))) j) _).trans ?_
  rw [(hs0_2 t).read_unread]
  refine congrArg _ (funext fun a => ?_)
  match a with
  | ⟨0, _⟩ => exact Subsingleton.elim (α := Fin 1) _ _
  | ⟨1, _⟩ => exact Subsingleton.elim (α := Fin 1) _ _
  | ⟨2, _⟩ => rfl
  | ⟨3, _⟩ => rfl

theorem outs_at (t : Fin cfg0.N) (h : t.val % 8 = 7) (y : S1x1x1024x1024.Idx) :
    outsAt0 m c t.val t.isLt y = W m c (y 2).val (1024 * (t.val / 8) + (y 3).val) := by
  have ht : t.val < 32 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 2).val
      * at2 (B m c) (1024 * (p.val % 8) + k) (1024 * (p.val / 8) + (y 3).val))
    (reset m c) (step m c) t h y, zero_add]
  refine Eq.trans (Finset.sum_congr rfl fun s _ => ?_)
    (sum_blocks 8 1024 fun r => at2 (A m c) r (y 2).val * at2 (B m c) r (1024 * (t.val / 8) + (y 3).val))
  have e1 : (8 * (t.val / 8) + s.val) % 8 = s.val := by omega
  have e2 : (8 * (t.val / 8) + s.val) / 8 = t.val / 8 := by omega
  simp only [e1, e2]

/-- The array after the call: the second layer's part is the sum over all the rows, the first layer's is as it was given. -/
theorem final (c : Dev nD) : (dats m 0 c).arrAt 2 cfg0.N
    = fun i => if (i 0 : ℕ) / 1 = 1 then W m c (i 2).val (1024 * (i 1).val + (i 3).val) else m ((c : Thread nD τ).loc main_arg5) i := by
  refine ((dats m 0 c).arrAt_eq_of_coversWhere 2 (fun i => W m c (i 2).val (1024 * (i 1).val + (i 3).val)) (P := fun i => (i 0 : ℕ) / 1 = 1) (fun β => β (0 : Fin 4) = 1) (by decide +kernel)
    (fun t hf y => ?_) (fun j => Iff.rfl)).trans ?_
  · blk_simp
    rw [after0_2, outs_at m c t ((flush0_2 t).mp hf)]
    blk_simp [idx t]
  · funext i
    dsimp only
    split
    · rfl
    · rw [A_eq]
      exact congrFun (V_v23 m c) i

/-- The reference leaves its arguments unchanged, and it has no counter. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

section reference
open Cert.Reference7Ideal.Read Cert.Reference7Ideal.Gen
variable (x0 x1 : (⟨Cert.Reference7Ideal.S8192x1024, .f32⟩ : BufTy).Contents (Elt Ideal))
  (x2 : (⟨Cert.Reference7Ideal.S1x1024, .f32⟩ : BufTy).Contents (Elt Ideal)) (x3 : (⟨Cert.Reference7Ideal.S2x1024x4096, .f32⟩ : BufTy).Contents (Elt Ideal))
  (x4 : (⟨Cert.Reference7Ideal.S2x4096x1024, .f32⟩ : BufTy).Contents (Elt Ideal)) (x5 : (⟨Cert.Reference7Ideal.S2x4x1024x1024, .f32⟩ : BufTy).Contents (Elt Ideal))

/-- The reference's gradient of the weight. -/
theorem grad_at (i : Fin 1024) (j : Fin 4096) : val_main_v22 (F := Ideal) x0 x1 x2 x3 x4 (ix2 i j)
    = ∑ r : Fin 8192, val_main_v20 (F := Ideal) x0 x1 x2 x3 x4 (ix2 r j) * x1 (ix2 r i) := by
  pointwise [val_main_v22, val_main_v21]

/-- The reference's result, index by index. -/
theorem result_at (l : Fin 2) (q : Fin 4) (i j : Fin 1024) : val_main_v27 (F := Ideal) x0 x1 x2 x3 x4 x5 (ix4 l q i j)
    = if l.val / 1 = 1 then ∑ r : Fin 8192, x1 (ix2 r i) * val_main_v20 (F := Ideal) x0 x1 x2 x3 x4 (ix2 r ⟨1024 * q + j, by omega⟩) else x5 (ix4 l q i j) := by
  pointwise [val_main_v27, val_main_v26, val_main_v25, val_main_v24, val_main_v23, grad_at]
  by_cases h : l.val = 1
  · rw [dif_neg (by omega), if_pos (by omega)]
    refine Finset.sum_congr rfl fun r _ => ?_
    rw [mul_comm]
    refine congrArg (fun p : EReal => _ * p) (congrArg (val_main_v20 (F := Ideal) x0 x1 x2 x3 x4) (congrArg (ix2 r) (Fin.ext ?_)))
    show q.val * 1024 + j.val = 1024 * q.val + j.val
    omega
  · rw [dif_pos (by omega), if_neg (by omega)]

end reference

theorem algebraic : Cert.algebraic_Kernel7Ideal_Reference7Ideal := by
  intro m g m' g' _ hagree
  refine ⟨_, (θ_run Cert.Kernel7Ideal.defs _ _).mono (fun r h c => ⟨(h c).1.trans (final m c), (h c).2⟩) (Cert.Kernel7Ideal.Value.run_blocks m g),
    (θ_run Cert.Reference7Ideal.defs _ _).mono (fun r h c => ?_) (Cert.Reference7Ideal.Value.run m' g')⟩
  obtain ⟨h0, hargs⟩ := h c
  obtain ⟨a0, a1, a2, a3, a4, a5⟩ := hagree c
  refine ⟨?_, hargs⟩
  refine funext fun i => ?_
  rw [h0, Cert.Reference7Ideal.Read.val_main_v27_eq, a0, a1, a2, a3, a4, a5, eq_ix4 i]
  refine (result_at _ _ _ _ _ _ (i 0) (i 1) (i 2) (i 3)).trans ?_
  refine if_congr Iff.rfl ?_ rfl
  unfold W
  refine Finset.sum_congr rfl fun r _ => ?_
  have h1 : (i 1).val < 4 := (i 1).isLt
  have h3 : (i 3).val < 1024 := (i 3).isLt
  refine Eq.trans ?_ (congrArg₂ (fun p q : EReal => p * q) (at2_mk (A m c) r (i 2)) (at2_mk (B m c) r ⟨1024 * (i 1).val + (i 3).val, by omega⟩))
  exact (congrArg₂ (fun p q : EReal => p * q) (V_v21 m c r (i 2)) (V_v22 m c r _)).symm

end Cert.Dw1B
-- ==== Proof.Dw2B.lean ====
module
public import proofs.«01_k».proof.Proof.Rows
public import proofs.«01_k».proof.Proof.Gen.Kernel8Ideal.Value
public import proofs.«01_k».proof.Proof.Gen.Reference8Ideal.Read
public import proofs.«01_k».proof.Defs
public import Idealize.ShloMosaic.Lib.Pipeline.ValueKit
public import Idealize.ShloMosaic.Lib.Claim

/-! # What the call for the second weight of the second layer's feed-forward part leaves

The call adds up, block of rows by block of rows, the product of a transposed column range of the first operand and the
second; the other layer's part of the array it is given is left as it was. -/

@[expose] public section
set_option maxRecDepth 16384
noncomputable section
namespace Cert.Dw2B
open Idealize.ShloMosaic Idealize.ShloMosaic.TcCoe Idealize.SL.Sem
open Idealize.ShloMosaic.Pipeline (Dat)
open Cert.Kernel8Ideal Cert.Kernel8Ideal.Gen Cert.Rows
variable (m : (ℓ : Loc nD τ sig) → Buf (Elt Ideal) ℓ) (c : Dev nD)

/-- The array the call is given, when the call starts. -/
theorem V_v9 : V m c main_v9 = m ((c : Thread nD τ).loc main_arg5) := by
  simp only [V, hostOps0, hostOps0_1, hostOps0_2, List.flatten_cons, List.flatten_nil, List.append_nil, List.cons_append, List.nil_append]
  entry_read
  rfl
/-- The first operand is the layer's activation, as the reference's lines compute it. -/
theorem V_v5 (r : Fin 8192) (j : Fin 4096) : V m c main_v5 (ix2 r j)
    = Cert.Reference8Ideal.Read.val_main_v6 (F := Ideal) (m ((c : Thread nD τ).loc main_arg1)) (m ((c : Thread nD τ).loc main_arg3)) (ix2 r j) := by
  simp only [V, hostOps0, hostOps0_1, hostOps0_2, List.flatten_cons, List.flatten_nil, List.append_nil, List.cons_append, List.nil_append]
  entry_read
  rfl
/-- The second operand is the scaled gradient of the layer's output. -/
theorem V_v8 (r : Fin 8192) (j : Fin 1024) : V m c main_v8 (ix2 r j)
    = Cert.Reference8Ideal.Read.val_main_v11 (F := Ideal) (m ((c : Thread nD τ).loc main_arg0)) (m ((c : Thread nD τ).loc main_arg2)) (ix2 r j) := by
  simp only [V, hostOps0, hostOps0_1, hostOps0_2, List.flatten_cons, List.flatten_nil, List.append_nil, List.cons_append, List.nil_append]
  entry_read
  exact mul_comm (G := EReal) _ _

theorem idx : ∀ t : Fin cfg0.N, win0_0.index t = ![t.val % 8, t.val / 8] ∧ win0_1.index t = ![t.val % 8, 0]
    ∧ win0_2.index t = ![1, t.val / 8, 0] :=
  (by decide +kernel : ∀ t : Fin grid0.N, _)

/-- The first operand when the call starts. -/
abbrev A : (⟨2, ![8192, 4096]⟩ : Shape).Idx → EReal := V m c main_v5
/-- The second operand when the call starts. -/
abbrev B : (⟨2, ![8192, 1024]⟩ : Shape).Idx → EReal := V m c main_v8

theorem a_at (t : Fin cfg0.N) (k : Fin 1024) (j : Fin 1024) :
    (iblk m c 0 t) (ix2 k j) = at2 (A m c) (1024 * (t.val % 8) + k) (1024 * (t.val / 8) + j) := by
  have ht : t.val < 32 := lt_of_lt_of_eq t.isLt N_0
  refine Eq.trans ?_ (at2_mk (A m c) ⟨1024 * (t.val % 8) + k, by omega⟩ ⟨1024 * (t.val / 8) + j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S1x1024x1024 .f32) (t : Fin cfg0.N) (u : Fin 1) (i j : Fin 1024) :
    k0_pay2 (F := Ideal) o (iblk m c 0 t) (iblk m c 1 t) (ix3 u i j)
      = o (ix3 0 i j) + ∑ k : Fin 1024, at2 (A m c) (1024 * (t.val % 8) + k) (1024 * (t.val / 8) + i) * at2 (B m c) (1024 * (t.val % 8) + k) j := by
  pointwise [k0_pay2, a_at, b_at]

/-- What one element of the second layer's part holds at the end: the sum over all the rows. -/
def W (i j : ℕ) : EReal := ∑ r : Fin 8192, at2 (A m c) r i * at2 (B m c) r j

theorem unit_at (y : S1x1024x1024.Idx) : y = ix3 0 (y 1) (y 2) :=
  (eq_ix3 y).trans (congrArg (fun r => ix3 r (y 1) (y 2)) (Subsingleton.elim (α := Fin 1) _ _))

theorem reset (t : Fin cfg0.N) (h : t.val % 8 = 0) (y : S1x1024x1024.Idx) :
    outsAt0 m c t.val t.isLt y = 0 + ∑ k : Fin 1024, at2 (A m c) (1024 * (t.val % 8) + k) (1024 * (t.val / 8) + (y 1).val)
      * at2 (B m c) (1024 * (t.val % 8) + k) (y 2).val := by
  rw [outsAt0_A m c t h]; frame_out
  rw [unit_at y]
  refine (prod_at m c _ t _ _ _).trans (congrArg (fun e : EReal => e + _) ?_)
  pointwise [k0_pay1]

theorem step (t : Fin cfg0.N) (h : ¬t.val % 8 = 0) (y : S1x1024x1024.Idx) :
    outsAt0 m c t.val t.isLt y = outsAt0 m c (t.val - 1) (Nat.lt_of_le_of_lt (Nat.sub_le _ _) t.isLt) y
      + ∑ k : Fin 1024, at2 (A m c) (1024 * (t.val % 8) + k) (1024 * (t.val / 8) + (y 1).val)
      * at2 (B m c) (1024 * (t.val % 8) + k) (y 2).val := by
  rw [outsAt0_B m c t h]; frame_out
  rw [unit_at y]
  exact prod_at m c _ t _ _ _

theorem outs_at (t : Fin cfg0.N) (h : t.val % 8 = 7) (y : S1x1024x1024.Idx) :
    outsAt0 m c t.val t.isLt y = W m c (1024 * (t.val / 8) + (y 1).val) (y 2).val := by
  have ht : t.val < 32 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (1024 * (p.val / 8) + (y 1).val)
      * at2 (B m c) (1024 * (p.val % 8) + k) (y 2).val)
    (reset m c) (step m c) t h y, zero_add]
  refine Eq.trans (Finset.sum_congr rfl fun s _ => ?_)
    (sum_blocks 8 1024 fun r => at2 (A m c) r (1024 * (t.val / 8) + (y 1).val) * at2 (B m c) r (y 2).val)
  have e1 : (8 * (t.val / 8) + s.val) % 8 = s.val := by omega
  have e2 : (8 * (t.val / 8) + s.val) / 8 = t.val / 8 := by omega
  simp only [e1, e2]

/-- The array after the call: the second layer's part is the sum over all the rows, the first layer's is as it was given. -/
theorem final (c : Dev nD) : (dats m 0 c).arrAt 2 cfg0.N
    = fun i => if (i 0 : ℕ) / 1 = 1 then W m c (i 1).val (i 2).val else m ((c : Thread nD τ).loc main_arg5) i := by
  refine ((dats m 0 c).arrAt_eq_of_coversWhere 2 (fun i => W m c (i 1).val (i 2).val) (P := fun i => (i 0 : ℕ) / 1 = 1) (fun β => β (0 : Fin 3) = 1) (by decide +kernel)
    (fun t hf y => ?_) (fun j => Iff.rfl)).trans ?_
  · blk_simp
    rw [after0_2, outs_at m c t ((flush0_2 t).mp hf)]
    blk_simp [idx t]
    rw [Nat.mul_comm]
  · funext i
    dsimp only
    split
    · rfl
    · rw [A_eq]
      exact congrFun (V_v9 m c) i

/-- The reference leaves its arguments unchanged, and it has no counter. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

section reference
open Cert.Reference8Ideal.Read Cert.Reference8Ideal.Gen
variable (x0 x1 : (⟨Cert.Reference8Ideal.S8192x1024, .f32⟩ : BufTy).Contents (Elt Ideal))
  (x2 : (⟨Cert.Reference8Ideal.S1x1024, .f32⟩ : BufTy).Contents (Elt Ideal)) (x3 : (⟨Cert.Reference8Ideal.S2x1024x4096, .f32⟩ : BufTy).Contents (Elt Ideal))
  (x5 : (⟨Cert.Reference8Ideal.S2x4096x1024, .f32⟩ : BufTy).Contents (Elt Ideal))

/-- The reference's gradient of the weight. -/
theorem grad_at (i : Fin 4096) (j : Fin 1024) : val_main_v13 (F := Ideal) x0 x1 x2 x3 (ix2 i j)
    = ∑ r : Fin 8192, val_main_v11 (F := Ideal) x0 x2 (ix2 r j) * val_main_v6 (F := Ideal) x1 x3 (ix2 r i) := by
  pointwise [val_main_v13, val_main_v12]

/-- The reference's result, index by index. -/
theorem result_at (l : Fin 2) (i : Fin 4096) (j : Fin 1024) : val_main_v16 (F := Ideal) x0 x1 x2 x3 x5 (ix3 l i j)
    = if l.val / 1 = 1 then ∑ r : Fin 8192, val_main_v6 (F := Ideal) x1 x3 (ix2 r i) * val_main_v11 (F := Ideal) x0 x2 (ix2 r j) else x5 (ix3 l i j) := by
  pointwise [val_main_v16, val_main_v15, val_main_v14, grad_at]
  by_cases h : l.val = 1
  · rw [dif_neg (by omega), if_pos (by omega)]
    exact Finset.sum_congr rfl fun r _ => mul_comm (G := EReal) _ _
  · rw [dif_pos (by omega), if_neg (by omega)]

end reference

theorem algebraic : Cert.algebraic_Kernel8Ideal_Reference8Ideal := by
  intro m g m' g' _ hagree
  refine ⟨_, (θ_run Cert.Kernel8Ideal.defs _ _).mono (fun r h c => ⟨(h c).1.trans (final m c), (h c).2⟩) (Cert.Kernel8Ideal.Value.run_blocks m g),
    (θ_run Cert.Reference8Ideal.defs _ _).mono (fun r h c => ?_) (Cert.Reference8Ideal.Value.run m' g')⟩
  obtain ⟨h0, hargs⟩ := h c
  obtain ⟨a0, a1, a2, a3, a4, a5⟩ := hagree c
  refine ⟨?_, hargs⟩
  refine funext fun i => ?_
  rw [h0, Cert.Reference8Ideal.Read.val_main_v16_eq, a0, a1, a2, a3, a5, eq_ix3 i]
  refine (result_at _ _ _ _ _ (i 0) (i 1) (i 2)).trans ?_
  refine if_congr Iff.rfl ?_ rfl
  unfold W
  refine Finset.sum_congr rfl fun r _ => ?_
  refine Eq.trans ?_ (congrArg₂ (fun p q : EReal => p * q) (at2_mk (A m c) r (i 1)) (at2_mk (B m c) r (i 2)))
  exact (congrArg₂ (fun p q : EReal => p * q) (V_v5 m c r (i 1)) (V_v8 m c r (i 2))).symm

end Cert.Dw2B
-- ==== Proof.FMlpB.lean ====
module
public import proofs.«01_k».proof.Proof.Stores
public import proofs.«01_k».proof.Proof.Gen.Kernel9Ideal.Frame
public import proofs.«01_k».proof.Proof.Gen.Kernel9Ideal.Skeleton
public import proofs.«01_k».proof.Proof.Gen.Kernel9
public import proofs.«01_k».proof.Defs

/-! # The call for the feed-forward layer: its run

One block of 1024 tokens is worked on in eight points, each with 512 hidden lanes. The first of the eight writes the normalised
rows and clears the sum, which lies in a buffer of the call's own; each of the eight adds to the sum; the last writes the sum and
the residual. -/

@[expose] public section
set_option maxRecDepth 16384
noncomputable section
namespace Cert.FMlpB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen
open Cert.Stores (read_store)

variable {F : FTy → Type} [FloatOps F]
variable (m : (ℓ : Loc nD τ sig) → Buf (Elt F) ℓ) (ρ : Dev nD → PrngReg)

/-- The conditions of the body's two branches: the second coordinate is zero, and it is seven. -/
theorem isFirst_iff : ∀ t : Fin cfg0.N, k0_cond1 (grid0.coords t) = 1#1 ↔ t.val % 8 = 0 := (by decide +kernel : ∀ t : Fin grid0.N, _)
theorem isLast_iff : ∀ t : Fin cfg0.N, k0_cond2 (grid0.coords t) = 1#1 ↔ t.val % 8 = 7 := (by decide +kernel : ∀ t : Fin grid0.N, _)

section body
variable (c : Dev nD) (i : grid0.Coords)
  (a2 : Memref sig .tc .vmem S1024x1024 .f32) (h2 : a2.IsWhole)  (a3 : Memref sig .tc .vmem S1x1024 .f32) (h3 : a3.IsWhole)
  (a4 : Memref sig .tc .vmem S1x1024 .f32) (h4 : a4.IsWhole)  (a5 : Memref sig .tc .vmem S1x1024 .f32) (h5 : a5.IsWhole)
  (a6 : Memref sig .tc .vmem S1x1024 .f32) (h6 : a6.IsWhole)  (a7 : Memref sig .tc .vmem S1x1x1024x512 .bf16) (h7 : a7.IsWhole)
  (a8 : Memref sig .tc .vmem S1x1x512x1024 .bf16) (h8 : a8.IsWhole)  (a9 : Memref sig .tc .vmem S1024x1024 .f32) (h9 : a9.IsWhole)
  (a10 : Memref sig .tc .vmem S1024x1024 .bf16) (h10 : a10.IsWhole)  (a11 : Memref sig .tc .vmem S1024x512 .bf16) (h11 : a11.IsWhole)
  (a12 : Memref sig .tc .vmem S1024x1024 .bf16) (h12 : a12.IsWhole)  (a13 : Memref sig .tc .vmem S1024x1024 .f32) (h13 : a13.IsWhole)
  (x0 : Vec F S1024x1024 .f32)  (x1 : Vec F S1x1024 .f32)  (x2 : Vec F S1x1024 .f32)  (x3 : Vec F S1x1024 .f32)  (x4 : Vec F S1x1024 .f32)  (x5 : Vec F S1x1x1024x512 .bf16)  (x6 : Vec F S1x1x512x1024 .bf16)
  (yv : Vec F S1024x1024 .bf16) (ys : Vec F S1024x1024 .f32)
  (E : Set ℕ) (K : PUnit → sProp (MT nD τ sig Unit (Elt F) ℕ (UR sig nD τ) ℕ))

include h2 h3 h4 h5 h6 h7 h8 in
set_option maxHeartbeats 1000000 in
/-- The body at the first point of a block. -/
theorem body_first (hc1 : k0_cond1 i = 1#1) (hc2 : ¬k0_cond2 i = 1#1) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
      ∗ (∃ d, owns (c : Thread nD τ) a11 fullShare d) ∗ (∃ d, owns (c : Thread nD τ) a12 fullShare d) ∗ (∃ d, owns (c : Thread nD τ) a13 fullShare d)
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ owns (c : Thread nD τ) a11 fullShare (k0_pay4 (k0_pay1 x0 x1 x2 x3) x5)
        ∗ owns (c : Thread nD τ) a12 fullShare (k0_pay1 x0 x1 x2 x3)
        ∗ owns (c : Thread nD τ) a13 fullShare (k0_pay5 (k0_pay1 x0 x1 x2 x3) x5 k0_pay2 x6)) -∗ K ⟨⟩))
    ⊢ wp frame (wpE (defs₀ (F := F)) Variants.none c none) E (cc0_f_mlp i a2 h2 a3 h3 a4 h4 a5 h5 a6 h6 a7 h7 a8 h8 a9 h9 a10 h10 a11 h11 a12 h12 a13 h13) K := by
  simp only [cc0_f_mlp_eq_skeleton]; unfold cc0_f_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d12, %f12, -, H12⟩, ⟨%d13, %f13, -, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H11]
  · iexists _; isplitr; swap; · iexact H11
    ipureintro; refine (read_store _ _ _ _ _ (by decide)).trans ?_; frame_out
  isplitl [H12]
  · iexists _; isplitr; swap; · iexact H12
    ipureintro; refine (read_store _ _ _ _ _ (by decide)).trans ?_; frame_out
  iexists _; isplitr; swap; · iexact H13
  ipureintro; refine (read_store _ _ _ _ _ (by decide)).trans ?_; frame_out

include h2 h3 h4 h5 h6 h7 h8 h12 h13 in
set_option maxHeartbeats 1000000 in
/-- The body at a point of a block that is neither the first nor the last. -/
theorem body_mid (hc1 : ¬k0_cond1 i = 1#1) (hc2 : ¬k0_cond2 i = 1#1) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
      ∗ (∃ d, owns (c : Thread nD τ) a11 fullShare d) ∗ owns (c : Thread nD τ) a12 fullShare yv ∗ owns (c : Thread nD τ) a13 fullShare ys
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ owns (c : Thread nD τ) a11 fullShare (k0_pay4 yv x5)
        ∗ owns (c : Thread nD τ) a12 fullShare yv
        ∗ owns (c : Thread nD τ) a13 fullShare (k0_pay5 yv x5 ys x6)) -∗ K ⟨⟩))
    ⊢ wp frame (wpE (defs₀ (F := F)) Variants.none c none) E (cc0_f_mlp i a2 h2 a3 h3 a4 h4 a5 h5 a6 h6 a7 h7 a8 h8 a9 h9 a10 h10 a11 h11 a12 h12 a13 h13) K := by
  simp only [cc0_f_mlp_eq_skeleton]; unfold cc0_f_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%f12, %hf12, H12⟩, ⟨%f13, %hf13, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h12.eq_unread hf12; obtain rfl := h13.eq_unread hf13
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H11]
  · iexists _; isplitr; swap; · iexact H11
    ipureintro; refine (read_store _ _ _ _ _ (by decide)).trans ?_; frame_out
  isplitl [H12]
  · iexists _; isplitr; · ipureintro; exact h12.read_unread _
    iexact H12
  iexists _; isplitr; swap; · iexact H13
  ipureintro; refine (read_store _ _ _ _ _ (by decide)).trans ?_; frame_out

include h2 h3 h4 h5 h6 h7 h8 h12 h13 in
set_option maxHeartbeats 1000000 in
/-- The body at the last point of a block. -/
theorem body_last (hc1 : ¬k0_cond1 i = 1#1) (hc2 : k0_cond2 i = 1#1) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
      ∗ (∃ d, owns (c : Thread nD τ) a9 fullShare d) ∗ (∃ d, owns (c : Thread nD τ) a10 fullShare d) ∗ (∃ d, owns (c : Thread nD τ) a11 fullShare d) ∗ owns (c : Thread nD τ) a12 fullShare yv ∗ owns (c : Thread nD τ) a13 fullShare ys
      ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
        ∗ owns (c : Thread nD τ) a9 fullShare (k0_pay7 (k0_pay5 yv x5 ys x6) x0 x4)
        ∗ owns (c : Thread nD τ) a10 fullShare (k0_pay6 (k0_pay5 yv x5 ys x6))
        ∗ owns (c : Thread nD τ) a11 fullShare (k0_pay4 yv x5)
        ∗ owns (c : Thread nD τ) a12 fullShare yv
        ∗ owns (c : Thread nD τ) a13 fullShare (k0_pay5 yv x5 ys x6)) -∗ K ⟨⟩))
    ⊢ wp frame (wpE (defs₀ (F := F)) Variants.none c none) E (cc0_f_mlp i a2 h2 a3 h3 a4 h4 a5 h5 a6 h6 a7 h7 a8 h8 a9 h9 a10 h10 a11 h11 a12 h12 a13 h13) K := by
  simp only [cc0_f_mlp_eq_skeleton]; unfold cc0_f_mlp_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h12.eq_unread hf12; obtain rfl := h13.eq_unread hf13
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro; refine (read_store _ _ _ _ _ (by decide)).trans ?_; frame_out
  isplitl [H10]
  · iexists _; isplitr; swap; · iexact H10
    ipureintro; refine (read_store _ _ _ _ _ (by decide)).trans ?_; frame_out
  isplitl [H11]
  · iexists _; isplitr; swap; · iexact H11
    ipureintro; refine (read_store _ _ _ _ _ (by decide)).trans ?_; frame_out
  isplitl [H12]
  · iexists _; isplitr; · ipureintro; exact h12.read_unread _
    iexact H12
  iexists _; isplitr; swap; · iexact H13
  ipureintro; refine (read_store _ _ _ _ _ (by decide)).trans ?_; frame_out

end body

/-! ## What the outputs and the sum hold after each point -/

/-- The first point of the block of rows the point `n` is in. -/
def firstPt (n : ℕ) (hn : n < cfg0.N) : Fin cfg0.N := ⟨8 * (n / 8), Nat.lt_of_le_of_lt (Nat.mul_div_le n 8) hn⟩

/-- What the normalised rows' block holds: stored at the first point of a block of rows and kept. -/
def nrm (c : Dev nD) (n : ℕ) (hn : n < cfg0.N) : Vec F S1024x1024 .bf16 :=
  k0_pay1 (iblk m c 0 (firstPt n hn)) (iblk m c 1 (firstPt n hn)) (iblk m c 2 (firstPt n hn)) (iblk m c 3 (firstPt n hn))

theorem nrm_first (c : Dev nD) (t : Fin cfg0.N) (h : t.val % 8 = 0) :
    nrm m c t.val t.isLt = k0_pay1 (iblk m c 0 t) (iblk m c 1 t) (iblk m c 2 t) (iblk m c 3 t) := by
  have e : firstPt t.val t.isLt = t := Fin.ext (by show 8 * (t.val / 8) = t.val; omega)
  unfold nrm; rw [e]

theorem nrm_later (c : Dev nD) (t : Fin cfg0.N) (h : ¬t.val % 8 = 0) :
    nrm m c (t.val - 1) (Nat.lt_of_le_of_lt (Nat.sub_le _ _) t.isLt) = nrm m c t.val t.isLt := by
  have e : firstPt (t.val - 1) (Nat.lt_of_le_of_lt (Nat.sub_le _ _) t.isLt) = firstPt t.val t.isLt :=
    Fin.ext (by show 8 * ((t.val - 1) / 8) = 8 * (t.val / 8); omega)
  unfold nrm; rw [e]

/-- What the sum holds after the body at position `n`. -/
def acc (c : Dev nD) : (n : ℕ) → n < cfg0.N → Vec F S1024x1024 .f32
  | 0, hn => k0_pay5 (nrm m c 0 hn) (X0_5 m c ⟨0, hn⟩) k0_pay2 (X0_6 m c ⟨0, hn⟩)
  | n + 1, hn =>
    if (n + 1) % 8 = 0 then k0_pay5 (nrm m c (n + 1) hn) (X0_5 m c ⟨n + 1, hn⟩) k0_pay2 (X0_6 m c ⟨n + 1, hn⟩)
    else k0_pay5 (nrm m c (n + 1) hn) (X0_5 m c ⟨n + 1, hn⟩) (acc c n (Nat.lt_of_succ_lt hn)) (X0_6 m c ⟨n + 1, hn⟩)

theorem acc_first (c : Dev nD) (t : Fin cfg0.N) (h : t.val % 8 = 0) :
    acc m c t.val t.isLt = k0_pay5 (nrm m c t.val t.isLt) (X0_5 m c t) k0_pay2 (X0_6 m c t) := by
  obtain ⟨n, hn⟩ := t
  cases n with
  | zero => exact rfl
  | succ n => exact (if_pos h).trans rfl

theorem acc_later (c : Dev nD) (t : Fin cfg0.N) (h : ¬t.val % 8 = 0) :
    acc m c t.val t.isLt = k0_pay5 (nrm m c t.val t.isLt) (X0_5 m c t)
      (acc m c (t.val - 1) (Nat.lt_of_le_of_lt (Nat.sub_le _ _) t.isLt)) (X0_6 m c t) := by
  obtain ⟨n, hn⟩ := t
  cases n with
  | zero => exact absurd (Nat.zero_mod _) h
  | succ n => exact (if_neg h).trans rfl

/-- The buffer of the sum. -/
abbrev scr : Memref sig .tc .vmem S1024x1024 .f32 := Memref.whole cc0_scratch0

/-- Between two points the buffer of the sum is held, inside a block of rows at the sum so far. -/
def Inv (c : Dev nD) (n : ℕ) : sProp (MT nD τ sig Unit (Elt F) ℕ (UR sig nD τ) ℕ) :=
  iprop((∃ r, prngReg c r) ∗ ∃ x, ⌜∀ (k : ℕ) (hk : k < cfg0.N), n = k + 1 → ¬n % 8 = 0 → x = acc m c k hk⌝ ∗ owns (c : Thread nD τ) scr fullShare x)

/-- The proof data: each input's block, and the four outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => k0_pay7 (acc m c t.val t.isLt) (iblk m c 0 t) (iblk m c 4 t)
    | ⟨8, _⟩ => k0_pay6 (acc m c t.val t.isLt)
    | ⟨9, _⟩ => k0_pay4 (nrm m c t.val t.isLt) (X0_5 m c t)
    | ⟨10, _⟩ => nrm m c t.val t.isLt
  Φ t := Inv m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = X0_5 m c t := by dsimp only [dats]
theorem after_6 (c : Dev nD) (t : Fin cfg0.N) : (dats m 0 c).after 6 t = X0_6 m c t := by dsimp only [dats]
theorem after_7 (c : Dev nD) (t : Fin cfg0.N) : (dats m 0 c).after 7 t = k0_pay7 (acc m c t.val t.isLt) (iblk m c 0 t) (iblk m c 4 t) := by dsimp only [dats]
theorem after_8 (c : Dev nD) (t : Fin cfg0.N) : (dats m 0 c).after 8 t = k0_pay6 (acc m c t.val t.isLt) := by dsimp only [dats]
theorem after_9 (c : Dev nD) (t : Fin cfg0.N) : (dats m 0 c).after 9 t = k0_pay4 (nrm m c t.val t.isLt) (X0_5 m c t) := by dsimp only [dats]
theorem after_10 (c : Dev nD) (t : Fin cfg0.N) : (dats m 0 c).after 10 t = nrm m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = X0_5 m c t := before0_5_of m (dats m 0 c) (A_eq m c 5) (after_5 m c) t d
theorem before_6 (c : Dev nD) (t : Fin cfg0.N) (d) : (dats m 0 c).before 6 t d = X0_6 m c t := before0_6_of m (dats m 0 c) (A_eq m c 6) (after_6 m c) t d
/-- At which points this block is stored. -/
theorem idle_7 : ∀ t : Fin cfg0.N, cfg0.idle 7 (cfg0.grid.coords t) = !decide (t.val % 8 = 7) := (by decide +kernel : ∀ t : Fin grid0.N, idle0 7 (grid0.coords t) = !decide (t.val % 8 = 7))
theorem leaves_7 (c : Dev nD) (t : Fin cfg0.N) (h : t.val % 8 = 7) : (dats m 0 c).leavesExact 7 t
    = owns (c : Thread nD τ) (win0_7.stage (cfg0.slots t 7)) fullShare (k0_pay7 (acc m c t.val t.isLt) (iblk m c 0 t) (iblk m c 4 t)) := by
  unfold Dat.leavesExact
  rw [idle_7 t]; simp only [h, decide_true, Bool.not_true]
  rw [after_7]
theorem keeps_7 (c : Dev nD) (t : Fin cfg0.N) (h : ¬t.val % 8 = 7) : (dats m 0 c).leavesExact 7 t
    = iprop(∃ d, owns (c : Thread nD τ) (win0_7.stage (cfg0.slots t 7)) fullShare ((dats m 0 c).before 7 t d)) :=
  Dat.leavesExact_idle _ _ _ (by rw [idle_7 t]; simp [h]) (Bool.eq_false_iff.mpr fun e => h ((flush0_7 t).mp e))
/-- At which points this block is stored. -/
theorem idle_8 : ∀ t : Fin cfg0.N, cfg0.idle 8 (cfg0.grid.coords t) = !decide (t.val % 8 = 7) := (by decide +kernel : ∀ t : Fin grid0.N, idle0 8 (grid0.coords t) = !decide (t.val % 8 = 7))
theorem leaves_8 (c : Dev nD) (t : Fin cfg0.N) (h : t.val % 8 = 7) : (dats m 0 c).leavesExact 8 t
    = owns (c : Thread nD τ) (win0_8.stage (cfg0.slots t 8)) fullShare (k0_pay6 (acc m c t.val t.isLt)) := by
  unfold Dat.leavesExact
  rw [idle_8 t]; simp only [h, decide_true, Bool.not_true]
  rw [after_8]
theorem keeps_8 (c : Dev nD) (t : Fin cfg0.N) (h : ¬t.val % 8 = 7) : (dats m 0 c).leavesExact 8 t
    = iprop(∃ d, owns (c : Thread nD τ) (win0_8.stage (cfg0.slots t 8)) fullShare ((dats m 0 c).before 8 t d)) :=
  Dat.leavesExact_idle _ _ _ (by rw [idle_8 t]; simp [h]) (Bool.eq_false_iff.mpr fun e => h ((flush0_8 t).mp e))
/-- At which points the normalised rows' block is stored. -/
theorem idle_10 : ∀ t : Fin cfg0.N, cfg0.idle 10 (cfg0.grid.coords t) = !decide (t.val % 8 = 0) := (by decide +kernel : ∀ t : Fin grid0.N, idle0 10 (grid0.coords t) = !decide (t.val % 8 = 0))
/-- Its buffer holds nothing of this call's at the first point of a block of rows only. -/
theorem fresh_10 : ∀ n, n ≤ cfg0.N → cfg0.fresh 10 n = decide (n % 8 = 0) :=
  cfg0.fresh_tab 10 (fun n => decide (n % 8 = 0)) rfl fun t => by
    rw [idle_10 t]
    have hf := flush0_10 t
    cases h : (cfg0.win 10).flush t
    · have : ¬t.val % 8 = 7 := fun e => Bool.false_ne_true (h.symm.trans (hf.mpr e))
      have e : ¬(t.val + 1) % 8 = 0 := by omega
      simp only [e, Bool.false_or]
      by_cases h0 : t.val % 8 = 0 <;> simp [h0]
    · have : (t.val + 1) % 8 = 0 := by have := hf.mp h; omega
      simp only [this, Bool.true_or, decide_true]
theorem before_10 (c : Dev nD) (t : Fin cfg0.N) (h : ¬t.val % 8 = 0) (d) : (dats m 0 c).before 10 t d = nrm m c t.val t.isLt := by
  rw [(dats m 0 c).before_out_traj 10 rfl (fun _ _ => rfl) (fun t _ hi _ => by
    rw [after_10, after_10]
    refine (nrm_later m c t fun h0 => ?_).symm
    rw [idle_10 t, h0] at hi
    exact Bool.false_ne_true hi) t.val t rfl d, fresh_10 t.val t.isLt.le]
  simp only [h, decide_false, Bool.false_eq_true, if_false]
  rw [after_10]
  exact nrm_later m c t h

/-- The block handed on: where the point stores nothing and writes nothing back, it is what was found. -/
theorem leaves_10 (c : Dev nD) (t : Fin cfg0.N) :
    owns (c : Thread nD τ) (win0_10.stage (cfg0.slots t 10)) fullShare (nrm m c t.val t.isLt) ⊢ (dats m 0 c).leavesExact 10 t := by
  by_cases h : t.val % 8 = 0
  · unfold Dat.leavesExact
    rw [idle_10 t]; simp only [h, decide_true, Bool.not_true]
    exact .rfl
  · cases hf : (cfg0.win 10).flush t
    · rw [Dat.leavesExact_idle _ _ _ (by rw [idle_10 t]; simp [h]) hf]
      iintro H
      iexists (nrm m c t.val t.isLt)
      rw [before_10 m c t h]
      iexact H
    · unfold Dat.leavesExact
      rw [idle_10 t, hf]; simp only [h, decide_false, Bool.not_false]
      exact .rfl

/-! ## The body at every point -/

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (dats m 0 c).leavesExact 7 t
    ∗ (dats m 0 c).leavesExact 8 t
    ∗ owns (c : Thread nD τ) (win0_9.stage (cfg0.slots t 9)) fullShare ((dats m 0 c).after 9 t)
    ∗ (dats m 0 c).leavesExact 10 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after_0, after_1, after_2, after_3, after_4, after_5, after_6, after_9]
  unfold Inv
  by_cases h0 : t.val % 8 = 0
  · have h7 : ¬t.val % 8 = 7 := by omega
    iintro ⟨⟨Hr, %x, %hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid0.coords t) _ _ _ _ _ _ _ _ _ _ _ _ _ _ _ _ _ _ _ _ _ _ _ _ (iblk m c 0 t) (iblk m c 1 t) (iblk m c 2 t) (iblk m c 3 t) (iblk m c 4 t) (X0_5 m c t) (X0_6 m c t) Set.univ _ ((isFirst_iff t).mpr h0) (fun h => h7 ((isLast_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexists _; iexact H9
    isplitl [H10]; · iexists _; iexact H10
    isplitl [Hs]; · iexists _; iexact Hs
    iintro ⟨H0, H1, H2, H3, H4, H5, H6, H9, H10, Hs⟩
    isplitl [Hr Hs]
    · isplitl [Hr]; · iexact Hr
      iexists _; isplitr; swap; · iexact Hs
      ipureintro; intro k hk e _; obtain rfl : k = t.val := by omega
      exact ((acc_first m c t h0).trans (by rw [nrm_first m c t h0])).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [keeps_7 m c t h7]; iexists _; iexact H7
    isplitl [H8]; · rw [keeps_8 m c t h7]; iexists _; iexact H8
    isplitl [H9]; · rw [nrm_first m c t h0]; iexact H9
    iapply leaves_10 m c t
    rw [nrm_first m c t h0]
    iexact H10
  · simp only [before_10 m c t h0]
    by_cases h7 : t.val % 8 = 7
    · iintro ⟨⟨Hr, %x, %hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain rfl := hx (t.val - 1) (Nat.lt_of_le_of_lt (Nat.sub_le _ _) t.isLt) (by omega) h0
      iapply (body_last c (grid0.coords t) _ _ _ _ _ _ _ _ _ _ _ _ _ _ _ _ _ _ _ _ _ _ _ _ (iblk m c 0 t) (iblk m c 1 t) (iblk m c 2 t) (iblk m c 3 t) (iblk m c 4 t) (X0_5 m c t) (X0_6 m c t) _ _ Set.univ _ (fun h => h0 ((isFirst_iff t).mp h)) ((isLast_iff t).mpr h7))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [Hs]; · iexact Hs
      iintro ⟨H0, H1, H2, H3, H4, H5, H6, H7, H8, H9, H10, Hs⟩
      isplitl [Hr Hs]
      · isplitl [Hr]; · iexact Hr
        iexists _; isplitr; swap; · iexact Hs
        ipureintro; intro k hk e _; obtain rfl : k = t.val := by omega
        exact (acc_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · rw [leaves_7 m c t h7, acc_later m c t h0]; iexact H7
      isplitl [H8]; · rw [leaves_8 m c t h7, acc_later m c t h0]; iexact H8
      isplitl [H9]; · iexact H9
      iapply leaves_10 m c t
      iexact H10
    · iintro ⟨⟨Hr, %x, %hx, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain rfl := hx (t.val - 1) (Nat.lt_of_le_of_lt (Nat.sub_le _ _) t.isLt) (by omega) h0
      iapply (body_mid c (grid0.coords t) _ _ _ _ _ _ _ _ _ _ _ _ _ _ _ _ _ _ _ _ _ _ _ _ (iblk m c 0 t) (iblk m c 1 t) (iblk m c 2 t) (iblk m c 3 t) (iblk m c 4 t) (X0_5 m c t) (X0_6 m c t) _ _ Set.univ _ (fun h => h0 ((isFirst_iff t).mp h)) (fun h => h7 ((isLast_iff t).mp h)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]; · iexists _; iexact H9
      isplitl [H10]; · iexact H10
      isplitl [Hs]; · iexact Hs
      iintro ⟨H0, H1, H2, H3, H4, H5, H6, H9, H10, Hs⟩
      isplitl [Hr Hs]
      · isplitl [Hr]; · iexact Hr
        iexists _; isplitr; swap; · iexact Hs
        ipureintro; intro k hk e _; obtain rfl : k = t.val := by omega
        exact (acc_later m c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · rw [keeps_7 m c t h7]; iexists _; iexact H7
      isplitl [H8]; · rw [keeps_8 m c t h7]; iexists _; iexact H8
      isplitl [H9]; · iexact H9
      iapply leaves_10 m c t
      iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

/-- The call's own buffer at any contents, as the invariant states it. -/
theorem rest_eq (c : Dev nD) : (Pipeline.scopedRest (Ix := Unit) (Name := ℕ) (U := UR sig nD τ) (Lvl := ℕ) (Val := Elt F) spec0 c : sProp (MT nD τ sig Unit (Elt F) ℕ (UR sig nD τ) ℕ))
    = iprop(∃ x, owns (c : Thread nD τ) scr fullShare x) :=
  (scopedRest0_eq c).trans (congrArg _ (funext fun x => (owns_whole (c : Thread nD τ) cc0_scratch0 fullShare x).symm))

/-- The buffer of the sum comes at any contents, -/
theorem enter (c : Dev nD) : Pipeline.ΦA spec0 c ⊢ (dats (F := F) m 0 c).Φ 0 := by
  show Pipeline.ΦA spec0 c ⊢ Inv m c 0
  unfold Pipeline.ΦA Inv
  rw [rest_eq]
  iintro ⟨⟨%x, Hs⟩, Hr⟩
  isplitl [Hr]; · iexact Hr
  iexists x
  isplitr
  · ipureintro; intro k hk e _; exact absurd e (Nat.succ_ne_zero k).symm
  iexact Hs

/-- and is given back at any. -/
theorem leave (c : Dev nD) : (dats (F := F) m 0 c).Φ (Fin.last cfg0.N) ⊢ Pipeline.ΦA spec0 c := by
  show Inv m c (Fin.last cfg0.N).val ⊢ Pipeline.ΦA spec0 c
  generalize (Fin.last cfg0.N).val = n
  unfold Pipeline.ΦA Inv
  rw [rest_eq]
  iintro ⟨Hr, %x, -, Hs⟩
  isplitl [Hs]
  · iexists x; iexact Hs
  iexact Hr

set_option backward.isDefEq.respectTransparency.types false in
/-- The launch ends with every array at what the proof data say and no counter left. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

theorem frame_ideal : Cert.quiescent_Kernel9Ideal := fun m ρ _ => frame m ρ

/-- The two programs' tables of bodies are the same. -/
theorem defs₀_eq : Cert.Kernel9.defs₀ (F := Bits) = Cert.Kernel9Ideal.defs₀ (F := Bits) := by
  unfold Cert.Kernel9.defs₀ Cert.Kernel9Ideal.defs₀
  refine congrArg _ ?_
  funext l a
  match l, a with
  | 0, (t, s) => rfl
  | ⟨_ + 1, h⟩, _ => exact absurd h (Nat.not_lt.2 (Nat.le_add_left _ _))
theorem defs_eq : Cert.Kernel9.defs (F := Bits) = Cert.Kernel9Ideal.defs (F := Bits) := congrArg (Pipeline.defs _) defs₀_eq

theorem frame_kernel : Cert.quiescent_Kernel9 := fun m ρ _ => by
  have h := frame (F := Bits) m ρ
  rw [← defs_eq] at h
  exact h

end Cert.FMlpB
-- ==== Proof.FMlpBValue.lean ====
module
public import proofs.«01_k».proof.Proof.Rows
public import proofs.«01_k».proof.Proof.FMlpB
public import Idealize.ShloMosaic.Lib.Claim
public import Idealize.ShloMosaic.Lib.Pipeline.Value

/-! # What the call for the second layer's feed-forward part reads

The host's arrays, and the block of each at a point. -/

@[expose] public section
set_option maxRecDepth 16384
noncomputable section
namespace Cert.FMlpB
open Idealize.ShloMosaic Idealize.ShloMosaic.TcCoe Idealize.SL.Sem
open Idealize.ShloMosaic.Pipeline (Dat)
open Cert.Kernel9Ideal Cert.Kernel9Ideal.Gen Cert.Rows
variable (m : (ℓ : Loc nD τ sig) → Buf (Elt Ideal) ℓ) (c : Dev nD)

/-- The layer's norm weights. -/
theorem V_v0 (u : Fin 1) (j : Fin 1024) : V m c main_v0 (ix2 u j) = m ((c : Thread nD τ).loc main_arg1) (ix2 1 j) := by
  simp only [V, hostOps0, hostOps0_1, hostOps0_2, List.flatten_cons, List.flatten_nil, List.append_nil, List.cons_append, List.nil_append]
  entry_read
  pointwise []

/-- The packed weights are the four parts, stacked. -/
theorem V_v9 : ∃ (u : (⟨S2x4x256x1024, .f32⟩ : BufTy).Contents (Elt Ideal)) (w : (⟨S2x4x592x1024, .f32⟩ : BufTy).Contents (Elt Ideal)),
    V m c main_v9 = (truncf (F := Ideal) .bf16 (concatenate S2x4x2896x1024 2 [⟨S2x4x1024x1024, (V m c main_v2 : (⟨S2x4x1024x1024, .f32⟩ : BufTy).Contents (Elt Ideal))⟩, ⟨S2x4x1024x1024, (V m c main_v6 : (⟨S2x4x1024x1024, .f32⟩ : BufTy).Contents (Elt Ideal))⟩,
    ⟨S2x4x256x1024, u⟩, ⟨S2x4x592x1024, w⟩] concatenates_S2x4x1024x1024_S2x4x1024x1024_S2x4x256x1024_S2x4x592x1024_S2x4x2896x1024_d2) bitsLt_bf16_f32
      : (⟨S2x4x2896x1024, .bf16⟩ : BufTy).Contents (Elt Ideal)) := by
  have e : (List.flatten [hostOps0, hostOps0_1, hostOps0_2] : List (HloOp τ sig (Elt Ideal)))
      = (hostOps0 ++ (hostOps0_1 ++ hostOps0_2.take 2)) ++ hostOps0_2.drop 2 := rfl
  have h : ∀ b : Ref sig .tc, V m c b = StableHlo.after (hostOps0_2.drop 2) (StableHlo.after (hostOps0 ++ (hostOps0_1 ++ hostOps0_2.take 2)) (fun b => m (c, b))) b :=
    fun b => (congrArg (fun L => StableHlo.after L (fun b => m (c, b)) b) e).trans (congrFun (StableHlo.after_append _ _ _) _)
  rw [h main_v9, h main_v2, h main_v6]
  generalize StableHlo.after (hostOps0 ++ (hostOps0_1 ++ hostOps0_2.take 2)) (fun b => m (c, b)) = σ
  refine ⟨σ main_v7, σ main_v5, ?_⟩
  have h5 : StableHlo.after (hostOps0_2.drop 2) σ main_v2 = σ main_v2 := by
    simp only [hostOps0_2, List.drop_succ_cons, List.drop_zero, StableHlo.after_cons, StableHlo.after_nil]
    exact (StableHlo.unary_result_ne _ _ _ _ _ _ (r := main_v2) (by decide)).trans (StableHlo.nary_result_ne _ _ _ _ _ _ (r := main_v2) (by decide))
  have h9 : StableHlo.after (hostOps0_2.drop 2) σ main_v6 = σ main_v6 := by
    simp only [hostOps0_2, List.drop_succ_cons, List.drop_zero, StableHlo.after_cons, StableHlo.after_nil]
    exact (StableHlo.unary_result_ne _ _ _ _ _ _ (r := main_v6) (by decide)).trans (StableHlo.nary_result_ne _ _ _ _ _ _ (r := main_v6) (by decide))
  rw [h5, h9]
  simp only [hostOps0_2, List.drop_succ_cons, List.drop_zero, StableHlo.after_cons, StableHlo.after_nil]
  exact (StableHlo.unary_result _ _ _ _ _ _).trans (congrArg (truncf (F := Ideal) .bf16 · bitsLt_bf16_f32) (StableHlo.nary_result _ _ _ _ _ _))

/-- The first weight, its columns cut into four. -/
theorem V_v2 (p : Fin 4) (r : Fin 1024) (j : Fin 1024) : V m c main_v2 (ix4 1 p r j)
    = m ((c : Thread nD τ).loc main_arg5) (ix3 1 r ⟨1024 * p + j, by omega⟩) := by
  simp only [V, hostOps0, hostOps0_1, hostOps0_2, List.flatten_cons, List.flatten_nil, List.append_nil, List.cons_append, List.nil_append]
  entry_read
  pointwise []
  exact congrArg (fun k => m ((c : Thread nD τ).loc main_arg5) (ix3 1 r k)) (Fin.ext (by show p.val * 1024 + j.val = 1024 * p.val + j.val; omega))

/-- The second weight, its rows cut into four. -/
theorem V_v6 (p : Fin 4) (r : Fin 1024) (j : Fin 1024) : V m c main_v6 (ix4 1 p r j)
    = m ((c : Thread nD τ).loc main_arg6) (ix3 1 ⟨1024 * p + r, by omega⟩ j) := by
  simp only [V, hostOps0, hostOps0_1, hostOps0_2, List.flatten_cons, List.flatten_nil, List.append_nil, List.cons_append, List.nil_append]
  entry_read
  pointwise []
  exact congrArg (fun k => m ((c : Thread nD τ).loc main_arg6) (ix3 1 k j)) (Fin.ext (by show p.val * 1024 + r.val = 1024 * p.val + r.val; omega))

/-- The packed weights, the rows of the first weight. -/
theorem V_w1 (p : Fin 4) (r : Fin 1024) (j : Fin 1024) : V m c main_v9 (ix4 1 p ⟨r, by omega⟩ j)
    = m ((c : Thread nD τ).loc main_arg5) (ix3 1 r ⟨1024 * p + j, by omega⟩) := by
  obtain ⟨u, w, e⟩ := V_v9 m c
  refine Eq.trans ?_ (V_v2 m c p r j)
  rw [e]
  generalize V m c main_v2 = a
  generalize V m c main_v6 = b
  pointwise []

/-- The packed weights, the rows of the second weight. -/
theorem V_w2 (p : Fin 4) (r : Fin 1024) (j : Fin 1024) : V m c main_v9 (ix4 1 p ⟨1024 + r, by omega⟩ j)
    = m ((c : Thread nD τ).loc main_arg6) (ix3 1 ⟨1024 * p + r, by omega⟩ j) := by
  obtain ⟨u, w, e⟩ := V_v9 m c
  refine Eq.trans ?_ (V_v6 m c p r j)
  rw [e]
  generalize V m c main_v2 = a
  generalize V m c main_v6 = b
  pointwise []

theorem idx : ∀ t : Fin cfg0.N, win0_0.index t = ![t.val / 8, 0] ∧ win0_1.index t = ![0, 0] ∧ win0_2.index t = ![0, 0]
    ∧ win0_3.index t = ![0, 0] ∧ win0_4.index t = ![0, 0]
    ∧ win0_5.index t = ![1, t.val % 8 / 2, 0, t.val % 8 % 2] ∧ win0_6.index t = ![1, t.val % 8 / 2, 2 + t.val % 8 % 2, 0]
    ∧ win0_7.index t = ![t.val / 8, 0] ∧ win0_8.index t = ![t.val / 8, 0] ∧ win0_9.index t = ![t.val / 8, t.val % 8] ∧ win0_10.index t = ![t.val / 8, 0] :=
  (by decide +kernel : ∀ t : Fin grid0.N, _)

/-- The tokens, the norm weights, the scale, the shift, the gate and the two weights. -/
abbrev X : (⟨2, ![8192, 1024]⟩ : Shape).Idx → EReal := m ((c : Thread nD τ).loc main_arg0)
abbrev N : (⟨2, ![2, 1024]⟩ : Shape).Idx → EReal := m ((c : Thread nD τ).loc main_arg1)
abbrev S : (⟨2, ![1, 1024]⟩ : Shape).Idx → EReal := m ((c : Thread nD τ).loc main_arg2)
abbrev T : (⟨2, ![1, 1024]⟩ : Shape).Idx → EReal := m ((c : Thread nD τ).loc main_arg3)
abbrev G : (⟨2, ![1, 1024]⟩ : Shape).Idx → EReal := m ((c : Thread nD τ).loc main_arg4)
abbrev W1 : (⟨3, ![2, 1024, 4096]⟩ : Shape).Idx → EReal := m ((c : Thread nD τ).loc main_arg5)
abbrev W2 : (⟨3, ![2, 4096, 1024]⟩ : Shape).Idx → EReal := m ((c : Thread nD τ).loc main_arg6)

theorem x_at (t : Fin cfg0.N) (k j : Fin 1024) : (iblk m c 0 t) (ix2 k j) = at2 (X m c) (1024 * (t.val / 8) + k) j := by
  have ht : t.val < 64 := lt_of_lt_of_eq t.isLt N_0
  refine Eq.trans ?_ (at2_mk (X m c) ⟨1024 * (t.val / 8) + k, by omega⟩ ⟨j, by omega⟩)
  refine Eq.trans ?_ (congrFun (V_main_arg0 m c) _)
  blk_simp [iblk]
  refine congrArg (V m c main_arg0) ?_
  blk_ext [idx t]

theorem n_at (t : Fin cfg0.N) (u : Fin 1) (j : Fin 1024) : (iblk m c 1 t) (ix2 u j) = at2 (N m c) 1 j := by
  refine Eq.trans ?_ (at2_mk (N m c) 1 j)
  refine Eq.trans ?_ (V_v0 m c 0 j)
  blk_simp [iblk]
  refine congrArg (V m c main_v0) ?_
  blk_ext [idx t]

theorem s_at (t : Fin cfg0.N) (u : Fin 1) (j : Fin 1024) : (iblk m c 2 t) (ix2 u j) = at2 (S m c) 0 j := by
  refine Eq.trans ?_ (at2_mk (S m c) 0 j)
  refine Eq.trans ?_ (congrFun (V_main_arg2 m c) _)
  blk_simp [iblk]
  refine congrArg (V m c main_arg2) ?_
  blk_ext [idx t]

theorem t_at (t : Fin cfg0.N) (u : Fin 1) (j : Fin 1024) : (iblk m c 3 t) (ix2 u j) = at2 (T m c) 0 j := by
  refine Eq.trans ?_ (at2_mk (T m c) 0 j)
  refine Eq.trans ?_ (congrFun (V_main_arg3 m c) _)
  blk_simp [iblk]
  refine congrArg (V m c main_arg3) ?_
  blk_ext [idx t]

theorem g_at (t : Fin cfg0.N) (u : Fin 1) (j : Fin 1024) : (iblk m c 4 t) (ix2 u j) = at2 (G m c) 0 j := by
  refine Eq.trans ?_ (at2_mk (G m c) 0 j)
  refine Eq.trans ?_ (congrFun (V_main_arg4 m c) _)
  blk_simp [iblk]
  refine congrArg (V m c main_arg4) ?_
  blk_ext [idx t]

theorem w1_at (t : Fin cfg0.N) (u v : Fin 1) (j : Fin 1024) (s : Fin 512) :
    (X0_5 m c t) (ix4 u v j s) = at3 (W1 m c) 1 j (512 * (t.val % 8) + s) := by
  unfold X0_5 Pipeline.Window.fill
  rw [dif_pos (moved0_5 t _)]
  have ht : t.val < 64 := lt_of_lt_of_eq t.isLt N_0
  refine Eq.trans ?_ ((V_w1 m c ⟨t.val % 8 / 2, by omega⟩ j ⟨512 * (t.val % 8 % 2) + s, by omega⟩).trans ?_)
  · blk_simp [iblk]
    refine congrArg (V m c main_v9) ?_
    blk_ext [idx t]
  · refine Eq.trans ?_ (at3_mk (W1 m c) 1 j ⟨512 * (t.val % 8) + s, by omega⟩)
    refine congrArg (fun n => W1 m c (ix3 1 j n)) (Fin.ext ?_)
    show 1024 * (t.val % 8 / 2) + (512 * (t.val % 8 % 2) + s.val) = 512 * (t.val % 8) + s.val
    omega

theorem w2_at (t : Fin cfg0.N) (u v : Fin 1) (s : Fin 512) (j : Fin 1024) :
    (X0_6 m c t) (ix4 u v s j) = at3 (W2 m c) 1 (512 * (t.val % 8) + s) j := by
  unfold X0_6 Pipeline.Window.fill
  rw [dif_pos (moved0_6 t _)]
  have ht : t.val < 64 := lt_of_lt_of_eq t.isLt N_0
  refine Eq.trans ?_ ((V_w2 m c ⟨t.val % 8 / 2, by omega⟩ ⟨512 * (t.val % 8 % 2) + s, by omega⟩ j).trans ?_)
  · blk_simp [iblk]
    refine congrArg (V m c main_v9) ?_
    blk_ext [idx t]
  · refine Eq.trans ?_ (at3_mk (W2 m c) 1 ⟨512 * (t.val % 8) + s, by omega⟩ j)
    refine congrArg (fun n => W2 m c (ix3 1 n j)) (Fin.ext ?_)
    show 1024 * (t.val % 8 / 2) + (512 * (t.val % 8 % 2) + s.val) = 512 * (t.val % 8) + s.val
    omega

end Cert.FMlpB
-- ==== Proof.FMlpBEqual.lean ====
module
public import proofs.«01_k».proof.Proof.FMlpBValue
public import proofs.«01_k».proof.Proof.Gen.Reference9Ideal.Read
public import proofs.«01_k».proof.Defs
public import Idealize.ShloMosaic.Lib.Pipeline.ValueKit

/-! # The call for the second layer's feed-forward part is the reference's

The block's payloads at an index, the running sum over the ranges of hidden lanes, the four arrays the call leaves, and the
reference's four results. -/

@[expose] public section
set_option maxRecDepth 16384
noncomputable section
namespace Cert.FMlpB
open Idealize.ShloMosaic Idealize.ShloMosaic.TcCoe Idealize.SL.Sem
open Idealize.ShloMosaic.Pipeline (Dat)
open Cert.Kernel9Ideal Cert.Kernel9Ideal.Gen Cert.Rows
variable (m : (ℓ : Loc nD τ sig) → Buf (Elt Ideal) ℓ) (c : Dev nD)

/-- The reciprocal of a row's root mean square, the modulated rows, the hidden lanes, and the layer's sum. -/
def RS (r : ℕ) : EReal := Ideal.rsqrt (Ideal.div (∑ x : Fin 1024, at2 (X m c) r x * at2 (X m c) r x) (Ideal.ofBits FTy.f32 1149239296#32)
  + Ideal.ofBits FTy.f32 897988541#32)
def NV (r j : ℕ) : EReal := at2 (X m c) r j * RS m c r * at2 (N m c) 1 j * (1 + at2 (S m c) 0 j) + at2 (T m c) 0 j
def HA (r s : ℕ) : EReal := ∑ j : Fin 1024, NV m c r j * at3 (W1 m c) 1 j s
def P (r j s : ℕ) : EReal := max (HA m c r s) 0 * max (HA m c r s) 0 * at3 (W2 m c) 1 s j
def MM (r j : ℕ) : EReal := ∑ s : Fin 4096, P m c r j s

theorem pay1_at (t : Fin cfg0.N) (k j : Fin 1024) :
    k0_pay1 (F := Ideal) (iblk m c 0 t) (iblk m c 1 t) (iblk m c 2 t) (iblk m c 3 t) (ix2 k j) = NV m c (1024 * (t.val / 8) + k) j := by
  unfold NV RS
  pointwise [k0_pay1, x_at, n_at, s_at, t_at]

theorem nrm_at (t : Fin cfg0.N) (k j : Fin 1024) : nrm m c t.val t.isLt (ix2 k j) = NV m c (1024 * (t.val / 8) + k) j := by
  unfold nrm
  refine (pay1_at m c _ k j).trans ?_
  have e : (firstPt t.val t.isLt).val / 8 = t.val / 8 := by show 8 * (t.val / 8) / 8 = t.val / 8; omega
  rw [e]

theorem pay3_at (t : Fin cfg0.N) (k : Fin 1024) (s : Fin 512) :
    k0_pay3 (F := Ideal) (nrm m c t.val t.isLt) (X0_5 m c t) (ix2 k s) = HA m c (1024 * (t.val / 8) + k) (512 * (t.val % 8) + s) := by
  unfold HA
  pointwise [k0_pay3, nrm_at, w1_at]

theorem pay4_at (t : Fin cfg0.N) (k : Fin 1024) (s : Fin 512) :
    k0_pay4 (F := Ideal) (nrm m c t.val t.isLt) (X0_5 m c t) (ix2 k s) = HA m c (1024 * (t.val / 8) + k) (512 * (t.val % 8) + s) := by
  pointwise [k0_pay4, pay3_at]

theorem pay5_at (t : Fin cfg0.N) (a : Vec Ideal S1024x1024 .f32) (k j : Fin 1024) :
    k0_pay5 (F := Ideal) (nrm m c t.val t.isLt) (X0_5 m c t) a (X0_6 m c t) (ix2 k j)
      = a (ix2 k j) + ∑ s : Fin 512, P m c (1024 * (t.val / 8) + k) j (512 * (t.val % 8) + s) := by
  unfold P
  pointwise [k0_pay5, pay3_at, w2_at]

theorem reset (t : Fin cfg0.N) (h : t.val % 8 = 0) (y : S1024x1024.Idx) :
    acc m c t.val t.isLt y = 0 + ∑ s : Fin 512, P m c (1024 * (t.val / 8) + (y 0).val) (y 1).val (512 * (t.val % 8) + s) := by
  rw [acc_first m c t h]
  refine (congrArg _ (eq_ix2 y)).trans ((pay5_at m c t _ (y 0) (y 1)).trans (congrArg (fun e : EReal => e + _) ?_))
  pointwise [k0_pay2]

theorem step (t : Fin cfg0.N) (h : ¬t.val % 8 = 0) (y : S1024x1024.Idx) :
    acc m c t.val t.isLt y = acc m c (t.val - 1) (Nat.lt_of_le_of_lt (Nat.sub_le _ _) t.isLt) y
      + ∑ s : Fin 512, P m c (1024 * (t.val / 8) + (y 0).val) (y 1).val (512 * (t.val % 8) + s) := by
  rw [acc_later m c t h]
  exact (congrArg _ (eq_ix2 y)).trans ((pay5_at m c t _ (y 0) (y 1)).trans (congrArg (fun e : EReal => e + _) (congrArg _ (eq_ix2 y).symm)))

theorem acc_at (t : Fin cfg0.N) (h : t.val % 8 = 7) (y : S1024x1024.Idx) :
    acc m c t.val t.isLt y = MM m c (1024 * (t.val / 8) + (y 0).val) (y 1).val := by
  have ht : t.val < 64 := lt_of_lt_of_eq t.isLt N_0
  rw [Pipeline.eq_sum_fin_of_reset_step_apply_of_flush (fun n h => acc m c n h) 8 (fun _ => 0)
    (fun p y => ∑ s : Fin 512, P m c (1024 * (p.val / 8) + (y 0).val) (y 1).val (512 * (p.val % 8) + s))
    (reset m c) (step m c) t h y, zero_add]
  refine Eq.trans (Finset.sum_congr rfl fun s _ => ?_)
    (sum_blocks 8 512 fun r => P m c (1024 * (t.val / 8) + (y 0).val) (y 1).val r)
  have e1 : (8 * (t.val / 8) + s.val) % 8 = s.val := by omega
  have e2 : (8 * (t.val / 8) + s.val) / 8 = t.val / 8 := by omega
  simp only [e1, e2]

theorem pay7_at (t : Fin cfg0.N) (h : t.val % 8 = 7) (k j : Fin 1024) :
    k0_pay7 (F := Ideal) (acc m c t.val t.isLt) (iblk m c 0 t) (iblk m c 4 t) (ix2 k j)
      = at2 (X m c) (1024 * (t.val / 8) + k) j + at2 (G m c) 0 j * MM m c (1024 * (t.val / 8) + k) j := by
  have e := acc_at m c t h (ix2 k j)
  generalize acc m c t.val t.isLt = a at e
  refine Eq.trans ?_ (congrArg (fun e : EReal => at2 (X m c) (1024 * (t.val / 8) + k) j + at2 (G m c) 0 j * e) e)
  pointwise [k0_pay7, x_at, g_at]

theorem final7 (c : Dev nD) : (dats m 0 c).arrAt 7 cfg0.N
    = fun i => at2 (X m c) (i 0).val (i 1).val + at2 (G m c) 0 (i 1).val * MM m c (i 0).val (i 1).val := by
  refine (dats m 0 c).arrAt_eq_of_covers 7 _ (by decide +kernel) fun t hf y => ?_
  blk_simp
  rw [after_7]
  refine (congrArg _ (eq_ix2 y)).trans ((pay7_at m c t ((flush0_7 t).mp hf) (y 0) (y 1)).trans ?_)
  blk_simp [idx t]
  rw [Nat.mul_comm]

theorem final8 (c : Dev nD) : (dats m 0 c).arrAt 8 cfg0.N = fun i => MM m c (i 0).val (i 1).val := by
  refine (dats m 0 c).arrAt_eq_of_covers 8 _ (by decide +kernel) fun t hf y => ?_
  blk_simp
  rw [after_8]
  refine Eq.trans (show _ = acc m c t.val t.isLt y from rfl) ?_
  rw [acc_at m c t ((flush0_8 t).mp hf)]
  blk_simp [idx t]
  rw [Nat.mul_comm]

theorem final9 (c : Dev nD) : (dats m 0 c).arrAt 9 cfg0.N = fun i => HA m c (i 0).val (i 1).val := by
  refine (dats m 0 c).arrAt_eq_of_covers 9 _ (by decide +kernel) fun t hf y => ?_
  blk_simp
  rw [after_9]
  refine (congrArg _ (eq_ix2 y)).trans ((pay4_at m c t (y 0) (y 1)).trans ?_)
  blk_simp [idx t]
  rw [Nat.mul_comm, Nat.mul_comm 512]

theorem final10 (c : Dev nD) : (dats m 0 c).arrAt 10 cfg0.N = fun i => NV m c (i 0).val (i 1).val := by
  refine (dats m 0 c).arrAt_eq_of_covers 10 _ (by decide +kernel) fun t hf y => ?_
  blk_simp
  rw [after_10]
  refine (congrArg _ (eq_ix2 y)).trans ((nrm_at m c t (y 0) (y 1)).trans ?_)
  blk_simp [idx t]
  rw [Nat.mul_comm]

/-- The run, with the four results named. -/
theorem run_blocks (g : Dev nD → PrngReg) : θ_run defs (onTc (τ := τ) (main (F := Ideal))) ⟨m, fun _ => 0, g⟩ (fun r => ∀ c : Dev nD,
      r.2.mem ((c.tc : Thread nD τ).loc main_v10_0) = (dats m 0 c).arrAt 7 cfg0.N
      ∧ r.2.mem ((c.tc : Thread nD τ).loc main_v10_1) = (dats m 0 c).arrAt 8 cfg0.N
      ∧ r.2.mem ((c.tc : Thread nD τ).loc main_v10_2) = (dats m 0 c).arrAt 9 cfg0.N
      ∧ r.2.mem ((c.tc : Thread nD τ).loc main_v10_3) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1 7, (h.1 c).1 8, (h.1 c).1 9, (h.1 c).1 10, h.2 c⟩)
    (θ_run_and (run_main m g) (frame_of m g (dats m) (A_eq m) (run_main m g)))

/-- The reference leaves its arguments unchanged, and it has no counter. -/
theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run m ρ)

section reference
open Cert.Reference9Ideal.Read Cert.Reference9Ideal.Gen
variable (x0 : (⟨Cert.Reference9Ideal.S8192x1024, .f32⟩ : BufTy).Contents (Elt Ideal)) (x1 : (⟨Cert.Reference9Ideal.S2x1024, .f32⟩ : BufTy).Contents (Elt Ideal))
  (x2 x3 x4 : (⟨Cert.Reference9Ideal.S1x1024, .f32⟩ : BufTy).Contents (Elt Ideal)) (x5 : (⟨Cert.Reference9Ideal.S2x1024x4096, .f32⟩ : BufTy).Contents (Elt Ideal))
  (x6 : (⟨Cert.Reference9Ideal.S2x4096x1024, .f32⟩ : BufTy).Contents (Elt Ideal))

theorem ref_rs (r : Fin 8192) : val_main_v9 (F := Ideal) x0 (ix2 r 0)
    = Ideal.rsqrt (Ideal.div (∑ x : Fin 1024, x0 (ix2 r x) * x0 (ix2 r x)) (Ideal.ofBits FTy.f32 1149239296#32) + Ideal.ofBits FTy.f32 897988541#32) := by
  pointwise [val_main_v9, val_main_v8, val_main_v7, val_main_v6, val_main_v5, val_main_v4, val_main_v3, val_main_v2, val_main_cst, val_main_cst_0, val_main_cst_1]

theorem ref_nrm (r : Fin 8192) (j : Fin 1024) : val_main_v20 (F := Ideal) x0 x1 x2 x3 (ix2 r j)
    = x0 (ix2 r j) * val_main_v9 (F := Ideal) x0 (ix2 r 0) * x1 (ix2 1 j) * (1 + x2 (ix2 0 j)) + x3 (ix2 0 j) := by
  pointwise [val_main_v20, val_main_v19, val_main_v18, val_main_v17, val_main_v16, val_main_v15, val_main_cst_2, val_main_v14, val_main_v13, val_main_v12,
    val_main_v11, val_main_v10, val_main_v1, val_main_v0]

theorem ref_w1 (k : Fin 1024) (s : Fin 4096) : val_main_v22 (F := Ideal) x5 (ix2 k s) = x5 (ix3 1 k s) := by
  pointwise [val_main_v22, val_main_v21]

theorem ref_w2 (s : Fin 4096) (j : Fin 1024) : val_main_v27 (F := Ideal) x6 (ix2 s j) = x6 (ix3 1 s j) := by
  pointwise [val_main_v27, val_main_v26]

theorem ref_hid (r : Fin 8192) (s : Fin 4096) : val_main_v23 (F := Ideal) x0 x1 x2 x3 x5 (ix2 r s)
    = ∑ j : Fin 1024, val_main_v20 (F := Ideal) x0 x1 x2 x3 (ix2 r j) * x5 (ix3 1 j s) := by
  pointwise [val_main_v23, ref_w1]

theorem ref_sum (r : Fin 8192) (j : Fin 1024) : val_main_v28 (F := Ideal) x0 x1 x2 x3 x5 x6 (ix2 r j)
    = ∑ s : Fin 4096, max (val_main_v23 (F := Ideal) x0 x1 x2 x3 x5 (ix2 r s)) 0 * max (val_main_v23 (F := Ideal) x0 x1 x2 x3 x5 (ix2 r s)) 0 * x6 (ix3 1 s j) := by
  pointwise [val_main_v28, val_main_v25, val_main_v24, val_main_call0_v0, val_main_call0_cst, ref_w2]

theorem ref_out (r : Fin 8192) (j : Fin 1024) : val_main_v31 (F := Ideal) x0 x1 x2 x3 x4 x5 x6 (ix2 r j)
    = x0 (ix2 r j) + x4 (ix2 0 j) * val_main_v28 (F := Ideal) x0 x1 x2 x3 x5 x6 (ix2 r j) := by
  pointwise [val_main_v31, val_main_v30, val_main_v29]

end reference

open Cert.Reference9Ideal.Read in
theorem nrm_eq (r : Fin 8192) (j : Fin 1024) : val_main_v20 (F := Ideal) (X m c) (N m c) (S m c) (T m c) (ix2 r j) = NV m c r j := by
  refine (ref_nrm _ _ _ _ r j).trans ?_
  have e : val_main_v9 (F := Ideal) (X m c) (ix2 r 0) = RS m c r := by
    refine (ref_rs _ r).trans ?_
    unfold RS
    refine congrArg (fun e : EReal => Ideal.rsqrt (Ideal.div e _ + _)) (Finset.sum_congr rfl fun x _ => ?_)
    rw [← at2_mk]
  unfold NV
  rw [e, ← at2_mk (X m c) r j, show at2 (N m c) 1 j = _ from (at2_mk (N m c) 1 j).symm, show at2 (S m c) 0 j = _ from (at2_mk (S m c) 0 j).symm,
    show at2 (T m c) 0 j = _ from (at2_mk (T m c) 0 j).symm]

open Cert.Reference9Ideal.Read in
theorem hid_eq (r : Fin 8192) (s : Fin 4096) : val_main_v23 (F := Ideal) (X m c) (N m c) (S m c) (T m c) (W1 m c) (ix2 r s) = HA m c r s :=
  (ref_hid _ _ _ _ _ r s).trans (Finset.sum_congr rfl fun j _ => congrArg₂ (fun p q : EReal => p * q) (nrm_eq m c r j) (at3_mk (W1 m c) 1 j s))

open Cert.Reference9Ideal.Read in
theorem sum_eq (r : Fin 8192) (j : Fin 1024) : val_main_v28 (F := Ideal) (X m c) (N m c) (S m c) (T m c) (W1 m c) (W2 m c) (ix2 r j) = MM m c r j :=
  (ref_sum _ _ _ _ _ _ r j).trans (Finset.sum_congr rfl fun s _ => congrArg₂ (fun p q : EReal => max p 0 * max p 0 * q) (hid_eq m c r s) (at3_mk (W2 m c) 1 s j))

theorem algebraic : Cert.algebraic_Kernel9Ideal_Reference9Ideal := by
  intro m g m' g' _ hagree
  refine ⟨_, _, _, _, (θ_run Cert.Kernel9Ideal.defs _ _).mono (fun r h c =>
      ⟨(h c).1.trans (final7 m c), (h c).2.1.trans (final8 m c), (h c).2.2.1.trans (final9 m c), (h c).2.2.2.1.trans (final10 m c), (h c).2.2.2.2⟩)
      (run_blocks m g),
    (θ_run Cert.Reference9Ideal.defs _ _).mono (fun r h c => ?_) (Cert.Reference9Ideal.Value.run m' g')⟩
  obtain ⟨h0, h1, h2, h3, hargs⟩ := h c
  obtain ⟨a0, a1, a2, a3, a4, a5, a6, a7, a8⟩ := hagree c
  refine ⟨?_, ?_, ?_, ?_, hargs⟩
  · refine funext fun i => ?_
    rw [h0, Cert.Reference9Ideal.Read.val_main_v31_eq, a0, a1, a2, a3, a4, a5, a6, eq_ix2 i]
    refine (ref_out _ _ _ _ _ _ _ (i 0) (i 1)).trans ?_
    exact congrArg₂ (fun p q : EReal => p + q) (at2_mk (X m c) (i 0) (i 1)) (congrArg₂ (fun p q : EReal => p * q) (at2_mk (G m c) 0 (i 1)) (sum_eq m c (i 0) (i 1)))
  · refine funext fun i => ?_
    rw [h1, Cert.Reference9Ideal.Read.val_main_v32_eq, a0, a1, a2, a3, a5, a6, eq_ix2 i]
    exact sum_eq m c (i 0) (i 1)
  · refine funext fun i => ?_
    rw [h2, Cert.Reference9Ideal.Read.val_main_v33_eq, a0, a1, a2, a3, a5, eq_ix2 i]
    exact hid_eq m c (i 0) (i 1)
  · refine funext fun i => ?_
    rw [h3, Cert.Reference9Ideal.Read.val_main_v34_eq, a0, a1, a2, a3, eq_ix2 i]
    exact nrm_eq m c (i 0) (i 1)

end Cert.FMlpB
-- ==== Proof.FIn.lean ====
module
public import proofs.«01_k».proof.Proof.Rows
public import proofs.«01_k».proof.Proof.Gen.Kernel10Ideal.Value
public import proofs.«01_k».proof.Proof.Gen.Reference10Ideal.Read
public import proofs.«01_k».proof.Defs
public import Idealize.ShloMosaic.Lib.Pipeline.ValueKit
public import Idealize.ShloMosaic.Lib.Claim

/-! # What the call for the input projection leaves

Each point normalises 512 rows, scales and shifts them, and multiplies them by the whole weight, whose columns the host
has put in another order; the four step columns come as a block of their own, filled up with zeros. -/

@[expose] public section
set_option maxRecDepth 16384
noncomputable section
namespace Cert.FIn
open Idealize.ShloMosaic Idealize.ShloMosaic.TcCoe Idealize.SL.Sem
open Idealize.ShloMosaic.Pipeline (Dat)
open Cert.Kernel10Ideal Cert.Kernel10Ideal.Gen Cert.Rows
variable (m : (ℓ : Loc nD τ sig) → Buf (Elt Ideal) ℓ) (c : Dev nD)

/-- The column of the weight that comes at place `n` of the main block. -/
def lane (n : ℕ) : ℕ := if n < 1280 then n else if n < 1536 then 2052 + (n - 1280) else 1280 + (n - 1536)

/-- The tokens, the norm weights, the scale, the shift and the weight. -/
abbrev X : (⟨2, ![8192, 1024]⟩ : Shape).Idx → EReal := m ((c : Thread nD τ).loc main_arg0)
abbrev N : (⟨2, ![1, 1024]⟩ : Shape).Idx → EReal := m ((c : Thread nD τ).loc main_arg1)
abbrev S : (⟨2, ![1, 1024]⟩ : Shape).Idx → EReal := m ((c : Thread nD τ).loc main_arg2)
abbrev T : (⟨2, ![1, 1024]⟩ : Shape).Idx → EReal := m ((c : Thread nD τ).loc main_arg3)
abbrev Q : (⟨2, ![1024, 2308]⟩ : Shape).Idx → EReal := m ((c : Thread nD τ).loc main_arg4)

/-- The rows of the main block are the columns of the weight in their new order. -/
theorem V_v5 (n : Fin 2304) (k : Fin 1024) : V m c main_v5 (ix2 n k) = at2 (Q m c) k (lane n) := by
  have e : (List.flatten [hostOps0, hostOps0_1] : List (HloOp τ sig (Elt Ideal))) = hostOps0.take 5 ++ (hostOps0.drop 5 ++ hostOps0_1) := rfl
  have h : V m c main_v5 = StableHlo.after (hostOps0.drop 5 ++ hostOps0_1) (StableHlo.after (hostOps0.take 5) (fun b => m (c, b))) main_v5 :=
    (congrArg (fun L => StableHlo.after L (fun b => m (c, b)) main_v5) e).trans (congrFun (StableHlo.after_append _ _ _) _)
  have p0 (i : Fin 1280) (hi : i.val < 2308) : StableHlo.after (hostOps0.take 5) (fun b => m (c, b)) main_v2 (ix2 i k) = at2 (Q m c) k i.val := by
    simp only [hostOps0, List.take_succ_cons, List.take_zero]
    entry_read
    pointwise []
    exact at2_mk (Q m c) k ⟨i.val, hi⟩
  have p1 (i : Fin 256) : StableHlo.after (hostOps0.take 5) (fun b => m (c, b)) main_v3 (ix2 i k) = at2 (Q m c) k (2052 + i.val) := by
    simp only [hostOps0, List.take_succ_cons, List.take_zero]
    entry_read
    pointwise []
    exact at2_mk (Q m c) k ⟨2052 + i.val, by omega⟩
  have p2 (i : Fin 768) : StableHlo.after (hostOps0.take 5) (fun b => m (c, b)) main_v4 (ix2 i k) = at2 (Q m c) k (1280 + i.val) := by
    simp only [hostOps0, List.take_succ_cons, List.take_zero]
    entry_read
    pointwise []
    exact at2_mk (Q m c) k ⟨1280 + i.val, by omega⟩
  rw [h]
  generalize StableHlo.after (hostOps0.take 5) (fun b => m (c, b)) = σ at p0 p1 p2
  have q : StableHlo.after (hostOps0.drop 5 ++ hostOps0_1) σ main_v5 = (concatenate S2304x1024 0 [⟨S1280x1024, (σ main_v2 : (⟨S1280x1024, .bf16⟩ : BufTy).Contents (Elt Ideal))⟩, ⟨S256x1024, (σ main_v3 : (⟨S256x1024, .bf16⟩ : BufTy).Contents (Elt Ideal))⟩, ⟨S768x1024, (σ main_v4 : (⟨S768x1024, .bf16⟩ : BufTy).Contents (Elt Ideal))⟩] concatenates_S1280x1024_S256x1024_S768x1024_S2304x1024_d0 : (⟨S2304x1024, .bf16⟩ : BufTy).Contents (Elt Ideal)) := by
    simp only [hostOps0, hostOps0_1, List.drop_succ_cons, List.drop_zero, List.cons_append, List.nil_append]
    entry_read
    rfl
  rw [q]
  pointwise [p0, p1, p2]
  unfold lane
  split
  · exact p0 _ (by show n.val < 2308; omega)
  · split
    · rw [if_pos (by omega)]
    · rw [if_neg (by omega)]
      exact congrArg (at2 (Q m c) k) (by omega)

/-- The block of the step columns: four columns of the weight, then zeros. -/
theorem V_v7 (n : Fin 128) (k : Fin 1024) : V m c main_v7 (ix2 n k) = if n.val < 4 then at2 (Q m c) k (2048 + n.val) else 0 := by
  have e : V m c main_v7 = (pad S128x1024 ![0, 0] ![124, 0] ![0, 0] (extractStridedSlice S4x1024 ![2048, 0]
            (truncf (F := Ideal) FTy.bf16
              (transpose S2308x1024 [1, 0] (m ((c : Thread nD τ).loc main_arg4)) transposes_S1024x2308_S2308x1024_1_0)
              bitsLt_bf16_f32)
            slices_S2308x1024_S4x1024_2048_0) (sitofp (F := Ideal) FTy.bf16 (constantI S_ 32 0#32)) pads_S4x1024_S128x1024_01240_000 h_S_ : (⟨S128x1024, .bf16⟩ : BufTy).Contents (Elt Ideal)) := by
    simp only [V, hostOps0, hostOps0_1, List.flatten_cons, List.flatten_nil, List.append_nil, List.cons_append, List.nil_append]
    entry_read
    rfl
  rw [e]
  pointwise []
  by_cases h : n.val < 4
  · rw [dif_pos h, if_pos h]
    exact at2_mk (Q m c) k ⟨2048 + n.val, by omega⟩
  · rw [dif_neg h, if_neg h]
    simp [FloatOps.sitofp]

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

theorem x_at (t : Fin cfg0.N) (k : Fin 512) (j : Fin 1024) : (iblk m c 0 t) (ix2 k j) = at2 (X m c) (512 * t.val + k) j := by
  have ht : t.val < 16 := lt_of_lt_of_eq t.isLt N_0
  refine Eq.trans ?_ (at2_mk (X m c) ⟨512 * t.val + k, by omega⟩ ⟨j, by omega⟩)
  refine Eq.trans ?_ (congrFun (V_main_arg0 m c) _)
  blk_simp [iblk]
  refine congrArg (V m c main_arg0) ?_
  blk_ext [idx t]

theorem n_at (t : Fin cfg0.N) (u : Fin 1) (j : Fin 1024) : (iblk m c 1 t) (ix2 u j) = at2 (N m c) 0 j := by
  refine Eq.trans ?_ (at2_mk (N m c) 0 j)
  refine Eq.trans ?_ (congrFun (V_main_arg1 m c) _)
  blk_simp [iblk]
  refine congrArg (V m c main_arg1) ?_
  blk_ext [idx t]

theorem s_at (t : Fin cfg0.N) (u : Fin 1) (j : Fin 1024) : (iblk m c 2 t) (ix2 u j) = at2 (S m c) 0 j := by
  refine Eq.trans ?_ (at2_mk (S m c) 0 j)
  refine Eq.trans ?_ (congrFun (V_main_arg2 m c) _)
  blk_simp [iblk]
  refine congrArg (V m c main_arg2) ?_
  blk_ext [idx t]

theorem t_at (t : Fin cfg0.N) (u : Fin 1) (j : Fin 1024) : (iblk m c 3 t) (ix2 u j) = at2 (T m c) 0 j := by
  refine Eq.trans ?_ (at2_mk (T m c) 0 j)
  refine Eq.trans ?_ (congrFun (V_main_arg3 m c) _)
  blk_simp [iblk]
  refine congrArg (V m c main_arg3) ?_
  blk_ext [idx t]

theorem q_at (t : Fin cfg0.N) (n : Fin 2304) (k : Fin 1024) : (iblk m c 4 t) (ix2 n k) = at2 (Q m c) k (lane n) := by
  refine Eq.trans ?_ (V_v5 m c n k)
  blk_simp [iblk]
  refine congrArg (V m c main_v5) ?_
  blk_ext [idx t]

theorem p_at (t : Fin cfg0.N) (n : Fin 128) (k : Fin 1024) : (iblk m c 5 t) (ix2 n k) = if n.val < 4 then at2 (Q m c) k (2048 + n.val) else 0 := by
  refine Eq.trans ?_ (V_v7 m c n k)
  blk_simp [iblk]
  refine congrArg (V m c main_v7) ?_
  blk_ext [idx t]

/-- The normalised, scaled and shifted row `r`. -/
def U (r k : ℕ) : EReal := at2 (X m c) r k * Ideal.rsqrt (Ideal.div (∑ j : Fin 1024, at2 (X m c) r j * at2 (X m c) r j)
  (Ideal.ofBits FTy.f32 1149239296#32) + Ideal.ofBits FTy.f32 897988541#32) * at2 (N m c) 0 k * (1 + at2 (S m c) 0 k) + at2 (T m c) 0 k

theorem pay1_at (t : Fin cfg0.N) (k : Fin 512) (j : Fin 1024) :
    k0_pay1 (F := Ideal) (iblk m c 0 t) (iblk m c 1 t) (iblk m c 2 t) (iblk m c 3 t) (ix2 k j) = U m c (512 * t.val + k) j := by
  pointwise [k0_pay1, x_at, n_at, s_at, t_at, U]

theorem pay2_at (t : Fin cfg0.N) (k : Fin 512) (n : Fin 2304) :
    k0_pay2 (F := Ideal) (iblk m c 0 t) (iblk m c 1 t) (iblk m c 2 t) (iblk m c 3 t) (iblk m c 4 t) (ix2 k n)
      = ∑ j : Fin 1024, U m c (512 * t.val + k) j * at2 (Q m c) j (lane n) := by
  pointwise [k0_pay2, pay1_at, q_at]

theorem pay3_at (t : Fin cfg0.N) (k : Fin 512) (n : Fin 128) :
    k0_pay3 (F := Ideal) (iblk m c 0 t) (iblk m c 1 t) (iblk m c 2 t) (iblk m c 3 t) (iblk m c 5 t) (ix2 k n)
      = if n.val < 4 then ∑ j : Fin 1024, U m c (512 * t.val + k) j * at2 (Q m c) j (2048 + n.val) else 0 := by
  pointwise [k0_pay3, pay1_at, p_at]
  split
  · rfl
  · exact Finset.sum_eq_zero fun j _ => mul_zero _

/-- The main block of the projection, and its step columns. -/
def P (r n : ℕ) : EReal := ∑ j : Fin 1024, U m c r j * at2 (Q m c) j (lane n)
def D (r n : ℕ) : EReal := if n < 4 then ∑ j : Fin 1024, U m c r j * at2 (Q m c) j (2048 + n) else 0

theorem final6 (c : Dev nD) : (dats m 0 c).arrAt 6 cfg0.N = fun i => P m c (i 0).val (i 1).val := by
  refine (dats m 0 c).arrAt_eq_of_covers 6 (fun i => P m c (i 0).val (i 1).val) (by decide +kernel) (fun t hf y => ?_)
  blk_simp
  rw [after0_6]
  frame_out
  refine ((congrArg _ (eq_ix2 y)).trans (pay2_at m c t (y 0) (y 1))).trans ?_
  refine (show _ = P m c (512 * t.val + (y 0).val) (y 1).val from rfl).trans ?_
  blk_simp [idx t]
  rw [Nat.mul_comm]

theorem final7 (c : Dev nD) : (dats m 0 c).arrAt 7 cfg0.N = fun i => D m c (i 0).val (i 1).val := by
  refine (dats m 0 c).arrAt_eq_of_covers 7 (fun i => D m c (i 0).val (i 1).val) (by decide +kernel) (fun t hf y => ?_)
  blk_simp
  rw [after0_7]
  frame_out
  refine ((congrArg _ (eq_ix2 y)).trans (pay3_at m c t (y 0) (y 1))).trans ?_
  refine (show _ = D m c (512 * t.val + (y 0).val) (y 1).val from rfl).trans ?_
  blk_simp [idx t]
  rw [Nat.mul_comm]

theorem final8 (c : Dev nD) : (dats m 0 c).arrAt 8 cfg0.N = fun i => U m c (i 0).val (i 1).val := by
  refine (dats m 0 c).arrAt_eq_of_covers 8 (fun i => U m c (i 0).val (i 1).val) (by decide +kernel) (fun t hf y => ?_)
  blk_simp
  rw [after0_8]
  frame_out
  refine ((congrArg _ (eq_ix2 y)).trans (pay1_at m c t (y 0) (y 1))).trans ?_
  blk_simp [idx t]
  rw [Nat.mul_comm]

/-- The reference leaves its arguments unchanged, and it has no counter. -/
theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run m ρ)

section reference
open Cert.Reference10Ideal.Read Cert.Reference10Ideal.Gen
variable (x0 : (⟨Cert.Reference10Ideal.S8192x1024, .f32⟩ : BufTy).Contents (Elt Ideal))
  (x1 x2 x3 : (⟨Cert.Reference10Ideal.S1x1024, .f32⟩ : BufTy).Contents (Elt Ideal))
  (x4 : (⟨Cert.Reference10Ideal.S1024x2308, .f32⟩ : BufTy).Contents (Elt Ideal))

/-- The reference's normalised, scaled and shifted rows. -/
theorem u_at (r : Fin 8192) (k : Fin 1024) : val_main_v19 (F := Ideal) x0 x1 x2 x3 (ix2 r k)
    = x0 (ix2 r k) * Ideal.rsqrt (Ideal.div (∑ j : Fin 1024, x0 (ix2 r j) * x0 (ix2 r j))
  (Ideal.ofBits FTy.f32 1149239296#32) + Ideal.ofBits FTy.f32 897988541#32) * x1 (ix2 0 k) * (1 + x2 (ix2 0 k)) + x3 (ix2 0 k) := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The reference's projection. -/
theorem proj_at (r : Fin 8192) (n : Fin 2308) : val_main_v20 (F := Ideal) x0 x1 x2 x3 x4 (ix2 r n)
    = ∑ k : Fin 1024, val_main_v19 (F := Ideal) x0 x1 x2 x3 (ix2 r k) * x4 (ix2 k n) := by
  pointwise [val_main_v20]

theorem main_at (r : Fin 8192) (n : Fin 2304) (h : lane n < 2308) : val_main_v24 (F := Ideal) x0 x1 x2 x3 x4 (ix2 r n)
    = val_main_v20 (F := Ideal) x0 x1 x2 x3 x4 (ix2 r ⟨lane n, h⟩) := by
  pointwise [val_main_v24, val_main_v23, val_main_v22, val_main_v21]
  unfold lane at h ⊢
  by_cases h0 : n.val < 1280
  · rw [dif_pos h0]
    exact congrArg (fun j => val_main_v20 (F := Ideal) x0 x1 x2 x3 x4 (ix2 r j)) (Fin.ext (if_pos h0).symm)
  · rw [dif_neg h0]
    by_cases h1 : n.val < 1536
    · rw [dif_pos (by omega)]
      exact congrArg (fun j => val_main_v20 (F := Ideal) x0 x1 x2 x3 x4 (ix2 r j)) (Fin.ext ((if_neg h0).trans (if_pos h1)).symm)
    · rw [dif_neg (by omega)]
      refine congrArg (fun j => val_main_v20 (F := Ideal) x0 x1 x2 x3 x4 (ix2 r j)) (Fin.ext (Eq.trans ?_ ((if_neg h0).trans (if_neg h1)).symm))
      show 1280 + (n.val - 1280 - 256) = 1280 + (n.val - 1536)
      omega

theorem steps_at (r : Fin 8192) (n : Fin 128) : val_main_v27 (F := Ideal) x0 x1 x2 x3 x4 (ix2 r n)
    = if h : n.val < 4 then val_main_v20 (F := Ideal) x0 x1 x2 x3 x4 (ix2 r ⟨2048 + n.val, by omega⟩) else 0 := by
  pointwise [val_main_v27, val_main_v26, val_main_v25, val_main_cst_3]

theorem u16_at (r : Fin 8192) (k : Fin 1024) : val_main_v28 (F := Ideal) x0 x1 x2 x3 (ix2 r k) = val_main_v19 (F := Ideal) x0 x1 x2 x3 (ix2 r k) := by
  pointwise [val_main_v28]

end reference

/-- The reference's rows are the kernel's. -/
theorem u_eq (r : Fin 8192) (k : Fin 1024) : Cert.Reference10Ideal.Read.val_main_v19 (F := Ideal) (X m c) (N m c) (S m c) (T m c) (ix2 r k) = U m c r k := by
  refine (u_at _ _ _ _ r k).trans ?_
  unfold U
  simp only [at2_mk]
  rfl

theorem proj_eq (r : Fin 8192) (n : Fin 2308) : Cert.Reference10Ideal.Read.val_main_v20 (F := Ideal) (X m c) (N m c) (S m c) (T m c) (Q m c) (ix2 r n)
    = ∑ j : Fin 1024, U m c r j * at2 (Q m c) j n :=
  (proj_at _ _ _ _ _ r n).trans (Finset.sum_congr rfl fun k _ => congrArg₂ (fun p q : EReal => p * q) (u_eq m c r k) (at2_mk (Q m c) k n))

theorem lane_lt (n : Fin 2304) : lane n < 2308 := by
  unfold lane
  split
  · omega
  · split <;> omega

theorem algebraic : Cert.algebraic_Kernel10Ideal_Reference10Ideal := by
  intro m g m' g' _ hagree
  refine ⟨_, _, _, (θ_run Cert.Kernel10Ideal.defs _ _).mono (fun r h c => ⟨(h c).1.trans (final6 m c), (h c).2.1.trans (final7 m c), (h c).2.2.1.trans (final8 m c), (h c).2.2.2⟩) (Cert.Kernel10Ideal.Value.run_blocks m g),
    (θ_run Cert.Reference10Ideal.defs _ _).mono (fun r h c => ?_) (Cert.Reference10Ideal.Value.run m' g')⟩
  obtain ⟨h0, h1, h2, hargs⟩ := h c
  obtain ⟨a0, a1, a2, a3, a4⟩ := hagree c
  refine ⟨funext fun i => ?_, funext fun i => ?_, funext fun i => ?_, hargs⟩
  · rw [h0, Cert.Reference10Ideal.Read.val_main_v24_eq, a0, a1, a2, a3, a4, eq_ix2 i]
    exact (main_at _ _ _ _ _ (i 0) (i 1) (lane_lt (i 1))).trans (proj_eq m c (i 0) ⟨lane (i 1), lane_lt (i 1)⟩)
  · rw [h1, Cert.Reference10Ideal.Read.val_main_v27_eq, a0, a1, a2, a3, a4, eq_ix2 i]
    refine (steps_at _ _ _ _ _ (i 0) (i 1)).trans ?_
    refine Eq.trans ?_ (show (if (i 1).val < 4 then ∑ j : Fin 1024, U m c (i 0).val j * at2 (Q m c) j (2048 + (i 1).val) else 0) = D m c (i 0).val (i 1).val from rfl)
    split
    · exact proj_eq m c (i 0) ⟨2048 + (i 1).val, _⟩
    · rfl
  · rw [h2, Cert.Reference10Ideal.Read.val_main_v28_eq, a0, a1, a2, a3, eq_ix2 i]
    exact (u16_at _ _ _ _ (i 0) (i 1)).trans (u_eq m c (i 0) (i 1))

end Cert.FIn
-- ==== Proof.FOut.lean ====
module
public import proofs.«01_k».proof.Proof.Rows
public import proofs.«01_k».proof.Proof.Gen.Kernel11Ideal.Value
public import proofs.«01_k».proof.Proof.Gen.Reference11Ideal.Read
public import proofs.«01_k».proof.Defs
public import Idealize.ShloMosaic.Lib.Pipeline.ValueKit
public import Idealize.ShloMosaic.Lib.Claim

/-! # What the call for the output projection leaves

Each point normalises 512 rows of the four mixers' outputs, one after the other, sets them side by side, multiplies them by the
projection's weight and adds the gated product to the tokens. -/

@[expose] public section
set_option maxRecDepth 16384
noncomputable section
namespace Cert.FOut
open Idealize.ShloMosaic Idealize.ShloMosaic.TcCoe Idealize.SL.Sem
open Idealize.ShloMosaic.Pipeline (Dat)
open Cert.Kernel11Ideal Cert.Kernel11Ideal.Gen Cert.Rows
variable (m : (ℓ : Loc nD τ sig) → Buf (Elt Ideal) ℓ) (c : Dev nD)

/-- The layer's norm weights. -/
theorem V_v0 (u : Fin 1) (j : Fin 1024) : V m c main_v0 (ix2 u j) = m ((c : Thread nD τ).loc main_arg4) (ix2 0 j) := by
  simp only [V, hostOps0, hostOps0_1, hostOps0_2, List.flatten_cons, List.flatten_nil, List.append_nil, List.cons_append, List.nil_append]
  entry_read
  pointwise []

/-- The packed weights are the four parts, stacked. -/
theorem V_v9 : ∃ (a b : (⟨S2x4x1024x1024, .f32⟩ : BufTy).Contents (Elt Ideal)) (w : (⟨S2x4x592x1024, .f32⟩ : BufTy).Contents (Elt Ideal)),
    V m c main_v9 = (truncf (F := Ideal) .bf16 (concatenate S2x4x2896x1024 2 [⟨S2x4x1024x1024, a⟩, ⟨S2x4x1024x1024, b⟩,
    ⟨S2x4x256x1024, (V m c main_v7 : (⟨S2x4x256x1024, .f32⟩ : BufTy).Contents (Elt Ideal))⟩, ⟨S2x4x592x1024, w⟩] concatenates_S2x4x1024x1024_S2x4x1024x1024_S2x4x256x1024_S2x4x592x1024_S2x4x2896x1024_d2) bitsLt_bf16_f32
      : (⟨S2x4x2896x1024, .bf16⟩ : BufTy).Contents (Elt Ideal)) := by
  have e : (List.flatten [hostOps0, hostOps0_1, hostOps0_2] : List (HloOp τ sig (Elt Ideal)))
      = (hostOps0 ++ (hostOps0_1 ++ hostOps0_2.take 2)) ++ hostOps0_2.drop 2 := rfl
  have h : ∀ b : Ref sig .tc, V m c b = StableHlo.after (hostOps0_2.drop 2) (StableHlo.after (hostOps0 ++ (hostOps0_1 ++ hostOps0_2.take 2)) (fun b => m (c, b))) b :=
    fun b => (congrArg (fun L => StableHlo.after L (fun b => m (c, b)) b) e).trans (congrFun (StableHlo.after_append _ _ _) _)
  rw [h main_v9, h main_v7]
  generalize StableHlo.after (hostOps0 ++ (hostOps0_1 ++ hostOps0_2.take 2)) (fun b => m (c, b)) = σ
  refine ⟨σ main_v2, σ main_v6, σ main_v5, ?_⟩
  have h7 : StableHlo.after (hostOps0_2.drop 2) σ main_v7 = σ main_v7 := by
    simp only [hostOps0_2, List.drop_succ_cons, List.drop_zero, StableHlo.after_cons, StableHlo.after_nil]
    exact (StableHlo.unary_result_ne _ _ _ _ _ _ (r := main_v7) (by decide)).trans (StableHlo.nary_result_ne _ _ _ _ _ _ (r := main_v7) (by decide))
  rw [h7]
  simp only [hostOps0_2, List.drop_succ_cons, List.drop_zero, StableHlo.after_cons, StableHlo.after_nil]
  exact (StableHlo.unary_result _ _ _ _ _ _).trans (congrArg (truncf (F := Ideal) .bf16 · bitsLt_bf16_f32) (StableHlo.nary_result _ _ _ _ _ _))

/-- The projection's weight, its rows cut into four. -/
theorem V_v7 (p : Fin 4) (r : Fin 256) (j : Fin 1024) : V m c main_v7 (ix4 0 p r j)
    = m ((c : Thread nD τ).loc main_arg9) (ix3 0 ⟨256 * p + r, by omega⟩ j) := by
  simp only [V, hostOps0, hostOps0_1, hostOps0_2, List.flatten_cons, List.flatten_nil, List.append_nil, List.cons_append, List.nil_append]
  entry_read
  pointwise []
  exact congrArg (fun k => m ((c : Thread nD τ).loc main_arg9) (ix3 0 k j)) (Fin.ext (by show p.val * 256 + r.val = 256 * p.val + r.val; omega))

/-- The packed weights, the rows of the projection's weight. -/
theorem V_w (p : Fin 4) (r : Fin 256) (j : Fin 1024) : V m c main_v9 (ix4 0 p ⟨2048 + r, by omega⟩ j)
    = m ((c : Thread nD τ).loc main_arg9) (ix3 0 ⟨256 * p + r, by omega⟩ j) := by
  obtain ⟨a, b, w, e⟩ := V_v9 m c
  refine Eq.trans ?_ (V_v7 m c p r j)
  rw [e]
  generalize V m c main_v7 = d
  pointwise []
  rw [dif_neg (by omega), dif_neg (by omega), dif_pos (by omega)]
  exact congrArg (fun k => d (ix4 0 p k j)) (Fin.ext (by show 2048 + r.val - 1024 - 1024 = r.val; omega))

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 8, 0]
    ∧ win0_6.index t = ![t.val, 0] ∧ win0_7.index t = ![0, 0]
    ∧ win0_8.index t = ![t.val, 0] ∧ win0_9.index t = ![t.val, 0] ∧ win0_10.index t = ![t.val, 0] :=
  (by decide +kernel : ∀ t : Fin grid0.N, _)

/-- The four mixers' outputs, the norm weights, the tokens, the gate and the projection's weight. -/
abbrev Y0 : (⟨2, ![8192, 256]⟩ : Shape).Idx → EReal := m ((c : Thread nD τ).loc main_arg0)
abbrev Y1 : (⟨2, ![8192, 256]⟩ : Shape).Idx → EReal := m ((c : Thread nD τ).loc main_arg1)
abbrev Y2 : (⟨2, ![8192, 256]⟩ : Shape).Idx → EReal := m ((c : Thread nD τ).loc main_arg2)
abbrev Y3 : (⟨2, ![8192, 256]⟩ : Shape).Idx → EReal := m ((c : Thread nD τ).loc main_arg3)
abbrev N : (⟨2, ![2, 1024]⟩ : Shape).Idx → EReal := m ((c : Thread nD τ).loc main_arg4)
abbrev H : (⟨2, ![8192, 1024]⟩ : Shape).Idx → EReal := m ((c : Thread nD τ).loc main_arg5)
abbrev G : (⟨2, ![1, 1024]⟩ : Shape).Idx → EReal := m ((c : Thread nD τ).loc main_arg6)
abbrev W : (⟨3, ![2, 1024, 1024]⟩ : Shape).Idx → EReal := m ((c : Thread nD τ).loc main_arg9)

theorem y0_at (t : Fin cfg0.N) (k : Fin 512) (j : Fin 256) : (iblk m c 0 t) (ix2 k j) = at2 (Y0 m c) (512 * t.val + k) j := by
  have ht : t.val < 16 := lt_of_lt_of_eq t.isLt N_0
  refine Eq.trans ?_ (at2_mk (Y0 m c) ⟨512 * t.val + k, by omega⟩ ⟨j, by omega⟩)
  refine Eq.trans ?_ (congrFun (V_main_arg0 m c) _)
  blk_simp [iblk]
  refine congrArg (V m c main_arg0) ?_
  blk_ext [idx t]

theorem y1_at (t : Fin cfg0.N) (k : Fin 512) (j : Fin 256) : (iblk m c 1 t) (ix2 k j) = at2 (Y1 m c) (512 * t.val + k) j := by
  have ht : t.val < 16 := lt_of_lt_of_eq t.isLt N_0
  refine Eq.trans ?_ (at2_mk (Y1 m c) ⟨512 * t.val + k, by omega⟩ ⟨j, by omega⟩)
  refine Eq.trans ?_ (congrFun (V_main_arg1 m c) _)
  blk_simp [iblk]
  refine congrArg (V m c main_arg1) ?_
  blk_ext [idx t]

theorem y2_at (t : Fin cfg0.N) (k : Fin 512) (j : Fin 256) : (iblk m c 2 t) (ix2 k j) = at2 (Y2 m c) (512 * t.val + k) j := by
  have ht : t.val < 16 := lt_of_lt_of_eq t.isLt N_0
  refine Eq.trans ?_ (at2_mk (Y2 m c) ⟨512 * t.val + k, by omega⟩ ⟨j, by omega⟩)
  refine Eq.trans ?_ (congrFun (V_main_arg2 m c) _)
  blk_simp [iblk]
  refine congrArg (V m c main_arg2) ?_
  blk_ext [idx t]

theorem y3_at (t : Fin cfg0.N) (k : Fin 512) (j : Fin 256) : (iblk m c 3 t) (ix2 k j) = at2 (Y3 m c) (512 * t.val + k) j := by
  have ht : t.val < 16 := lt_of_lt_of_eq t.isLt N_0
  refine Eq.trans ?_ (at2_mk (Y3 m c) ⟨512 * t.val + k, by omega⟩ ⟨j, by omega⟩)
  refine Eq.trans ?_ (congrFun (V_main_arg3 m c) _)
  blk_simp [iblk]
  refine congrArg (V m c main_arg3) ?_
  blk_ext [idx t]

theorem n_at (t : Fin cfg0.N) (u : Fin 1) (j : Fin 1024) : (iblk m c 4 t) (ix2 u j) = at2 (N m c) 0 j := by
  refine Eq.trans ?_ (at2_mk (N m c) 0 j)
  refine Eq.trans ?_ (V_v0 m c 0 j)
  blk_simp [iblk]
  refine congrArg (V m c main_v0) ?_
  blk_ext [idx t]

theorem w_at (t : Fin cfg0.N) (u : Fin 1) (p : Fin 4) (r : Fin 256) (j : Fin 1024) :
    (X0_5 m c t) (ix4 u p r j) = at3 (W m c) 0 (256 * p + r) j := by
  unfold X0_5 Pipeline.Window.fill
  rw [dif_pos (moved0_5 t _)]
  refine Eq.trans ?_ ((V_w m c p r j).trans (at3_mk (W m c) 0 ⟨256 * p + r, by omega⟩ j))
  blk_simp [iblk]
  refine congrArg (V m c main_v9) ?_
  blk_ext [idx t]

theorem h_at (t : Fin cfg0.N) (k : Fin 512) (j : Fin 1024) : (iblk m c 6 t) (ix2 k j) = at2 (H m c) (512 * t.val + k) j := by
  have ht : t.val < 16 := lt_of_lt_of_eq t.isLt N_0
  refine Eq.trans ?_ (at2_mk (H m c) ⟨512 * t.val + k, by omega⟩ ⟨j, by omega⟩)
  refine Eq.trans ?_ (congrFun (V_main_arg5 m c) _)
  blk_simp [iblk]
  refine congrArg (V m c main_arg5) ?_
  blk_ext [idx t]

theorem g_at (t : Fin cfg0.N) (u : Fin 1) (j : Fin 1024) : (iblk m c 7 t) (ix2 u j) = at2 (G m c) 0 j := by
  refine Eq.trans ?_ (at2_mk (G m c) 0 j)
  refine Eq.trans ?_ (congrFun (V_main_arg6 m c) _)
  blk_simp [iblk]
  refine congrArg (V m c main_arg6) ?_
  blk_ext [idx t]

/-- The output of mixer `g`. -/
def pick (a b d e : (⟨2, ![8192, 256]⟩ : Shape).Idx → EReal) (g : ℕ) : (⟨2, ![8192, 256]⟩ : Shape).Idx → EReal :=
  if g = 0 then a else if g = 1 then b else if g = 2 then d else e

/-- An element of a row of 256 lanes, normalised. -/
def norm (y : (⟨2, ![8192, 256]⟩ : Shape).Idx → EReal) (n : EReal) (r q : ℕ) : EReal :=
  at2 y r q * Ideal.rsqrt (Ideal.div (∑ j : Fin 256, at2 y r j * at2 y r j) (Ideal.ofBits FTy.f32 1132462080#32)
    + Ideal.ofBits FTy.f32 897988541#32) * n

/-- Row `r` of the normalised outputs, side by side. -/
def C (r k : ℕ) : EReal := norm (pick (Y0 m c) (Y1 m c) (Y2 m c) (Y3 m c) (k / 256)) (at2 (N m c) 0 k) r (k % 256)

theorem pay6_at (t : Fin cfg0.N) (k : Fin 512) (q : Fin 256) :
    k0_pay6 (F := Ideal) (iblk m c 0 t) (iblk m c 4 t) (ix2 k q) = norm (Y0 m c) (at2 (N m c) 0 q) (512 * t.val + k) q := by
  pointwise [k0_pay6, k0_pay5, y0_at, n_at, norm]

theorem pay7_at (t : Fin cfg0.N) (k : Fin 512) (q : Fin 256) :
    k0_pay7 (F := Ideal) (iblk m c 1 t) (iblk m c 4 t) (ix2 k q) = norm (Y1 m c) (at2 (N m c) 0 (256 + q)) (512 * t.val + k) q := by
  pointwise [k0_pay7, k0_pay5, y1_at, n_at, norm]

/-- The normalised rows of the block. -/
abbrev cat (t : Fin cfg0.N) : FVec Ideal S512x1024 .bf16 :=
  k0_pay1 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t))

theorem cat_at (t : Fin cfg0.N) (k : Fin 512) (j : Fin 1024) : cat m c t (ix2 k j) = C m c (512 * t.val + k) j := by
  pointwise [cat, k0_pay1, k0_pay5, k0_pay8, pay6_at, pay7_at, y2_at, y3_at, n_at]
  have hj := j.isLt
  unfold C pick
  split_ifs with h0 h1 h2 <;> try omega
  · rw [Nat.mod_eq_of_lt h0]
  · rw [show 256 + (j.val - 256) = j.val by omega, show j.val - 256 = j.val % 256 by omega]
  · rw [show 512 + (j.val - 256 - 256) = j.val by omega, show j.val - 256 - 256 = j.val % 256 by omega]
    rfl
  · rw [show 768 + (j.val - 256 - 256 - 256) = j.val by omega, show j.val - 256 - 256 - 256 = j.val % 256 by omega]
    rfl

/-- The product of a normalised row with the weight. -/
def O (r j : ℕ) : EReal := ∑ i : Fin 1024, C m c r i * at3 (W m c) 0 i j

/-- The block's product. -/
abbrev prod (t : Fin cfg0.N) : FVec Ideal S512x1024 .f32 :=
  k0_pay2 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) (X0_5 m c t)

theorem prod_at (t : Fin cfg0.N) (k : Fin 512) (j : Fin 1024) : prod m c t (ix2 k j) = O m c (512 * t.val + k) j := by
  unfold prod k0_pay2
  generalize hz : k0_pay1 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) = z
  have hc (i : Fin 1024) : z (ix2 k i) = C m c (512 * t.val + k) i := hz ▸ cat_at m c t k i
  pointwise [hc, w_at, O]
  simp only [Nat.div_add_mod]

theorem pay4_at (t : Fin cfg0.N) (k : Fin 512) (j : Fin 1024) :
    k0_pay4 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) (X0_5 m c t) (iblk m c 6 t) (iblk m c 7 t) (ix2 k j)
      = at2 (H m c) (512 * t.val + k) j + at2 (G m c) 0 j * O m c (512 * t.val + k) j := by
  refine Eq.trans ?_ (congrArg (fun e => at2 (H m c) (512 * t.val + k) j + at2 (G m c) 0 j * e) (prod_at m c t k j))
  unfold prod k0_pay4
  generalize k0_pay2 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) (X0_5 m c t) = z
  pointwise [h_at, g_at]

/-- The gated product added to the tokens. -/
def R (r j : ℕ) : EReal := at2 (H m c) r j + at2 (G m c) 0 j * O m c r j

theorem final8 (c : Dev nD) : (dats m 0 c).arrAt 8 cfg0.N = fun i => R m c (i 0).val (i 1).val := by
  refine (dats m 0 c).arrAt_eq_of_covers 8 (fun i => R m c (i 0).val (i 1).val) (by decide +kernel) (fun t hf y => ?_)
  blk_simp
  rw [after0_8]
  unfold outsAt0
  frame_out
  refine ((congrArg _ (eq_ix2 y)).trans (pay4_at m c t (y 0) (y 1))).trans ?_
  refine (show _ = R m c (512 * t.val + (y 0).val) (y 1).val from rfl).trans ?_
  blk_simp [idx t]
  rw [Nat.mul_comm]

theorem final9 (c : Dev nD) : (dats m 0 c).arrAt 9 cfg0.N = fun i => O m c (i 0).val (i 1).val := by
  refine (dats m 0 c).arrAt_eq_of_covers 9 (fun i => O m c (i 0).val (i 1).val) (by decide +kernel) (fun t hf y => ?_)
  blk_simp
  rw [after0_9]
  unfold outsAt0
  frame_out
  refine ((congrArg _ (eq_ix2 y)).trans (prod_at m c t (y 0) (y 1))).trans ?_
  blk_simp [idx t]
  rw [Nat.mul_comm]

theorem final10 (c : Dev nD) : (dats m 0 c).arrAt 10 cfg0.N = fun i => C m c (i 0).val (i 1).val := by
  refine (dats m 0 c).arrAt_eq_of_covers 10 (fun i => C m c (i 0).val (i 1).val) (by decide +kernel) (fun t hf y => ?_)
  blk_simp
  rw [after0_10]
  unfold outsAt0
  frame_out
  refine ((congrArg _ (eq_ix2 y)).trans (cat_at m c t (y 0) (y 1))).trans ?_
  blk_simp [idx t]
  rw [Nat.mul_comm]

/-- The reference leaves its arguments unchanged, and it has no counter. -/
theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run m ρ)

section reference
open Cert.Reference11Ideal.Read Cert.Reference11Ideal.Gen
variable (x0 x1 x2 x3 : (⟨Cert.Reference11Ideal.S8192x256, .f32⟩ : BufTy).Contents (Elt Ideal))
  (x4 : (⟨Cert.Reference11Ideal.S2x1024, .f32⟩ : BufTy).Contents (Elt Ideal))
  (x5 : (⟨Cert.Reference11Ideal.S8192x1024, .f32⟩ : BufTy).Contents (Elt Ideal)) (x6 : (⟨Cert.Reference11Ideal.S1x1024, .f32⟩ : BufTy).Contents (Elt Ideal))
  (x9 : (⟨Cert.Reference11Ideal.S2x1024x1024, .f32⟩ : BufTy).Contents (Elt Ideal))

/-- The reference's stacked outputs. -/
theorem stack_at (r : Fin 8192) (g : Fin 4) (q : Fin 256) : val_main_v4 (F := Ideal) x0 x1 x2 x3 (ix3 r g q)
    = at2 (pick x0 x1 x2 x3 g) r q := by
  refine Eq.trans ?_ (at2_mk (pick x0 x1 x2 x3 g) r q)
  pointwise [val_main_v4, val_main_v3, val_main_v2, val_main_v1, val_main_v0]
  unfold pick
  split_ifs <;> first | rfl | omega

theorem weight_at (g : Fin 4) (q : Fin 256) : val_main_v7 (F := Ideal) x4 (ix2 g q) = at2 (R := 2) (C := 1024) x4 0 (256 * g + q) := by
  refine Eq.trans ?_ (at2_mk (R := 2) (C := 1024) x4 0 ⟨256 * g + q, by omega⟩)
  pointwise [val_main_v7, val_main_v6, val_main_v5]
  exact congrArg (fun k => x4 (ix2 0 k)) (Fin.ext (by show g.val * 256 + q.val = 256 * g.val + q.val; omega))

theorem norm_at (r : Fin 8192) (g : Fin 4) (q : Fin 256) : val_main_v20 (F := Ideal) x0 x1 x2 x3 x4 (ix3 r g q)
    = norm (pick x0 x1 x2 x3 g) (at2 (R := 2) (C := 1024) x4 0 (256 * g + q)) r q := by
  pointwise [val_main_v20, val_main_v19, val_main_v18, val_main_v17, val_main_v16, val_main_v15, val_main_v14, val_main_v13, val_main_v12, val_main_v11, val_main_v10, val_main_v9, val_main_v8, val_main_cst, val_main_cst_0, val_main_cst_1, stack_at, weight_at, norm]

theorem groups_at (r : Fin 8192) (j : Fin 1024) : val_main_v21 (F := Ideal) x0 x1 x2 x3 x4 (ix2 r j)
    = norm (pick x0 x1 x2 x3 (j.val / 256)) (at2 (R := 2) (C := 1024) x4 0 j) r (j.val % 256) := by
  refine Eq.trans ?_ ((norm_at x0 x1 x2 x3 x4 r ⟨j.val / 256, by omega⟩ ⟨j.val % 256, by omega⟩).trans ?_)
  · pointwise [val_main_v21]
  · show norm _ (at2 x4 0 (256 * (j.val / 256) + j.val % 256)) _ _ = _
    rw [Nat.div_add_mod]

theorem out_at (r : Fin 8192) (j : Fin 1024) : val_main_v24 (F := Ideal) x0 x1 x2 x3 x4 x9 (ix2 r j)
    = ∑ i : Fin 1024, val_main_v21 (F := Ideal) x0 x1 x2 x3 x4 (ix2 r i) * x9 (ix3 0 i j) := by
  pointwise [val_main_v24, val_main_v23, val_main_v22]

theorem res_at (r : Fin 8192) (j : Fin 1024) : val_main_v27 (F := Ideal) x0 x1 x2 x3 x4 x5 x6 x9 (ix2 r j)
    = x5 (ix2 r j) + x6 (ix2 0 j) * val_main_v24 (F := Ideal) x0 x1 x2 x3 x4 x9 (ix2 r j) := by
  pointwise [val_main_v27, val_main_v26, val_main_v25]

end reference

theorem groups_eq (r : Fin 8192) (j : Fin 1024) : Cert.Reference11Ideal.Read.val_main_v21 (F := Ideal) (Y0 m c) (Y1 m c) (Y2 m c) (Y3 m c) (N m c) (ix2 r j) = C m c r j :=
  groups_at _ _ _ _ _ r j

theorem out_eq (r : Fin 8192) (j : Fin 1024) : Cert.Reference11Ideal.Read.val_main_v24 (F := Ideal) (Y0 m c) (Y1 m c) (Y2 m c) (Y3 m c) (N m c) (W m c) (ix2 r j) = O m c r j :=
  (out_at _ _ _ _ _ _ r j).trans (Finset.sum_congr rfl fun i _ => congrArg₂ (fun p q : EReal => p * q) (groups_eq m c r i) (at3_mk (W m c) 0 i j))

theorem algebraic : Cert.algebraic_Kernel11Ideal_Reference11Ideal := by
  intro m g m' g' _ hagree
  refine ⟨_, _, _, (θ_run Cert.Kernel11Ideal.defs _ _).mono (fun r h c => ⟨(h c).1.trans (final8 m c), (h c).2.1.trans (final9 m c), (h c).2.2.1.trans (final10 m c), (h c).2.2.2⟩) (Cert.Kernel11Ideal.Value.run_blocks m g),
    (θ_run Cert.Reference11Ideal.defs _ _).mono (fun r h c => ?_) (Cert.Reference11Ideal.Value.run m' g')⟩
  obtain ⟨h0, h1, h2, hargs⟩ := h c
  obtain ⟨a0, a1, a2, a3, a4, a5, a6, a7, a8, a9, a10⟩ := hagree c
  refine ⟨funext fun i => ?_, funext fun i => ?_, funext fun i => ?_, hargs⟩
  · rw [h0, Cert.Reference11Ideal.Read.val_main_v27_eq, a0, a1, a2, a3, a4, a5, a6, a9, eq_ix2 i]
    refine (res_at _ _ _ _ _ _ _ _ (i 0) (i 1)).trans ?_
    exact congrArg₂ (fun p q : EReal => p + q) (at2_mk (H m c) (i 0) (i 1))
      (congrArg₂ (fun p q : EReal => p * q) (at2_mk (G m c) 0 (i 1)) (out_eq m c (i 0) (i 1)))
  · rw [h1, Cert.Reference11Ideal.Read.val_main_v28_eq, a0, a1, a2, a3, a4, a9, eq_ix2 i]
    exact out_eq m c (i 0) (i 1)
  · rw [h2, Cert.Reference11Ideal.Read.val_main_v29_eq, a0, a1, a2, a3, a4, eq_ix2 i]
    exact groups_eq m c (i 0) (i 1)

end Cert.FOut
-- ==== Proof.FOutB.lean ====
module
public import proofs.«01_k».proof.Proof.Rows
public import proofs.«01_k».proof.Proof.Gen.Kernel12Ideal.Value
public import proofs.«01_k».proof.Proof.Gen.Reference12Ideal.Read
public import proofs.«01_k».proof.Defs
public import Idealize.ShloMosaic.Lib.Pipeline.ValueKit
public import Idealize.ShloMosaic.Lib.Claim

/-! # What the call for the second layer's output projection leaves

Each point normalises 512 rows of the four mixers' outputs, one after the other, sets them side by side, multiplies them by the
projection's weight and adds the gated product to the tokens. -/

@[expose] public section
set_option maxRecDepth 16384
noncomputable section
namespace Cert.FOutB
open Idealize.ShloMosaic Idealize.ShloMosaic.TcCoe Idealize.SL.Sem
open Idealize.ShloMosaic.Pipeline (Dat)
open Cert.Kernel12Ideal Cert.Kernel12Ideal.Gen Cert.Rows
variable (m : (ℓ : Loc nD τ sig) → Buf (Elt Ideal) ℓ) (c : Dev nD)

/-- The layer's norm weights. -/
theorem V_v0 (u : Fin 1) (j : Fin 1024) : V m c main_v0 (ix2 u j) = m ((c : Thread nD τ).loc main_arg4) (ix2 1 j) := by
  simp only [V, hostOps0, hostOps0_1, hostOps0_2, List.flatten_cons, List.flatten_nil, List.append_nil, List.cons_append, List.nil_append]
  entry_read
  pointwise []

/-- The packed weights are the four parts, stacked. -/
theorem V_v9 : ∃ (a b : (⟨S2x4x1024x1024, .f32⟩ : BufTy).Contents (Elt Ideal)) (w : (⟨S2x4x592x1024, .f32⟩ : BufTy).Contents (Elt Ideal)),
    V m c main_v9 = (truncf (F := Ideal) .bf16 (concatenate S2x4x2896x1024 2 [⟨S2x4x1024x1024, a⟩, ⟨S2x4x1024x1024, b⟩,
    ⟨S2x4x256x1024, (V m c main_v7 : (⟨S2x4x256x1024, .f32⟩ : BufTy).Contents (Elt Ideal))⟩, ⟨S2x4x592x1024, w⟩] concatenates_S2x4x1024x1024_S2x4x1024x1024_S2x4x256x1024_S2x4x592x1024_S2x4x2896x1024_d2) bitsLt_bf16_f32
      : (⟨S2x4x2896x1024, .bf16⟩ : BufTy).Contents (Elt Ideal)) := by
  have e : (List.flatten [hostOps0, hostOps0_1, hostOps0_2] : List (HloOp τ sig (Elt Ideal)))
      = (hostOps0 ++ (hostOps0_1 ++ hostOps0_2.take 2)) ++ hostOps0_2.drop 2 := rfl
  have h : ∀ b : Ref sig .tc, V m c b = StableHlo.after (hostOps0_2.drop 2) (StableHlo.after (hostOps0 ++ (hostOps0_1 ++ hostOps0_2.take 2)) (fun b => m (c, b))) b :=
    fun b => (congrArg (fun L => StableHlo.after L (fun b => m (c, b)) b) e).trans (congrFun (StableHlo.after_append _ _ _) _)
  rw [h main_v9, h main_v7]
  generalize StableHlo.after (hostOps0 ++ (hostOps0_1 ++ hostOps0_2.take 2)) (fun b => m (c, b)) = σ
  refine ⟨σ main_v2, σ main_v6, σ main_v5, ?_⟩
  have h7 : StableHlo.after (hostOps0_2.drop 2) σ main_v7 = σ main_v7 := by
    simp only [hostOps0_2, List.drop_succ_cons, List.drop_zero, StableHlo.after_cons, StableHlo.after_nil]
    exact (StableHlo.unary_result_ne _ _ _ _ _ _ (r := main_v7) (by decide)).trans (StableHlo.nary_result_ne _ _ _ _ _ _ (r := main_v7) (by decide))
  rw [h7]
  simp only [hostOps0_2, List.drop_succ_cons, List.drop_zero, StableHlo.after_cons, StableHlo.after_nil]
  exact (StableHlo.unary_result _ _ _ _ _ _).trans (congrArg (truncf (F := Ideal) .bf16 · bitsLt_bf16_f32) (StableHlo.nary_result _ _ _ _ _ _))

/-- The projection's weight, its rows cut into four. -/
theorem V_v7 (p : Fin 4) (r : Fin 256) (j : Fin 1024) : V m c main_v7 (ix4 1 p r j)
    = m ((c : Thread nD τ).loc main_arg9) (ix3 1 ⟨256 * p + r, by omega⟩ j) := by
  simp only [V, hostOps0, hostOps0_1, hostOps0_2, List.flatten_cons, List.flatten_nil, List.append_nil, List.cons_append, List.nil_append]
  entry_read
  pointwise []
  exact congrArg (fun k => m ((c : Thread nD τ).loc main_arg9) (ix3 1 k j)) (Fin.ext (by show p.val * 256 + r.val = 256 * p.val + r.val; omega))

/-- The packed weights, the rows of the projection's weight. -/
theorem V_w (p : Fin 4) (r : Fin 256) (j : Fin 1024) : V m c main_v9 (ix4 1 p ⟨2048 + r, by omega⟩ j)
    = m ((c : Thread nD τ).loc main_arg9) (ix3 1 ⟨256 * p + r, by omega⟩ j) := by
  obtain ⟨a, b, w, e⟩ := V_v9 m c
  refine Eq.trans ?_ (V_v7 m c p r j)
  rw [e]
  generalize V m c main_v7 = d
  pointwise []
  rw [dif_neg (by omega), dif_neg (by omega), dif_pos (by omega)]
  exact congrArg (fun k => d (ix4 1 p k j)) (Fin.ext (by show 2048 + r.val - 1024 - 1024 = r.val; omega))

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![1, 0, 8, 0]
    ∧ win0_6.index t = ![t.val, 0] ∧ win0_7.index t = ![0, 0]
    ∧ win0_8.index t = ![t.val, 0] ∧ win0_9.index t = ![t.val, 0] ∧ win0_10.index t = ![t.val, 0] :=
  (by decide +kernel : ∀ t : Fin grid0.N, _)

/-- The four mixers' outputs, the norm weights, the tokens, the gate and the projection's weight. -/
abbrev Y0 : (⟨2, ![8192, 256]⟩ : Shape).Idx → EReal := m ((c : Thread nD τ).loc main_arg0)
abbrev Y1 : (⟨2, ![8192, 256]⟩ : Shape).Idx → EReal := m ((c : Thread nD τ).loc main_arg1)
abbrev Y2 : (⟨2, ![8192, 256]⟩ : Shape).Idx → EReal := m ((c : Thread nD τ).loc main_arg2)
abbrev Y3 : (⟨2, ![8192, 256]⟩ : Shape).Idx → EReal := m ((c : Thread nD τ).loc main_arg3)
abbrev N : (⟨2, ![2, 1024]⟩ : Shape).Idx → EReal := m ((c : Thread nD τ).loc main_arg4)
abbrev H : (⟨2, ![8192, 1024]⟩ : Shape).Idx → EReal := m ((c : Thread nD τ).loc main_arg5)
abbrev G : (⟨2, ![1, 1024]⟩ : Shape).Idx → EReal := m ((c : Thread nD τ).loc main_arg6)
abbrev W : (⟨3, ![2, 1024, 1024]⟩ : Shape).Idx → EReal := m ((c : Thread nD τ).loc main_arg9)

theorem y0_at (t : Fin cfg0.N) (k : Fin 512) (j : Fin 256) : (iblk m c 0 t) (ix2 k j) = at2 (Y0 m c) (512 * t.val + k) j := by
  have ht : t.val < 16 := lt_of_lt_of_eq t.isLt N_0
  refine Eq.trans ?_ (at2_mk (Y0 m c) ⟨512 * t.val + k, by omega⟩ ⟨j, by omega⟩)
  refine Eq.trans ?_ (congrFun (V_main_arg0 m c) _)
  blk_simp [iblk]
  refine congrArg (V m c main_arg0) ?_
  blk_ext [idx t]

theorem y1_at (t : Fin cfg0.N) (k : Fin 512) (j : Fin 256) : (iblk m c 1 t) (ix2 k j) = at2 (Y1 m c) (512 * t.val + k) j := by
  have ht : t.val < 16 := lt_of_lt_of_eq t.isLt N_0
  refine Eq.trans ?_ (at2_mk (Y1 m c) ⟨512 * t.val + k, by omega⟩ ⟨j, by omega⟩)
  refine Eq.trans ?_ (congrFun (V_main_arg1 m c) _)
  blk_simp [iblk]
  refine congrArg (V m c main_arg1) ?_
  blk_ext [idx t]

theorem y2_at (t : Fin cfg0.N) (k : Fin 512) (j : Fin 256) : (iblk m c 2 t) (ix2 k j) = at2 (Y2 m c) (512 * t.val + k) j := by
  have ht : t.val < 16 := lt_of_lt_of_eq t.isLt N_0
  refine Eq.trans ?_ (at2_mk (Y2 m c) ⟨512 * t.val + k, by omega⟩ ⟨j, by omega⟩)
  refine Eq.trans ?_ (congrFun (V_main_arg2 m c) _)
  blk_simp [iblk]
  refine congrArg (V m c main_arg2) ?_
  blk_ext [idx t]

theorem y3_at (t : Fin cfg0.N) (k : Fin 512) (j : Fin 256) : (iblk m c 3 t) (ix2 k j) = at2 (Y3 m c) (512 * t.val + k) j := by
  have ht : t.val < 16 := lt_of_lt_of_eq t.isLt N_0
  refine Eq.trans ?_ (at2_mk (Y3 m c) ⟨512 * t.val + k, by omega⟩ ⟨j, by omega⟩)
  refine Eq.trans ?_ (congrFun (V_main_arg3 m c) _)
  blk_simp [iblk]
  refine congrArg (V m c main_arg3) ?_
  blk_ext [idx t]

theorem n_at (t : Fin cfg0.N) (u : Fin 1) (j : Fin 1024) : (iblk m c 4 t) (ix2 u j) = at2 (N m c) 1 j := by
  refine Eq.trans ?_ (at2_mk (N m c) 1 j)
  refine Eq.trans ?_ (V_v0 m c 0 j)
  blk_simp [iblk]
  refine congrArg (V m c main_v0) ?_
  blk_ext [idx t]

theorem w_at (t : Fin cfg0.N) (u : Fin 1) (p : Fin 4) (r : Fin 256) (j : Fin 1024) :
    (X0_5 m c t) (ix4 u p r j) = at3 (W m c) 1 (256 * p + r) j := by
  unfold X0_5 Pipeline.Window.fill
  rw [dif_pos (moved0_5 t _)]
  refine Eq.trans ?_ ((V_w m c p r j).trans (at3_mk (W m c) 1 ⟨256 * p + r, by omega⟩ j))
  blk_simp [iblk]
  refine congrArg (V m c main_v9) ?_
  blk_ext [idx t]

theorem h_at (t : Fin cfg0.N) (k : Fin 512) (j : Fin 1024) : (iblk m c 6 t) (ix2 k j) = at2 (H m c) (512 * t.val + k) j := by
  have ht : t.val < 16 := lt_of_lt_of_eq t.isLt N_0
  refine Eq.trans ?_ (at2_mk (H m c) ⟨512 * t.val + k, by omega⟩ ⟨j, by omega⟩)
  refine Eq.trans ?_ (congrFun (V_main_arg5 m c) _)
  blk_simp [iblk]
  refine congrArg (V m c main_arg5) ?_
  blk_ext [idx t]

theorem g_at (t : Fin cfg0.N) (u : Fin 1) (j : Fin 1024) : (iblk m c 7 t) (ix2 u j) = at2 (G m c) 0 j := by
  refine Eq.trans ?_ (at2_mk (G m c) 0 j)
  refine Eq.trans ?_ (congrFun (V_main_arg6 m c) _)
  blk_simp [iblk]
  refine congrArg (V m c main_arg6) ?_
  blk_ext [idx t]

/-- The output of mixer `g`. -/
def pick (a b d e : (⟨2, ![8192, 256]⟩ : Shape).Idx → EReal) (g : ℕ) : (⟨2, ![8192, 256]⟩ : Shape).Idx → EReal :=
  if g = 0 then a else if g = 1 then b else if g = 2 then d else e

/-- An element of a row of 256 lanes, normalised. -/
def norm (y : (⟨2, ![8192, 256]⟩ : Shape).Idx → EReal) (n : EReal) (r q : ℕ) : EReal :=
  at2 y r q * Ideal.rsqrt (Ideal.div (∑ j : Fin 256, at2 y r j * at2 y r j) (Ideal.ofBits FTy.f32 1132462080#32)
    + Ideal.ofBits FTy.f32 897988541#32) * n

/-- Row `r` of the normalised outputs, side by side. -/
def C (r k : ℕ) : EReal := norm (pick (Y0 m c) (Y1 m c) (Y2 m c) (Y3 m c) (k / 256)) (at2 (N m c) 1 k) r (k % 256)

theorem pay6_at (t : Fin cfg0.N) (k : Fin 512) (q : Fin 256) :
    k0_pay6 (F := Ideal) (iblk m c 0 t) (iblk m c 4 t) (ix2 k q) = norm (Y0 m c) (at2 (N m c) 1 q) (512 * t.val + k) q := by
  pointwise [k0_pay6, k0_pay5, y0_at, n_at, norm]

theorem pay7_at (t : Fin cfg0.N) (k : Fin 512) (q : Fin 256) :
    k0_pay7 (F := Ideal) (iblk m c 1 t) (iblk m c 4 t) (ix2 k q) = norm (Y1 m c) (at2 (N m c) 1 (256 + q)) (512 * t.val + k) q := by
  pointwise [k0_pay7, k0_pay5, y1_at, n_at, norm]

/-- The normalised rows of the block. -/
abbrev cat (t : Fin cfg0.N) : FVec Ideal S512x1024 .bf16 :=
  k0_pay1 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t))

theorem cat_at (t : Fin cfg0.N) (k : Fin 512) (j : Fin 1024) : cat m c t (ix2 k j) = C m c (512 * t.val + k) j := by
  pointwise [cat, k0_pay1, k0_pay5, k0_pay8, pay6_at, pay7_at, y2_at, y3_at, n_at]
  have hj := j.isLt
  unfold C pick
  split_ifs with h0 h1 h2 <;> try omega
  · rw [Nat.mod_eq_of_lt h0]
  · rw [show 256 + (j.val - 256) = j.val by omega, show j.val - 256 = j.val % 256 by omega]
  · rw [show 512 + (j.val - 256 - 256) = j.val by omega, show j.val - 256 - 256 = j.val % 256 by omega]
    rfl
  · rw [show 768 + (j.val - 256 - 256 - 256) = j.val by omega, show j.val - 256 - 256 - 256 = j.val % 256 by omega]
    rfl

/-- The product of a normalised row with the weight. -/
def O (r j : ℕ) : EReal := ∑ i : Fin 1024, C m c r i * at3 (W m c) 1 i j

/-- The block's product. -/
abbrev prod (t : Fin cfg0.N) : FVec Ideal S512x1024 .f32 :=
  k0_pay2 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) (X0_5 m c t)

theorem prod_at (t : Fin cfg0.N) (k : Fin 512) (j : Fin 1024) : prod m c t (ix2 k j) = O m c (512 * t.val + k) j := by
  unfold prod k0_pay2
  generalize hz : k0_pay1 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) = z
  have hc (i : Fin 1024) : z (ix2 k i) = C m c (512 * t.val + k) i := hz ▸ cat_at m c t k i
  pointwise [hc, w_at, O]
  simp only [Nat.div_add_mod]

theorem pay4_at (t : Fin cfg0.N) (k : Fin 512) (j : Fin 1024) :
    k0_pay4 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) (X0_5 m c t) (iblk m c 6 t) (iblk m c 7 t) (ix2 k j)
      = at2 (H m c) (512 * t.val + k) j + at2 (G m c) 0 j * O m c (512 * t.val + k) j := by
  refine Eq.trans ?_ (congrArg (fun e => at2 (H m c) (512 * t.val + k) j + at2 (G m c) 0 j * e) (prod_at m c t k j))
  unfold prod k0_pay4
  generalize k0_pay2 (F := Ideal) (iblk m c 2 t) (iblk m c 3 t) (k0_pay5 (iblk m c 4 t)) (k0_pay6 (iblk m c 0 t) (iblk m c 4 t)) (k0_pay7 (iblk m c 1 t) (iblk m c 4 t)) (k0_pay8 (iblk m c 2 t)) (X0_5 m c t) = z
  pointwise [h_at, g_at]

/-- The gated product added to the tokens. -/
def R (r j : ℕ) : EReal := at2 (H m c) r j + at2 (G m c) 0 j * O m c r j

theorem final8 (c : Dev nD) : (dats m 0 c).arrAt 8 cfg0.N = fun i => R m c (i 0).val (i 1).val := by
  refine (dats m 0 c).arrAt_eq_of_covers 8 (fun i => R m c (i 0).val (i 1).val) (by decide +kernel) (fun t hf y => ?_)
  blk_simp
  rw [after0_8]
  unfold outsAt0
  frame_out
  refine ((congrArg _ (eq_ix2 y)).trans (pay4_at m c t (y 0) (y 1))).trans ?_
  refine (show _ = R m c (512 * t.val + (y 0).val) (y 1).val from rfl).trans ?_
  blk_simp [idx t]
  rw [Nat.mul_comm]

theorem final9 (c : Dev nD) : (dats m 0 c).arrAt 9 cfg0.N = fun i => O m c (i 0).val (i 1).val := by
  refine (dats m 0 c).arrAt_eq_of_covers 9 (fun i => O m c (i 0).val (i 1).val) (by decide +kernel) (fun t hf y => ?_)
  blk_simp
  rw [after0_9]
  unfold outsAt0
  frame_out
  refine ((congrArg _ (eq_ix2 y)).trans (prod_at m c t (y 0) (y 1))).trans ?_
  blk_simp [idx t]
  rw [Nat.mul_comm]

theorem final10 (c : Dev nD) : (dats m 0 c).arrAt 10 cfg0.N = fun i => C m c (i 0).val (i 1).val := by
  refine (dats m 0 c).arrAt_eq_of_covers 10 (fun i => C m c (i 0).val (i 1).val) (by decide +kernel) (fun t hf y => ?_)
  blk_simp
  rw [after0_10]
  unfold outsAt0
  frame_out
  refine ((congrArg _ (eq_ix2 y)).trans (cat_at m c t (y 0) (y 1))).trans ?_
  blk_simp [idx t]
  rw [Nat.mul_comm]

/-- The reference leaves its arguments unchanged, and it has no counter. -/
theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run m ρ)

section reference
open Cert.Reference12Ideal.Read Cert.Reference12Ideal.Gen
variable (x0 x1 x2 x3 : (⟨Cert.Reference12Ideal.S8192x256, .f32⟩ : BufTy).Contents (Elt Ideal))
  (x4 : (⟨Cert.Reference12Ideal.S2x1024, .f32⟩ : BufTy).Contents (Elt Ideal))
  (x5 : (⟨Cert.Reference12Ideal.S8192x1024, .f32⟩ : BufTy).Contents (Elt Ideal)) (x6 : (⟨Cert.Reference12Ideal.S1x1024, .f32⟩ : BufTy).Contents (Elt Ideal))
  (x9 : (⟨Cert.Reference12Ideal.S2x1024x1024, .f32⟩ : BufTy).Contents (Elt Ideal))

/-- The reference's stacked outputs. -/
theorem stack_at (r : Fin 8192) (g : Fin 4) (q : Fin 256) : val_main_v4 (F := Ideal) x0 x1 x2 x3 (ix3 r g q)
    = at2 (pick x0 x1 x2 x3 g) r q := by
  refine Eq.trans ?_ (at2_mk (pick x0 x1 x2 x3 g) r q)
  pointwise [val_main_v4, val_main_v3, val_main_v2, val_main_v1, val_main_v0]
  unfold pick
  split_ifs <;> first | rfl | omega

theorem weight_at (g : Fin 4) (q : Fin 256) : val_main_v7 (F := Ideal) x4 (ix2 g q) = at2 (R := 2) (C := 1024) x4 1 (256 * g + q) := by
  refine Eq.trans ?_ (at2_mk (R := 2) (C := 1024) x4 1 ⟨256 * g + q, by omega⟩)
  pointwise [val_main_v7, val_main_v6, val_main_v5]
  exact congrArg (fun k => x4 (ix2 1 k)) (Fin.ext (by show g.val * 256 + q.val = 256 * g.val + q.val; omega))

theorem norm_at (r : Fin 8192) (g : Fin 4) (q : Fin 256) : val_main_v20 (F := Ideal) x0 x1 x2 x3 x4 (ix3 r g q)
    = norm (pick x0 x1 x2 x3 g) (at2 (R := 2) (C := 1024) x4 1 (256 * g + q)) r q := by
  pointwise [val_main_v20, val_main_v19, val_main_v18, val_main_v17, val_main_v16, val_main_v15, val_main_v14, val_main_v13, val_main_v12, val_main_v11, val_main_v10, val_main_v9, val_main_v8, val_main_cst, val_main_cst_0, val_main_cst_1, stack_at, weight_at, norm]

theorem groups_at (r : Fin 8192) (j : Fin 1024) : val_main_v21 (F := Ideal) x0 x1 x2 x3 x4 (ix2 r j)
    = norm (pick x0 x1 x2 x3 (j.val / 256)) (at2 (R := 2) (C := 1024) x4 1 j) r (j.val % 256) := by
  refine Eq.trans ?_ ((norm_at x0 x1 x2 x3 x4 r ⟨j.val / 256, by omega⟩ ⟨j.val % 256, by omega⟩).trans ?_)
  · pointwise [val_main_v21]
  · show norm _ (at2 x4 1 (256 * (j.val / 256) + j.val % 256)) _ _ = _
    rw [Nat.div_add_mod]

theorem out_at (r : Fin 8192) (j : Fin 1024) : val_main_v24 (F := Ideal) x0 x1 x2 x3 x4 x9 (ix2 r j)
    = ∑ i : Fin 1024, val_main_v21 (F := Ideal) x0 x1 x2 x3 x4 (ix2 r i) * x9 (ix3 1 i j) := by
  pointwise [val_main_v24, val_main_v23, val_main_v22]

theorem res_at (r : Fin 8192) (j : Fin 1024) : val_main_v27 (F := Ideal) x0 x1 x2 x3 x4 x5 x6 x9 (ix2 r j)
    = x5 (ix2 r j) + x6 (ix2 0 j) * val_main_v24 (F := Ideal) x0 x1 x2 x3 x4 x9 (ix2 r j) := by
  pointwise [val_main_v27, val_main_v26, val_main_v25]

end reference

theorem groups_eq (r : Fin 8192) (j : Fin 1024) : Cert.Reference12Ideal.Read.val_main_v21 (F := Ideal) (Y0 m c) (Y1 m c) (Y2 m c) (Y3 m c) (N m c) (ix2 r j) = C m c r j :=
  groups_at _ _ _ _ _ r j

theorem out_eq (r : Fin 8192) (j : Fin 1024) : Cert.Reference12Ideal.Read.val_main_v24 (F := Ideal) (Y0 m c) (Y1 m c) (Y2 m c) (Y3 m c) (N m c) (W m c) (ix2 r j) = O m c r j :=
  (out_at _ _ _ _ _ _ r j).trans (Finset.sum_congr rfl fun i _ => congrArg₂ (fun p q : EReal => p * q) (groups_eq m c r i) (at3_mk (W m c) 1 i j))

theorem algebraic : Cert.algebraic_Kernel12Ideal_Reference12Ideal := by
  intro m g m' g' _ hagree
  refine ⟨_, _, _, (θ_run Cert.Kernel12Ideal.defs _ _).mono (fun r h c => ⟨(h c).1.trans (final8 m c), (h c).2.1.trans (final9 m c), (h c).2.2.1.trans (final10 m c), (h c).2.2.2⟩) (Cert.Kernel12Ideal.Value.run_blocks m g),
    (θ_run Cert.Reference12Ideal.defs _ _).mono (fun r h c => ?_) (Cert.Reference12Ideal.Value.run m' g')⟩
  obtain ⟨h0, h1, h2, hargs⟩ := h c
  obtain ⟨a0, a1, a2, a3, a4, a5, a6, a7, a8, a9, a10⟩ := hagree c
  refine ⟨funext fun i => ?_, funext fun i => ?_, funext fun i => ?_, hargs⟩
  · rw [h0, Cert.Reference12Ideal.Read.val_main_v27_eq, a0, a1, a2, a3, a4, a5, a6, a9, eq_ix2 i]
    refine (res_at _ _ _ _ _ _ _ _ (i 0) (i 1)).trans ?_
    exact congrArg₂ (fun p q : EReal => p + q) (at2_mk (H m c) (i 0) (i 1))
      (congrArg₂ (fun p q : EReal => p * q) (at2_mk (G m c) 0 (i 1)) (out_eq m c (i 0) (i 1)))
  · rw [h1, Cert.Reference12Ideal.Read.val_main_v28_eq, a0, a1, a2, a3, a4, a9, eq_ix2 i]
    exact out_eq m c (i 0) (i 1)
  · rw [h2, Cert.Reference12Ideal.Read.val_main_v29_eq, a0, a1, a2, a3, a4, eq_ix2 i]
    exact groups_eq m c (i 0) (i 1)

end Cert.FOutB
-- ==== Proof.DwOut.lean ====
module
public import proofs.«01_k».proof.Proof.Rows
public import proofs.«01_k».proof.Proof.Gen.Kernel13Ideal.Value
public import proofs.«01_k».proof.Proof.Gen.Reference13Ideal.Read
public import proofs.«01_k».proof.Defs
public import Idealize.ShloMosaic.Lib.Pipeline.ValueKit
public import Idealize.ShloMosaic.Lib.Claim

/-! # What the call for the weight of the output projection leaves

The call adds up, block of rows by block of rows, the product of the transposed first operand and the second; the other layer's part of the array it is given is left as it was. -/

@[expose] public section
set_option maxRecDepth 16384
noncomputable section
namespace Cert.DwOut
open Idealize.ShloMosaic Idealize.ShloMosaic.TcCoe Idealize.SL.Sem
open Idealize.ShloMosaic.Pipeline (Dat)
open Cert.Kernel13Ideal Cert.Kernel13Ideal.Gen Cert.Rows
variable (m : (ℓ : Loc nD τ sig) → Buf (Elt Ideal) ℓ) (c : Dev nD)

/-- The array the call is given, when the call starts. -/
theorem V_v4 : V m c main_v4 = m ((c : Thread nD τ).loc main_arg3) := by
  simp only [V, hostOps0, List.flatten_cons, List.flatten_nil, List.append_nil, List.cons_append, List.nil_append]
  entry_read
  rfl
/-- The first operand is the normalised outputs of the four mixers. -/
theorem V_v0 (i : S8192x1024.Idx) : V m c main_v0 i = m ((c : Thread nD τ).loc main_arg0) i := by
  simp only [V, hostOps0, List.flatten_cons, List.flatten_nil, List.append_nil, List.cons_append, List.nil_append]
  entry_read
  rfl
/-- The second operand is the scaled gradient of the block's output. -/
theorem V_v3 (r : Fin 8192) (j : Fin 1024) : V m c main_v3 (ix2 r j)
    = Cert.Reference13Ideal.Read.val_main_v5 (F := Ideal) (m ((c : Thread nD τ).loc main_arg1)) (m ((c : Thread nD τ).loc main_arg2)) (ix2 r j) := by
  simp only [V, hostOps0, List.flatten_cons, List.flatten_nil, List.append_nil, List.cons_append, List.nil_append]
  entry_read
  exact mul_comm (G := EReal) _ _

theorem idx : ∀ t : Fin cfg0.N, win0_0.index t = ![t.val % 8, 0] ∧ win0_1.index t = ![t.val % 8, 0]
    ∧ win0_2.index t = ![0, 0, 0] :=
  (by decide +kernel : ∀ t : Fin grid0.N, _)

/-- The first operand when the call starts. -/
abbrev A : (⟨2, ![8192, 1024]⟩ : Shape).Idx → EReal := V m c main_v0
/-- The second operand when the call starts. -/
abbrev B : (⟨2, ![8192, 1024]⟩ : Shape).Idx → EReal := V m c main_v3

theorem a_at (t : Fin cfg0.N) (k : Fin 1024) (j : Fin 1024) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S1x1024x1024 .f32) (t : Fin cfg0.N) (u : Fin 1) (i j : Fin 1024) :
    k0_pay2 (F := Ideal) o (iblk m c 0 t) (iblk m c 1 t) (ix3 u i j)
      = o (ix3 0 i j) + ∑ k : Fin 1024, at2 (A m c) (1024 * (t.val % 8) + k) i * at2 (B m c) (1024 * (t.val % 8) + k) j := by
  pointwise [k0_pay2, a_at, b_at]

/-- What one element of the first layer's part holds at the end: the sum over all the rows. -/
def W (i j : ℕ) : EReal := ∑ r : Fin 8192, at2 (A m c) r i * at2 (B m c) r j

theorem unit_at (y : S1x1024x1024.Idx) : y = ix3 0 (y 1) (y 2) :=
  (eq_ix3 y).trans (congrArg (fun r => ix3 r (y 1) (y 2)) (Subsingleton.elim (α := Fin 1) _ _))

theorem reset (t : Fin cfg0.N) (h : t.val % 8 = 0) (y : S1x1024x1024.Idx) :
    outsAt0 m c t.val t.isLt y = 0 + ∑ k : Fin 1024, at2 (A m c) (1024 * (t.val % 8) + k) (y 1).val
      * at2 (B m c) (1024 * (t.val % 8) + k) (y 2).val := by
  rw [outsAt0_A m c t h]; frame_out
  rw [unit_at y]
  refine (prod_at m c _ t _ _ _).trans (congrArg (fun e : EReal => e + _) ?_)
  pointwise [k0_pay1]

theorem step (t : Fin cfg0.N) (h : ¬t.val % 8 = 0) (y : S1x1024x1024.Idx) :
    outsAt0 m c t.val t.isLt y = outsAt0 m c (t.val - 1) (Nat.lt_of_le_of_lt (Nat.sub_le _ _) t.isLt) y
      + ∑ k : Fin 1024, at2 (A m c) (1024 * (t.val % 8) + k) (y 1).val
      * at2 (B m c) (1024 * (t.val % 8) + k) (y 2).val := by
  rw [outsAt0_B m c t h]; frame_out
  rw [unit_at y]
  exact prod_at m c _ t _ _ _

theorem outs_at (t : Fin cfg0.N) (h : t.val % 8 = 7) (y : S1x1024x1024.Idx) :
    outsAt0 m c t.val t.isLt y = W m c (y 1).val (y 2).val := by
  have ht : t.val < 8 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 1).val
      * at2 (B m c) (1024 * (p.val % 8) + k) (y 2).val)
    (reset m c) (step m c) t h y, zero_add]
  refine Eq.trans (Finset.sum_congr rfl fun s _ => ?_)
    (sum_blocks 8 1024 fun r => at2 (A m c) r (y 1).val * at2 (B m c) r (y 2).val)
  have e1 : (8 * (t.val / 8) + s.val) % 8 = s.val := by omega
  simp only [e1]

/-- The array after the call: the first layer's part is the sum over all the rows, the second layer's is as it was given. -/
theorem final (c : Dev nD) : (dats m 0 c).arrAt 2 cfg0.N
    = fun i => if (i 0 : ℕ) / 1 = 0 then W m c (i 1).val (i 2).val else m ((c : Thread nD τ).loc main_arg3) i := by
  refine ((dats m 0 c).arrAt_eq_of_coversWhere 2 (fun i => W m c (i 1).val (i 2).val) (P := fun i => (i 0 : ℕ) / 1 = 0) (fun β => β (0 : Fin 3) = 0) (by decide +kernel)
    (fun t hf y => ?_) (fun j => Iff.rfl)).trans ?_
  · blk_simp
    rw [after0_2, outs_at m c t ((flush0_2 t).mp hf)]
    blk_simp [idx t]
  · funext i
    dsimp only
    split
    · rfl
    · rw [A_eq]
      exact congrFun (V_v4 m c) i

/-- The reference leaves its arguments unchanged, and it has no counter. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

section reference
open Cert.Reference13Ideal.Read Cert.Reference13Ideal.Gen
variable (x0 x1 : (⟨Cert.Reference13Ideal.S8192x1024, .f32⟩ : BufTy).Contents (Elt Ideal))
  (x2 : (⟨Cert.Reference13Ideal.S1x1024, .f32⟩ : BufTy).Contents (Elt Ideal)) (x3 : (⟨Cert.Reference13Ideal.S2x1024x1024, .f32⟩ : BufTy).Contents (Elt Ideal))

/-- The reference's gradient of the weight. -/
theorem grad_at (i : Fin 1024) (j : Fin 1024) : val_main_v7 (F := Ideal) x0 x1 x2 (ix2 i j)
    = ∑ r : Fin 8192, val_main_v5 (F := Ideal) x1 x2 (ix2 r j) * x0 (ix2 r i) := by
  pointwise [val_main_v7, val_main_v6]

/-- The reference's result, index by index. -/
theorem result_at (l : Fin 2) (i : Fin 1024) (j : Fin 1024) : val_main_v10 (F := Ideal) x0 x1 x2 x3 (ix3 l i j)
    = if l.val / 1 = 0 then ∑ r : Fin 8192, x0 (ix2 r i) * val_main_v5 (F := Ideal) x1 x2 (ix2 r j) else x3 (ix3 l i j) := by
  pointwise [val_main_v10, val_main_v9, val_main_v8, grad_at]
  by_cases h : l.val = 0
  · rw [dif_pos (by omega), if_pos h]
    exact Finset.sum_congr rfl fun r _ => mul_comm (G := EReal) _ _
  · rw [dif_neg (by omega), if_neg h]
    exact congrArg (fun l => x3 (ix3 l i j)) (Fin.ext (by show 1 + (l.val - 1) = l.val; omega))

end reference

theorem algebraic : Cert.algebraic_Kernel13Ideal_Reference13Ideal := by
  intro m g m' g' _ hagree
  refine ⟨_, (θ_run Cert.Kernel13Ideal.defs _ _).mono (fun r h c => ⟨(h c).1.trans (final m c), (h c).2⟩) (Cert.Kernel13Ideal.Value.run_blocks m g),
    (θ_run Cert.Reference13Ideal.defs _ _).mono (fun r h c => ?_) (Cert.Reference13Ideal.Value.run m' g')⟩
  obtain ⟨h0, hargs⟩ := h c
  obtain ⟨a0, a1, a2, a3⟩ := hagree c
  refine ⟨?_, hargs⟩
  refine funext fun i => ?_
  rw [h0, Cert.Reference13Ideal.Read.val_main_v10_eq, a0, a1, a2, a3, eq_ix3 i]
  refine (result_at _ _ _ _ (i 0) (i 1) (i 2)).trans ?_
  refine if_congr Iff.rfl ?_ rfl
  unfold W
  refine Finset.sum_congr rfl fun r _ => ?_
  refine Eq.trans ?_ (congrArg₂ (fun p q : EReal => p * q) (at2_mk (A m c) r (i 1)) (at2_mk (B m c) r (i 2)))
  exact (congrArg₂ (fun p q : EReal => p * q) (V_v0 m c (ix2 r (i 1))) (V_v3 m c r (i 2))).symm

end Cert.DwOut
-- ==== Proof.DwOutB.lean ====
module
public import proofs.«01_k».proof.Proof.Rows
public import proofs.«01_k».proof.Proof.Gen.Kernel14Ideal.Value
public import proofs.«01_k».proof.Proof.Gen.Reference14Ideal.Read
public import proofs.«01_k».proof.Defs
public import Idealize.ShloMosaic.Lib.Pipeline.ValueKit
public import Idealize.ShloMosaic.Lib.Claim

/-! # What the call for the weight of the second layer's output projection leaves

The call adds up, block of rows by block of rows, the product of the transposed first operand and the second; the other layer's part of the array it is given is left as it was. -/

@[expose] public section
set_option maxRecDepth 16384
noncomputable section
namespace Cert.DwOutB
open Idealize.ShloMosaic Idealize.ShloMosaic.TcCoe Idealize.SL.Sem
open Idealize.ShloMosaic.Pipeline (Dat)
open Cert.Kernel14Ideal Cert.Kernel14Ideal.Gen Cert.Rows
variable (m : (ℓ : Loc nD τ sig) → Buf (Elt Ideal) ℓ) (c : Dev nD)

/-- The array the call is given, when the call starts. -/
theorem V_v4 : V m c main_v4 = m ((c : Thread nD τ).loc main_arg3) := by
  simp only [V, hostOps0, List.flatten_cons, List.flatten_nil, List.append_nil, List.cons_append, List.nil_append]
  entry_read
  rfl
/-- The first operand is the normalised outputs of the four mixers. -/
theorem V_v0 (i : S8192x1024.Idx) : V m c main_v0 i = m ((c : Thread nD τ).loc main_arg0) i := by
  simp only [V, hostOps0, List.flatten_cons, List.flatten_nil, List.append_nil, List.cons_append, List.nil_append]
  entry_read
  rfl
/-- The second operand is the scaled gradient of the block's output. -/
theorem V_v3 (r : Fin 8192) (j : Fin 1024) : V m c main_v3 (ix2 r j)
    = Cert.Reference14Ideal.Read.val_main_v5 (F := Ideal) (m ((c : Thread nD τ).loc main_arg1)) (m ((c : Thread nD τ).loc main_arg2)) (ix2 r j) := by
  simp only [V, hostOps0, List.flatten_cons, List.flatten_nil, List.append_nil, List.cons_append, List.nil_append]
  entry_read
  exact mul_comm (G := EReal) _ _

theorem idx : ∀ t : Fin cfg0.N, win0_0.index t = ![t.val % 8, 0] ∧ win0_1.index t = ![t.val % 8, 0]
    ∧ win0_2.index t = ![1, 0, 0] :=
  (by decide +kernel : ∀ t : Fin grid0.N, _)

/-- The first operand when the call starts. -/
abbrev A : (⟨2, ![8192, 1024]⟩ : Shape).Idx → EReal := V m c main_v0
/-- The second operand when the call starts. -/
abbrev B : (⟨2, ![8192, 1024]⟩ : Shape).Idx → EReal := V m c main_v3

theorem a_at (t : Fin cfg0.N) (k : Fin 1024) (j : Fin 1024) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S1x1024x1024 .f32) (t : Fin cfg0.N) (u : Fin 1) (i j : Fin 1024) :
    k0_pay2 (F := Ideal) o (iblk m c 0 t) (iblk m c 1 t) (ix3 u i j)
      = o (ix3 0 i j) + ∑ k : Fin 1024, at2 (A m c) (1024 * (t.val % 8) + k) i * at2 (B m c) (1024 * (t.val % 8) + k) j := by
  pointwise [k0_pay2, a_at, b_at]

/-- What one element of the second layer's part holds at the end: the sum over all the rows. -/
def W (i j : ℕ) : EReal := ∑ r : Fin 8192, at2 (A m c) r i * at2 (B m c) r j

theorem unit_at (y : S1x1024x1024.Idx) : y = ix3 0 (y 1) (y 2) :=
  (eq_ix3 y).trans (congrArg (fun r => ix3 r (y 1) (y 2)) (Subsingleton.elim (α := Fin 1) _ _))

theorem reset (t : Fin cfg0.N) (h : t.val % 8 = 0) (y : S1x1024x1024.Idx) :
    outsAt0 m c t.val t.isLt y = 0 + ∑ k : Fin 1024, at2 (A m c) (1024 * (t.val % 8) + k) (y 1).val
      * at2 (B m c) (1024 * (t.val % 8) + k) (y 2).val := by
  rw [outsAt0_A m c t h]; frame_out
  rw [unit_at y]
  refine (prod_at m c _ t _ _ _).trans (congrArg (fun e : EReal => e + _) ?_)
  pointwise [k0_pay1]

theorem step (t : Fin cfg0.N) (h : ¬t.val % 8 = 0) (y : S1x1024x1024.Idx) :
    outsAt0 m c t.val t.isLt y = outsAt0 m c (t.val - 1) (Nat.lt_of_le_of_lt (Nat.sub_le _ _) t.isLt) y
      + ∑ k : Fin 1024, at2 (A m c) (1024 * (t.val % 8) + k) (y 1).val
      * at2 (B m c) (1024 * (t.val % 8) + k) (y 2).val := by
  rw [outsAt0_B m c t h]; frame_out
  rw [unit_at y]
  exact prod_at m c _ t _ _ _

theorem outs_at (t : Fin cfg0.N) (h : t.val % 8 = 7) (y : S1x1024x1024.Idx) :
    outsAt0 m c t.val t.isLt y = W m c (y 1).val (y 2).val := by
  have ht : t.val < 8 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 1).val
      * at2 (B m c) (1024 * (p.val % 8) + k) (y 2).val)
    (reset m c) (step m c) t h y, zero_add]
  refine Eq.trans (Finset.sum_congr rfl fun s _ => ?_)
    (sum_blocks 8 1024 fun r => at2 (A m c) r (y 1).val * at2 (B m c) r (y 2).val)
  have e1 : (8 * (t.val / 8) + s.val) % 8 = s.val := by omega
  simp only [e1]

/-- The array after the call: the second layer's part is the sum over all the rows, the first layer's is as it was given. -/
theorem final (c : Dev nD) : (dats m 0 c).arrAt 2 cfg0.N
    = fun i => if (i 0 : ℕ) / 1 = 1 then W m c (i 1).val (i 2).val else m ((c : Thread nD τ).loc main_arg3) i := by
  refine ((dats m 0 c).arrAt_eq_of_coversWhere 2 (fun i => W m c (i 1).val (i 2).val) (P := fun i => (i 0 : ℕ) / 1 = 1) (fun β => β (0 : Fin 3) = 1) (by decide +kernel)
    (fun t hf y => ?_) (fun j => Iff.rfl)).trans ?_
  · blk_simp
    rw [after0_2, outs_at m c t ((flush0_2 t).mp hf)]
    blk_simp [idx t]
  · funext i
    dsimp only
    split
    · rfl
    · rw [A_eq]
      exact congrFun (V_v4 m c) i

/-- The reference leaves its arguments unchanged, and it has no counter. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

section reference
open Cert.Reference14Ideal.Read Cert.Reference14Ideal.Gen
variable (x0 x1 : (⟨Cert.Reference14Ideal.S8192x1024, .f32⟩ : BufTy).Contents (Elt Ideal))
  (x2 : (⟨Cert.Reference14Ideal.S1x1024, .f32⟩ : BufTy).Contents (Elt Ideal)) (x3 : (⟨Cert.Reference14Ideal.S2x1024x1024, .f32⟩ : BufTy).Contents (Elt Ideal))

/-- The reference's gradient of the weight. -/
theorem grad_at (i : Fin 1024) (j : Fin 1024) : val_main_v7 (F := Ideal) x0 x1 x2 (ix2 i j)
    = ∑ r : Fin 8192, val_main_v5 (F := Ideal) x1 x2 (ix2 r j) * x0 (ix2 r i) := by
  pointwise [val_main_v7, val_main_v6]

/-- The reference's result, index by index. -/
theorem result_at (l : Fin 2) (i : Fin 1024) (j : Fin 1024) : val_main_v10 (F := Ideal) x0 x1 x2 x3 (ix3 l i j)
    = if l.val / 1 = 1 then ∑ r : Fin 8192, x0 (ix2 r i) * val_main_v5 (F := Ideal) x1 x2 (ix2 r j) else x3 (ix3 l i j) := by
  pointwise [val_main_v10, val_main_v9, val_main_v8, grad_at]
  by_cases h : l.val = 1
  · rw [dif_neg (by omega), if_pos (by omega)]
    exact Finset.sum_congr rfl fun r _ => mul_comm (G := EReal) _ _
  · rw [dif_pos (by omega), if_neg (by omega)]

end reference

theorem algebraic : Cert.algebraic_Kernel14Ideal_Reference14Ideal := by
  intro m g m' g' _ hagree
  refine ⟨_, (θ_run Cert.Kernel14Ideal.defs _ _).mono (fun r h c => ⟨(h c).1.trans (final m c), (h c).2⟩) (Cert.Kernel14Ideal.Value.run_blocks m g),
    (θ_run Cert.Reference14Ideal.defs _ _).mono (fun r h c => ?_) (Cert.Reference14Ideal.Value.run m' g')⟩
  obtain ⟨h0, hargs⟩ := h c
  obtain ⟨a0, a1, a2, a3⟩ := hagree c
  refine ⟨?_, hargs⟩
  refine funext fun i => ?_
  rw [h0, Cert.Reference14Ideal.Read.val_main_v10_eq, a0, a1, a2, a3, eq_ix3 i]
  refine (result_at _ _ _ _ (i 0) (i 1) (i 2)).trans ?_
  refine if_congr Iff.rfl ?_ rfl
  unfold W
  refine Finset.sum_congr rfl fun r _ => ?_
  refine Eq.trans ?_ (congrArg₂ (fun p q : EReal => p * q) (at2_mk (A m c) r (i 1)) (at2_mk (B m c) r (i 2)))
  exact (congrArg₂ (fun p q : EReal => p * q) (V_v0 m c (ix2 r (i 1))) (V_v3 m c r (i 2))).symm

end Cert.DwOutB
-- ==== Proof.DwinAb.lean ====
module
public import proofs.«01_k».proof.Proof.Rows
public import proofs.«01_k».proof.Proof.Gen.Kernel15Ideal.Value
public import proofs.«01_k».proof.Proof.Gen.Reference15Ideal.Read
public import proofs.«01_k».proof.Defs
public import Idealize.ShloMosaic.Lib.Pipeline.ValueKit
public import Idealize.ShloMosaic.Lib.Claim

/-! # What the call for the first 1024 columns of the input projection leaves

The call adds up, block of rows by block of rows, the product of the transposed gradient of the projection and the
projection's input. -/

@[expose] public section
set_option maxRecDepth 16384
noncomputable section
namespace Cert.DwinAb
open Idealize.ShloMosaic Idealize.ShloMosaic.TcCoe Idealize.SL.Sem
open Idealize.ShloMosaic.Pipeline (Dat)
open Cert.Kernel15Ideal Cert.Kernel15Ideal.Gen Cert.Rows
variable (m : (ℓ : Loc nD τ sig) → Buf (Elt Ideal) ℓ) (c : Dev nD)

/-- The second operand is the projection's input. -/
theorem V_v0 (i : S8192x1024.Idx) : V m c main_v0 i = m ((c : Thread nD τ).loc main_arg1) i := by
  simp only [V, hostOps0, List.flatten_cons, List.flatten_nil, List.append_nil, List.cons_append, List.nil_append]
  entry_read
  rfl

theorem idx : ∀ t : Fin cfg0.N, win0_0.index t = ![t.val % 8, 0] ∧ win0_1.index t = ![t.val % 8, 0]
    ∧ win0_2.index t = ![0, 0] :=
  (by decide +kernel : ∀ t : Fin grid0.N, _)

/-- The first operand when the call starts. -/
abbrev A : (⟨2, ![8192, 1024]⟩ : Shape).Idx → EReal := V m c main_arg0
/-- The second operand when the call starts. -/
abbrev B : (⟨2, ![8192, 1024]⟩ : Shape).Idx → EReal := V m c main_v0

theorem a_at (t : Fin cfg0.N) (k : Fin 1024) (j : Fin 1024) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S1024x1024 .f32) (t : Fin cfg0.N) (i : Fin 1024) (j : Fin 1024) :
    k0_pay2 (F := Ideal) o (iblk m c 0 t) (iblk m c 1 t) (ix2 i j)
      = o (ix2 i j) + ∑ k : Fin 1024, at2 (A m c) (1024 * (t.val % 8) + k) i * at2 (B m c) (1024 * (t.val % 8) + k) j := by
  pointwise [k0_pay2, a_at, b_at]

/-- What one element of the result holds at the end: the sum over all the rows. -/
def W (i j : ℕ) : EReal := ∑ r : Fin 8192, at2 (A m c) r i * at2 (B m c) r j

theorem reset (t : Fin cfg0.N) (h : t.val % 8 = 0) (y : S1024x1024.Idx) :
    outsAt0 m c t.val t.isLt y = 0 + ∑ k : Fin 1024, at2 (A m c) (1024 * (t.val % 8) + k) (y 0).val
      * at2 (B m c) (1024 * (t.val % 8) + k) (y 1).val := by
  rw [outsAt0_A m c t h]; frame_out
  rw [eq_ix2 y]
  refine (prod_at m c _ t _ _).trans (congrArg (fun e : EReal => e + _) ?_)
  pointwise [k0_pay1]

theorem step (t : Fin cfg0.N) (h : ¬t.val % 8 = 0) (y : S1024x1024.Idx) :
    outsAt0 m c t.val t.isLt y = outsAt0 m c (t.val - 1) (Nat.lt_of_le_of_lt (Nat.sub_le _ _) t.isLt) y
      + ∑ k : Fin 1024, at2 (A m c) (1024 * (t.val % 8) + k) (y 0).val
      * at2 (B m c) (1024 * (t.val % 8) + k) (y 1).val := by
  rw [outsAt0_B m c t h]; frame_out
  rw [eq_ix2 y]
  exact prod_at m c _ t _ _

theorem outs_at (t : Fin cfg0.N) (h : t.val % 8 = 7) (y : S1024x1024.Idx) :
    outsAt0 m c t.val t.isLt y = W m c (y 0).val (y 1).val := by
  have ht : t.val < 8 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 0).val
      * at2 (B m c) (1024 * (p.val % 8) + k) (y 1).val)
    (reset m c) (step m c) t h y, zero_add]
  refine Eq.trans (Finset.sum_congr rfl fun s _ => ?_)
    (sum_blocks 8 1024 fun r => at2 (A m c) r (y 0).val * at2 (B m c) r (y 1).val)
  have e1 : (8 * (t.val / 8) + s.val) % 8 = s.val := by omega
  simp only [e1]

/-- The array after the call: the sum over all the rows. -/
theorem final (c : Dev nD) : (dats m 0 c).arrAt 2 cfg0.N = fun i => W m c (i 0).val (i 1).val := by
  refine (dats m 0 c).arrAt_eq_of_covers 2 (fun i => W m c (i 0).val (i 1).val) (by decide +kernel) (fun t hf y => ?_)
  blk_simp
  rw [after0_2, outs_at m c t ((flush0_2 t).mp hf)]
  blk_simp [idx t]

/-- The reference leaves its arguments unchanged, and it has no counter. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

section reference
open Cert.Reference15Ideal.Read Cert.Reference15Ideal.Gen
variable (x0 : (⟨Cert.Reference15Ideal.S8192x1024, .f32⟩ : BufTy).Contents (Elt Ideal))
  (x1 : (⟨Cert.Reference15Ideal.S8192x1024, .f32⟩ : BufTy).Contents (Elt Ideal))

/-- The reference's result, index by index. -/
theorem result_at (i : Fin 1024) (j : Fin 1024) : val_main_v4 (F := Ideal) x0 x1 (ix2 i j)
    = ∑ r : Fin 8192, x0 (ix2 r i) * x1 (ix2 r j) := by
  pointwise [val_main_v4, val_main_v3, val_main_v2]

end reference

theorem algebraic : Cert.algebraic_Kernel15Ideal_Reference15Ideal := by
  intro m g m' g' _ hagree
  refine ⟨_, (θ_run Cert.Kernel15Ideal.defs _ _).mono (fun r h c => ⟨(h c).1.trans (final m c), (h c).2⟩) (Cert.Kernel15Ideal.Value.run_blocks m g),
    (θ_run Cert.Reference15Ideal.defs _ _).mono (fun r h c => ?_) (Cert.Reference15Ideal.Value.run m' g')⟩
  obtain ⟨h0, hargs⟩ := h c
  obtain ⟨a0, a1⟩ := hagree c
  refine ⟨?_, hargs⟩
  refine funext fun i => ?_
  rw [h0, Cert.Reference15Ideal.Read.val_main_v4_eq, a0, a1, eq_ix2 i]
  refine (result_at _ _ (i 0) (i 1)).trans ?_
  unfold W
  refine Finset.sum_congr rfl fun r _ => ?_
  refine Eq.trans ?_ (congrArg₂ (fun p q : EReal => p * q) (at2_mk (A m c) r (i 0)) (at2_mk (B m c) r (i 1)))
  exact (congrArg₂ (fun p q : EReal => p * q) (congrFun (V_main_arg0 m c) (ix2 r (i 0))) (V_v0 m c (ix2 r (i 1)))).symm

end Cert.DwinAb
-- ==== Proof.DwinXbc.lean ====
module
public import proofs.«01_k».proof.Proof.Rows
public import proofs.«01_k».proof.Proof.Gen.Kernel16Ideal.Value
public import proofs.«01_k».proof.Proof.Gen.Reference16Ideal.Read
public import proofs.«01_k».proof.Defs
public import Idealize.ShloMosaic.Lib.Pipeline.ValueKit
public import Idealize.ShloMosaic.Lib.Claim

/-! # What the call for the 768 columns of the input projection that feed the scan leaves

The call adds up, block of rows by block of rows, the product of the transposed gradient of the projection and the
projection's input. -/

@[expose] public section
set_option maxRecDepth 16384
noncomputable section
namespace Cert.DwinXbc
open Idealize.ShloMosaic Idealize.ShloMosaic.TcCoe Idealize.SL.Sem
open Idealize.ShloMosaic.Pipeline (Dat)
open Cert.Kernel16Ideal Cert.Kernel16Ideal.Gen Cert.Rows
variable (m : (ℓ : Loc nD τ sig) → Buf (Elt Ideal) ℓ) (c : Dev nD)

/-- The second operand is the projection's input. -/
theorem V_v0 (i : S8192x1024.Idx) : V m c main_v0 i = m ((c : Thread nD τ).loc main_arg1) i := by
  simp only [V, hostOps0, List.flatten_cons, List.flatten_nil, List.append_nil, List.cons_append, List.nil_append]
  entry_read
  rfl

theorem idx : ∀ t : Fin cfg0.N, win0_0.index t = ![t.val % 8, 0] ∧ win0_1.index t = ![t.val % 8, 0]
    ∧ win0_2.index t = ![0, 0] :=
  (by decide +kernel : ∀ t : Fin grid0.N, _)

/-- The first operand when the call starts. -/
abbrev A : (⟨2, ![8192, 768]⟩ : Shape).Idx → EReal := V m c main_arg0
/-- The second operand when the call starts. -/
abbrev B : (⟨2, ![8192, 1024]⟩ : Shape).Idx → EReal := V m c main_v0

theorem a_at (t : Fin cfg0.N) (k : Fin 1024) (j : Fin 768) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S768x1024 .f32) (t : Fin cfg0.N) (i : Fin 768) (j : Fin 1024) :
    k0_pay2 (F := Ideal) o (iblk m c 0 t) (iblk m c 1 t) (ix2 i j)
      = o (ix2 i j) + ∑ k : Fin 1024, at2 (A m c) (1024 * (t.val % 8) + k) i * at2 (B m c) (1024 * (t.val % 8) + k) j := by
  pointwise [k0_pay2, a_at, b_at]

/-- What one element of the result holds at the end: the sum over all the rows. -/
def W (i j : ℕ) : EReal := ∑ r : Fin 8192, at2 (A m c) r i * at2 (B m c) r j

theorem reset (t : Fin cfg0.N) (h : t.val % 8 = 0) (y : S768x1024.Idx) :
    outsAt0 m c t.val t.isLt y = 0 + ∑ k : Fin 1024, at2 (A m c) (1024 * (t.val % 8) + k) (y 0).val
      * at2 (B m c) (1024 * (t.val % 8) + k) (y 1).val := by
  rw [outsAt0_A m c t h]; frame_out
  rw [eq_ix2 y]
  refine (prod_at m c _ t _ _).trans (congrArg (fun e : EReal => e + _) ?_)
  pointwise [k0_pay1]

theorem step (t : Fin cfg0.N) (h : ¬t.val % 8 = 0) (y : S768x1024.Idx) :
    outsAt0 m c t.val t.isLt y = outsAt0 m c (t.val - 1) (Nat.lt_of_le_of_lt (Nat.sub_le _ _) t.isLt) y
      + ∑ k : Fin 1024, at2 (A m c) (1024 * (t.val % 8) + k) (y 0).val
      * at2 (B m c) (1024 * (t.val % 8) + k) (y 1).val := by
  rw [outsAt0_B m c t h]; frame_out
  rw [eq_ix2 y]
  exact prod_at m c _ t _ _

theorem outs_at (t : Fin cfg0.N) (h : t.val % 8 = 7) (y : S768x1024.Idx) :
    outsAt0 m c t.val t.isLt y = W m c (y 0).val (y 1).val := by
  have ht : t.val < 8 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 0).val
      * at2 (B m c) (1024 * (p.val % 8) + k) (y 1).val)
    (reset m c) (step m c) t h y, zero_add]
  refine Eq.trans (Finset.sum_congr rfl fun s _ => ?_)
    (sum_blocks 8 1024 fun r => at2 (A m c) r (y 0).val * at2 (B m c) r (y 1).val)
  have e1 : (8 * (t.val / 8) + s.val) % 8 = s.val := by omega
  simp only [e1]

/-- The array after the call: the sum over all the rows. -/
theorem final (c : Dev nD) : (dats m 0 c).arrAt 2 cfg0.N = fun i => W m c (i 0).val (i 1).val := by
  refine (dats m 0 c).arrAt_eq_of_covers 2 (fun i => W m c (i 0).val (i 1).val) (by decide +kernel) (fun t hf y => ?_)
  blk_simp
  rw [after0_2, outs_at m c t ((flush0_2 t).mp hf)]
  blk_simp [idx t]

/-- The reference leaves its arguments unchanged, and it has no counter. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

section reference
open Cert.Reference16Ideal.Read Cert.Reference16Ideal.Gen
variable (x0 : (⟨Cert.Reference16Ideal.S8192x768, .f32⟩ : BufTy).Contents (Elt Ideal))
  (x1 : (⟨Cert.Reference16Ideal.S8192x1024, .f32⟩ : BufTy).Contents (Elt Ideal))

/-- The reference's result, index by index. -/
theorem result_at (i : Fin 768) (j : Fin 1024) : val_main_v4 (F := Ideal) x0 x1 (ix2 i j)
    = ∑ r : Fin 8192, x0 (ix2 r i) * x1 (ix2 r j) := by
  pointwise [val_main_v4, val_main_v3, val_main_v2]

end reference

theorem algebraic : Cert.algebraic_Kernel16Ideal_Reference16Ideal := by
  intro m g m' g' _ hagree
  refine ⟨_, (θ_run Cert.Kernel16Ideal.defs _ _).mono (fun r h c => ⟨(h c).1.trans (final m c), (h c).2⟩) (Cert.Kernel16Ideal.Value.run_blocks m g),
    (θ_run Cert.Reference16Ideal.defs _ _).mono (fun r h c => ?_) (Cert.Reference16Ideal.Value.run m' g')⟩
  obtain ⟨h0, hargs⟩ := h c
  obtain ⟨a0, a1⟩ := hagree c
  refine ⟨?_, hargs⟩
  refine funext fun i => ?_
  rw [h0, Cert.Reference16Ideal.Read.val_main_v4_eq, a0, a1, eq_ix2 i]
  refine (result_at _ _ (i 0) (i 1)).trans ?_
  unfold W
  refine Finset.sum_congr rfl fun r _ => ?_
  refine Eq.trans ?_ (congrArg₂ (fun p q : EReal => p * q) (at2_mk (A m c) r (i 0)) (at2_mk (B m c) r (i 1)))
  exact (congrArg₂ (fun p q : EReal => p * q) (congrFun (V_main_arg0 m c) (ix2 r (i 0))) (V_v0 m c (ix2 r (i 1)))).symm

end Cert.DwinXbc
-- ==== Proof.DwinZ.lean ====
module
public import proofs.«01_k».proof.Proof.Rows
public import proofs.«01_k».proof.Proof.Gen.Kernel17Ideal.Value
public import proofs.«01_k».proof.Proof.Gen.Reference17Ideal.Read
public import proofs.«01_k».proof.Defs
public import Idealize.ShloMosaic.Lib.Pipeline.ValueKit
public import Idealize.ShloMosaic.Lib.Claim

/-! # What the call for 256 gate columns of the input projection leaves

The call adds up, block of rows by block of rows, the product of the transposed gradient of the projection and the
projection's input. -/

@[expose] public section
set_option maxRecDepth 16384
noncomputable section
namespace Cert.DwinZ
open Idealize.ShloMosaic Idealize.ShloMosaic.TcCoe Idealize.SL.Sem
open Idealize.ShloMosaic.Pipeline (Dat)
open Cert.Kernel17Ideal Cert.Kernel17Ideal.Gen Cert.Rows
variable (m : (ℓ : Loc nD τ sig) → Buf (Elt Ideal) ℓ) (c : Dev nD)

/-- The second operand is the projection's input. -/
theorem V_v0 (i : S8192x1024.Idx) : V m c main_v0 i = m ((c : Thread nD τ).loc main_arg1) i := by
  simp only [V, hostOps0, List.flatten_cons, List.flatten_nil, List.append_nil, List.cons_append, List.nil_append]
  entry_read
  rfl

theorem idx : ∀ t : Fin cfg0.N, win0_0.index t = ![t.val % 8, 0] ∧ win0_1.index t = ![t.val % 8, 0]
    ∧ win0_2.index t = ![0, 0] :=
  (by decide +kernel : ∀ t : Fin grid0.N, _)

/-- The first operand when the call starts. -/
abbrev A : (⟨2, ![8192, 256]⟩ : Shape).Idx → EReal := V m c main_arg0
/-- The second operand when the call starts. -/
abbrev B : (⟨2, ![8192, 1024]⟩ : Shape).Idx → EReal := V m c main_v0

theorem a_at (t : Fin cfg0.N) (k : Fin 1024) (j : Fin 256) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S256x1024 .f32) (t : Fin cfg0.N) (i : Fin 256) (j : Fin 1024) :
    k0_pay2 (F := Ideal) o (iblk m c 0 t) (iblk m c 1 t) (ix2 i j)
      = o (ix2 i j) + ∑ k : Fin 1024, at2 (A m c) (1024 * (t.val % 8) + k) i * at2 (B m c) (1024 * (t.val % 8) + k) j := by
  pointwise [k0_pay2, a_at, b_at]

/-- What one element of the result holds at the end: the sum over all the rows. -/
def W (i j : ℕ) : EReal := ∑ r : Fin 8192, at2 (A m c) r i * at2 (B m c) r j

theorem reset (t : Fin cfg0.N) (h : t.val % 8 = 0) (y : S256x1024.Idx) :
    outsAt0 m c t.val t.isLt y = 0 + ∑ k : Fin 1024, at2 (A m c) (1024 * (t.val % 8) + k) (y 0).val
      * at2 (B m c) (1024 * (t.val % 8) + k) (y 1).val := by
  rw [outsAt0_A m c t h]; frame_out
  rw [eq_ix2 y]
  refine (prod_at m c _ t _ _).trans (congrArg (fun e : EReal => e + _) ?_)
  pointwise [k0_pay1]

theorem step (t : Fin cfg0.N) (h : ¬t.val % 8 = 0) (y : S256x1024.Idx) :
    outsAt0 m c t.val t.isLt y = outsAt0 m c (t.val - 1) (Nat.lt_of_le_of_lt (Nat.sub_le _ _) t.isLt) y
      + ∑ k : Fin 1024, at2 (A m c) (1024 * (t.val % 8) + k) (y 0).val
      * at2 (B m c) (1024 * (t.val % 8) + k) (y 1).val := by
  rw [outsAt0_B m c t h]; frame_out
  rw [eq_ix2 y]
  exact prod_at m c _ t _ _

theorem outs_at (t : Fin cfg0.N) (h : t.val % 8 = 7) (y : S256x1024.Idx) :
    outsAt0 m c t.val t.isLt y = W m c (y 0).val (y 1).val := by
  have ht : t.val < 8 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 0).val
      * at2 (B m c) (1024 * (p.val % 8) + k) (y 1).val)
    (reset m c) (step m c) t h y, zero_add]
  refine Eq.trans (Finset.sum_congr rfl fun s _ => ?_)
    (sum_blocks 8 1024 fun r => at2 (A m c) r (y 0).val * at2 (B m c) r (y 1).val)
  have e1 : (8 * (t.val / 8) + s.val) % 8 = s.val := by omega
  simp only [e1]

/-- The array after the call: the sum over all the rows. -/
theorem final (c : Dev nD) : (dats m 0 c).arrAt 2 cfg0.N = fun i => W m c (i 0).val (i 1).val := by
  refine (dats m 0 c).arrAt_eq_of_covers 2 (fun i => W m c (i 0).val (i 1).val) (by decide +kernel) (fun t hf y => ?_)
  blk_simp
  rw [after0_2, outs_at m c t ((flush0_2 t).mp hf)]
  blk_simp [idx t]

/-- The reference leaves its arguments unchanged, and it has no counter. -/
theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

section reference
open Cert.Reference17Ideal.Read Cert.Reference17Ideal.Gen
variable (x0 : (⟨Cert.Reference17Ideal.S8192x256, .f32⟩ : BufTy).Contents (Elt Ideal))
  (x1 : (⟨Cert.Reference17Ideal.S8192x1024, .f32⟩ : BufTy).Contents (Elt Ideal))

/-- The reference's result, index by index. -/
theorem result_at (i : Fin 256) (j : Fin 1024) : val_main_v4 (F := Ideal) x0 x1 (ix2 i j)
    = ∑ r : Fin 8192, x0 (ix2 r i) * x1 (ix2 r j) := by
  pointwise [val_main_v4, val_main_v3, val_main_v2]

end reference

theorem algebraic : Cert.algebraic_Kernel17Ideal_Reference17Ideal := by
  intro m g m' g' _ hagree
  refine ⟨_, (θ_run Cert.Kernel17Ideal.defs _ _).mono (fun r h c => ⟨(h c).1.trans (final m c), (h c).2⟩) (Cert.Kernel17Ideal.Value.run_blocks m g),
    (θ_run Cert.Reference17Ideal.defs _ _).mono (fun r h c => ?_) (Cert.Reference17Ideal.Value.run m' g')⟩
  obtain ⟨h0, hargs⟩ := h c
  obtain ⟨a0, a1⟩ := hagree c
  refine ⟨?_, hargs⟩
  refine funext fun i => ?_
  rw [h0, Cert.Reference17Ideal.Read.val_main_v4_eq, a0, a1, eq_ix2 i]
  refine (result_at _ _ (i 0) (i 1)).trans ?_
  unfold W
  refine Finset.sum_congr rfl fun r _ => ?_
  refine Eq.trans ?_ (congrArg₂ (fun p q : EReal => p * q) (at2_mk (A m c) r (i 0)) (at2_mk (B m c) r (i 1)))
  exact (congrArg₂ (fun p q : EReal => p * q) (congrFun (V_main_arg0 m c) (ix2 r (i 0))) (V_v0 m c (ix2 r (i 1)))).symm

end Cert.DwinZ
-- ==== Proof.DwinDt.lean ====
module
public import proofs.«01_k».proof.Proof.Rows
public import proofs.«01_k».proof.Proof.Gen.Kernel18Ideal.Value
public import proofs.«01_k».proof.Proof.Gen.Reference18Ideal.Read
public import proofs.«01_k».proof.Defs
public import Idealize.ShloMosaic.Lib.Pipeline.ValueKit
public import Idealize.ShloMosaic.Lib.Claim

/-! # What the call for the step columns of the input projection, padded to 128, leaves

The call adds up, block of rows by block of rows, the product of the transposed gradient of the projection and the
projection's input. -/

@[expose] public section
set_option maxRecDepth 16384
noncomputable section
namespace Cert.DwinDt
open Idealize.ShloMosaic Idealize.ShloMosaic.TcCoe Idealize.SL.Sem
open Idealize.ShloMosaic.Pipeline (Dat)
open Cert.Kernel18Ideal Cert.Kernel18Ideal.Gen Cert.Rows
variable (m : (ℓ : Loc nD τ sig) → Buf (Elt Ideal) ℓ) (c : Dev nD)

/-- The second operand is the projection's input. -/
theorem V_v0 (i : S8192x1024.Idx) : V m c main_v0 i = m ((c : Thread nD τ).loc main_arg1) i := by
  simp only [V, hostOps0, List.flatten_cons, List.flatten_nil, List.append_nil, List.cons_append, List.nil_append]
  entry_read
  rfl

theorem idx : ∀ t : Fin cfg0.N, win0_0.index t = ![t.val % 8, 0] ∧ win0_1.index t = ![t.val % 8, 0]
    ∧ win0_2.index t = ![0, 0] :=
  (by decide +kernel : ∀ t : Fin grid0.N, _)

/-- The first operand when the call starts. -/
abbrev A : (⟨2, ![8192, 128]⟩ : Shape).Idx → EReal := V m c main_arg0
/-- The second operand when the call starts. -/
abbrev B : (⟨2, ![8192, 1024]⟩ : Shape).Idx → EReal := V m c main_v0

theorem a_at (t : Fin cfg0.N) (k : Fin 1024) (j : Fin 128) :
    (iblk m c 0 t) (ix2 k j) = at2 (A m c) (1024 * (t.val % 8) + k) j := by
  refine Eq.trans ?_ (at2_mk (A m c) ⟨1024 * (t.val % 8) + k, by omega⟩ ⟨j, by omega⟩)
  blk_simp [iblk]
  refine congrArg (A m c) ?_
  blk_ext [idx t]

theorem b_at (t : Fin cfg0.N) (k : Fin 1024) (j : Fin 1024) :
    (iblk m c 1 t) (ix2 k j) = at2 (B m c) (1024 * (t.val % 8) + k) j := by
  refine Eq.trans ?_ (at2_mk (B m c) ⟨1024 * (t.val % 8) + k, by omega⟩ ⟨j, by omega⟩)
  blk_simp [iblk]
  refine congrArg (B m c) ?_
  blk_ext [idx t]

theorem prod_at (o : Vec Ideal S128x1024 .f32) (t : Fin cfg0.N) (i : Fin 128) (j : Fin 1024) :
    k0_pay2 (F := Ideal) o (iblk m c 0 t) (iblk m c 1 t) (ix2 i j)
      = o (ix2 i j) + ∑ k : Fin 1024, at2 (A m c) (1024 * (t.val % 8) + k) i * at2 (B m c) (1024 * (t.val % 8) + k) j := by
  pointwise [k0_pay2, a_at, b_at]

/-- What one element of the result holds at the end: the sum over all the rows. -/
def W (i j : ℕ) : EReal := ∑ r : Fin 8192, at2 (A m c) r i * at2 (B m c) r j

theorem reset (t : Fin cfg0.N) (h : t.val % 8 = 0) (y : S128x1024.Idx) :
    outsAt0 m c t.val t.isLt y = 0 + ∑ k : Fin 1024, at2 (A m c) (1024 * (t.val % 8) + k) (y 0).val
      * at2 (B m c) (1024 * (t.val % 8) + k) (y 1).val := by
  rw [outsAt0_A m c t h]; frame_out
  rw [eq_ix2 y]
  refine (prod_at m c _ t _ _).trans (congrArg (fun e : EReal => e + _) ?_)
  pointwise [k0_pay1]

theorem step (t : Fin cfg0.N) (h : ¬t.val % 8 = 0) (y : S128x1024.Idx) :
    outsAt0 m c t.val t.isLt y = outsAt0 m c (t.val - 1) (Nat.lt_of_le_of_lt (Nat.sub_le _ _) t.isLt) y
      + ∑ k : Fin 1024, at2 (A m c) (1024 * (t.val % 8) + k) (y 0).val
      * at2 (B m c) (1024 * (t.val % 8) + k) (y 1).val := by
  rw [outsAt0_B m c t h]; frame_out
  rw [eq_ix2 y]
  exact prod_at m c _ t _ _

theorem outs_at (t : Fin cfg0.N) (h : t.val % 8 = 7) (y : S128x1024.Idx) :
    outsAt0 m c t.val t.isLt y = W m c (y 0).val (y 1).val := by
  have ht : t.val < 8 := lt_of_lt_of_eq t.isLt N_0
  rw [Pipeline.eq_sum_fin_of_reset_step_apply_of_flush (fun n h => outsAt0 m c n h) 8 (fun _ => 0)
    (fun p y => ∑ k : Fin 1024, at2 (A m c) (1024 * (p.val % 8) + k) (y 0).val
      * at2 (B m c) (1024 * (p.val % 8) + k) (y 1).val)
    (reset m c) (step m c) t h y, zero_add]
  refine Eq.trans (Finset.sum_congr rfl fun s _ => ?_)
    (sum_blocks 8 1024 fun r => at2 (A m c) r (y 0).val * at2 (B m c) r (y 1).val)
  have e1 : (8 * (t.val / 8) + s.val) % 8 = s.val := by omega
  simp only [e1]

/-- The array after the call: the sum over all the rows. -/
theorem final (c : Dev nD) : (dats m 0 c).arrAt 2 cfg0.N = fun i => W m c (i 0).val (i 1).val := by
  refine (dats m 0 c).arrAt_eq_of_covers 2 (fun i => W m c (i 0).val (i 1).val) (by decide +kernel) (fun t hf y => ?_)
  blk_simp
  rw [after0_2, outs_at m c t ((flush0_2 t).mp hf)]
  blk_simp [idx t]

/-- The reference leaves its arguments unchanged, and it has no counter. -/
theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

section reference
open Cert.Reference18Ideal.Read Cert.Reference18Ideal.Gen
variable (x0 : (⟨Cert.Reference18Ideal.S8192x128, .f32⟩ : BufTy).Contents (Elt Ideal))
  (x1 : (⟨Cert.Reference18Ideal.S8192x1024, .f32⟩ : BufTy).Contents (Elt Ideal))

/-- The reference's result, index by index. -/
theorem result_at (i : Fin 128) (j : Fin 1024) : val_main_v4 (F := Ideal) x0 x1 (ix2 i j)
    = ∑ r : Fin 8192, x0 (ix2 r i) * x1 (ix2 r j) := by
  pointwise [val_main_v4, val_main_v3, val_main_v2]

end reference

theorem algebraic : Cert.algebraic_Kernel18Ideal_Reference18Ideal := by
  intro m g m' g' _ hagree
  refine ⟨_, (θ_run Cert.Kernel18Ideal.defs _ _).mono (fun r h c => ⟨(h c).1.trans (final m c), (h c).2⟩) (Cert.Kernel18Ideal.Value.run_blocks m g),
    (θ_run Cert.Reference18Ideal.defs _ _).mono (fun r h c => ?_) (Cert.Reference18Ideal.Value.run m' g')⟩
  obtain ⟨h0, hargs⟩ := h c
  obtain ⟨a0, a1⟩ := hagree c
  refine ⟨?_, hargs⟩
  refine funext fun i => ?_
  rw [h0, Cert.Reference18Ideal.Read.val_main_v4_eq, a0, a1, eq_ix2 i]
  refine (result_at _ _ (i 0) (i 1)).trans ?_
  unfold W
  refine Finset.sum_congr rfl fun r _ => ?_
  refine Eq.trans ?_ (congrArg₂ (fun p q : EReal => p * q) (at2_mk (A m c) r (i 0)) (at2_mk (B m c) r (i 1)))
  exact (congrArg₂ (fun p q : EReal => p * q) (congrFun (V_main_arg0 m c) (ix2 r (i 0))) (V_v0 m c (ix2 r (i 1)))).symm

end Cert.DwinDt
-- ==== Proof.lean ====
/- # Calls of the training step

The claims about backward and forward calls of the training step, for each of the two layers: their frames, the frames over the extended reals, that
each backward call computes the derivative of the step's forward lines, and that each forward call computes those lines. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Skeleton
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Skeleton
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Skeleton
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Equal
public import proofs.«01_k».proof.Proof.MlpEqual
public import proofs.«01_k».proof.Proof.Dw1
public import proofs.«01_k».proof.Proof.Dw2
public import proofs.«01_k».proof.Proof.FMlpEqual
public import proofs.«01_k».proof.Proof.MlpBEqual
public import proofs.«01_k».proof.Proof.Dw1B
public import proofs.«01_k».proof.Proof.Dw2B
public import proofs.«01_k».proof.Proof.FMlpBEqual
public import proofs.«01_k».proof.Proof.FIn
public import proofs.«01_k».proof.Proof.FOut
public import proofs.«01_k».proof.Proof.FOutB
public import proofs.«01_k».proof.Proof.DwOut
public import proofs.«01_k».proof.Proof.DwOutB
public import proofs.«01_k».proof.Proof.DwinAb
public import proofs.«01_k».proof.Proof.DwinXbc
public import proofs.«01_k».proof.Proof.DwinZ
public import proofs.«01_k».proof.Proof.DwinDt

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Equal.facts,
  fun m ρ _ => Cert.Kernel.Gen.frame m ρ, fun m ρ _ => Cert.KernelIdeal.Gen.frame m ρ, Cert.Equal.frame_reference,
  Cert.Mlp.frame_kernel, Cert.Mlp.frame_ideal, Cert.Mlp.frame_reference,
  fun m ρ _ => Cert.Kernel3.Gen.frame m ρ, fun m ρ _ => Cert.Kernel3Ideal.Gen.frame m ρ, Cert.Dw1.frame_reference,
  fun m ρ _ => Cert.Kernel4.Gen.frame m ρ, fun m ρ _ => Cert.Kernel4Ideal.Gen.frame m ρ, Cert.Dw2.frame_reference,
  Cert.FMlp.frame_kernel, Cert.FMlp.frame_ideal, Cert.FMlp.frame_reference,
  Cert.MlpB.frame_kernel, Cert.MlpB.frame_ideal, Cert.MlpB.frame_reference,
  fun m ρ _ => Cert.Kernel7.Gen.frame m ρ, fun m ρ _ => Cert.Kernel7Ideal.Gen.frame m ρ, Cert.Dw1B.frame_reference,
  fun m ρ _ => Cert.Kernel8.Gen.frame m ρ, fun m ρ _ => Cert.Kernel8Ideal.Gen.frame m ρ, Cert.Dw2B.frame_reference,
  Cert.FMlpB.frame_kernel, Cert.FMlpB.frame_ideal, Cert.FMlpB.frame_reference,
  fun m ρ _ => Cert.Kernel10.Gen.frame m ρ, fun m ρ _ => Cert.Kernel10Ideal.Gen.frame m ρ, Cert.FIn.frame_reference,
  fun m ρ _ => Cert.Kernel11.Gen.frame m ρ, fun m ρ _ => Cert.Kernel11Ideal.Gen.frame m ρ, Cert.FOut.frame_reference,
  fun m ρ _ => Cert.Kernel12.Gen.frame m ρ, fun m ρ _ => Cert.Kernel12Ideal.Gen.frame m ρ, Cert.FOutB.frame_reference,
  fun m ρ _ => Cert.Kernel13.Gen.frame m ρ, fun m ρ _ => Cert.Kernel13Ideal.Gen.frame m ρ, Cert.DwOut.frame_reference,
  fun m ρ _ => Cert.Kernel14.Gen.frame m ρ, fun m ρ _ => Cert.Kernel14Ideal.Gen.frame m ρ, Cert.DwOutB.frame_reference,
  fun m ρ _ => Cert.Kernel15.Gen.frame m ρ, fun m ρ _ => Cert.Kernel15Ideal.Gen.frame m ρ, Cert.DwinAb.frame_reference,
  fun m ρ _ => Cert.Kernel16.Gen.frame m ρ, fun m ρ _ => Cert.Kernel16Ideal.Gen.frame m ρ, Cert.DwinXbc.frame_reference,
  fun m ρ _ => Cert.Kernel17.Gen.frame m ρ, fun m ρ _ => Cert.Kernel17Ideal.Gen.frame m ρ, Cert.DwinZ.frame_reference,
  fun m ρ _ => Cert.Kernel18.Gen.frame m ρ, fun m ρ _ => Cert.Kernel18Ideal.Gen.frame m ρ, Cert.DwinDt.frame_reference,
  trivial, Cert.Equal.algebraic, trivial, Cert.Mlp.algebraic, trivial, Cert.Dw1.algebraic, trivial, Cert.Dw2.algebraic,
  trivial, Cert.FMlp.algebraic,
  trivial, Cert.MlpB.algebraic, trivial, Cert.Dw1B.algebraic, trivial, Cert.Dw2B.algebraic, trivial, Cert.FMlpB.algebraic,
  trivial, Cert.FIn.algebraic, trivial, Cert.FOut.algebraic, trivial, Cert.FOutB.algebraic, trivial, Cert.DwOut.algebraic, trivial, Cert.DwOutB.algebraic,
  trivial, Cert.DwinAb.algebraic, trivial, Cert.DwinXbc.algebraic, trivial, Cert.DwinZ.algebraic, trivial, Cert.DwinDt.algebraic⟩

end Cert.Proof

end
